-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)) (v2 : (c : Dev Cert.KernelIdeal.nD) → Buf (Elt Ideal) ((c.tc : Thread Cert.KernelIdeal.nD Cert.KernelIdeal.τ).loc Cert.KernelIdeal.main_v92_2)) (v3 : (c : Dev Cert.KernelIdeal.nD) → Buf (Elt Ideal) ((c.tc : Thread Cert.KernelIdeal.nD Cert.KernelIdeal.τ).loc Cert.KernelIdeal.main_v92_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_v92_2) = v2 c
          ∧ r.2.mem ((c.tc : Thread Cert.KernelIdeal.nD Cert.KernelIdeal.τ).loc Cert.KernelIdeal.main_v92_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_v28_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v92) = v1 c
          ∧ r.2.mem ((c.tc : Thread Cert.Reference3Ideal.nD Cert.Reference3Ideal.τ).loc Cert.Reference3Ideal.main_v93) = v2 c
          ∧ r.2.mem ((c.tc : Thread Cert.Reference3Ideal.nD Cert.Reference3Ideal.τ).loc Cert.Reference3Ideal.main_v96) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v50) = v2 c
          ∧ r.2.mem ((c.tc : Thread Cert.Reference4Ideal.nD Cert.Reference4Ideal.τ).loc Cert.Reference4Ideal.main_v51) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v8) = v3 c
          ∧ r.2.mem ((c.tc : Thread Cert.Reference5Ideal.nD Cert.Reference5Ideal.τ).loc Cert.Reference5Ideal.main_v38) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_v9) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ algebraic_Kernel2Ideal_Reference2Ideal (hKernel2Ideal := hKernel2Ideal) (hReference2Ideal := hReference2Ideal)
    ∧ algebraic_Kernel3Ideal_Reference3Ideal_pre_finite3 (hKernel3Ideal := hKernel3Ideal) (hReference3Ideal := hReference3Ideal) (hPre_finite3 := hPre_finite3)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
    ∧ algebraic_Kernel9Ideal_Reference9Ideal (hKernel9Ideal := hKernel9Ideal) (hReference9Ideal := hReference9Ideal)
    ∧ algebraic_Kernel10Ideal_Reference10Ideal (hKernel10Ideal := hKernel10Ideal) (hReference10Ideal := hReference10Ideal)
-- ==== Pre_finite.lean ====
abbrev S4096x768 : Shape := ⟨2, ![4096, 768]⟩
abbrev S12x4096 : Shape := ⟨2, ![12, 4096]⟩
abbrev S4096x1024 : Shape := ⟨2, ![4096, 1024]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S12x4096 : S_.BroadcastsInDim S12x4096 (![] : Fin 0 → Fin S12x4096.rank)
  reducesTo_S12x4096_S_d0_1 : S12x4096.ReducesTo [0, 1] S_
  slices_S4096x1024_S4096x768_0_0 : S4096x1024.Slices ![0, 0] S4096x768

variable [Facts]

def fn_part1 {F : FTy → Type} [FloatOps F] (main_arg4 : FVec F S4096x1024 .bf16) (main_v16 : IVec S_ 1) (main_v17 : FVec F S12x4096 .f32) : IVec S_ 1 :=
  let main_cst_4 : FVec F S_ .f32 := constant S_ .f32 0x7F800000#32
  let main_v18 : FVec F S12x4096 .f32 := broadcastInDim S12x4096 ![] bcast_S_S12x4096 main_cst_4
  let main_v19 : IVec S12x4096 1 := cmpf .olt main_v17 main_v18
  let main_c_5 : IVec S_ 1 := constantI S_ 1 1#1
  let main_v20 : IVec S_ 1 := (fun x v => Host.reduce IntOp.andi x v reducesTo_S12x4096_S_d0_1 h_S_) main_v19 main_c_5
  let main_v21 : IVec S_ 1 := andi main_v16 main_v20
  let main_v22 : FVec F S4096x768 .bf16 := (extractStridedSlice S4096x768 ![0, 0] · slices_S4096x1024_S4096x768_0_0) main_arg4
  let main_v23 : FVec F S4096x768 .f32 := (extf .f32 · bitsLt_bf16_f32) main_v22
  let main_v24 : FVec F S4096x768 .f32 := Host.absf main_v23
  let main_cst_6 : FVec F S_ .f32 := constant S_ .f32 0x7F800000#32
  let main_v25 : FVec F S4096x768 .f32 := broadcastInDim S4096x768 ![] bcast_S_S4096x768 main_cst_6
  let main_v26 : IVec S4096x768 1 := cmpf .olt main_v24 main_v25
  let main_c_7 : IVec S_ 1 := constantI S_ 1 1#1
  let main_v27 : IVec S_ 1 := (fun x v => Host.reduce IntOp.andi x v reducesTo_S4096x768_S_d0_1 h_S_) main_v26 main_c_7
  let main_v28 : IVec S_ 1 := andi main_v21 main_v27
  main_v28

def fn {F : FTy → Type} [FloatOps F] (main_arg0 : FVec F S4096x768 .bf16) (main_arg1 : FVec F S4096x768 .bf16) (main_arg2 : FVec F S4096x768 .bf16) (main_arg3 : FVec F S12x4096 .f32) (main_arg4 : FVec F S4096x1024 .bf16) : IVec S_ 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  let main_v5 : FVec F S4096x768 .f32 := (extf .f32 · bitsLt_bf16_f32) main_arg1
  let main_v6 : FVec F S4096x768 .f32 := Host.absf main_v5
  let main_cst_0 : FVec F S_ .f32 := constant S_ .f32 0x7F800000#32
  let main_v7 : FVec F S4096x768 .f32 := broadcastInDim S4096x768 ![] bcast_S_S4096x768 main_cst_0
  let main_v8 : IVec S4096x768 1 := cmpf .olt main_v6 main_v7
  let main_c_1 : IVec S_ 1 := constantI S_ 1 1#1
  let main_v9 : IVec S_ 1 := (fun x v => Host.reduce IntOp.andi x v reducesTo_S4096x768_S_d0_1 h_S_) main_v8 main_c_1
  let main_v10 : IVec S_ 1 := andi main_v4 main_v9
  let main_v11 : FVec F S4096x768 .f32 := (extf .f32 · bitsLt_bf16_f32) main_arg2
  let main_v12 : FVec F S4096x768 .f32 := Host.absf main_v11
  let main_cst_2 : FVec F S_ .f32 := constant S_ .f32 0x7F800000#32
  let main_v13 : FVec F S4096x768 .f32 := broadcastInDim S4096x768 ![] bcast_S_S4096x768 main_cst_2
  let main_v14 : IVec S4096x768 1 := cmpf .olt main_v12 main_v13
  let main_c_3 : IVec S_ 1 := constantI S_ 1 1#1
  let main_v15 : IVec S_ 1 := (fun x v => Host.reduce IntOp.andi x v reducesTo_S4096x768_S_d0_1 h_S_) main_v14 main_c_3
  let main_v16 : IVec S_ 1 := andi main_v10 main_v15
  let main_v17 : FVec F S12x4096 .f32 := Host.absf main_arg3
  fn_part1 (F := F) main_arg4 main_v16 main_v17
-- ==== Pre_finite3.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x1024 .f32) (main_arg1 : FVec F S1024x4096 .bf16) (main_arg2 : FVec F S4096x1024 .bf16) (main_arg3 : FVec F S1x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : IVec S_ 1 := andi main_v3 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  let main_v16 : FVec F S1x1024 .f32 := Host.absf main_arg3
  let main_cst_4 : FVec F S_ .f32 := constant S_ .f32 0x7F800000#32
  fn_part1 (F := F) main_arg4 main_v15 main_v16 main_cst_4
-- ==== Kernel.lean ====
abbrev S4096x768 : Shape := ⟨2, ![4096, 768]⟩
abbrev S12x4096 : Shape := ⟨2, ![12, 4096]⟩
abbrev S4096x1024 : Shape := ⟨2, ![4096, 1024]⟩
abbrev S4096x12x64 : Shape := ⟨3, ![4096, 12, 64]⟩
abbrev S12x4096x4096 : Shape := ⟨3, ![12, 4096, 4096]⟩
abbrev S_ : Shape := ⟨0, ![]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S12x64x4096 : Shape := ⟨3, ![12, 64, 4096]⟩
abbrev S6x2x4096 : Shape := ⟨3, ![6, 2, 4096]⟩
abbrev S1x12x4096 : Shape := ⟨3, ![1, 12, 4096]⟩
abbrev S3x12x4096 : Shape := ⟨3, ![3, 12, 4096]⟩
abbrev S4096x12x3 : Shape := ⟨3, ![4096, 12, 3]⟩
abbrev S4096x6x2x64 : Shape := ⟨4, ![4096, 6, 2, 64]⟩
abbrev S4096x128 : Shape := ⟨2, ![4096, 128]⟩
abbrev S1x2x4096 : Shape := ⟨3, ![1, 2, 4096]⟩
abbrev S2x256x128 : Shape := ⟨3, ![2, 256, 128]⟩
abbrev S8x4096 : Shape := ⟨2, ![8, 4096]⟩
abbrev S256x256 : Shape := ⟨2, ![256, 256]⟩
abbrev S1x128 : Shape := ⟨2, ![1, 128]⟩
abbrev S2x4096 : Shape := ⟨2, ![2, 4096]⟩
abbrev S256x128 : Shape := ⟨2, ![256, 128]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S1x1x256 : Shape := ⟨3, ![1, 1, 256]⟩
abbrev S1x256x128 : Shape := ⟨3, ![1, 256, 128]⟩
abbrev S256x1 : Shape := ⟨2, ![256, 1]⟩
abbrev S1x2x256 : Shape := ⟨3, ![1, 2, 256]⟩
abbrev S2x256 : Shape := ⟨2, ![2, 256]⟩

abbrev nBuf : Space → Nat
  | .hbm => 118
  | .vmem => 27
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S12x4096, .f32⟩
  | .hbm, ⟨4, _⟩ => ⟨S4096x1024, .bf16⟩
  | .hbm, ⟨5, _⟩ => ⟨S4096x768, .f32⟩
  | .hbm, ⟨6, _⟩ => ⟨S4096x12x64, .f32⟩
  | .hbm, ⟨7, _⟩ => ⟨S4096x768, .f32⟩
  | .hbm, ⟨8, _⟩ => ⟨S4096x12x64, .f32⟩
  | .hbm, ⟨9, _⟩ => ⟨S4096x768, .f32⟩
  | .hbm, ⟨10, _⟩ => ⟨S4096x12x64, .f32⟩
  | .hbm, ⟨11, _⟩ => ⟨S12x4096x4096, .f32⟩
  | .hbm, ⟨12, _⟩ => ⟨S_, .f32⟩
  | .hbm, ⟨13, _⟩ => ⟨S12x4096x4096, .f32⟩
  | .hbm, ⟨14, _⟩ => ⟨S12x4096x4096, .f32⟩
  | .hbm, ⟨15, _⟩ => ⟨S12x4096x1, .f32⟩
  | .hbm, ⟨16, _⟩ => ⟨S12x4096x4096, .f32⟩
  | .hbm, ⟨17, _⟩ => ⟨S12x4096x4096, .f32⟩
  | .hbm, ⟨18, _⟩ => ⟨S12x1x4096, .f32⟩
  | .hbm, ⟨19, _⟩ => ⟨S12x4096x4096, .f32⟩
  | .hbm, ⟨20, _⟩ => ⟨S12x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x4096x4096, .i1⟩
  | .hbm, ⟨29, _⟩ => ⟨S_, .f32⟩
  | .hbm, ⟨30, _⟩ => ⟨S_, .f32⟩
  | .hbm, ⟨31, _⟩ => ⟨S12x4096x4096, .i1⟩
  | .hbm, ⟨32, _⟩ => ⟨S12x4096x4096, .f32⟩
  | .hbm, ⟨33, _⟩ => ⟨S12x4096x4096, .f32⟩
  | .hbm, ⟨34, _⟩ => ⟨S_, .f32⟩
  | .hbm, ⟨35, _⟩ => ⟨S12x4096, .f32⟩
  | .hbm, ⟨36, _⟩ => ⟨S_, .f32⟩
  | .hbm, ⟨37, _⟩ => ⟨S12x4096, .f32⟩
  | .hbm, ⟨38, _⟩ => ⟨S12x4096, .f32⟩
  | .hbm, ⟨39, _⟩ => ⟨S12x4096x1, .f32⟩
  | .hbm, ⟨40, _⟩ => ⟨S12x4096x4096, .f32⟩
  | .hbm, ⟨41, _⟩ => ⟨S12x4096x4096, .f32⟩
  | .hbm, ⟨42, _⟩ => ⟨S12x4096x4096, .f32⟩
  | .hbm, ⟨43, _⟩ => ⟨S_, .f32⟩
  | .hbm, ⟨44, _⟩ => ⟨S12x4096, .f32⟩
  | .hbm, ⟨45, _⟩ => ⟨S12x4096x1, .f32⟩
  | .hbm, ⟨46, _⟩ => ⟨S12x4096x4096, .f32⟩
  | .hbm, ⟨47, _⟩ => ⟨S12x4096x4096, .f32⟩
  | .hbm, ⟨48, _⟩ => ⟨S12x64x4096, .f32⟩
  | .hbm, ⟨49, _⟩ => ⟨S4096x12x64, .f32⟩
  | .hbm, ⟨50, _⟩ => ⟨S4096x768, .f32⟩
  | .hbm, ⟨51, _⟩ => ⟨S4096x768, .bf16⟩
  | .hbm, ⟨52, _⟩ => ⟨S4096x768, .f32⟩
  | .hbm, ⟨53, _⟩ => ⟨S4096x12x64, .f32⟩
  | .hbm, ⟨54, _⟩ => ⟨S4096x768, .f32⟩
  | .hbm, ⟨55, _⟩ => ⟨S4096x12x64, .f32⟩
  | .hbm, ⟨56, _⟩ => ⟨S12x4096x4096, .f32⟩
  | .hbm, ⟨57, _⟩ => ⟨S_, .f32⟩
  | .hbm, ⟨58, _⟩ => ⟨S12x4096x4096, .f32⟩
  | .hbm, ⟨59, _⟩ => ⟨S12x4096x4096, .f32⟩
  | .hbm, ⟨60, _⟩ => ⟨S12x4096x1, .f32⟩
  | .hbm, ⟨61, _⟩ => ⟨S12x4096x4096, .f32⟩
  | .hbm, ⟨62, _⟩ => ⟨S12x4096x4096, .f32⟩
  | .hbm, ⟨63, _⟩ => ⟨S12x1x4096, .f32⟩
  | .hbm, ⟨64, _⟩ => ⟨S12x4096x4096, .f32⟩
  | .hbm, ⟨65, _⟩ => ⟨S12x4096x4096, .f32⟩
  | .hbm, ⟨66, _⟩ => ⟨S4096, .i32⟩
  | .hbm, ⟨67, _⟩ => ⟨S1x4096, .i32⟩
  | .hbm, ⟨68, _⟩ => ⟨S4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S1x4096x4096, .i1⟩
  | .hbm, ⟨74, _⟩ => ⟨S_, .f32⟩
  | .hbm, ⟨75, _⟩ => ⟨S_, .f32⟩
  | .hbm, ⟨76, _⟩ => ⟨S12x4096x4096, .i1⟩
  | .hbm, ⟨77, _⟩ => ⟨S12x4096x4096, .f32⟩
  | .hbm, ⟨78, _⟩ => ⟨S12x4096x4096, .f32⟩
  | .hbm, ⟨79, _⟩ => ⟨S_, .f32⟩
  | .hbm, ⟨80, _⟩ => ⟨S12x4096, .f32⟩
  | .hbm, ⟨81, _⟩ => ⟨S12x4096x1, .f32⟩
  | .hbm, ⟨82, _⟩ => ⟨S12x4096x4096, .f32⟩
  | .hbm, ⟨83, _⟩ => ⟨S12x4096x4096, .f32⟩
  | .hbm, ⟨84, _⟩ => ⟨S12x4096x4096, .f32⟩
  | .hbm, ⟨85, _⟩ => ⟨S_, .f32⟩
  | .hbm, ⟨86, _⟩ => ⟨S12x4096, .f32⟩
  | .hbm, ⟨87, _⟩ => ⟨S12x4096, .f32⟩
  | .hbm, ⟨88, _⟩ => ⟨S12x4096, .f32⟩
  | .hbm, ⟨89, _⟩ => ⟨S12x4096, .f32⟩
  | .hbm, ⟨90, _⟩ => ⟨S6x2x4096, .f32⟩
  | .hbm, ⟨91, _⟩ => ⟨S12x4096, .f32⟩
  | .hbm, ⟨92, _⟩ => ⟨S12x4096, .bf16⟩
  | .hbm, ⟨93, _⟩ => ⟨S12x4096, .f32⟩
  | .hbm, ⟨94, _⟩ => ⟨S12x4096, .f32⟩
  | .hbm, ⟨95, _⟩ => ⟨S12x4096, .bf16⟩
  | .hbm, ⟨96, _⟩ => ⟨S12x4096, .f32⟩
  | .hbm, ⟨97, _⟩ => ⟨S12x4096, .f32⟩
  | .hbm, ⟨98, _⟩ => ⟨S12x4096, .bf16⟩
  | .hbm, ⟨99, _⟩ => ⟨S12x4096, .f32⟩
  | .hbm, ⟨100, _⟩ => ⟨S12x4096, .f32⟩
  | .hbm, ⟨101, _⟩ => ⟨S12x4096, .f32⟩
  | .hbm, ⟨102, _⟩ => ⟨S1x12x4096, .f32⟩
  | .hbm, ⟨103, _⟩ => ⟨S1x12x4096, .f32⟩
  | .hbm, ⟨104, _⟩ => ⟨S1x12x4096, .f32⟩
  | .hbm, ⟨105, _⟩ => ⟨S3x12x4096, .f32⟩
  | .hbm, ⟨106, _⟩ => ⟨S4096x12x3, .f32⟩
  | .hbm, ⟨107, _⟩ => ⟨S_, .i32⟩
  | .hbm, ⟨108, _⟩ => ⟨S_, .f32⟩
  | .hbm, ⟨109, _⟩ => ⟨S4096x12x64, .f32⟩
  | .hbm, ⟨110, _⟩ => ⟨S4096x6x2x64, .f32⟩
  | .hbm, ⟨111, _⟩ => ⟨S4096x6x2x64, .f32⟩
  | .hbm, ⟨112, _⟩ => ⟨S4096x768, .f32⟩
  | .hbm, ⟨113, _⟩ => ⟨S4096x768, .bf16⟩
  | .hbm, ⟨114, _⟩ => ⟨S4096x1024, .bf16⟩
  | .hbm, ⟨115, _⟩ => ⟨S4096x768, .bf16⟩
  | .hbm, ⟨116, _⟩ => ⟨S4096x768, .bf16⟩
  | .hbm, ⟨117, _⟩ => ⟨S6x2x4096, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S1x2x4096, .f32⟩
  | .local _ .vmem, ⟨13, _⟩ => ⟨S1x2x4096, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S1x2x4096, .f32⟩
  | .local _ .vmem, ⟨21, _⟩ => ⟨S1x2x4096, .f32⟩
  | .local _ .vmem, ⟨22, _⟩ => ⟨S4096x128, .f32⟩
  | .local _ .vmem, ⟨23, _⟩ => ⟨S4096x128, .f32⟩
  | .local _ .vmem, ⟨24, _⟩ => ⟨S2x256x128, .f32⟩
  | .local _ .vmem, ⟨25, _⟩ => ⟨S2x256x128, .f32⟩
  | .local _ .vmem, ⟨26, _⟩ => ⟨S8x4096, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_c : Ref sig .tc := ⟨.hbm, 107, rfl⟩
abbrev main_call2_v0 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92_0 : Ref sig .tc := ⟨.hbm, 114, rfl⟩
abbrev main_v92_1 : Ref sig .tc := ⟨.hbm, 115, rfl⟩
abbrev main_v92_2 : Ref sig .tc := ⟨.hbm, 116, rfl⟩
abbrev main_v92_3 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_9 : BitVec 32 := 0#32
  let c16_i32 : BitVec 32 := 16#32
  let v36 : BitVec 32 := Scalar.addi c0_i32_9 c16_i32
  let c1_i32 : BitVec 32 := 1#32
  ⟨c0_i32_9, v36, c1_i32⟩
def k0_mult1 (k0_t1 : Fin k0_t1_loop.trips) : BitVec 32 :=
  let c0_i32_9 : BitVec 32 := 0#32
  let c1_i32 : BitVec 32 := 1#32
  let arg17 : BitVec 32 := Scf.iv c0_i32_9 c1_i32 k0_t1
  let c256_i32 : BitVec 32 := 256#32
  let v42 : BitVec 32 := Scalar.muli arg17 c256_i32
  v42
def k0_off1 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v42 : BitVec 32 := Scalar.muli arg17 c256_i32
  let v43 : BitVec 32 := v42
  let v44 : Index := Scalar.indexCast v43
  let c0_22 : Index := 0#32
  ![v44.toNat, 0]
def k0_off2 (k0_t1 : Fin k0_t1_loop.trips) : Fin 2 → Nat :=
  let c0_25 : Index := 0#32
  let c0_i32_9 : BitVec 32 := 0#32
  let c1_i32 : BitVec 32 := 1#32
  let arg17 : BitVec 32 := Scf.iv c0_i32_9 c1_i32 k0_t1
  let c256_i32 : BitVec 32 := 256#32
  let v42 : BitVec 32 := Scalar.muli arg17 c256_i32
  let v43 : BitVec 32 := v42
  let v56 : Index := Scalar.indexCast v43
  ![0, v56.toNat]
def k0_off3 (k0_t1 : Fin k0_t1_loop.trips) : Fin 2 → Nat :=
  let c1 : Index := 1#32
  let c0_i32_9 : BitVec 32 := 0#32
  let c1_i32 : BitVec 32 := 1#32
  let arg17 : BitVec 32 := Scf.iv c0_i32_9 c1_i32 k0_t1
  let c256_i32 : BitVec 32 := 256#32
  let v42 : BitVec 32 := Scalar.muli arg17 c256_i32
  let v43 : BitVec 32 := v42
  let v63 : Index := Scalar.indexCast v43
  ![1, v63.toNat]
@[reducible] def k0_t2_loop : Scf.Loop 32 :=
  let c0_i32_11 : BitVec 32 := 0#32
  let c8_i32 : BitVec 32 := 8#32
  let v37 : BitVec 32 := Scalar.addi c0_i32_11 c8_i32
  let c1_i32_12 : BitVec 32 := 1#32
  ⟨c0_i32_11, v37, c1_i32_12⟩
def k0_mult2 (k0_t2 : Fin k0_t2_loop.trips) : BitVec 32 :=
  let c2_i32 : BitVec 32 := 2#32
  let c0_i32_11 : BitVec 32 := 0#32
  let c1_i32_12 : BitVec 32 := 1#32
  let arg17 : BitVec 32 := Scf.iv c0_i32_11 c1_i32_12 k0_t2
  let v50 : BitVec 32 := Scalar.muli c2_i32 arg17
  let c0_i32_30 : BitVec 32 := 0#32
  let v51 : BitVec 32 := Scalar.addi v50 c0_i32_30
  let c256_i32 : BitVec 32 := 256#32
  let v52 : BitVec 32 := Scalar.muli v51 c256_i32
  v52
def k0_mult3 (k0_t2 : Fin k0_t2_loop.trips) : BitVec 32 :=
  let c2_i32_31 : BitVec 32 := 2#32
  let c0_i32_11 : BitVec 32 := 0#32
  let c1_i32_12 : BitVec 32 := 1#32
  let arg17 : BitVec 32 := Scf.iv c0_i32_11 c1_i32_12 k0_t2
  let v54 : BitVec 32 := Scalar.muli c2_i32_31 arg17
  let c1_i32_32 : BitVec 32 := 1#32
  let v55 : BitVec 32 := Scalar.addi v54 c1_i32_32
  let c256_i32_33 : BitVec 32 := 256#32
  let v56 : BitVec 32 := Scalar.muli v55 c256_i32_33
  v56
def k0_off4 (k0_t2 : Fin k0_t2_loop.trips) (c0_i32_30 : BitVec 32) : Fin 2 → Nat :=
  let c2_i32 : BitVec 32 := 2#32
  let c0_i32_11 : BitVec 32 := 0#32
  let c1_i32_12 : BitVec 32 := 1#32
  let arg17 : BitVec 32 := Scf.iv c0_i32_11 c1_i32_12 k0_t2
  let v50 : BitVec 32 := Scalar.muli c2_i32 arg17
  let v51 : BitVec 32 := Scalar.addi v50 c0_i32_30
  let c256_i32 : BitVec 32 := 256#32
  let v52 : BitVec 32 := Scalar.muli v51 c256_i32
  let v53 : BitVec 32 := v52
  let v58 : Index := Scalar.indexCast v53
  let c0_34 : Index := 0#32
  ![v58.toNat, 0]
def k0_mult4 (k0_t2 : Fin k0_t2_loop.trips) : BitVec 32 :=
  let c2_i32_48 : BitVec 32 := 2#32
  let c0_i32_11 : BitVec 32 := 0#32
  let c1_i32_12 : BitVec 32 := 1#32
  let arg17 : BitVec 32 := Scf.iv c0_i32_11 c1_i32_12 k0_t2
  let v108 : BitVec 32 := Scalar.muli c2_i32_48 arg17
  let c256_i32_49 : BitVec 32 := 256#32
  let v109 : BitVec 32 := Scalar.muli v108 c256_i32_49
  v109
def k0_off5 (k0_t2 : Fin k0_t2_loop.trips) : Fin 2 → Nat :=
  let c2_i32_48 : BitVec 32 := 2#32
  let c0_i32_11 : BitVec 32 := 0#32
  let c1_i32_12 : BitVec 32 := 1#32
  let arg17 : BitVec 32 := Scf.iv c0_i32_11 c1_i32_12 k0_t2
  let v108 : BitVec 32 := Scalar.muli c2_i32_48 arg17
  let c256_i32_49 : BitVec 32 := 256#32
  let v109 : BitVec 32 := Scalar.muli v108 c256_i32_49
  let v110 : BitVec 32 := v109
  let v111 : Index := Scalar.indexCast v110
  let c0_50 : Index := 0#32
  ![v111.toNat, 0]
def k0_off6 (k0_t2 : Fin k0_t2_loop.trips) : Fin 3 → Nat :=
  let c0_65 : Index := 0#32
  let c0_66 : Index := 0#32
  let c2_i32_48 : BitVec 32 := 2#32
  let c0_i32_11 : BitVec 32 := 0#32
  let c1_i32_12 : BitVec 32 := 1#32
  let arg17 : BitVec 32 := Scf.iv c0_i32_11 c1_i32_12 k0_t2
  let v108 : BitVec 32 := Scalar.muli c2_i32_48 arg17
  let c256_i32_49 : BitVec 32 := 256#32
  let v109 : BitVec 32 := Scalar.muli v108 c256_i32_49
  let v110 : BitVec 32 := v109
  let v152 : Index := Scalar.indexCast v110
  ![0, 0, v152.toNat]
def k0_off7 (k0_t2 : Fin k0_t2_loop.trips) : Fin 2 → Nat :=
  let c0_74 : Index := 0#32
  let c2_i32_48 : BitVec 32 := 2#32
  let c0_i32_11 : BitVec 32 := 0#32
  let c1_i32_12 : BitVec 32 := 1#32
  let arg17 : BitVec 32 := Scf.iv c0_i32_11 c1_i32_12 k0_t2
  let v108 : BitVec 32 := Scalar.muli c2_i32_48 arg17
  let c256_i32_49 : BitVec 32 := 256#32
  let v109 : BitVec 32 := Scalar.muli v108 c256_i32_49
  let v110 : BitVec 32 := v109
  let v166 : Index := Scalar.indexCast v110
  ![0, v166.toNat]
def k0_off8 (k0_t2 : Fin k0_t2_loop.trips) : Fin 3 → Nat :=
  let c0_90 : Index := 0#32
  let c1 : Index := 1#32
  let c2_i32_48 : BitVec 32 := 2#32
  let c0_i32_11 : BitVec 32 := 0#32
  let c1_i32_12 : BitVec 32 := 1#32
  let arg17 : BitVec 32 := Scf.iv c0_i32_11 c1_i32_12 k0_t2
  let v108 : BitVec 32 := Scalar.muli c2_i32_48 arg17
  let c256_i32_49 : BitVec 32 := 256#32
  let v109 : BitVec 32 := Scalar.muli v108 c256_i32_49
  let v110 : BitVec 32 := v109
  let v203 : Index := Scalar.indexCast v110
  ![0, 1, v203.toNat]
def k0_off9 (k0_t2 : Fin k0_t2_loop.trips) : Fin 2 → Nat :=
  let c1_98 : Index := 1#32
  let c2_i32_48 : BitVec 32 := 2#32
  let c0_i32_11 : BitVec 32 := 0#32
  let c1_i32_12 : BitVec 32 := 1#32
  let arg17 : BitVec 32 := Scf.iv c0_i32_11 c1_i32_12 k0_t2
  let v108 : BitVec 32 := Scalar.muli c2_i32_48 arg17
  let c256_i32_49 : BitVec 32 := 256#32
  let v109 : BitVec 32 := Scalar.muli v108 c256_i32_49
  let v110 : BitVec 32 := v109
  let v217 : Index := Scalar.indexCast v110
  ![1, v217.toNat]
def k0_mult5 (k0_t2 : Fin k0_t2_loop.trips) : BitVec 32 :=
  let c2_i32_123 : BitVec 32 := 2#32
  let c0_i32_11 : BitVec 32 := 0#32
  let c1_i32_12 : BitVec 32 := 1#32
  let arg17 : BitVec 32 := Scf.iv c0_i32_11 c1_i32_12 k0_t2
  let v275 : BitVec 32 := Scalar.muli c2_i32_123 arg17
  let c1_i32_124 : BitVec 32 := 1#32
  let v276 : BitVec 32 := Scalar.addi v275 c1_i32_124
  let c256_i32_125 : BitVec 32 := 256#32
  let v277 : BitVec 32 := Scalar.muli v276 c256_i32_125
  v277
def k0_off10 (k0_t2 : Fin k0_t2_loop.trips) : Fin 3 → Nat :=
  let c0_144 : Index := 0#32
  let c0_145 : Index := 0#32
  let c2_i32_123 : BitVec 32 := 2#32
  let c0_i32_11 : BitVec 32 := 0#32
  let c1_i32_12 : BitVec 32 := 1#32
  let arg17 : BitVec 32 := Scf.iv c0_i32_11 c1_i32_12 k0_t2
  let v275 : BitVec 32 := Scalar.muli c2_i32_123 arg17
  let c1_i32_124 : BitVec 32 := 1#32
  let v276 : BitVec 32 := Scalar.addi v275 c1_i32_124
  let c256_i32_125 : BitVec 32 := 256#32
  let v277 : BitVec 32 := Scalar.muli v276 c256_i32_125
  let v278 : BitVec 32 := v277
  let v332 : Index := Scalar.indexCast v278
  ![0, 0, v332.toNat]
def k0_off11 (k0_t2 : Fin k0_t2_loop.trips) : Fin 2 → Nat :=
  let c0_153 : Index := 0#32
  let c2_i32_123 : BitVec 32 := 2#32
  let c0_i32_11 : BitVec 32 := 0#32
  let c1_i32_12 : BitVec 32 := 1#32
  let arg17 : BitVec 32 := Scf.iv c0_i32_11 c1_i32_12 k0_t2
  let v275 : BitVec 32 := Scalar.muli c2_i32_123 arg17
  let c1_i32_124 : BitVec 32 := 1#32
  let v276 : BitVec 32 := Scalar.addi v275 c1_i32_124
  let c256_i32_125 : BitVec 32 := 256#32
  let v277 : BitVec 32 := Scalar.muli v276 c256_i32_125
  let v278 : BitVec 32 := v277
  let v346 : Index := Scalar.indexCast v278
  ![0, v346.toNat]
def k0_off12 (k0_t2 : Fin k0_t2_loop.trips) : Fin 3 → Nat :=
  let c0_193 : Index := 0#32
  let c1_194 : Index := 1#32
  let c2_i32_123 : BitVec 32 := 2#32
  let c0_i32_11 : BitVec 32 := 0#32
  let c1_i32_12 : BitVec 32 := 1#32
  let arg17 : BitVec 32 := Scf.iv c0_i32_11 c1_i32_12 k0_t2
  let v275 : BitVec 32 := Scalar.muli c2_i32_123 arg17
  let c1_i32_124 : BitVec 32 := 1#32
  let v276 : BitVec 32 := Scalar.addi v275 c1_i32_124
  let c256_i32_125 : BitVec 32 := 256#32
  let v277 : BitVec 32 := Scalar.muli v276 c256_i32_125
  let v278 : BitVec 32 := v277
  let v432 : Index := Scalar.indexCast v278
  ![0, 1, v432.toNat]
def k0_off13 (k0_t2 : Fin k0_t2_loop.trips) : Fin 2 → Nat :=
  let c1_202 : Index := 1#32
  let c2_i32_123 : BitVec 32 := 2#32
  let c0_i32_11 : BitVec 32 := 0#32
  let c1_i32_12 : BitVec 32 := 1#32
  let arg17 : BitVec 32 := Scf.iv c0_i32_11 c1_i32_12 k0_t2
  let v275 : BitVec 32 := Scalar.muli c2_i32_123 arg17
  let c1_i32_124 : BitVec 32 := 1#32
  let v276 : BitVec 32 := Scalar.addi v275 c1_i32_124
  let c256_i32_125 : BitVec 32 := 256#32
  let v277 : BitVec 32 := Scalar.muli v276 c256_i32_125
  let v278 : BitVec 32 := v277
  let v446 : Index := Scalar.indexCast v278
  ![1, v446.toNat]
@[reducible] def k0_t3_loop (k0_t2 : Fin k0_t2_loop.trips) : Scf.Loop 32 :=
  let c0_i32_252 : BitVec 32 := 0#32
  let c7_i32 : BitVec 32 := 7#32
  let c0_i32_11 : BitVec 32 := 0#32
  let c1_i32_12 : BitVec 32 := 1#32
  let arg17 : BitVec 32 := Scf.iv c0_i32_11 c1_i32_12 k0_t2
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_255 : BitVec 32 := 1#32
  ⟨c0_i32_252, v560, c1_i32_255⟩
def k0_mult6 (k0_t2 : Fin k0_t2_loop.trips) (k0_t3 : Fin (k0_t3_loop k0_t2).trips) : BitVec 32 :=
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let c2_i32_274 : BitVec 32 := 2#32
  let v584 : BitVec 32 := Scalar.addi v583 c2_i32_274
  let c2_i32_275 : BitVec 32 := 2#32
  let c0_i32_252 : BitVec 32 := 0#32
  let c1_i32_255 : BitVec 32 := 1#32
  let arg18 : BitVec 32 := Scf.iv c0_i32_252 c1_i32_255 k0_t3
  let v585 : BitVec 32 := Scalar.muli c2_i32_275 arg18
  let v586 : BitVec 32 := Scalar.addi v584 v585
  let c256_i32_276 : BitVec 32 := 256#32
  let v587 : BitVec 32 := Scalar.muli v586 c256_i32_276
  v587
def k0_off14 (k0_t2 : Fin k0_t2_loop.trips) (k0_t3 : Fin (k0_t3_loop k0_t2).trips) (c2_i32_274 : BitVec 32) : Fin 2 → Nat :=
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c1_i32_255 : BitVec 32 := 1#32
  let arg18 : BitVec 32 := Scf.iv c0_i32_252 c1_i32_255 k0_t3
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v589 : Index := Scalar.indexCast v588
  let c0_277 : Index := 0#32
  ![v589.toNat, 0]
def k0_off15 (k0_t2 : Fin k0_t2_loop.trips) (k0_t3 : Fin (k0_t3_loop k0_t2).trips) (c2_i32_274 : BitVec 32) : Fin 3 → Nat :=
  let c0_295 : Index := 0#32
  let c0_296 : Index := 0#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c1_i32_255 : BitVec 32 := 1#32
  let arg18 : BitVec 32 := Scf.iv c0_i32_252 c1_i32_255 k0_t3
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v642 : Index := Scalar.indexCast v588
  ![0, 0, v642.toNat]
def k0_off16 (k0_t2 : Fin k0_t2_loop.trips) (k0_t3 : Fin (k0_t3_loop k0_t2).trips) (c2_i32_274 : BitVec 32) : Fin 2 → Nat :=
  let c0_304 : Index := 0#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c1_i32_255 : BitVec 32 := 1#32
  let arg18 : BitVec 32 := Scf.iv c0_i32_252 c1_i32_255 k0_t3
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v656 : Index := Scalar.indexCast v588
  ![0, v656.toNat]
def k0_off17 (k0_t2 : Fin k0_t2_loop.trips) (c0_i32_30 : BitVec 32) : Fin 2 → Nat :=
  let c2_i32 : BitVec 32 := 2#32
  let c0_i32_11 : BitVec 32 := 0#32
  let c1_i32_12 : BitVec 32 := 1#32
  let arg17 : BitVec 32 := Scf.iv c0_i32_11 c1_i32_12 k0_t2
  let v50 : BitVec 32 := Scalar.muli c2_i32 arg17
  let v51 : BitVec 32 := Scalar.addi v50 c0_i32_30
  let c256_i32 : BitVec 32 := 256#32
  let v52 : BitVec 32 := Scalar.muli v51 c256_i32
  let v53 : BitVec 32 := v52
  let v671 : Index := Scalar.indexCast v53
  let c0_313 : Index := 0#32
  ![v671.toNat, 0]
def k0_off18 (k0_t2 : Fin k0_t2_loop.trips) (k0_t3 : Fin (k0_t3_loop k0_t2).trips) (c2_i32_274 : BitVec 32) : Fin 3 → Nat :=
  let c0_343 : Index := 0#32
  let c1_344 : Index := 1#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c1_i32_255 : BitVec 32 := 1#32
  let arg18 : BitVec 32 := Scf.iv c0_i32_252 c1_i32_255 k0_t3
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v740 : Index := Scalar.indexCast v588
  ![0, 1, v740.toNat]
def k0_off19 (k0_t2 : Fin k0_t2_loop.trips) (k0_t3 : Fin (k0_t3_loop k0_t2).trips) (c2_i32_274 : BitVec 32) : Fin 2 → Nat :=
  let c1_352 : Index := 1#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c1_i32_255 : BitVec 32 := 1#32
  let arg18 : BitVec 32 := Scf.iv c0_i32_252 c1_i32_255 k0_t3
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v754 : Index := Scalar.indexCast v588
  ![1, v754.toNat]
def k0_mult7 (k0_t2 : Fin k0_t2_loop.trips) (k0_t3 : Fin (k0_t3_loop k0_t2).trips) : BitVec 32 :=
  let c2_i32_401 : BitVec 32 := 2#32
  let c0_i32_11 : BitVec 32 := 0#32
  let c1_i32_12 : BitVec 32 := 1#32
  let arg17 : BitVec 32 := Scf.iv c0_i32_11 c1_i32_12 k0_t2
  let v861 : BitVec 32 := Scalar.muli c2_i32_401 arg17
  let c3_i32_402 : BitVec 32 := 3#32
  let v862 : BitVec 32 := Scalar.addi v861 c3_i32_402
  let c2_i32_403 : BitVec 32 := 2#32
  let c0_i32_252 : BitVec 32 := 0#32
  let c1_i32_255 : BitVec 32 := 1#32
  let arg18 : BitVec 32 := Scf.iv c0_i32_252 c1_i32_255 k0_t3
  let v863 : BitVec 32 := Scalar.muli c2_i32_403 arg18
  let v864 : BitVec 32 := Scalar.addi v862 v863
  let c256_i32_404 : BitVec 32 := 256#32
  let v865 : BitVec 32 := Scalar.muli v864 c256_i32_404
  v865
@[reducible] def k0_t4_loop (k0_t2 : Fin k0_t2_loop.trips) : Scf.Loop 32 :=
  let c0_i32_252 : BitVec 32 := 0#32
  let c7_i32 : BitVec 32 := 7#32
  let c0_i32_11 : BitVec 32 := 0#32
  let c1_i32_12 : BitVec 32 := 1#32
  let arg17 : BitVec 32 := Scf.iv c0_i32_11 c1_i32_12 k0_t2
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let v557 : BitVec 32 := Scalar.addi c0_i32_252 v556
  let c1_i32_256 : BitVec 32 := 1#32
  ⟨v560, v557, c1_i32_256⟩
def k0_mult8 (k0_t2 : Fin k0_t2_loop.trips) (k0_t4 : Fin (k0_t4_loop k0_t2).trips) : BitVec 32 :=
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let c2_i32_274 : BitVec 32 := 2#32
  let v584 : BitVec 32 := Scalar.addi v583 c2_i32_274
  let c2_i32_275 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v585 : BitVec 32 := Scalar.muli c2_i32_275 arg18
  let v586 : BitVec 32 := Scalar.addi v584 v585
  let c256_i32_276 : BitVec 32 := 256#32
  let v587 : BitVec 32 := Scalar.muli v586 c256_i32_276
  v587
def k0_off20 (k0_t2 : Fin k0_t2_loop.trips) (k0_t4 : Fin (k0_t4_loop k0_t2).trips) (c2_i32_274 : BitVec 32) : Fin 2 → Nat :=
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v589 : Index := Scalar.indexCast v588
  let c0_277 : Index := 0#32
  ![v589.toNat, 0]
def k0_off21 (k0_t2 : Fin k0_t2_loop.trips) (k0_t4 : Fin (k0_t4_loop k0_t2).trips) (c2_i32_274 : BitVec 32) : Fin 3 → Nat :=
  let c0_295 : Index := 0#32
  let c0_296 : Index := 0#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v642 : Index := Scalar.indexCast v588
  ![0, 0, v642.toNat]
def k0_off22 (k0_t2 : Fin k0_t2_loop.trips) (k0_t4 : Fin (k0_t4_loop k0_t2).trips) (c2_i32_274 : BitVec 32) : Fin 2 → Nat :=
  let c0_304 : Index := 0#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v656 : Index := Scalar.indexCast v588
  ![0, v656.toNat]
def k0_off23 (k0_t2 : Fin k0_t2_loop.trips) (c0_i32_30 : BitVec 32) : Fin 2 → Nat :=
  let c2_i32 : BitVec 32 := 2#32
  let c0_i32_11 : BitVec 32 := 0#32
  let c1_i32_12 : BitVec 32 := 1#32
  let arg17 : BitVec 32 := Scf.iv c0_i32_11 c1_i32_12 k0_t2
  let v50 : BitVec 32 := Scalar.muli c2_i32 arg17
  let v51 : BitVec 32 := Scalar.addi v50 c0_i32_30
  let c256_i32 : BitVec 32 := 256#32
  let v52 : BitVec 32 := Scalar.muli v51 c256_i32
  let v53 : BitVec 32 := v52
  let v671 : Index := Scalar.indexCast v53
  let c0_313 : Index := 0#32
  ![v671.toNat, 0]
def k0_off24 (k0_t2 : Fin k0_t2_loop.trips) (k0_t4 : Fin (k0_t4_loop k0_t2).trips) (c2_i32_274 : BitVec 32) : Fin 3 → Nat :=
  let c0_343 : Index := 0#32
  let c1_344 : Index := 1#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v740 : Index := Scalar.indexCast v588
  ![0, 1, v740.toNat]
def k0_off25 (k0_t2 : Fin k0_t2_loop.trips) (k0_t4 : Fin (k0_t4_loop k0_t2).trips) (c2_i32_274 : BitVec 32) : Fin 2 → Nat :=
  let c1_352 : Index := 1#32
  let c2_i32_273 : BitVec 32 := 2#32
  let c0_i32_11 : BitVec 32 := 0#32
  let c1_i32_12 : BitVec 32 := 1#32
  let arg17 : BitVec 32 := Scf.iv c0_i32_11 c1_i32_12 k0_t2
  let v583 : BitVec 32 := Scalar.muli c2_i32_273 arg17
  let v584 : BitVec 32 := Scalar.addi v583 c2_i32_274
  let c2_i32_275 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v585 : BitVec 32 := Scalar.muli c2_i32_275 arg18
  let v586 : BitVec 32 := Scalar.addi v584 v585
  let c256_i32_276 : BitVec 32 := 256#32
  let v587 : BitVec 32 := Scalar.muli v586 c256_i32_276
  let v588 : BitVec 32 := v587
  let v754 : Index := Scalar.indexCast v588
  ![1, v754.toNat]
def k0_mult9 (k0_t2 : Fin k0_t2_loop.trips) (k0_t4 : Fin (k0_t4_loop k0_t2).trips) : BitVec 32 :=
  let c2_i32_401 : BitVec 32 := 2#32
  let c0_i32_11 : BitVec 32 := 0#32
  let c1_i32_12 : BitVec 32 := 1#32
  let arg17 : BitVec 32 := Scf.iv c0_i32_11 c1_i32_12 k0_t2
  let v861 : BitVec 32 := Scalar.muli c2_i32_401 arg17
  let c3_i32_402 : BitVec 32 := 3#32
  let v862 : BitVec 32 := Scalar.addi v861 c3_i32_402
  let c2_i32_403 : BitVec 32 := 2#32
  let c0_i32_252 : BitVec 32 := 0#32
  let c7_i32 : BitVec 32 := 7#32
  let v555 : BitVec 32 := Scalar.subi c7_i32 arg17
  let v556 : BitVec 32 := Scalar.subi v555 c0_i32_252
  let c1_i32_254 : BitVec 32 := 1#32
  let v558 : BitVec 32 := Scalar.divsi v556 c1_i32_254
  let v559 : BitVec 32 := Scalar.muli v558 c1_i32_254
  let v560 : BitVec 32 := Scalar.addi c0_i32_252 v559
  let c1_i32_256 : BitVec 32 := 1#32
  let arg18 : BitVec 32 := Scf.iv v560 c1_i32_256 k0_t4
  let v863 : BitVec 32 := Scalar.muli c2_i32_403 arg18
  let v864 : BitVec 32 := Scalar.addi v862 v863
  let c256_i32_404 : BitVec 32 := 256#32
  let v865 : BitVec 32 := Scalar.muli v864 c256_i32_404
  v865
@[reducible] def k0_t5_loop : Scf.Loop 32 :=
  let c0_i32_18 : BitVec 32 := 0#32
  let c16_i32_19 : BitVec 32 := 16#32
  let v41 : BitVec 32 := Scalar.addi c0_i32_18 c16_i32_19
  let c1_i32_20 : BitVec 32 := 1#32
  ⟨c0_i32_18, v41, c1_i32_20⟩
def k0_mult10 (k0_t5 : Fin k0_t5_loop.trips) : BitVec 32 :=
  let c0_i32_18 : BitVec 32 := 0#32
  let c1_i32_20 : BitVec 32 := 1#32
  let arg17 : BitVec 32 := Scf.iv c0_i32_18 c1_i32_20 k0_t5
  let c256_i32 : BitVec 32 := 256#32
  let v42 : BitVec 32 := Scalar.muli arg17 c256_i32
  v42
def k0_off26 (k0_t5 : Fin k0_t5_loop.trips) : Fin 3 → Nat :=
  let c0_22 : Index := 0#32
  let c0_23 : Index := 0#32
  let c0_i32_18 : BitVec 32 := 0#32
  let c1_i32_20 : BitVec 32 := 1#32
  let arg17 : BitVec 32 := Scf.iv c0_i32_18 c1_i32_20 k0_t5
  let c256_i32 : BitVec 32 := 256#32
  let v42 : BitVec 32 := Scalar.muli arg17 c256_i32
  let v43 : BitVec 32 := v42
  let v44 : Index := Scalar.indexCast v43
  ![0, 0, v44.toNat]
def k0_off27 (k0_t5 : Fin k0_t5_loop.trips) : Fin 2 → Nat :=
  let c0_i32_18 : BitVec 32 := 0#32
  let c1_i32_20 : BitVec 32 := 1#32
  let arg17 : BitVec 32 := Scf.iv c0_i32_18 c1_i32_20 k0_t5
  let c256_i32 : BitVec 32 := 256#32
  let v42 : BitVec 32 := Scalar.muli arg17 c256_i32
  let v43 : BitVec 32 := v42
  let v47 : Index := Scalar.indexCast v43
  let c0_24 : Index := 0#32
  ![v47.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x768 : Shape := ⟨2, ![4096, 768]⟩
abbrev S12x4096 : Shape := ⟨2, ![12, 4096]⟩
abbrev S4096x1024 : Shape := ⟨2, ![4096, 1024]⟩
abbrev S4096x12x64 : Shape := ⟨3, ![4096, 12, 64]⟩
abbrev S12x4096x4096 : Shape := ⟨3, ![12, 4096, 4096]⟩
abbrev S_ : Shape := ⟨0, ![]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S12x64x4096 : Shape := ⟨3, ![12, 64, 4096]⟩
abbrev S12x4096x64 : Shape := ⟨3, ![12, 4096, 64]⟩
abbrev S4096x256 : Shape := ⟨2, ![4096, 256]⟩
abbrev S6x2x4096 : Shape := ⟨3, ![6, 2, 4096]⟩

abbrev nBuf : Space → Nat
  | .hbm => 129
  | .vmem => 0
  | .smem => 0
  | _ => 0

abbrev hbmTy0_0 (i : Nat) : BufTy := match i % 128 with
  | 0 => ⟨S4096x768, .bf16⟩
  | 1 => ⟨S4096x768, .bf16⟩
  | 2 => ⟨S4096x768, .bf16⟩
  | 3 => ⟨S12x4096, .f32⟩
  | 4 => ⟨S4096x1024, .bf16⟩
  | 5 => ⟨S4096x768, .bf16⟩
  | 6 => ⟨S4096x768, .f32⟩
  | 7 => ⟨S4096x12x64, .f32⟩
  | 8 => ⟨S4096x768, .f32⟩
  | 9 => ⟨S4096x12x64, .f32⟩
  | 10 => ⟨S4096x768, .f32⟩
  | 11 => ⟨S4096x12x64, .f32⟩
  | 12 => ⟨S4096x768, .f32⟩
  | 13 => ⟨S4096x12x64, .f32⟩
  | 14 => ⟨S12x4096x4096, .f32⟩
  | 15 => ⟨S_, .f32⟩
  | 16 => ⟨S12x4096x4096, .f32⟩
  | 17 => ⟨S12x4096x4096, .f32⟩
  | 18 => ⟨S12x4096x1, .f32⟩
  | 19 => ⟨S12x4096x4096, .f32⟩
  | 20 => ⟨S12x4096x4096, .f32⟩
  | 21 => ⟨S12x1x4096, .f32⟩
  | 22 => ⟨S12x4096x4096, .f32⟩
  | 23 => ⟨S12x4096x4096, .f32⟩
  | 24 => ⟨S4096, .i32⟩
  | 25 => ⟨S1x4096, .i32⟩
  | 26 => ⟨S4096, .i32⟩
  | 27 => ⟨S4096x1, .i32⟩
  | 28 => ⟨S4096x4096, .i32⟩
  | 29 => ⟨S4096x4096, .i32⟩
  | 30 => ⟨S4096x4096, .i1⟩
  | 31 => ⟨S1x4096x4096, .i1⟩
  | 32 => ⟨S_, .f32⟩
  | 33 => ⟨S_, .f32⟩
  | 34 => ⟨S12x4096x4096, .i1⟩
  | 35 => ⟨S12x4096x4096, .f32⟩
  | 36 => ⟨S12x4096x4096, .f32⟩
  | 37 => ⟨S_, .f32⟩
  | 38 => ⟨S12x4096x4096, .f32⟩
  | 39 => ⟨S_, .f32⟩
  | 40 => ⟨S12x4096, .f32⟩
  | 41 => ⟨S12x4096x1, .f32⟩
  | 42 => ⟨S12x4096x4096, .f32⟩
  | 43 => ⟨S12x4096x4096, .i1⟩
  | 44 => ⟨S12x4096x4096, .f32⟩
  | 45 => ⟨S_, .f32⟩
  | 46 => ⟨S12x4096, .f32⟩
  | 47 => ⟨S_, .f32⟩
  | 48 => ⟨S12x4096, .f32⟩
  | 49 => ⟨S12x4096, .f32⟩
  | 50 => ⟨S_, .f32⟩
  | 51 => ⟨S12x4096, .f32⟩
  | 52 => ⟨S12x4096, .i1⟩
  | 53 => ⟨S_, .f32⟩
  | 54 => ⟨S12x4096, .f32⟩
  | 55 => ⟨S12x4096, .i1⟩
  | 56 => ⟨S_, .f32⟩
  | 57 => ⟨S12x4096, .f32⟩
  | 58 => ⟨S_, .f32⟩
  | 59 => ⟨S12x4096, .f32⟩
  | 60 => ⟨S_, .f32⟩
  | 61 => ⟨S12x4096, .f32⟩
  | 62 => ⟨S12x4096, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096x1, .f32⟩
  | 71 => ⟨S12x4096x4096, .f32⟩
  | 72 => ⟨S12x4096x4096, .f32⟩
  | 73 => ⟨S12x4096x1, .f32⟩
  | 74 => ⟨S_, .f32⟩
  | 75 => ⟨S12x4096x1, .f32⟩
  | 76 => ⟨S12x4096x1, .f32⟩
  | 77 => ⟨S12x64x4096, .f32⟩
  | 78 => ⟨S4096x12x64, .f32⟩
  | 79 => ⟨S12x64x4096, .f32⟩
  | 80 => ⟨S12x4096x4096, .f32⟩
  | 81 => ⟨S12x64x4096, .f32⟩
  | 82 => ⟨S4096x12x64, .f32⟩
  | 83 => ⟨S12x4096x4096, .f32⟩
  | 84 => ⟨S12x4096x4096, .f32⟩
  | 85 => ⟨S12x4096x4096, .f32⟩
  | 86 => ⟨S_, .f32⟩
  | 87 => ⟨S12x4096, .f32⟩
  | 88 => ⟨S12x4096x1, .f32⟩
  | 89 => ⟨S12x4096x1, .f32⟩
  | 90 => ⟨S12x4096x4096, .f32⟩
  | 91 => ⟨S12x4096x4096, .f32⟩
  | 92 => ⟨S_, .f32⟩
  | 93 => ⟨S12x4096, .f32⟩
  | 94 => ⟨S12x4096x4096, .f32⟩
  | 95 => ⟨S12x4096x4096, .f32⟩
  | 96 => ⟨S12x4096x4096, .f32⟩
  | 97 => ⟨S_, .f32⟩
  | 98 => ⟨S12x4096x4096, .f32⟩
  | 99 => ⟨S12x4096x4096, .f32⟩
  | 100 => ⟨S12x4096x4096, .f32⟩
  | 101 => ⟨S_, .f32⟩
  | 102 => ⟨S12x4096, .f32⟩
  | 103 => ⟨S12x1x4096, .f32⟩
  | 104 => ⟨S_, .f32⟩
  | 105 => ⟨S12x4096, .f32⟩
  | 106 => ⟨S_, .f32⟩
  | 107 => ⟨S12x4096, .f32⟩
  | 108 => ⟨S12x4096x1, .f32⟩
  | 109 => ⟨S_, .f32⟩
  | 110 => ⟨S12x4096, .f32⟩
  | 111 => ⟨S12x4096, .f32⟩
  | 112 => ⟨S_, .f32⟩
  | 113 => ⟨S12x4096x4096, .f32⟩
  | 114 => ⟨S12x4096x4096, .f32⟩
  | 115 => ⟨S12x4096x64, .f32⟩
  | 116 => ⟨S4096x12x64, .f32⟩
  | 117 => ⟨S12x4096x64, .f32⟩
  | 118 => ⟨S4096x12x64, .f32⟩
  | 119 => ⟨S4096x768, .f32⟩
  | 120 => ⟨S4096x256, .bf16⟩
  | 121 => ⟨S4096x256, .f32⟩
  | 122 => ⟨S4096x1024, .f32⟩
  | 123 => ⟨S4096x1024, .bf16⟩
  | 124 => ⟨S4096x768, .f32⟩
  | 125 => ⟨S4096x768, .bf16⟩
  | 126 => ⟨S4096x768, .f32⟩
  | 127 => ⟨S4096x768, .bf16⟩
  | _ => ⟨S4096x768, .bf16⟩

abbrev hbmTy0_1 (i : Nat) : BufTy := match i % 128 with
  | 0 => ⟨S6x2x4096, .f32⟩
  | _ => ⟨S4096x768, .bf16⟩

abbrev hbmTy (i : Nat) : BufTy := match i / 128 with
  | 0 => hbmTy0_0 i
  | 1 => hbmTy0_1 i
  | _ => ⟨S4096x768, .bf16⟩

abbrev bufTy : (tb : Table) → Fin (tcTables nBuf tb) → BufTy
  | .hbm, ⟨i, _⟩ => hbmTy i
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_v26_1 : Ref sig .tc := ⟨.hbm, 34, rfl⟩
abbrev main_call0_v2 : Ref sig .tc := ⟨.hbm, 35, rfl⟩
abbrev main_v26_0 : Ref sig .tc := ⟨.hbm, 36, rfl⟩
abbrev main_call0_cst : Ref sig .tc := ⟨.hbm, 37, rfl⟩
abbrev main_v26_2 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Kernel2.lean ====
abbrev S1024x4096 : Shape := ⟨2, ![1024, 4096]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x4096 : Shape := ⟨2, ![1024, 4096]⟩
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4096x1024, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S4x1024x1024, .f32⟩
  | .hbm, ⟨19, _⟩ => ⟨S4x1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S_ : Shape := ⟨0, ![]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S2x1024 : Shape := ⟨2, ![2, 1024]⟩
abbrev S512x1024 : Shape := ⟨2, ![512, 1024]⟩
abbrev S512x4096 : Shape := ⟨2, ![512, 4096]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 40
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1x1024x1024, .bf16⟩
  | .hbm, ⟨22, _⟩ => ⟨S1x1024x1024, .bf16⟩
  | .hbm, ⟨23, _⟩ => ⟨S1x1024x1024, .bf16⟩
  | .hbm, ⟨24, _⟩ => ⟨S1x1024x1024, .bf16⟩
  | .hbm, ⟨25, _⟩ => ⟨S4x1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1x1024x1024, .bf16⟩
  | .hbm, ⟨31, _⟩ => ⟨S1x1024x1024, .bf16⟩
  | .hbm, ⟨32, _⟩ => ⟨S1x1024x1024, .bf16⟩
  | .hbm, ⟨33, _⟩ => ⟨S1x1024x1024, .bf16⟩
  | .hbm, ⟨34, _⟩ => ⟨S4x1024x1024, .bf16⟩
  | .hbm, ⟨35, _⟩ => ⟨S4096x4096, .bf16⟩
  | .hbm, ⟨36, _⟩ => ⟨S4096x1024, .f32⟩
  | .hbm, ⟨37, _⟩ => ⟨S1024x4096, .bf16⟩
  | .hbm, ⟨38, _⟩ => ⟨S4096x4096, .bf16⟩
  | .hbm, ⟨39, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | .local _ .vmem, ⟨13, _⟩ => ⟨S512x4096, .bf16⟩
  | .local _ .vmem, ⟨14, _⟩ => ⟨S512x4096, .bf16⟩
  | .local _ .vmem, ⟨15, _⟩ => ⟨S2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096x4096 : Shape := ⟨2, ![4096, 4096]⟩
abbrev S1024 : Shape := ⟨1, ![1024]⟩
abbrev S4096 : Shape := ⟨1, ![4096]⟩
abbrev S4096x1 : Shape := ⟨2, ![4096, 1]⟩
abbrev S2x1024 : Shape := ⟨2, ![2, 1024]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S1024x4096, .bf16⟩
  | 2 => ⟨S4096x1024, .bf16⟩
  | 3 => ⟨S1x1024, .f32⟩
  | 4 => ⟨S4096x1024, .f32⟩
  | 5 => ⟨S1024x4096, .f32⟩
  | 6 => ⟨S4096x1024, .f32⟩
  | 7 => ⟨S_, .f32⟩
  | 8 => ⟨S4096x4096, .f32⟩
  | 9 => ⟨S_, .f32⟩
  | 10 => ⟨S4096x1024, .f32⟩
  | 11 => ⟨S1024, .f32⟩
  | 12 => ⟨S_, .f32⟩
  | 13 => ⟨S1024, .f32⟩
  | 14 => ⟨S4096x4096, .f32⟩
  | 15 => ⟨S4096x4096, .f32⟩
  | 16 => ⟨S_, .f32⟩
  | 17 => ⟨S4096x4096, .f32⟩
  | 18 => ⟨S4096x4096, .f32⟩
  | 19 => ⟨S_, .f32⟩
  | 20 => ⟨S4096x4096, .f32⟩
  | 21 => ⟨S4096x4096, .i1⟩
  | 22 => ⟨S_, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S4096x1024, .f32⟩
  | 77 => ⟨S_, .f32⟩
  | 78 => ⟨S1024, .f32⟩
  | 79 => ⟨S1x1024, .f32⟩
  | 80 => ⟨S4096x1024, .f32⟩
  | 81 => ⟨S4096x1024, .f32⟩
  | 82 => ⟨S_, .f32⟩
  | 83 => ⟨S1024, .f32⟩
  | 84 => ⟨S4096x1024, .f32⟩
  | 85 => ⟨S_, .f32⟩
  | 86 => ⟨S4096, .f32⟩
  | 87 => ⟨S4096x1, .f32⟩
  | 88 => ⟨S4096x1024, .f32⟩
  | 89 => ⟨S4096x1024, .f32⟩
  | 90 => ⟨S4096x1, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S_, .f32⟩
  | 104 => ⟨S4096, .f32⟩
  | 105 => ⟨S4096x1, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S4096x4096, .f32⟩
  | 116 => ⟨S_, .f32⟩
  | 117 => ⟨S4096x1024, .f32⟩
  | 118 => ⟨S4096x1024, .f32⟩
  | 119 => ⟨S4096x4096, .f32⟩
  | 120 => ⟨S_, .f32⟩
  | 121 => ⟨S4096x4096, .f32⟩
  | 122 => ⟨S4096x4096, .f32⟩
  | 123 => ⟨S4096x1024, .f32⟩
  | 124 => ⟨S4096x1024, .f32⟩
  | 125 => ⟨S1024x4096, .f32⟩
  | 126 => ⟨S1024x4096, .bf16⟩
  | 127 => ⟨S4096x4096, .bf16⟩
  | _ => ⟨S4096x1024, .f32⟩

abbrev hbmTy0_1 (i : Nat) : BufTy := match i % 128 with
  | 0 => ⟨S1x1024, .f32⟩
  | 1 => ⟨S1x1024, .f32⟩
  | 2 => ⟨S2x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_cst_23 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_24 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_25 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S1x1024 : Shape := ⟨2, ![1, 1024]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4096x4096 : Shape := ⟨2, ![4096, 4096]⟩
abbrev S8x128 : Shape := ⟨2, ![8, 128]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 28
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024x1024, .bf16⟩
  | .hbm, ⟨11, _⟩ => ⟨S1x1024x1024, .bf16⟩
  | .hbm, ⟨12, _⟩ => ⟨S1x1024x1024, .bf16⟩
  | .hbm, ⟨13, _⟩ => ⟨S1x1024x1024, .bf16⟩
  | .hbm, ⟨14, _⟩ => ⟨S4x1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1x1024x1024, .bf16⟩
  | .hbm, ⟨20, _⟩ => ⟨S1x1024x1024, .bf16⟩
  | .hbm, ⟨21, _⟩ => ⟨S1x1024x1024, .bf16⟩
  | .hbm, ⟨22, _⟩ => ⟨S1x1024x1024, .bf16⟩
  | .hbm, ⟨23, _⟩ => ⟨S4x1024x1024, .bf16⟩
  | .hbm, ⟨24, _⟩ => ⟨S4096x1024, .f32⟩
  | .hbm, ⟨25, _⟩ => ⟨S4096x1024, .f32⟩
  | .hbm, ⟨26, _⟩ => ⟨S4096x4096, .bf16⟩
  | .hbm, ⟨27, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | .local _ .vmem, ⟨13, _⟩ => ⟨S512x4096, .bf16⟩
  | .local _ .vmem, ⟨14, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S_ : Shape := ⟨0, ![]⟩
abbrev S1024 : Shape := ⟨1, ![1024]⟩
abbrev S4096 : Shape := ⟨1, ![4096]⟩
abbrev S4096x1 : Shape := ⟨2, ![4096, 1]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x4096, .bf16⟩
  | .hbm, ⟨73, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S1x1024 : Shape := ⟨2, ![1, 1024]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4096x4096 : Shape := ⟨2, ![4096, 4096]⟩
abbrev S512x1024 : Shape := ⟨2, ![512, 1024]⟩
abbrev S1024x512 : Shape := ⟨2, ![1024, 512]⟩
abbrev S512x4096 : Shape := ⟨2, ![512, 4096]⟩
abbrev S512 : Shape := ⟨1, ![512]⟩
abbrev S512x1 : Shape := ⟨2, ![512, 1]⟩

abbrev nBuf : Space → Nat
  | .hbm => 28
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024x1024, .bf16⟩
  | .hbm, ⟨10, _⟩ => ⟨S1x1024x1024, .bf16⟩
  | .hbm, ⟨11, _⟩ => ⟨S1x1024x1024, .bf16⟩
  | .hbm, ⟨12, _⟩ => ⟨S1x1024x1024, .bf16⟩
  | .hbm, ⟨13, _⟩ => ⟨S4x1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024x1024, .bf16⟩
  | .hbm, ⟨19, _⟩ => ⟨S1x1024x1024, .bf16⟩
  | .hbm, ⟨20, _⟩ => ⟨S1x1024x1024, .bf16⟩
  | .hbm, ⟨21, _⟩ => ⟨S1x1024x1024, .bf16⟩
  | .hbm, ⟨22, _⟩ => ⟨S4x1024x1024, .bf16⟩
  | .hbm, ⟨23, _⟩ => ⟨S4096x1024, .f32⟩
  | .hbm, ⟨24, _⟩ => ⟨S4096x1024, .bf16⟩
  | .hbm, ⟨25, _⟩ => ⟨S1024x4096, .bf16⟩
  | .hbm, ⟨26, _⟩ => ⟨S4096x1024, .f32⟩
  | .hbm, ⟨27, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .f32⟩
  | .local _ .vmem, ⟨13, _⟩ => ⟨S512x1024, .f32⟩
  | .local _ .vmem, ⟨14, _⟩ => ⟨S512x4096, .bf16⟩
  | .local _ .vmem, ⟨15, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev main_v18_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S1024x4096, .f32⟩
  | .hbm, ⟨50, _⟩ => ⟨S1024x4096, .bf16⟩
  | .hbm, ⟨51, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S1024x4096 : Shape := ⟨2, ![1024, 4096]⟩
abbrev S4096x1792 : Shape := ⟨2, ![4096, 1792]⟩
abbrev S1024x1792 : Shape := ⟨2, ![1024, 1792]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x1792, .bf16⟩
  | .hbm, ⟨2, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x4096 : Shape := ⟨2, ![1024, 4096]⟩
abbrev S4096x1792 : Shape := ⟨2, ![4096, 1792]⟩
abbrev S4096x1024 : Shape := ⟨2, ![4096, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1792, .bf16⟩
  | .hbm, ⟨2, _⟩ => ⟨S4096x1024, .bf16⟩
  | .hbm, ⟨3, _⟩ => ⟨S4096x1024, .f32⟩
  | .hbm, ⟨4, _⟩ => ⟨S4096x1792, .f32⟩
  | .hbm, ⟨5, _⟩ => ⟨S_, .f32⟩
  | .hbm, ⟨6, _⟩ => ⟨S1024x1792, .f32⟩
  | .hbm, ⟨7, _⟩ => ⟨S4096x1792, .f32⟩
  | .hbm, ⟨8, _⟩ => ⟨S1792x1024, .f32⟩
  | .hbm, ⟨9, _⟩ => ⟨S1024x1792, .f32⟩
  | .hbm, ⟨10, _⟩ => ⟨S1024x1792, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1024x1664 : Shape := ⟨2, ![1024, 1664]⟩
abbrev S4096x768 : Shape := ⟨2, ![4096, 768]⟩
abbrev S4096x256 : Shape := ⟨2, ![4096, 256]⟩
abbrev S4096x128 : Shape := ⟨2, ![4096, 128]⟩
abbrev S512x1024 : Shape := ⟨2, ![512, 1024]⟩
abbrev S512x768 : Shape := ⟨2, ![512, 768]⟩
abbrev S512x256 : Shape := ⟨2, ![512, 256]⟩
abbrev S512x128 : Shape := ⟨2, ![512, 128]⟩
abbrev S512x1664 : Shape := ⟨2, ![512, 1664]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1664, .bf16⟩
  | .hbm, ⟨3, _⟩ => ⟨S4096x768, .bf16⟩
  | .hbm, ⟨4, _⟩ => ⟨S4096x256, .bf16⟩
  | .hbm, ⟨5, _⟩ => ⟨S4096x768, .bf16⟩
  | .hbm, ⟨6, _⟩ => ⟨S4096x768, .bf16⟩
  | .hbm, ⟨7, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1664, .bf16⟩
  | .local _ .vmem, ⟨4, _⟩ => ⟨S512x768, .bf16⟩
  | .local _ .vmem, ⟨5, _⟩ => ⟨S512x768, .bf16⟩
  | .local _ .vmem, ⟨6, _⟩ => ⟨S512x256, .bf16⟩
  | .local _ .vmem, ⟨7, _⟩ => ⟨S512x256, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x128, .f32⟩
  | .local _ .vmem, ⟨13, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S1024x1024 : Shape := ⟨2, ![1024, 1024]⟩
abbrev S1024x1664 : Shape := ⟨2, ![1024, 1664]⟩
abbrev S4096x1664 : Shape := ⟨2, ![4096, 1664]⟩
abbrev S4096x768 : Shape := ⟨2, ![4096, 768]⟩
abbrev S4096x256 : Shape := ⟨2, ![4096, 256]⟩
abbrev S4096x128 : Shape := ⟨2, ![4096, 128]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1664, .bf16⟩
  | .hbm, ⟨3, _⟩ => ⟨S4096x1024, .f32⟩
  | .hbm, ⟨4, _⟩ => ⟨S1024x1024, .f32⟩
  | .hbm, ⟨5, _⟩ => ⟨S1024x1664, .f32⟩
  | .hbm, ⟨6, _⟩ => ⟨S4096x1024, .f32⟩
  | .hbm, ⟨7, _⟩ => ⟨S4096x1664, .f32⟩
  | .hbm, ⟨8, _⟩ => ⟨S4096x768, .f32⟩
  | .hbm, ⟨9, _⟩ => ⟨S4096x256, .f32⟩
  | .hbm, ⟨10, _⟩ => ⟨S4096x768, .f32⟩
  | .hbm, ⟨11, _⟩ => ⟨S4096x768, .f32⟩
  | .hbm, ⟨12, _⟩ => ⟨S4096x128, .f32⟩
  | .hbm, ⟨13, _⟩ => ⟨S4096x768, .bf16⟩
  | .hbm, ⟨14, _⟩ => ⟨S4096x256, .bf16⟩
  | .hbm, ⟨15, _⟩ => ⟨S4096x768, .bf16⟩
  | .hbm, ⟨16, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel9.lean ====
abbrev S4096x1024 : Shape := ⟨2, ![4096, 1024]⟩
abbrev S4096x768 : Shape := ⟨2, ![4096, 768]⟩
abbrev S4096x128 : Shape := ⟨2, ![4096, 128]⟩
abbrev S1024x1024 : Shape := ⟨2, ![1024, 1024]⟩
abbrev S1024x1664 : Shape := ⟨2, ![1024, 1664]⟩
abbrev S512x1024 : Shape := ⟨2, ![512, 1024]⟩
abbrev S512x768 : Shape := ⟨2, ![512, 768]⟩
abbrev S512x128 : Shape := ⟨2, ![512, 128]⟩
abbrev S1024x768 : Shape := ⟨2, ![1024, 768]⟩
abbrev S1024x128 : Shape := ⟨2, ![1024, 128]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x768, .bf16⟩
  | .hbm, ⟨3, _⟩ => ⟨S4096x768, .bf16⟩
  | .hbm, ⟨4, _⟩ => ⟨S4096x128, .bf16⟩
  | .hbm, ⟨5, _⟩ => ⟨S1024x1024, .bf16⟩
  | .hbm, ⟨6, _⟩ => ⟨S1024x1664, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x128, .bf16⟩
  | .local _ .vmem, ⟨9, _⟩ => ⟨S512x128, .bf16⟩
  | .local _ .vmem, ⟨10, _⟩ => ⟨S1024x1024, .bf16⟩
  | .local _ .vmem, ⟨11, _⟩ => ⟨S1024x1664, .bf16⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4096x1024 : Shape := ⟨2, ![4096, 1024]⟩
abbrev S4096x768 : Shape := ⟨2, ![4096, 768]⟩
abbrev S4096x128 : Shape := ⟨2, ![4096, 128]⟩
abbrev S1024x1024 : Shape := ⟨2, ![1024, 1024]⟩
abbrev S1024x1664 : Shape := ⟨2, ![1024, 1664]⟩
abbrev S4096x256 : Shape := ⟨2, ![4096, 256]⟩
abbrev S_ : Shape := ⟨0, ![]⟩
abbrev S4096x1664 : Shape := ⟨2, ![4096, 1664]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x768, .bf16⟩
  | .hbm, ⟨3, _⟩ => ⟨S4096x768, .bf16⟩
  | .hbm, ⟨4, _⟩ => ⟨S4096x128, .bf16⟩
  | .hbm, ⟨5, _⟩ => ⟨S1024x1024, .bf16⟩
  | .hbm, ⟨6, _⟩ => ⟨S1024x1664, .bf16⟩
  | .hbm, ⟨7, _⟩ => ⟨S4096x768, .bf16⟩
  | .hbm, ⟨8, _⟩ => ⟨S4096x256, .bf16⟩
  | .hbm, ⟨9, _⟩ => ⟨S4096x768, .f32⟩
  | .hbm, ⟨10, _⟩ => ⟨S4096x256, .f32⟩
  | .hbm, ⟨11, _⟩ => ⟨S4096x768, .f32⟩
  | .hbm, ⟨12, _⟩ => ⟨S4096x768, .f32⟩
  | .hbm, ⟨13, _⟩ => ⟨S4096x128, .f32⟩
  | .hbm, ⟨14, _⟩ => ⟨S_, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1664, .f32⟩
  | .hbm, ⟨21, _⟩ => ⟨S4096x1024, .f32⟩
  | .hbm, ⟨22, _⟩ => ⟨S4096x1664, .f32⟩
  | .hbm, ⟨23, _⟩ => ⟨S4096x768, .f32⟩
  | .hbm, ⟨24, _⟩ => ⟨S4096x256, .f32⟩
  | .hbm, ⟨25, _⟩ => ⟨S4096x768, .f32⟩
  | .hbm, ⟨26, _⟩ => ⟨S4096x768, .f32⟩
  | .hbm, ⟨27, _⟩ => ⟨S4096x128, .f32⟩
  | .hbm, ⟨28, _⟩ => ⟨S_, .f32⟩
  | .hbm, ⟨29, _⟩ => ⟨S4096x1664, .f32⟩
  | .hbm, ⟨30, _⟩ => ⟨S_, .f32⟩
  | .hbm, ⟨31, _⟩ => ⟨S4096x1664, .f32⟩
  | .hbm, ⟨32, _⟩ => ⟨S4096x1664, .f32⟩
  | .hbm, ⟨33, _⟩ => ⟨S_, .f32⟩
  | .hbm, ⟨34, _⟩ => ⟨S4096x1664, .f32⟩
  | .hbm, ⟨35, _⟩ => ⟨S4096x1664, .f32⟩
  | .hbm, ⟨36, _⟩ => ⟨S_, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel10.lean ====
abbrev S1024x4096 : Shape := ⟨2, ![1024, 4096]⟩
abbrev S4096x768 : Shape := ⟨2, ![4096, 768]⟩
abbrev S4096x128 : Shape := ⟨2, ![4096, 128]⟩
abbrev S1024x1664 : Shape := ⟨2, ![1024, 1664]⟩
abbrev S1024x1024 : Shape := ⟨2, ![1024, 1024]⟩
abbrev S1024x768 : Shape := ⟨2, ![1024, 768]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S1024x4096, .bf16⟩
  | .hbm, ⟨1, _⟩ => ⟨S4096x768, .bf16⟩
  | .hbm, ⟨2, _⟩ => ⟨S4096x768, .bf16⟩
  | .hbm, ⟨3, _⟩ => ⟨S4096x128, .bf16⟩
  | .hbm, ⟨4, _⟩ => ⟨S1024x1664, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x128, .bf16⟩
  | .local _ .vmem, ⟨7, _⟩ => ⟨S1024x128, .bf16⟩
  | .local _ .vmem, ⟨8, _⟩ => ⟨S1024x1664, .bf16⟩
  | .local _ .vmem, ⟨9, _⟩ => ⟨S1024x1664, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S1024x4096 : Shape := ⟨2, ![1024, 4096]⟩
abbrev S4096x768 : Shape := ⟨2, ![4096, 768]⟩
abbrev S4096x128 : Shape := ⟨2, ![4096, 128]⟩
abbrev S4096x1024 : Shape := ⟨2, ![4096, 1024]⟩
abbrev S_ : Shape := ⟨0, ![]⟩
abbrev S1024x1664 : Shape := ⟨2, ![1024, 1664]⟩
abbrev S1024x1024 : Shape := ⟨2, ![1024, 1024]⟩
abbrev S4096x1664 : Shape := ⟨2, ![4096, 1664]⟩
abbrev S4096x256 : Shape := ⟨2, ![4096, 256]⟩
abbrev S1664x1024 : Shape := ⟨2, ![1664, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x768, .bf16⟩
  | .hbm, ⟨2, _⟩ => ⟨S4096x768, .bf16⟩
  | .hbm, ⟨3, _⟩ => ⟨S4096x128, .bf16⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S1024x1664, .f32⟩
  | .hbm, ⟨8, _⟩ => ⟨S4096x768, .f32⟩
  | .hbm, ⟨9, _⟩ => ⟨S4096x768, .f32⟩
  | .hbm, ⟨10, _⟩ => ⟨S4096x128, .f32⟩
  | .hbm, ⟨11, _⟩ => ⟨S_, .f32⟩
  | .hbm, ⟨12, _⟩ => ⟨S1024x1024, .f32⟩
  | .hbm, ⟨13, _⟩ => ⟨S4096x1024, .f32⟩
  | .hbm, ⟨14, _⟩ => ⟨S4096x1664, .f32⟩
  | .hbm, ⟨15, _⟩ => ⟨S4096x768, .f32⟩
  | .hbm, ⟨16, _⟩ => ⟨S4096x256, .f32⟩
  | .hbm, ⟨17, _⟩ => ⟨S4096x768, .f32⟩
  | .hbm, ⟨18, _⟩ => ⟨S4096x768, .f32⟩
  | .hbm, ⟨19, _⟩ => ⟨S4096x128, .f32⟩
  | .hbm, ⟨20, _⟩ => ⟨S_, .f32⟩
  | .hbm, ⟨21, _⟩ => ⟨S4096x1664, .f32⟩
  | .hbm, ⟨22, _⟩ => ⟨S_, .f32⟩
  | .hbm, ⟨23, _⟩ => ⟨S4096x1664, .f32⟩
  | .hbm, ⟨24, _⟩ => ⟨S4096x1664, .f32⟩
  | .hbm, ⟨25, _⟩ => ⟨S_, .f32⟩
  | .hbm, ⟨26, _⟩ => ⟨S4096x1664, .f32⟩
  | .hbm, ⟨27, _⟩ => ⟨S4096x1664, .f32⟩
  | .hbm, ⟨28, _⟩ => ⟨S1664x1024, .f32⟩
  | .hbm, ⟨29, _⟩ => ⟨S1024x1664, .f32⟩
  | .hbm, ⟨30, _⟩ => ⟨S1024x1664, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.FoxCover.lean ====
/- A window over the whole of an array, and windows at equal offsets. -/
module

public import Idealize.ShloMosaic.Lib.VecWindow

@[expose] public section

namespace Cert.FoxCover

open Idealize.ShloMosaic

theorem put_full {s : Shape} {α : Type} (x : s.Idx → α) (off : Fin s.rank → ℕ) (h : ∀ a, off a = 0) (w : s.Idx → α) :
    VecWindow.put x off s.size w = w := by
  funext y
  have hy : ∀ a, off a ≤ (y a).val ∧ (y a).val < off a + s.size a := fun a => by have := h a; have := (y a).isLt; omega
  show (if h : _ then _ else _) = _
  rw [dif_pos hy]
  refine congrArg w (funext fun a => Fin.ext ?_)
  show (y a).val - off a = (y a).val
  have := h a; omega

theorem window_full {s : Shape} {α : Type} (x : s.Idx → α) (off : Fin s.rank → ℕ) (inb : ∀ a, off a + s.size a ≤ s.size a) :
    VecWindow.window x off s.size inb = x := by
  funext y
  exact congrArg x (Rect.emb_unit_full inb y)

theorem window_off {s : Shape} {α : Type} (x : s.Idx → α) {off off' : Fin s.rank → ℕ} (size : Fin s.rank → ℕ) (h : off = off')
    (i1 : ∀ a, off a + size a ≤ s.size a) (i2 : ∀ a, off' a + size a ≤ s.size a) :
    VecWindow.window x off size i1 = VecWindow.window x off' size i2 := by
  subst h; rfl

end Cert.FoxCover

end
-- ==== Proof.FoxProg.lean ====
/- The kernel body written over its own steps: one chain of one head and one block of keys (`chain`),
   one block of queries against one or two blocks of keys (`qStep1`, `qStep2`), and one pair of blocks of
   keys (`pairBody`). The printed loop bodies are these, by definitional unfolding. -/
module

public import proofs.«01_k».proof.Proof.Gen.KernelIdeal.Skeleton

@[expose] public section

set_option synthInstance.maxSize 4096

noncomputable section

namespace Cert.KernelIdeal.Fox

open Idealize.ShloMosaic Idealize.SL.Sem
open Cert.KernelIdeal Cert.KernelIdeal.Gen

variable {F : FTy → Type} [FloatOps F] [Named F]

/-! ## The arithmetic of a step -/

/-- The value a masked logit takes. -/
def maskVal : F .f32 := Named.named κ "mask" 0xF149F2CA#32

/-- A row of lane flags over a block. -/
def lanes (m : IVec S1x128 1) : IVec S256x128 1 :=
  broadcastTo S256x128 (shapeCast S1x128 m shapeCasts_S1x128_S1x128) broadcasts_S1x128_S256x128

/-- A block times the scale of the logits. -/
def scaled (x : FVec F S256x128 .bf16) : FVec F S256x128 .bf16 :=
  mulf x (broadcast S256x128 (Scalar.ofBits .bf16 0x3E00#16 : F .bf16))

/-- The lanes of one head of a block, zero elsewhere. -/
def headOf (m : IVec S1x128 1) (x : Vec F S256x128 .bf16) : Vec F S256x128 .bf16 :=
  select (lanes m) x (broadcast S256x128 (Scalar.ofBits .bf16 0x0000#16 : F .bf16))

/-- The keys of one head with the bias planes in the other head's lanes. -/
def kAug (m : IVec S1x128 1) (k ca : Vec F S256x128 .bf16) : Vec F S256x128 .bf16 :=
  select (lanes m) k (shapeCast S256x128 ca shapeCasts_S256x128_S256x128)

/-- The queries of one head with the row of ones in the other head's lanes. -/
def qAug (m : IVec S1x128 1) (qs : FVec F S256x128 .bf16) (ones3 : FVec F S1x128 .bf16) : FVec F S256x128 .bf16 :=
  select (lanes m) qs
    (broadcastTo S256x128 (shapeCast S1x128 ones3 shapeCasts_S1x128_S1x128) broadcasts_S1x128_S256x128)

/-- Products of rows: the logits, and the cotangent of the weights. -/
def rowDots (a b : FVec F S256x128 .bf16) : FVec F S256x256 .f32 :=
  matmul dot_S256x128_S256x128_S256x256_1_1_0_0_n_n none a b (constant S256x256 .f32 0x00000000#32)

/-- The causal mask over a block of logits on the diagonal. -/
def masked (keep : IVec S256x256 1) (st : FVec F S256x256 .f32) : FVec F S256x256 .f32 :=
  select keep st (broadcast S256x256 (maskVal : F .f32))

/-- The weights from the logits and the rows' normalisers. -/
def weights (st : FVec F S256x256 .f32) (lse : Vec F S1x1x256 .f32) : FVec F S256x256 .f32 :=
  exp (subf st (broadcastTo S256x256 (shapeCast S1x256 lse shapeCasts_S1x1x256_S1x256) broadcasts_S1x256_S256x256))

/-- The cotangent of the logits. -/
def dLogits (p dp : FVec F S256x256 .f32) (dd : Vec F S1x256 .f32) : FVec F S256x256 .f32 :=
  mulf p (subf dp (broadcastTo S256x256 dd broadcasts_S1x256_S256x256))

/-- A weighted sum of rows added to an accumulator of one block of keys. -/
def accRows (w : FVec F S256x256 .f32) (x : FVec F S256x128 .bf16) (old : Vec F S1x256x128 .f32) :
    FVec F S1x256x128 .f32 :=
  shapeCast S1x256x128
    (addf (shapeCast S256x128 old shapeCasts_S1x256x128_S256x128)
      (matmul dot_S256x256_S256x128_S256x128_1_0_0_1_n_n none (truncf .bf16 w bitsLt_bf16_f32) x
        (constant S256x128 .f32 0x00000000#32)))
    shapeCasts_S256x128_S1x256x128

/-- The rows' sum of the cotangent of the logits, taken from the lane of the head. -/
def subCols (lane : IVec S1x128 32) (e : BitVec 32) (ds : FVec F S256x256 .f32) (old : Vec F S256x128 .f32) :
    FVec F S256x128 .f32 :=
  shapeCast S256x128
    (subf old
      (select
        (broadcastTo S256x128
          (shapeCast S1x128 (cmpi .eq lane (broadcast S1x128 e)) shapeCasts_S1x128_S1x128)
          broadcasts_S1x128_S256x128)
        (broadcastTo S256x128
          (shapeCast S256x1
            (shapeCast S256x1
              (multiReduction .add [1] S256 ds 0x00000000#32 reduces_S256x256_S256 (.inl rfl) rfl : FVec F S256 .f32)
              shapeCasts_S256_S256x1)
            shapeCasts_S256x1_S256x1)
          broadcasts_S256x1_S256x128)
        (broadcast S256x128 (Scalar.ofBits .f32 0x00000000#32 : F .f32))))
    shapeCasts_S256x128_S256x128

/-- The queries' gradient so far and one block's share. -/
def addQ (dq : FVec F S256x128 .f32) (ds : FVec F S256x256 .f32) (ks : FVec F S256x128 .bf16) : FVec F S256x128 .f32 :=
  addf dq
    (matmul dot_S256x256_S256x128_S256x128_0_0_1_1_n_n none (truncf .bf16 ds bitsLt_bf16_f32) ks
      (constant S256x128 .f32 0x00000000#32))

/-- The bias gradient of the rows so far and one block's share. -/
def addRow (dr : FVec F S1x256 .f32) (ds : FVec F S256x256 .f32) : FVec F S1x256 .f32 :=
  addf dr
    (shapeCast S1x256
      (multiReduction .add [0] S256 ds 0x00000000#32 reduces_S256x256_S256_2 (.inl rfl) rfl : FVec F S256 .f32)
      shapeCasts_S256_S1x256)

/-- The bias gradient's block with the rows' share added. -/
def putRow (dr : FVec F S1x256 .f32) (old : Vec F S1x1x256 .f32) : FVec F S1x1x256 .f32 :=
  shapeCast S1x1x256 (addf (shapeCast S1x256 old shapeCasts_S1x1x256_S1x256) dr) shapeCasts_S1x256_S1x1x256

/-- The queries' gradient's block with a step's share added. -/
def putQ (dq : FVec F S256x128 .f32) (old : Vec F S256x128 .f32) : FVec F S256x128 .f32 :=
  shapeCast S256x128 (addf old dq) shapeCasts_S256x128_S256x128

def zeroQ : FVec F S256x128 .f32 := broadcast S256x128 (Scalar.ofBits .f32 0x00000000#32 : F .f32)
def zeroRow : FVec F S1x256 .f32 := broadcast S1x256 (Scalar.ofBits .f32 0x00000000#32 : F .f32)
def zeroAcc : FVec F S2x256x128 .f32 :=
  shapeCast S2x256x128 (broadcast S2x256x128 (Scalar.ofBits .f32 0x00000000#32 : F .f32)) shapeCasts_S2x256x128_S2x256x128

/-- A block of an accumulator, rounded for the result. -/
def outBlock (old : Vec F S1x256x128 .f32) : FVec F S256x128 .bf16 :=
  truncf .bf16 (shapeCast S256x128 old shapeCasts_S1x256x128_S256x128) bitsLt_bf16_f32

/-! ## The memory operations of a step -/

abbrev P (α : Type) : Type 1 := Prog (TpuEff nD τ sig (Elt F) Λ₀ .tc) α

/-- A block read, and a block stored, at an offset. -/
abbrev ldAt {s : Shape} {e : EltTy} (m : Memref sig .tc .vmem s e) (off size : Fin s.rank → ℕ) (inb : ∀ a, off a + size a ≤ s.size a)
    (h : 0 < (Rect.unit (s := s) off size inb).shape.numel) : P (F := F) ((Rect.unit (s := s) off size inb).shape.Idx → Elt F e) :=
  Prog.lift (.load m (Rect.unit (s := s) off size inb).toLoadRect (View.loadsAt_vmem h))

abbrev stAt {s : Shape} (m : Memref sig .tc .vmem s .f32) (off size : Fin s.rank → ℕ) (inb : ∀ a, off a + size a ≤ s.size a)
    (h : 0 < (Rect.unit (s := s) off size inb).shape.numel) (x : (Rect.unit (s := s) off size inb).shape.Idx → Elt F .f32) : P (F := F) PUnit :=
  Prog.lift (.store m (Rect.unit (s := s) off size inb) x Finset.univ (View.stores_vmem_bits_univ h rfl) (.inl rfl))

/-- The blocks' offsets of one step over one block of queries, with the proofs that they lie inside. -/
structure QOff where
  q : Fin 2 → ℕ
  hq : ∀ a, q a + S256x128.size a ≤ S4096x128.size a
  l0 : Fin 3 → ℕ
  hl0 : ∀ a, l0 a + S1x1x256.size a ≤ S1x2x4096.size a
  l1 : Fin 3 → ℕ
  hl1 : ∀ a, l1 a + S1x1x256.size a ≤ S1x2x4096.size a
  d0 : Fin 2 → ℕ
  hd0 : ∀ a, d0 a + S1x256.size a ≤ S8x4096.size a
  d1 : Fin 2 → ℕ
  hd1 : ∀ a, d1 a + S1x256.size a ≤ S8x4096.size a

/-- The blocks' offsets of one pair of blocks of keys. -/
structure KOff where
  c0 : Fin 2 → ℕ
  hc0 : ∀ a, c0 a + S256x128.size a ≤ S4096x128.size a
  c1 : Fin 2 → ℕ
  hc1 : ∀ a, c1 a + S256x128.size a ≤ S4096x128.size a

/-- What is read once per pair of blocks of keys: for both blocks the values, the augmented keys and the
    scaled keys of both heads. -/
structure KV (F : FTy → Type) where
  vb0 : Vec F S256x128 .bf16
  ka00 : Vec F S256x128 .bf16
  ks00 : FVec F S256x128 .bf16
  ka01 : Vec F S256x128 .bf16
  ks01 : FVec F S256x128 .bf16
  vb1 : Vec F S256x128 .bf16
  ka10 : Vec F S256x128 .bf16
  ks10 : FVec F S256x128 .bf16
  ka11 : Vec F S256x128 .bf16
  ks11 : FVec F S256x128 .bf16

/-- One head and one block of keys: the accumulators of the values, the keys and the bias; what is
    carried of the queries' and the rows' gradients is returned. -/
def chain (m7 : Memref sig .tc .vmem S1x2x4096 .f32) (m13 : Memref sig .tc .vmem S4096x128 .f32)
    (m14 m15 : Memref sig .tc .vmem S2x256x128 .f32) (m16 : Memref sig .tc .vmem S8x4096 .f32)
    (lo : Fin 3 → ℕ) (hlo : ∀ a, lo a + S1x1x256.size a ≤ S1x2x4096.size a)
    (d : Fin 2 → ℕ) (hd : ∀ a, d a + S1x256.size a ≤ S8x4096.size a)
    (sl : Fin 3 → ℕ) (hsl : ∀ a, sl a + S1x256x128.size a ≤ S2x256x128.size a)
    (co : Fin 2 → ℕ) (hco : ∀ a, co a + S256x128.size a ≤ S4096x128.size a)
    (lane : IVec S1x128 32) (e : BitVec 32) (st dp : FVec F S256x256 .f32)
    (doh : Vec F S256x128 .bf16) (qh ks : FVec F S256x128 .bf16)
    (dq : FVec F S256x128 .f32) (dr : FVec F S1x256 .f32) :
    P (F := F) (FVec F S256x128 .f32 × FVec F S1x256 .f32) := do
  let l : Vec F S1x1x256 .f32 ← ldAt m7 lo S1x1x256.size hlo h_S1x1x256
  let a : Vec F S1x256x128 .f32 ← ldAt m15 sl S1x256x128.size hsl h_S1x256x128
  let _a : Vec F S1x256x128 .f32 ← ldAt m15 sl S1x256x128.size hsl h_S1x256x128
  stAt m15 sl S1x256x128.size hsl h_S1x256x128 (accRows (weights st l) doh a)
  let dd : Vec F S1x256 .f32 ← ldAt m16 d S1x256.size hd h_S1x256
  let b : Vec F S1x256x128 .f32 ← ldAt m14 sl S1x256x128.size hsl h_S1x256x128
  let _b : Vec F S1x256x128 .f32 ← ldAt m14 sl S1x256x128.size hsl h_S1x256x128
  stAt m14 sl S1x256x128.size hsl h_S1x256x128 (accRows (dLogits (weights st l) dp dd) qh b)
  let c : Vec F S256x128 .f32 ← ldAt m13 co S256x128.size hco h_S256x128
  let _c : Vec F S256x128 .f32 ← ldAt m13 co S256x128.size hco h_S256x128
  stAt m13 co S256x128.size hco h_S256x128 (subCols lane e (dLogits (weights st l) dp dd) c)
  pure (addQ dq (dLogits (weights st l) dp dd) ks, addRow dr (dLogits (weights st l) dp dd))

/-- The end of a step over one block of queries: the rows' gradients and the queries' gradient. -/
def finish (m11 : Memref sig .tc .vmem S1x2x4096 .f32) (m12 : Memref sig .tc .vmem S4096x128 .f32) (o : QOff)
    (dr0 dr1 : FVec F S1x256 .f32) (dq : FVec F S256x128 .f32) : P (F := F) PUnit := do
  let a : Vec F S1x1x256 .f32 ← ldAt m11 o.l0 S1x1x256.size o.hl0 h_S1x1x256
  let _a : Vec F S1x1x256 .f32 ← ldAt m11 o.l0 S1x1x256.size o.hl0 h_S1x1x256
  stAt m11 o.l0 S1x1x256.size o.hl0 h_S1x1x256 (putRow dr0 a)
  let b : Vec F S1x1x256 .f32 ← ldAt m11 o.l1 S1x1x256.size o.hl1 h_S1x1x256
  let _b : Vec F S1x1x256 .f32 ← ldAt m11 o.l1 S1x1x256.size o.hl1 h_S1x1x256
  stAt m11 o.l1 S1x1x256.size o.hl1 h_S1x1x256 (putRow dr1 b)
  let c : Vec F S256x128 .f32 ← ldAt m12 o.q S256x128.size o.hq h_S256x128
  let _c : Vec F S256x128 .f32 ← ldAt m12 o.q S256x128.size o.hq h_S256x128
  stAt m12 o.q S256x128.size o.hq h_S256x128 (putQ dq c)

section Steps

variable (m1 m5 : Memref sig .tc .vmem S4096x128 .bf16) (m7 m11 : Memref sig .tc .vmem S1x2x4096 .f32)
  (m12 m13 : Memref sig .tc .vmem S4096x128 .f32) (m14 m15 : Memref sig .tc .vmem S2x256x128 .f32)
  (m16 : Memref sig .tc .vmem S8x4096 .f32)
  (lane : IVec S1x128 32) (h0 h1 : IVec S1x128 1) (ones3 : FVec F S1x128 .bf16) (w : KV F) (ko : KOff)

/-- One block of queries against both blocks of keys; `mk` is what is done to the logits of the second. -/
def qStep2 (o : QOff) (mk : FVec F S256x256 .f32 → FVec F S256x256 .f32) : P (F := F) PUnit := do
  let q : Vec F S256x128 .bf16 ← ldAt m1 o.q S256x128.size o.hq h_S256x128
  let g : Vec F S256x128 .bf16 ← ldAt m5 o.q S256x128.size o.hq h_S256x128
  let r1 ← chain m7 m13 m14 m15 m16 o.l0 o.hl0 o.d0 o.hd0 ![0, 0, 0] inb_S2x256x128_S1x256x128_0_0_0 ko.c0 ko.hc0 lane 0#32
    (rowDots w.ka00 (qAug h0 (scaled q) ones3)) (rowDots w.vb0 (headOf h0 g)) (headOf h0 g) (headOf h0 (scaled q)) w.ks00 zeroQ zeroRow
  let r2 ← chain m7 m13 m14 m15 m16 o.l0 o.hl0 o.d0 o.hd0 ![1, 0, 0] inb_S2x256x128_S1x256x128_1_0_0 ko.c1 ko.hc1 lane 0#32
    (mk (rowDots w.ka10 (qAug h0 (scaled q) ones3))) (rowDots w.vb1 (headOf h0 g)) (headOf h0 g) (headOf h0 (scaled q)) w.ks10 r1.1 r1.2
  let r3 ← chain m7 m13 m14 m15 m16 o.l1 o.hl1 o.d1 o.hd1 ![0, 0, 0] inb_S2x256x128_S1x256x128_0_0_0 ko.c0 ko.hc0 lane 1#32
    (rowDots w.ka01 (qAug h1 (scaled q) ones3)) (rowDots w.vb0 (headOf h1 g)) (headOf h1 g) (headOf h1 (scaled q)) w.ks01 r2.1 zeroRow
  let r4 ← chain m7 m13 m14 m15 m16 o.l1 o.hl1 o.d1 o.hd1 ![1, 0, 0] inb_S2x256x128_S1x256x128_1_0_0 ko.c1 ko.hc1 lane 1#32
    (mk (rowDots w.ka11 (qAug h1 (scaled q) ones3))) (rowDots w.vb1 (headOf h1 g)) (headOf h1 g) (headOf h1 (scaled q)) w.ks11 r3.1 r3.2
  finish m11 m12 o r2.2 r4.2 r4.1

/-- One block of queries against the first block of keys alone, on the diagonal. -/
def qStep1 (o : QOff) (mk : FVec F S256x256 .f32 → FVec F S256x256 .f32) : P (F := F) PUnit := do
  let q : Vec F S256x128 .bf16 ← ldAt m1 o.q S256x128.size o.hq h_S256x128
  let g : Vec F S256x128 .bf16 ← ldAt m5 o.q S256x128.size o.hq h_S256x128
  let r1 ← chain m7 m13 m14 m15 m16 o.l0 o.hl0 o.d0 o.hd0 ![0, 0, 0] inb_S2x256x128_S1x256x128_0_0_0 ko.c0 ko.hc0 lane 0#32
    (mk (rowDots w.ka00 (qAug h0 (scaled q) ones3))) (rowDots w.vb0 (headOf h0 g)) (headOf h0 g) (headOf h0 (scaled q)) w.ks00 zeroQ zeroRow
  let r2 ← chain m7 m13 m14 m15 m16 o.l1 o.hl1 o.d1 o.hd1 ![0, 0, 0] inb_S2x256x128_S1x256x128_0_0_0 ko.c0 ko.hc0 lane 1#32
    (mk (rowDots w.ka01 (qAug h1 (scaled q) ones3))) (rowDots w.vb0 (headOf h1 g)) (headOf h1 g) (headOf h1 (scaled q)) w.ks01 r1.1 zeroRow
  finish m11 m12 o r1.2 r2.2 r2.1

end Steps

/-! ## The printed bodies -/

/-- The offsets of the blocks of keys of pair `t2`, as the loop over the queries writes them. -/
def kOff' (t2 : Fin k0_t2_loop.trips) : KOff where
  c0 := k0_off17 t2 0#32
  hc0 := k0_off17_inb t2 0
  c1 := k0_off17 t2 1#32
  hc1 := k0_off17_inb t2 1

/-- The offsets of the blocks of keys of pair `t2`, as the straight lines of the pair write them. -/
def kOff (t2 : Fin k0_t2_loop.trips) : KOff where
  c0 := k0_off4 t2 0#32
  hc0 := k0_off4_inb t2 0
  c1 := k0_off4 t2 1#32
  hc1 := k0_off4_inb t2 1

/-- The offsets of the two blocks of queries on the diagonal of pair `t2`. -/
def qDiag0 (t2 : Fin k0_t2_loop.trips) : QOff where
  q := k0_off5 t2
  hq := k0_off5_inb t2
  l0 := k0_off6 t2
  hl0 := k0_off6_inb t2
  l1 := k0_off8 t2
  hl1 := k0_off8_inb t2
  d0 := k0_off7 t2
  hd0 := k0_off7_inb t2
  d1 := k0_off9 t2
  hd1 := k0_off9_inb t2

def qDiag1 (t2 : Fin k0_t2_loop.trips) : QOff where
  q := k0_off4 t2 1#32
  hq := k0_off4_inb t2 1
  l0 := k0_off10 t2
  hl0 := k0_off10_inb t2
  l1 := k0_off12 t2
  hl1 := k0_off12_inb t2
  d0 := k0_off11 t2
  hd0 := k0_off11_inb t2
  d1 := k0_off13 t2
  hd1 := k0_off13_inb t2

/-- What a pair of blocks of keys reads once, from the blocks read. -/
def kvOf (h0 h1 : IVec S1x128 1) (k0 ca0 v0 k1 ca1 v1 : Vec F S256x128 .bf16) : KV F where
  vb0 := v0
  ka00 := kAug h0 k0 ca0
  ks00 := scaled (headOf h0 k0)
  ka01 := kAug h1 k0 ca0
  ks01 := scaled (headOf h1 k0)
  vb1 := v1
  ka10 := kAug h0 k1 ca1
  ks10 := scaled (headOf h0 k1)
  ka11 := kAug h1 k1 ca1
  ks11 := scaled (headOf h1 k1)

/-- The offsets of the blocks of queries of trip `t3` under pair `t2`. -/
def qOff0 (t2 : Fin k0_t2_loop.trips) (t3 : Fin (k0_t3_loop t2).trips) : QOff where
  q := k0_off14 t2 t3 2#32
  hq := k0_off14_inb t2 t3 0
  l0 := k0_off15 t2 t3 2#32
  hl0 := k0_off15_inb t2 t3 0
  l1 := k0_off18 t2 t3 2#32
  hl1 := k0_off18_inb t2 t3 0
  d0 := k0_off16 t2 t3 2#32
  hd0 := k0_off16_inb t2 t3 0
  d1 := k0_off19 t2 t3 2#32
  hd1 := k0_off19_inb t2 t3 0

def qOff1 (t2 : Fin k0_t2_loop.trips) (t3 : Fin (k0_t3_loop t2).trips) : QOff where
  q := k0_off14 t2 t3 3#32
  hq := k0_off14_inb t2 t3 1
  l0 := k0_off15 t2 t3 3#32
  hl0 := k0_off15_inb t2 t3 1
  l1 := k0_off18 t2 t3 3#32
  hl1 := k0_off18_inb t2 t3 1
  d0 := k0_off16 t2 t3 3#32
  hd0 := k0_off16_inb t2 t3 1
  d1 := k0_off19 t2 t3 3#32
  hd1 := k0_off19_inb t2 t3 1

variable (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S1x2x4096 .f32) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x2x4096 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S2x256x128 .f32) (harg14 : arg14.IsWhole)
  (arg15 : Memref sig .tc .vmem S2x256x128 .f32) (harg15 : arg15.IsWhole)
  (arg16 : Memref sig .tc .vmem S8x4096 .f32) (harg16 : arg16.IsWhole)
  (lane : IVec S1x128 32) (h0 h1 : IVec S1x128 1) (ones3 : FVec F S1x128 .bf16)

set_option maxRecDepth 65536 in
/-- A trip of the loop over the queries below the diagonal: two full steps. -/
theorem t3_body_eq (t2 : Fin k0_t2_loop.trips) (arg17 v53 v57 c0 c1 c2 : BitVec 32) (v2 : IVec S256x256 1) (w : KV F)
    (t3 : Fin (k0_t3_loop t2).trips) (acc : BitVec 32) :
    k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 lane h0 h1 ones3 c0 c1 t2 arg17 v53 v57 w.vb0 w.ka00 w.ks00 w.ka01 w.ks01 w.vb1 w.ka10 w.ks10 w.ka11 w.ks11 c2 t3 acc
      = (do qStep2 arg1 arg5 arg7 arg11 arg12 arg13 arg14 arg15 arg16 lane h0 h1 ones3 w (kOff' t2) (qOff0 t2 t3) id
            qStep2 arg1 arg5 arg7 arg11 arg12 arg13 arg14 arg15 arg16 lane h0 h1 ones3 w (kOff' t2) (qOff1 t2 t3) id
            pure 0#32) := rfl

/-- The zeroing of the accumulators of a pair of blocks of keys, and the blocks read once. -/
def pairHead (t2 : Fin k0_t2_loop.trips) : P (F := F) (KV F) := do
  let _z : Vec F S2x256x128 .f32 ← ldAt arg14 ![0, 0, 0] S2x256x128.size inb_S2x256x128_S2x256x128_0_0_0 h_S2x256x128
  stAt arg14 ![0, 0, 0] S2x256x128.size inb_S2x256x128_S2x256x128_0_0_0 h_S2x256x128 zeroAcc
  let _z : Vec F S2x256x128 .f32 ← ldAt arg15 ![0, 0, 0] S2x256x128.size inb_S2x256x128_S2x256x128_0_0_0 h_S2x256x128
  stAt arg15 ![0, 0, 0] S2x256x128.size inb_S2x256x128_S2x256x128_0_0_0 h_S2x256x128 zeroAcc
  let k0 : Vec F S256x128 .bf16 ← ldAt arg2 (k0_off4 t2 0#32) S256x128.size (k0_off4_inb t2 0) h_S256x128
  let ca0 : Vec F S256x128 .bf16 ← ldAt arg6 (k0_off4 t2 0#32) S256x128.size (k0_off4_inb t2 0) h_S256x128
  let v0 : Vec F S256x128 .bf16 ← ldAt arg3 (k0_off4 t2 0#32) S256x128.size (k0_off4_inb t2 0) h_S256x128
  let k1 : Vec F S256x128 .bf16 ← ldAt arg2 (k0_off4 t2 1#32) S256x128.size (k0_off4_inb t2 1) h_S256x128
  let ca1 : Vec F S256x128 .bf16 ← ldAt arg6 (k0_off4 t2 1#32) S256x128.size (k0_off4_inb t2 1) h_S256x128
  let v1 : Vec F S256x128 .bf16 ← ldAt arg3 (k0_off4 t2 1#32) S256x128.size (k0_off4_inb t2 1) h_S256x128
  pure (kvOf h0 h1 k0 ca0 v0 k1 ca1 v1)

/-- The accumulators of a pair of blocks of keys, stored as results. -/
def pairTail (t2 : Fin k0_t2_loop.trips) : P (F := F) PUnit := do
  let a : Vec F S1x256x128 .f32 ← ldAt arg14 ![0, 0, 0] S1x256x128.size inb_S2x256x128_S1x256x128_0_0_0 h_S1x256x128
  let _a : Vec F S256x128 .bf16 ← ldAt arg9 (k0_off4 t2 0#32) S256x128.size (k0_off4_inb t2 0) h_S256x128
  Prog.lift (.store arg9 (Rect.unit (s := S4096x128) (k0_off4 t2 0#32) S256x128.size (k0_off4_inb t2 0)) (outBlock a) Finset.univ (View.stores_vmem h_S256x128 (harg9.storeExact_slice rfl _ (k0_off4_packedbf16 t2 0)) (fun _ => rfl)) (.inl rfl))
  let b : Vec F S1x256x128 .f32 ← ldAt arg15 ![0, 0, 0] S1x256x128.size inb_S2x256x128_S1x256x128_0_0_0 h_S1x256x128
  let _b : Vec F S256x128 .bf16 ← ldAt arg10 (k0_off4 t2 0#32) S256x128.size (k0_off4_inb t2 0) h_S256x128
  Prog.lift (.store arg10 (Rect.unit (s := S4096x128) (k0_off4 t2 0#32) S256x128.size (k0_off4_inb t2 0)) (outBlock b) Finset.univ (View.stores_vmem h_S256x128 (harg10.storeExact_slice rfl _ (k0_off4_packedbf16 t2 0)) (fun _ => rfl)) (.inl rfl))
  let a' : Vec F S1x256x128 .f32 ← ldAt arg14 ![1, 0, 0] S1x256x128.size inb_S2x256x128_S1x256x128_1_0_0 h_S1x256x128
  let _a : Vec F S256x128 .bf16 ← ldAt arg9 (k0_off4 t2 1#32) S256x128.size (k0_off4_inb t2 1) h_S256x128
  Prog.lift (.store arg9 (Rect.unit (s := S4096x128) (k0_off4 t2 1#32) S256x128.size (k0_off4_inb t2 1)) (outBlock a') Finset.univ (View.stores_vmem h_S256x128 (harg9.storeExact_slice rfl _ (k0_off4_packedbf16 t2 1)) (fun _ => rfl)) (.inl rfl))
  let b' : Vec F S1x256x128 .f32 ← ldAt arg15 ![1, 0, 0] S1x256x128.size inb_S2x256x128_S1x256x128_1_0_0 h_S1x256x128
  let _b : Vec F S256x128 .bf16 ← ldAt arg10 (k0_off4 t2 1#32) S256x128.size (k0_off4_inb t2 1) h_S256x128
  Prog.lift (.store arg10 (Rect.unit (s := S4096x128) (k0_off4 t2 1#32) S256x128.size (k0_off4_inb t2 1)) (outBlock b') Finset.univ (View.stores_vmem h_S256x128 (harg10.storeExact_slice rfl _ (k0_off4_packedbf16 t2 1)) (fun _ => rfl)) (.inl rfl))

/-- One trip of the loop over the queries below the diagonal. -/
def belowBody (t2 : Fin k0_t2_loop.trips) (w : KV F) (t3 : Fin (k0_t3_loop t2).trips) : P (F := F) (BitVec 32) := do
  qStep2 arg1 arg5 arg7 arg11 arg12 arg13 arg14 arg15 arg16 lane h0 h1 ones3 w (kOff' t2) (qOff0 t2 t3) id
  qStep2 arg1 arg5 arg7 arg11 arg12 arg13 arg14 arg15 arg16 lane h0 h1 ones3 w (kOff' t2) (qOff1 t2 t3) id
  pure 0#32

/-- The remainder loop over the queries, which makes no trip. -/
def restLoop (keep : IVec S256x256 1) (t2 : Fin k0_t2_loop.trips) (w : KV F) (acc : BitVec 32) : P (F := F) (BitVec 32) :=
  let a17 : BitVec 32 := Scf.iv 0#32 1#32 t2
  let v53 : BitVec 32 := Scalar.muli (Scalar.addi (Scalar.muli 2#32 a17) 0#32) 256#32
  let v57 : BitVec 32 := Scalar.muli (Scalar.addi (Scalar.muli 2#32 a17) 1#32) 256#32
  Scf.Loop.for (k0_t4_loop t2) (k0_t4_ok t2) acc
    (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 keep lane h0 h1 ones3 0#32 1#32 t2 a17 v53 v57 w.vb0 w.ka00 w.ks00 w.ka01 w.ks01 w.vb1 w.ka10 w.ks10 w.ka11 w.ks11
      (Scalar.addi 0#32 (Scalar.muli (Scalar.divsi (Scalar.subi (Scalar.subi 7#32 a17) 0#32) 1#32) 1#32)))

/-- One pair of blocks of keys: the two blocks of queries on the diagonal, those below it, the results. -/
def pairBody (keep : IVec S256x256 1) (t2 : Fin k0_t2_loop.trips) : P (F := F) PUnit := do
  let w ← pairHead arg2 arg3 arg6 arg14 arg15 h0 h1 t2
  qStep1 arg1 arg5 arg7 arg11 arg12 arg13 arg14 arg15 arg16 lane h0 h1 ones3 w (kOff t2) (qDiag0 t2) (masked keep)
  qStep2 arg1 arg5 arg7 arg11 arg12 arg13 arg14 arg15 arg16 lane h0 h1 ones3 w (kOff t2) (qDiag1 t2) (masked keep)
  let acc ← Scf.Loop.for (k0_t3_loop t2) (k0_t3_ok t2) 0#32
    (fun t3 _ => belowBody arg1 arg5 arg7 arg11 arg12 arg13 arg14 arg15 arg16 lane h0 h1 ones3 t2 w t3)
  let _ ← restLoop i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 lane h0 h1 ones3 keep t2 w acc
  pairTail arg9 harg9 arg10 harg10 arg14 arg15 t2

set_option maxHeartbeats 4000000 in
set_option maxRecDepth 65536 in
/-- The printed trip of a pair of blocks of keys. -/
theorem t2_body_eq (keep : IVec S256x256 1) (t2 : Fin k0_t2_loop.trips) (u : Unit) :
    k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 keep lane h0 h1 ones3 t2 u
      = (do pairBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 lane h0 h1 ones3 keep t2
            pure ⟨⟩) := rfl

end Cert.KernelIdeal.Fox
-- ==== Proof.FoxStep.lean ====
/- What a step of the kernel does to its buffers, each held at the values it reads: the accumulators as
   plain functions of vectors, and the steps' programs shown to make them so. -/
module

public import proofs.«01_k».proof.Proof.FoxProg
public import Idealize.ShloMosaic.Lib.VecWindow
public import Idealize.ShloMosaic.Lib.Tactic

@[expose] public section

set_option synthInstance.maxSize 4096
set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## Buffers held at the values they read -/

/-- Core `c` owns the buffer behind `m`, which reads `X`. -/
def own (c : Dev nD) {sp : Space} {s : Shape} {e : EltTy} (m : Memref sig .tc sp s e) (X : s.Idx → Elt F e) : sProp 𝕄 :=
  m.view.loc (c : Thread nD τ) ↦[m.view.set]{fullShare} m.view.rep X

/-- The weakest precondition of a body's program. -/
abbrev WP (𝒱 : Variants) (c : Dev nD) (bd : Option 𝒱.V) (E : Set ℕ) {α : Type} (p : P (F := F) α) (Q : α → sProp 𝕄) : sProp 𝕄 :=
  wp frame (wpE (defs₀ (F := F)) 𝒱 (c : Thread nD τ) bd) E p Q

section Rules

variable (𝒱 : Variants) (c : Dev nD) (bd : Option 𝒱.V) (E : Set ℕ)

theorem wp_ld {α : Type} {Q : α → sProp 𝕄} {cs : CoreSpace} {s : Shape} {e : EltTy} {m : Memref sig .tc cs s e} {X : s.Idx → Elt F e}
    {off size : Fin s.rank → ℕ} {inb : ∀ a, off a + size a ≤ s.size a}
    {hl : m.view.LoadsAt (Rect.unit off size inb).toLoadRect}
    {k : ((Rect.unit off size inb).toLoadRect.shape.Idx → Elt F e) → P (F := F) α} :
    own c m X ⊢ iprop((own c m X -∗ WP 𝒱 c bd E (k (VecWindow.window X off size inb)) Q)
      -∗ WP 𝒱 c bd E (Prog.lift (.load m (Rect.unit off size inb).toLoadRect hl) >>= k) Q) := by
  have h := wp_load (defs := defs₀ (F := F)) (Ix := Unit) (Name := ℕ) (U := UR sig nD τ) (Lvl := ℕ) 𝒱 (c : Thread nD τ) bd E (Γ := ([] : PendingWaitsCtx sig Unit)) (Q := Q) (m := m) (r := (Rect.unit off size inb).toLoadRect) (hl := hl) (k := k)
    (q := fullShare) (f := m.view.rep X) (S := m.view.set) (m.view.setOn_subset_set _)
  rw [View.readAt_rep_unit m.view X inb rfl inb] at h
  exact h

theorem wp_st {α : Type} {Q : α → sProp 𝕄} {cs : CoreSpace} {s : Shape} {e : EltTy} {m : Memref sig .tc cs s e} {X : s.Idx → Elt F e}
    {off size : Fin s.rank → ℕ} {inb : ∀ a, off a + size a ≤ s.size a}
    {w : (Rect.unit off size inb).shape.Idx → Elt F e} {hx : (m.access (Rect.unit off size inb)).Stores Finset.univ}
    {hm : Finset.univ = Finset.univ ∨ ∀ a, (Rect.unit off size inb).stride a = 1}
    {k : PUnit → P (F := F) α} :
    own c m X ⊢ iprop((own c m (VecWindow.put X off size w) -∗ WP 𝒱 c bd E (k ⟨⟩) Q)
      -∗ WP 𝒱 c bd E (Prog.lift (.store m (Rect.unit off size inb) w Finset.univ hx hm) >>= k) Q) := by
  have h := wp_store_writes₀ (defs := defs₀ (F := F)) (Ix := Unit) (Name := ℕ) (U := UR sig nD τ) (Lvl := ℕ) 𝒱 (c : Thread nD τ) bd E (Q := Q) (m := m) (r := Rect.unit off size inb) (w := w) (hx := hx) (hm := hm) (k := k)
    (f := m.view.rep X) (S := m.view.set) (View.set_slice_subset _ _)
  refine h.trans ?_
  iintro H HK
  iapply H
  iintro HO
  iapply HK
  unfold own
  iapply (pointsTo_rep_of_read (c : Thread nD τ) m _ fullShare (VecWindow.put X off size w) (View.read_writes_rep_unit m.view X inb w rfl))
  iexact HO

end Rules

/-! ## The accumulators -/

/-- Two buffers of row dots that agree on the heads' rows read the same there. -/
theorem window_agree {x dd : Vec F S8x4096 .f32} (h : ∀ y : S8x4096.Idx, (y 0).val < 2 → x y = dd y)
    (d : Fin 2 → ℕ) (hd : ∀ a, d a + S1x256.size a ≤ S8x4096.size a) (hd2 : d 0 < 2) :
    VecWindow.window x d S1x256.size hd = VecWindow.window dd d S1x256.size hd := by
  funext y
  refine h _ ?_
  show d 0 + 1 * (y 0).val < 2
  have : (y 0).val < 1 := (y 0).isLt
  omega

/-- What the loops over the blocks accumulate: the bias gradient's rows and columns, and the gradients of
    the queries, of the keys and of the values. -/
structure Acc (F : FTy → Type) where
  dc : Vec F S1x2x4096 .f32
  dq : Vec F S4096x128 .f32
  col : Vec F S4096x128 .f32
  dk : Vec F S2x256x128 .f32
  dv : Vec F S2x256x128 .f32

/-- The weights of a block. -/
def pOf (lse : Vec F S1x2x4096 .f32) (lo : Fin 3 → ℕ) (hlo : ∀ a, lo a + S1x1x256.size a ≤ S1x2x4096.size a)
    (st : FVec F S256x256 .f32) : FVec F S256x256 .f32 :=
  weights st (VecWindow.window lse lo S1x1x256.size hlo)

/-- The cotangent of the logits of a block. -/
def dsOf (lse : Vec F S1x2x4096 .f32) (dd : Vec F S8x4096 .f32) (lo : Fin 3 → ℕ) (hlo : ∀ a, lo a + S1x1x256.size a ≤ S1x2x4096.size a)
    (d : Fin 2 → ℕ) (hd : ∀ a, d a + S1x256.size a ≤ S8x4096.size a)
    (st dp : FVec F S256x256 .f32) : FVec F S256x256 .f32 :=
  dLogits (pOf lse lo hlo st) dp (VecWindow.window dd d S1x256.size hd)

/-- The accumulators after one chain with weights `p` and cotangent `ds`. -/
def chainF (sl : Fin 3 → ℕ) (hsl : ∀ a, sl a + S1x256x128.size a ≤ S2x256x128.size a)
    (co : Fin 2 → ℕ) (hco : ∀ a, co a + S256x128.size a ≤ S4096x128.size a)
    (lane : IVec S1x128 32) (e : BitVec 32) (p ds : FVec F S256x256 .f32)
    (doh : Vec F S256x128 .bf16) (qh : FVec F S256x128 .bf16) (s : Acc F) : Acc F :=
  { s with
    dv := VecWindow.put s.dv sl S1x256x128.size (accRows p doh (VecWindow.window s.dv sl S1x256x128.size hsl))
    dk := VecWindow.put s.dk sl S1x256x128.size (accRows ds qh (VecWindow.window s.dk sl S1x256x128.size hsl))
    col := VecWindow.put s.col co S256x128.size (subCols lane e ds (VecWindow.window s.col co S256x128.size hco)) }

/-- The accumulators after the end of a step. -/
def finishF (o : QOff) (dr0 dr1 : FVec F S1x256 .f32) (dq : FVec F S256x128 .f32) (s : Acc F) : Acc F :=
  let x := VecWindow.put s.dc o.l0 S1x1x256.size (putRow dr0 (VecWindow.window s.dc o.l0 S1x1x256.size o.hl0))
  { s with
    dc := VecWindow.put x o.l1 S1x1x256.size (putRow dr1 (VecWindow.window x o.l1 S1x1x256.size o.hl1))
    dq := VecWindow.put s.dq o.q S256x128.size (putQ dq (VecWindow.window s.dq o.q S256x128.size o.hq)) }

section Bundle

variable (c : Dev nD) (m1 m5 : Memref sig .tc .vmem S4096x128 .bf16) (m7 m11 : Memref sig .tc .vmem S1x2x4096 .f32)
  (m12 m13 : Memref sig .tc .vmem S4096x128 .f32) (m14 m15 : Memref sig .tc .vmem S2x256x128 .f32)
  (m16 : Memref sig .tc .vmem S8x4096 .f32)
  (q g : Vec F S4096x128 .bf16) (lse : Vec F S1x2x4096 .f32) (dd : Vec F S8x4096 .f32)

/-- The buffers a step works on. Of the buffer of row dots only the two rows of the heads are told. -/
def res (s : Acc F) : sProp 𝕄 :=
  iprop(own c m1 q ∗ own c m5 g ∗ own c m7 lse ∗ (∃ x : Vec F S8x4096 .f32, ⌜∀ y : S8x4096.Idx, (y 0).val < 2 → x y = dd y⌝ ∗ own c m16 x) ∗ own c m11 s.dc ∗ own c m12 s.dq ∗ own c m13 s.col ∗ own c m14 s.dk ∗ own c m15 s.dv)

theorem res_split (s : Acc F) : res c m1 m5 m7 m11 m12 m13 m14 m15 m16 q g lse dd s ⊢
    iprop(own c m1 q ∗ own c m5 g ∗ own c m7 lse ∗ (∃ x : Vec F S8x4096 .f32, ⌜∀ y : S8x4096.Idx, (y 0).val < 2 → x y = dd y⌝ ∗ own c m16 x) ∗ own c m11 s.dc ∗ own c m12 s.dq ∗ own c m13 s.col ∗ own c m14 s.dk ∗ own c m15 s.dv) :=
  Entails.rfl

variable (𝒱 : Variants) (bd : Option 𝒱.V) (E : Set ℕ)

theorem wp_chain {α : Type} {Q : α → sProp 𝕄} (lo : Fin 3 → ℕ) (hlo : ∀ a, lo a + S1x1x256.size a ≤ S1x2x4096.size a)
    (d : Fin 2 → ℕ) (hd : ∀ a, d a + S1x256.size a ≤ S8x4096.size a) (hd2 : d 0 < 2)
    (sl : Fin 3 → ℕ) (hsl : ∀ a, sl a + S1x256x128.size a ≤ S2x256x128.size a)
    (co : Fin 2 → ℕ) (hco : ∀ a, co a + S256x128.size a ≤ S4096x128.size a)
    (lane : IVec S1x128 32) (e : BitVec 32) (st dp : FVec F S256x256 .f32)
    (doh : Vec F S256x128 .bf16) (qh ks : FVec F S256x128 .bf16)
    (dq : FVec F S256x128 .f32) (dr : FVec F S1x256 .f32) (s : Acc F)
    {k : FVec F S256x128 .f32 × FVec F S1x256 .f32 → P (F := F) α} :
    res c m1 m5 m7 m11 m12 m13 m14 m15 m16 q g lse dd s ⊢
      iprop((res c m1 m5 m7 m11 m12 m13 m14 m15 m16 q g lse dd
          (chainF sl hsl co hco lane e (pOf lse lo hlo st) (dsOf lse dd lo hlo d hd st dp) doh qh s) -∗
            WP 𝒱 c bd E (k (addQ dq (dsOf lse dd lo hlo d hd st dp) ks, addRow dr (dsOf lse dd lo hlo d hd st dp))) Q)
        -∗ WP 𝒱 c bd E (chain m7 m13 m14 m15 m16 lo hlo d hd sl hsl co hco lane e st dp doh qh ks dq dr >>= k) Q) := by
  unfold chain
  simp only [bind_assoc, pure_bind]
  unfold res
  iintro ⟨H1, H5, H7, ⟨%x, %hx, H16⟩, H11, H12, H13, H14, H15⟩ HK
  iapply (wp_ld 𝒱 c bd E) $$ H7; iintro H7
  iapply (wp_ld 𝒱 c bd E) $$ H15; iintro H15
  iapply (wp_ld 𝒱 c bd E) $$ H15; iintro H15
  iapply (wp_st 𝒱 c bd E) $$ H15; iintro H15
  iapply (wp_ld 𝒱 c bd E) $$ H16; iintro H16
  rw [window_agree hx d hd hd2]
  iapply (wp_ld 𝒱 c bd E) $$ H14; iintro H14
  iapply (wp_ld 𝒱 c bd E) $$ H14; iintro H14
  iapply (wp_st 𝒱 c bd E) $$ H14; iintro H14
  iapply (wp_ld 𝒱 c bd E) $$ H13; iintro H13
  iapply (wp_ld 𝒱 c bd E) $$ H13; iintro H13
  iapply (wp_st 𝒱 c bd E) $$ H13; iintro H13
  iapply HK
  isplitl [H1]; iexact H1
  isplitl [H5]; iexact H5
  isplitl [H7]; iexact H7
  isplitl [H16]; (iexists x; isplitr; (ipureintro; exact hx); iexact H16)
  isplitl [H11]; iexact H11
  isplitl [H12]; iexact H12
  isplitl [H13]; iexact H13
  isplitl [H14]; iexact H14
  iexact H15

theorem wp_finish {α : Type} {Q : α → sProp 𝕄} (o : QOff) (dr0 dr1 : FVec F S1x256 .f32) (dq : FVec F S256x128 .f32)
    (s : Acc F) {k : PUnit → P (F := F) α} :
    res c m1 m5 m7 m11 m12 m13 m14 m15 m16 q g lse dd s ⊢
      iprop((res c m1 m5 m7 m11 m12 m13 m14 m15 m16 q g lse dd (finishF o dr0 dr1 dq s) -∗ WP 𝒱 c bd E (k ⟨⟩) Q)
        -∗ WP 𝒱 c bd E (finish m11 m12 o dr0 dr1 dq >>= k) Q) := by
  unfold finish
  simp only [bind_assoc, pure_bind]
  unfold res
  iintro ⟨H1, H5, H7, H16, H11, H12, H13, H14, H15⟩ HK
  iapply (wp_ld 𝒱 c bd E) $$ H11; iintro H11
  iapply (wp_ld 𝒱 c bd E) $$ H11; iintro H11
  iapply (wp_st 𝒱 c bd E) $$ H11; iintro H11
  iapply (wp_ld 𝒱 c bd E) $$ H11; iintro H11
  iapply (wp_ld 𝒱 c bd E) $$ H11; iintro H11
  iapply (wp_st 𝒱 c bd E) $$ H11; iintro H11
  iapply (wp_ld 𝒱 c bd E) $$ H12; iintro H12
  iapply (wp_ld 𝒱 c bd E) $$ H12; iintro H12
  iapply (wp_st 𝒱 c bd E) $$ H12; iintro H12
  iapply HK
  isplitl [H1]; iexact H1
  isplitl [H5]; iexact H5
  isplitl [H7]; iexact H7
  isplitl [H16]; iexact H16
  isplitl [H11]; iexact H11
  isplitl [H12]; iexact H12
  isplitl [H13]; iexact H13
  isplitl [H14]; iexact H14
  iexact H15

variable (lane : IVec S1x128 32) (h0 h1 : IVec S1x128 1) (ones3 : FVec F S1x128 .bf16) (w : KV F) (ko : KOff)
  (o : QOff) (mk : FVec F S256x256 .f32 → FVec F S256x256 .f32)

/-- The logits of one head and one block of keys. -/
def lgt (ka : Vec F S256x128 .bf16) (h : IVec S1x128 1) : FVec F S256x256 .f32 :=
  rowDots ka (qAug h (scaled (VecWindow.window q o.q S256x128.size o.hq)) ones3)

/-- The output's cotangent's lanes of one head. -/
def gh (h : IVec S1x128 1) : Vec F S256x128 .bf16 := headOf h (VecWindow.window g o.q S256x128.size o.hq)

/-- The scaled queries' lanes of one head. -/
def qh (h : IVec S1x128 1) : FVec F S256x128 .bf16 := headOf h (scaled (VecWindow.window q o.q S256x128.size o.hq))

/-- The weights of the first head. -/
def p0 (st : FVec F S256x256 .f32) : FVec F S256x256 .f32 := pOf lse o.l0 o.hl0 st
def p1 (st : FVec F S256x256 .f32) : FVec F S256x256 .f32 := pOf lse o.l1 o.hl1 st
/-- The cotangent of the logits of the first head. -/
def d0 (vb : Vec F S256x128 .bf16) (st : FVec F S256x256 .f32) : FVec F S256x256 .f32 :=
  dsOf lse dd o.l0 o.hl0 o.d0 o.hd0 st (rowDots vb (gh g o h0))
def d1 (vb : Vec F S256x128 .bf16) (st : FVec F S256x256 .f32) : FVec F S256x256 .f32 :=
  dsOf lse dd o.l1 o.hl1 o.d1 o.hd1 st (rowDots vb (gh g o h1))

/-- The accumulators after one block of queries against both blocks of keys. -/
def step2F (s : Acc F) : Acc F :=
  let s00 := lgt q ones3 o w.ka00 h0
  let s10 := mk (lgt q ones3 o w.ka10 h0)
  let s01 := lgt q ones3 o w.ka01 h1
  let s11 := mk (lgt q ones3 o w.ka11 h1)
  let d00 := d0 g lse dd h0 o w.vb0 s00
  let d10 := d0 g lse dd h0 o w.vb1 s10
  let d01 := d1 g lse dd h1 o w.vb0 s01
  let d11 := d1 g lse dd h1 o w.vb1 s11
  finishF o (addRow (addRow zeroRow d00) d10) (addRow (addRow zeroRow d01) d11)
    (addQ (addQ (addQ (addQ zeroQ d00 w.ks00) d10 w.ks10) d01 w.ks01) d11 w.ks11)
    (chainF ![1, 0, 0] inb_S2x256x128_S1x256x128_1_0_0 ko.c1 ko.hc1 lane 1#32 (p1 lse o s11) d11 (gh g o h1) (qh q o h1)
    (chainF ![0, 0, 0] inb_S2x256x128_S1x256x128_0_0_0 ko.c0 ko.hc0 lane 1#32 (p1 lse o s01) d01 (gh g o h1) (qh q o h1)
    (chainF ![1, 0, 0] inb_S2x256x128_S1x256x128_1_0_0 ko.c1 ko.hc1 lane 0#32 (p0 lse o s10) d10 (gh g o h0) (qh q o h0)
    (chainF ![0, 0, 0] inb_S2x256x128_S1x256x128_0_0_0 ko.c0 ko.hc0 lane 0#32 (p0 lse o s00) d00 (gh g o h0) (qh q o h0) s))))

/-- The accumulators after one block of queries against the first block of keys. -/
def step1F (s : Acc F) : Acc F :=
  let s00 := mk (lgt q ones3 o w.ka00 h0)
  let s01 := mk (lgt q ones3 o w.ka01 h1)
  let d00 := d0 g lse dd h0 o w.vb0 s00
  let d01 := d1 g lse dd h1 o w.vb0 s01
  finishF o (addRow zeroRow d00) (addRow zeroRow d01) (addQ (addQ zeroQ d00 w.ks00) d01 w.ks01)
    (chainF ![0, 0, 0] inb_S2x256x128_S1x256x128_0_0_0 ko.c0 ko.hc0 lane 1#32 (p1 lse o s01) d01 (gh g o h1) (qh q o h1)
    (chainF ![0, 0, 0] inb_S2x256x128_S1x256x128_0_0_0 ko.c0 ko.hc0 lane 0#32 (p0 lse o s00) d00 (gh g o h0) (qh q o h0) s))

theorem wp_qStep2 {α : Type} {Q : α → sProp 𝕄} (ho0 : o.d0 0 < 2) (ho1 : o.d1 0 < 2) (s : Acc F) {k : PUnit → P (F := F) α} :
    res c m1 m5 m7 m11 m12 m13 m14 m15 m16 q g lse dd s ⊢
      iprop((res c m1 m5 m7 m11 m12 m13 m14 m15 m16 q g lse dd (step2F q g lse dd lane h0 h1 ones3 w ko o mk s) -∗ WP 𝒱 c bd E (k ⟨⟩) Q)
        -∗ WP 𝒱 c bd E (qStep2 m1 m5 m7 m11 m12 m13 m14 m15 m16 lane h0 h1 ones3 w ko o mk >>= k) Q) := by
  unfold qStep2
  simp only [bind_assoc, pure_bind]
  iintro H HK
  ihave H := (res_split c m1 m5 m7 m11 m12 m13 m14 m15 m16 q g lse dd s) $$ H
  icases H with ⟨H1, H5, HR⟩
  iapply (wp_ld 𝒱 c bd E) $$ H1; iintro H1
  iapply (wp_ld 𝒱 c bd E) $$ H5; iintro H5
  iapply (wp_chain c m1 m5 m7 m11 m12 m13 m14 m15 m16 q g lse dd 𝒱 bd E o.l0 o.hl0 o.d0 o.hd0 ho0) $$ [H1 H5 HR]
  · unfold res
    iframe
  iintro H
  iapply (wp_chain c m1 m5 m7 m11 m12 m13 m14 m15 m16 q g lse dd 𝒱 bd E o.l0 o.hl0 o.d0 o.hd0 ho0) $$ H; iintro H
  iapply (wp_chain c m1 m5 m7 m11 m12 m13 m14 m15 m16 q g lse dd 𝒱 bd E o.l1 o.hl1 o.d1 o.hd1 ho1) $$ H; iintro H
  iapply (wp_chain c m1 m5 m7 m11 m12 m13 m14 m15 m16 q g lse dd 𝒱 bd E o.l1 o.hl1 o.d1 o.hd1 ho1) $$ H; iintro H
  iapply (wp_finish c m1 m5 m7 m11 m12 m13 m14 m15 m16 q g lse dd 𝒱 bd E) $$ H; iintro H
  iapply HK
  iexact H

theorem wp_qStep1 {α : Type} {Q : α → sProp 𝕄} (ho0 : o.d0 0 < 2) (ho1 : o.d1 0 < 2) (s : Acc F) {k : PUnit → P (F := F) α} :
    res c m1 m5 m7 m11 m12 m13 m14 m15 m16 q g lse dd s ⊢
      iprop((res c m1 m5 m7 m11 m12 m13 m14 m15 m16 q g lse dd (step1F q g lse dd lane h0 h1 ones3 w ko o mk s) -∗ WP 𝒱 c bd E (k ⟨⟩) Q)
        -∗ WP 𝒱 c bd E (qStep1 m1 m5 m7 m11 m12 m13 m14 m15 m16 lane h0 h1 ones3 w ko o mk >>= k) Q) := by
  unfold qStep1
  simp only [bind_assoc, pure_bind]
  iintro H HK
  ihave H := (res_split c m1 m5 m7 m11 m12 m13 m14 m15 m16 q g lse dd s) $$ H
  icases H with ⟨H1, H5, HR⟩
  iapply (wp_ld 𝒱 c bd E) $$ H1; iintro H1
  iapply (wp_ld 𝒱 c bd E) $$ H5; iintro H5
  iapply (wp_chain c m1 m5 m7 m11 m12 m13 m14 m15 m16 q g lse dd 𝒱 bd E o.l0 o.hl0 o.d0 o.hd0 ho0) $$ [H1 H5 HR]
  · unfold res
    iframe
  iintro H
  iapply (wp_chain c m1 m5 m7 m11 m12 m13 m14 m15 m16 q g lse dd 𝒱 bd E o.l1 o.hl1 o.d1 o.hd1 ho1) $$ H; iintro H
  iapply (wp_finish c m1 m5 m7 m11 m12 m13 m14 m15 m16 q g lse dd 𝒱 bd E) $$ H; iintro H
  iapply HK
  iexact H

end Bundle

end Cert.KernelIdeal.Fox
-- ==== Proof.FoxOff.lean ====
/- The blocks' offsets in closed form: block `n` of the queries and the two blocks of keys of pair `b`. -/
module

public import proofs.«01_k».proof.Proof.FoxProg

@[expose] public section

set_option maxRecDepth 65536

noncomputable section

namespace Cert.KernelIdeal.Fox

open Idealize.ShloMosaic
open Cert.KernelIdeal Cert.KernelIdeal.Gen

/-- The offsets of block `n` of the queries. -/
def qBlk (n : ℕ) (hn : n < 16) : QOff where
  q := ![256 * n, 0]
  hq := by intro a; fin_cases a <;> simp [S256x128, S4096x128]; omega
  l0 := ![0, 0, 256 * n]
  hl0 := by intro a; fin_cases a <;> simp [S1x1x256, S1x2x4096]; omega
  l1 := ![0, 1, 256 * n]
  hl1 := by intro a; fin_cases a <;> simp [S1x1x256, S1x2x4096]; omega
  d0 := ![0, 256 * n]
  hd0 := by intro a; fin_cases a <;> simp [S1x256, S8x4096]; omega
  d1 := ![1, 256 * n]
  hd1 := by intro a; fin_cases a <;> simp [S1x256, S8x4096]; omega

/-- The offsets of the two blocks of keys of pair `b`. -/
def kBlk (b : ℕ) (hb : b < 8) : KOff where
  c0 := ![256 * (2 * b), 0]
  hc0 := by intro a; fin_cases a <;> simp [S256x128, S4096x128]; omega
  c1 := ![256 * (2 * b + 1), 0]
  hc1 := by intro a; fin_cases a <;> simp [S256x128, S4096x128]; omega

theorem t1_trips : k0_t1_loop.trips = 16 := by decide
theorem t2_trips : k0_t2_loop.trips = 8 := by decide
theorem t5_trips : k0_t5_loop.trips = 16 := by decide
theorem t3_trips : ∀ t2 : Fin k0_t2_loop.trips, (k0_t3_loop t2).trips = 7 - t2.val := by decide
theorem t4_trips : ∀ t2 : Fin k0_t2_loop.trips, (k0_t4_loop t2).trips = 0 := by decide

theorem lt_t2 (t2 : Fin k0_t2_loop.trips) : t2.val < 8 := t2_trips ▸ t2.isLt
theorem lt_t3 (t2 : Fin k0_t2_loop.trips) (t3 : Fin (k0_t3_loop t2).trips) : t2.val + t3.val < 7 := by
  have h1 := t3.isLt
  have h2 := t3_trips t2
  omega

theorem off1_eq : ∀ t : Fin k0_t1_loop.trips, k0_off1 t = ![256 * t.val, 0] := by decide
theorem off2_eq : ∀ t : Fin k0_t1_loop.trips, k0_off2 t = ![0, 256 * t.val] := by decide
theorem off3_eq : ∀ t : Fin k0_t1_loop.trips, k0_off3 t = ![1, 256 * t.val] := by decide
theorem off4_0_eq : ∀ t : Fin k0_t2_loop.trips, k0_off4 t 0#32 = ![256 * (2 * t.val), 0] := by decide
theorem off4_1_eq : ∀ t : Fin k0_t2_loop.trips, k0_off4 t 1#32 = ![256 * (2 * t.val + 1), 0] := by decide
theorem off17_0_eq : ∀ t : Fin k0_t2_loop.trips, k0_off17 t 0#32 = ![256 * (2 * t.val), 0] := by decide
theorem off17_1_eq : ∀ t : Fin k0_t2_loop.trips, k0_off17 t 1#32 = ![256 * (2 * t.val + 1), 0] := by decide
theorem off26_eq : ∀ t : Fin k0_t5_loop.trips, k0_off26 t = ![0, 0, 256 * t.val] := by decide
theorem off27_eq : ∀ t : Fin k0_t5_loop.trips, k0_off27 t = ![256 * t.val, 0] := by decide
theorem off5_eq : ∀ t : Fin k0_t2_loop.trips, k0_off5 t = ![256 * (2 * t.val), 0] := by decide
theorem off6_eq : ∀ t : Fin k0_t2_loop.trips, k0_off6 t = ![0, 0, 256 * (2 * t.val)] := by decide
theorem off7_eq : ∀ t : Fin k0_t2_loop.trips, k0_off7 t = ![0, 256 * (2 * t.val)] := by decide
theorem off8_eq : ∀ t : Fin k0_t2_loop.trips, k0_off8 t = ![0, 1, 256 * (2 * t.val)] := by decide
theorem off9_eq : ∀ t : Fin k0_t2_loop.trips, k0_off9 t = ![1, 256 * (2 * t.val)] := by decide
theorem off10_eq : ∀ t : Fin k0_t2_loop.trips, k0_off10 t = ![0, 0, 256 * (2 * t.val + 1)] := by decide
theorem off11_eq : ∀ t : Fin k0_t2_loop.trips, k0_off11 t = ![0, 256 * (2 * t.val + 1)] := by decide
theorem off12_eq : ∀ t : Fin k0_t2_loop.trips, k0_off12 t = ![0, 1, 256 * (2 * t.val + 1)] := by decide
theorem off13_eq : ∀ t : Fin k0_t2_loop.trips, k0_off13 t = ![1, 256 * (2 * t.val + 1)] := by decide

theorem off14_eq : ∀ (t2 : Fin k0_t2_loop.trips) (t3 : Fin (k0_t3_loop t2).trips),
    k0_off14 t2 t3 2#32 = ![256 * (2 * t2.val + 2 + 2 * t3.val), 0] ∧ k0_off14 t2 t3 3#32 = ![256 * (2 * t2.val + 3 + 2 * t3.val), 0] := by decide
theorem off15_eq : ∀ (t2 : Fin k0_t2_loop.trips) (t3 : Fin (k0_t3_loop t2).trips),
    k0_off15 t2 t3 2#32 = ![0, 0, 256 * (2 * t2.val + 2 + 2 * t3.val)] ∧ k0_off15 t2 t3 3#32 = ![0, 0, 256 * (2 * t2.val + 3 + 2 * t3.val)] := by decide
theorem off16_eq : ∀ (t2 : Fin k0_t2_loop.trips) (t3 : Fin (k0_t3_loop t2).trips),
    k0_off16 t2 t3 2#32 = ![0, 256 * (2 * t2.val + 2 + 2 * t3.val)] ∧ k0_off16 t2 t3 3#32 = ![0, 256 * (2 * t2.val + 3 + 2 * t3.val)] := by decide
theorem off18_eq : ∀ (t2 : Fin k0_t2_loop.trips) (t3 : Fin (k0_t3_loop t2).trips),
    k0_off18 t2 t3 2#32 = ![0, 1, 256 * (2 * t2.val + 2 + 2 * t3.val)] ∧ k0_off18 t2 t3 3#32 = ![0, 1, 256 * (2 * t2.val + 3 + 2 * t3.val)] := by decide
theorem off19_eq : ∀ (t2 : Fin k0_t2_loop.trips) (t3 : Fin (k0_t3_loop t2).trips),
    k0_off19 t2 t3 2#32 = ![1, 256 * (2 * t2.val + 2 + 2 * t3.val)] ∧ k0_off19 t2 t3 3#32 = ![1, 256 * (2 * t2.val + 3 + 2 * t3.val)] := by decide

theorem QOff.eq_of {o o' : QOff} (h1 : o.q = o'.q) (h2 : o.l0 = o'.l0) (h3 : o.l1 = o'.l1) (h4 : o.d0 = o'.d0) (h5 : o.d1 = o'.d1) : o = o' := by
  cases o; cases o'; cases h1; cases h2; cases h3; cases h4; cases h5; rfl

theorem KOff.eq_of {o o' : KOff} (h1 : o.c0 = o'.c0) (h2 : o.c1 = o'.c1) : o = o' := by
  cases o; cases o'; cases h1; cases h2; rfl

theorem kOff_eq (t2 : Fin k0_t2_loop.trips) : kOff t2 = kBlk t2.val (lt_t2 t2) :=
  KOff.eq_of (off4_0_eq t2) (off4_1_eq t2)

theorem kOff'_eq (t2 : Fin k0_t2_loop.trips) : kOff' t2 = kBlk t2.val (lt_t2 t2) :=
  KOff.eq_of (off17_0_eq t2) (off17_1_eq t2)

theorem qDiag0_eq (t2 : Fin k0_t2_loop.trips) : qDiag0 t2 = qBlk (2 * t2.val) (by have := lt_t2 t2; omega) :=
  QOff.eq_of (off5_eq t2) (off6_eq t2) (off8_eq t2) (off7_eq t2) (off9_eq t2)

theorem qDiag1_eq (t2 : Fin k0_t2_loop.trips) : qDiag1 t2 = qBlk (2 * t2.val + 1) (by have := lt_t2 t2; omega) :=
  QOff.eq_of (off4_1_eq t2) (off10_eq t2) (off12_eq t2) (off11_eq t2) (off13_eq t2)

theorem qOff0_eq (t2 : Fin k0_t2_loop.trips) (t3 : Fin (k0_t3_loop t2).trips) :
    qOff0 t2 t3 = qBlk (2 * t2.val + 2 + 2 * t3.val) (by have := lt_t3 t2 t3; omega) :=
  QOff.eq_of (off14_eq t2 t3).1 (off15_eq t2 t3).1 (off18_eq t2 t3).1 (off16_eq t2 t3).1 (off19_eq t2 t3).1

theorem qOff1_eq (t2 : Fin k0_t2_loop.trips) (t3 : Fin (k0_t3_loop t2).trips) :
    qOff1 t2 t3 = qBlk (2 * t2.val + 3 + 2 * t3.val) (by have := lt_t3 t2 t3; omega) :=
  QOff.eq_of (off14_eq t2 t3).2 (off15_eq t2 t3).2 (off18_eq t2 t3).2 (off16_eq t2 t3).2 (off19_eq t2 t3).2

end Cert.KernelIdeal.Fox
-- ==== Proof.FoxLoop.lean ====
/- The loops of the kernel body, run on buffers held at the values they read. -/
module

public import proofs.«01_k».proof.Proof.FoxStep
public import proofs.«01_k».proof.Proof.FoxOff
public import proofs.«01_k».proof.Proof.FoxCover

@[expose] public section

set_option synthInstance.maxSize 4096
set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.FoxCover (put_full window_full window_off)

variable {F : FTy → Type} [FloatOps F] [Named F]

local notation "𝕄" => MT nD τ sig Unit (Elt F) ℕ (UR sig nD τ) ℕ

/-! ## The loops' values -/

/-- What one grid point reads: the queries, the keys, the values, the output, its cotangent, the bias planes
    and the rows' normalisers. -/
structure Inp (F : FTy → Type) where
  q : Vec F S4096x128 .bf16
  k : Vec F S4096x128 .bf16
  v : Vec F S4096x128 .bf16
  o : Vec F S4096x128 .bf16
  g : Vec F S4096x128 .bf16
  ca : Vec F S4096x128 .bf16
  lse : Vec F S1x2x4096 .f32

/-- The offsets of a block of rows lie inside. -/
theorem rows_inb (n : ℕ) (hn : n < 16) : ∀ a, (![256 * n, 0] : Fin 2 → ℕ) a + S256x128.size a ≤ S4096x128.size a := by
  intro a; fin_cases a <;> simp [S256x128, S4096x128]; omega

/-- Block `n` of the rows of an array. -/
def rows {e : EltTy} (x : Vec F S4096x128 e) (n : ℕ) (hn : n < 16) : Vec F S256x128 e :=
  VecWindow.window x ![256 * n, 0] S256x128.size (rows_inb n hn)

/-- The row dots of the output and its cotangent, both heads. -/
def ddOf (I : Inp F) : Vec F S8x4096 .f32 := fun y =>
  let n := (y 1).val / 256
  have hn : n < 16 := by have : (y 1).val < 4096 := (y 1).isLt; omega
  let j : Fin 256 := ⟨(y 1).val % 256, Nat.mod_lt _ (by omega)⟩
  if (y 0).val = 0 then k0_pay2 (rows I.g n hn) (rows I.o n hn) (fun | 0 => (0 : Fin 1) | 1 => j)
  else k0_pay3 (rows I.g n hn) (rows I.o n hn) (fun | 0 => (0 : Fin 1) | 1 => j)

section Values

variable (I : Inp F) (lane : IVec S1x128 32) (h0 h1 : IVec S1x128 1) (ones3 : FVec F S1x128 .bf16) (keep : IVec S256x256 1)

/-- What pair `b` of blocks of keys reads once. -/
def kvAt (b : ℕ) (hb : b < 8) : KV F :=
  kvOf h0 h1 (rows I.k (2 * b) (by omega)) (rows I.ca (2 * b) (by omega)) (rows I.v (2 * b) (by omega))
    (rows I.k (2 * b + 1) (by omega)) (rows I.ca (2 * b + 1) (by omega)) (rows I.v (2 * b + 1) (by omega))

/-- One block of queries against both blocks of keys of pair `b`. -/
def stepAt2 (b : ℕ) (hb : b < 8) (n : ℕ) (hn : n < 16) (mk : FVec F S256x256 .f32 → FVec F S256x256 .f32) (s : Acc F) : Acc F :=
  step2F I.q I.g I.lse (ddOf I) lane h0 h1 ones3 (kvAt I h0 h1 b hb) (kBlk b hb) (qBlk n hn) mk s

/-- The first block of queries of pair `b` against its first block of keys. -/
def stepAt1 (b : ℕ) (hb : b < 8) (s : Acc F) : Acc F :=
  step1F I.q I.g I.lse (ddOf I) lane h0 h1 ones3 (kvAt I h0 h1 b hb) (kBlk b hb) (qBlk (2 * b) (by omega)) (masked keep) s

/-- The accumulators after `n` trips of the loop over the queries below the diagonal. -/
def belowTo (b : ℕ) (hb : b < 8) : ℕ → Acc F → Acc F
  | 0, s => s
  | n + 1, s =>
    if h : b + n < 7 then
      stepAt2 I lane h0 h1 ones3 b hb (2 * b + 3 + 2 * n) (by omega) id
        (stepAt2 I lane h0 h1 ones3 b hb (2 * b + 2 + 2 * n) (by omega) id (belowTo b hb n s))
    else belowTo b hb n s

/-- The accumulators of the keys and the values at zero. -/
def zeroKV (s : Acc F) : Acc F := { s with dk := zeroAcc, dv := zeroAcc }

/-- The accumulators after pair `b` of blocks of keys. -/
def pairF (b : ℕ) (hb : b < 8) (s : Acc F) : Acc F :=
  belowTo I lane h0 h1 ones3 b hb (7 - b)
    (stepAt2 I lane h0 h1 ones3 b hb (2 * b + 1) (by omega) (masked keep)
      (stepAt1 I lane h0 h1 ones3 keep b hb (zeroKV s)))

/-- The accumulators before pair `b` of blocks of keys. -/
def accAt : ℕ → Acc F
  | 0 => { dc := k0_pay340, dq := k0_pay338, col := k0_pay339, dk := zeroAcc, dv := zeroAcc }
  | b + 1 => if h : b < 8 then pairF I lane h0 h1 ones3 keep b h (accAt b) else accAt b

/-- The offsets of one block of an accumulator lie inside. -/
theorem slot_inb (j : ℕ) (hj : j < 2) : ∀ a, (![j, 0, 0] : Fin 3 → ℕ) a + S1x256x128.size a ≤ S2x256x128.size a := by
  intro a; fin_cases a <;> simp [S1x256x128, S2x256x128]; omega

/-- One block of an accumulator, rounded for the result. -/
def slot (x : Vec F S2x256x128 .f32) (j : ℕ) (hj : j < 2) : FVec F S256x128 .bf16 :=
  outBlock (VecWindow.window x ![j, 0, 0] S1x256x128.size (slot_inb j hj))

/-- An array of rows from the accumulators after every pair of blocks. -/
def outOf (x : ℕ → Vec F S2x256x128 .f32) : Vec F S4096x128 .bf16 := fun y =>
  slot (x ((y 0).val / 512 + 1)) ((y 0).val / 256 % 2) (Nat.mod_lt _ (by omega))
    (fun | 0 => (⟨(y 0).val % 256, Nat.mod_lt _ (by omega)⟩ : Fin 256) | 1 => (y 1 : Fin 128))

/-- The bias gradient with the columns of the first `n` blocks added. -/
def colsTo (col : Vec F S4096x128 .f32) : ℕ → Vec F S1x2x4096 .f32 → Vec F S1x2x4096 .f32
  | 0, x => x
  | n + 1, x =>
    if h : n < 16 then
      VecWindow.put (colsTo col n x) ![0, 0, 256 * n] S1x2x256.size
        (k0_pay5 (VecWindow.window (colsTo col n x) ![0, 0, 256 * n] S1x2x256.size
            (by intro a; fin_cases a <;> simp [S1x2x256, S1x2x4096]; omega)) (rows col n h))
    else colsTo col n x

end Values

/-! ## The programs -/

section Progs

variable (𝒱 : Variants) (c : Dev nD) (bd : Option 𝒱.V) (E : Set ℕ)

/-- A counted loop at the head of a program. -/
theorem wp_loop {σ β : Type} {L : Scf.Loop 32} (hok : L.OK) (init : σ) (body : Fin L.trips → σ → P (F := F) σ)
    (I : ℕ → σ → sProp 𝕄) (hbody : ∀ (k : Fin L.trips) (acc : σ), I k acc ⊢ WP 𝒱 c bd E (body k acc) (I (k.val + 1)))
    {kk : σ → P (F := F) β} {Q : β → sProp 𝕄} :
    I 0 init ⊢ iprop((∀ acc, I L.trips acc -∗ WP 𝒱 c bd E (kk acc) Q) -∗ WP 𝒱 c bd E (Scf.Loop.for L hok init body >>= kk) Q) :=
  Scf.wp_for_bind _ _ _ L.lb L.ub L.st hok init body I hbody

/-- A value returned. -/
theorem wp_done {α : Type} {Q : α → sProp 𝕄} (a : α) : Q a ⊢ WP 𝒱 c bd E (pure a) Q := by
  show _ ⊢ wp _ _ _ _ _
  rw [wp_pure]
  iintro H
  imodintro
  iexact H

variable (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S1x2x4096 .f32) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x2x4096 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S2x256x128 .f32) (harg14 : arg14.IsWhole)
  (arg15 : Memref sig .tc .vmem S2x256x128 .f32) (harg15 : arg15.IsWhole)
  (arg16 : Memref sig .tc .vmem S8x4096 .f32) (harg16 : arg16.IsWhole)
  (I : Inp F) (lane : IVec S1x128 32) (h0 h1 : IVec S1x128 1) (ones3 : FVec F S1x128 .bf16) (keep : IVec S256x256 1)

theorem wp_pairHead (t2 : Fin k0_t2_loop.trips) (x14 x15 : Vec F S2x256x128 .f32) {α : Type} {Q : α → sProp 𝕄} {kk : KV F → P (F := F) α} :
    iprop(own c arg2 I.k ∗ own c arg3 I.v ∗ own c arg6 I.ca ∗ own c arg14 x14 ∗ own c arg15 x15) ⊢
      iprop((own c arg2 I.k ∗ own c arg3 I.v ∗ own c arg6 I.ca ∗ own c arg14 zeroAcc ∗ own c arg15 zeroAcc -∗
          WP 𝒱 c bd E (kk (kvAt I h0 h1 t2.val (lt_t2 t2))) Q)
        -∗ WP 𝒱 c bd E (pairHead arg2 arg3 arg6 arg14 arg15 h0 h1 t2 >>= kk) Q) := by
  have e0 : ∀ (x : Vec F S4096x128 .bf16), VecWindow.window x (k0_off4 t2 0#32) S256x128.size (k0_off4_inb t2 0)
      = rows x (2 * t2.val) (by have := lt_t2 t2; omega) := fun x => by
    exact window_off x _ (off4_0_eq t2) _ _
  have e1 : ∀ (x : Vec F S4096x128 .bf16), VecWindow.window x (k0_off4 t2 1#32) S256x128.size (k0_off4_inb t2 1)
      = rows x (2 * t2.val + 1) (by have := lt_t2 t2; omega) := fun x => by
    exact window_off x _ (off4_1_eq t2) _ _
  have ez : ∀ x : Vec F S2x256x128 .f32, VecWindow.put x ![0, 0, 0] S2x256x128.size zeroAcc = zeroAcc :=
    fun x => put_full x _ (by intro a; fin_cases a <;> rfl) _
  unfold pairHead
  simp only [bind_assoc, pure_bind]
  iintro ⟨H2, H3, H6, H14, H15⟩ HK
  iapply (wp_ld 𝒱 c bd E) $$ H14; iintro H14
  iapply (wp_st 𝒱 c bd E) $$ H14; iintro H14
  iapply (wp_ld 𝒱 c bd E) $$ H15; iintro H15
  iapply (wp_st 𝒱 c bd E) $$ H15; iintro H15
  rw [ez, ez]
  iapply (wp_ld 𝒱 c bd E) $$ H2; iintro H2
  iapply (wp_ld 𝒱 c bd E) $$ H6; iintro H6
  iapply (wp_ld 𝒱 c bd E) $$ H3; iintro H3
  iapply (wp_ld 𝒱 c bd E) $$ H2; iintro H2
  iapply (wp_ld 𝒱 c bd E) $$ H6; iintro H6
  iapply (wp_ld 𝒱 c bd E) $$ H3; iintro H3
  rw [e0, e0, e0, e1, e1, e1]
  iapply HK
  iframe

/-- The results' blocks of the pairs before `b` are stored. -/
def Stored (x : Vec F S4096x128 .bf16) (out : Vec F S4096x128 .bf16) (b : ℕ) : Prop :=
  ∀ y : S4096x128.Idx, (y 0).val < 512 * b → x y = out y

theorem wp_below (b : Fin k0_t2_loop.trips) (s : Acc F) {α : Type} {Q : α → sProp 𝕄} {kk : BitVec 32 → P (F := F) α} :
    res c arg1 arg5 arg7 arg11 arg12 arg13 arg14 arg15 arg16 I.q I.g I.lse (ddOf I) s ⊢
      iprop((∀ acc, res c arg1 arg5 arg7 arg11 arg12 arg13 arg14 arg15 arg16 I.q I.g I.lse (ddOf I) (belowTo I lane h0 h1 ones3 b.val (lt_t2 b) (7 - b.val) s) -∗ WP 𝒱 c bd E (kk acc) Q)
        -∗ WP 𝒱 c bd E (Scf.Loop.for (k0_t3_loop b) (k0_t3_ok b) 0#32
            (fun t3 _ => belowBody arg1 arg5 arg7 arg11 arg12 arg13 arg14 arg15 arg16 lane h0 h1 ones3 b
              (kvAt I h0 h1 b.val (lt_t2 b)) t3) >>= kk) Q) := by
  have h := wp_loop (F := F) 𝒱 c bd E (k0_t3_ok b) 0#32
    (fun t3 _ => belowBody arg1 arg5 arg7 arg11 arg12 arg13 arg14 arg15 arg16 lane h0 h1 ones3 b
              (kvAt I h0 h1 b.val (lt_t2 b)) t3)
    (fun n _ => res c arg1 arg5 arg7 arg11 arg12 arg13 arg14 arg15 arg16 I.q I.g I.lse (ddOf I) (belowTo I lane h0 h1 ones3 b.val (lt_t2 b) n s))
    (by
      intro t3 acc
      unfold belowBody
      rw [kOff'_eq, qOff0_eq, qOff1_eq]
      iintro H
      iapply (wp_qStep2 c arg1 arg5 arg7 arg11 arg12 arg13 arg14 arg15 arg16 I.q I.g I.lse (ddOf I) 𝒱 bd E _ _ _ _ _ _ _ _ (by show 0 < 2; omega) (by show 1 < 2; omega)) $$ H
      iintro H
      iapply (wp_qStep2 c arg1 arg5 arg7 arg11 arg12 arg13 arg14 arg15 arg16 I.q I.g I.lse (ddOf I) 𝒱 bd E _ _ _ _ _ _ _ _ (by show 0 < 2; omega) (by show 1 < 2; omega)) $$ H
      iintro H
      iapply (wp_done 𝒱 c bd E)
      rw [belowTo, dif_pos (lt_t3 b t3)]
      iexact H)
    (kk := kk) (Q := Q)
  have e : belowTo I lane h0 h1 ones3 b.val (lt_t2 b) (k0_t3_loop b).trips s
      = belowTo I lane h0 h1 ones3 b.val (lt_t2 b) (7 - b.val) s :=
    congrArg (fun n => belowTo I lane h0 h1 ones3 b.val (lt_t2 b) n s) (t3_trips b)
  simp only [e] at h
  exact h

theorem wp_rest (b : Fin k0_t2_loop.trips) (w : KV F) (acc : BitVec 32) {α : Type} {Q : α → sProp 𝕄} {kk : BitVec 32 → P (F := F) α}
    (X : sProp 𝕄) :
    X ⊢ iprop((∀ acc, X -∗ WP 𝒱 c bd E (kk acc) Q)
        -∗ WP 𝒱 c bd E (restLoop i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 lane h0 h1 ones3 keep b w acc >>= kk) Q) := by
  unfold restLoop
  exact wp_loop (F := F) 𝒱 c bd E (k0_t4_ok b) acc _ (fun _ _ => X)
    (fun k _ => absurd (lt_of_lt_of_eq k.isLt (t4_trips b)) (Nat.not_lt_zero _))

/-- The buffers of the loop over the pairs, before pair `b`. -/
def pairRes (b : ℕ) : sProp 𝕄 :=
  iprop(∃ dk dv : Vec F S2x256x128 .f32, ∃ x9 x10 : Vec F S4096x128 .bf16,
    ⌜Stored x9 (outOf fun n => (accAt I lane h0 h1 ones3 keep n).dk) b ∧ Stored x10 (outOf fun n => (accAt I lane h0 h1 ones3 keep n).dv) b⌝ ∗
    res c arg1 arg5 arg7 arg11 arg12 arg13 arg14 arg15 arg16 I.q I.g I.lse (ddOf I) { accAt I lane h0 h1 ones3 keep b with dk := dk, dv := dv } ∗
    own c arg2 I.k ∗ own c arg3 I.v ∗ own c arg6 I.ca ∗ own c arg9 x9 ∗ own c arg10 x10)

theorem slot_congr (x : Vec F S2x256x128 .f32) {j j' : ℕ} (h : j = j') (hj : j < 2) (hj' : j' < 2) : slot x j hj = slot x j' hj' := by
  subst h; rfl

/-- The two blocks stored by pair `b`. -/
theorem stored_step (X : ℕ → Vec F S2x256x128 .f32) (b : ℕ) (hb : b < 8) (x : Vec F S4096x128 .bf16) (h : Stored x (outOf X) b) :
    Stored (VecWindow.put (VecWindow.put x ![256 * (2 * b), 0] S256x128.size (slot (X (b + 1)) 0 (by omega)))
      ![256 * (2 * b + 1), 0] S256x128.size (slot (X (b + 1)) 1 (by omega))) (outOf X) (b + 1) := by
  intro y hy
  have h1 : (y 1).val < 128 := (y 1).isLt
  by_cases c1 : 256 * (2 * b + 1) ≤ (y 0).val
  · have hin : ∀ a, (![256 * (2 * b + 1), 0] : Fin 2 → ℕ) a ≤ (y a).val ∧ (y a).val < (![256 * (2 * b + 1), 0] : Fin 2 → ℕ) a + S256x128.size a := by
      intro a; fin_cases a
      · show 256 * (2 * b + 1) ≤ (y 0).val ∧ (y 0).val < 256 * (2 * b + 1) + 256; omega
      · show 0 ≤ (y 1).val ∧ (y 1).val < 0 + 128; omega
    show (if h : _ then _ else _) = _
    rw [dif_pos hin]
    unfold outOf
    have e1 : (y 0).val / 512 + 1 = b + 1 := by omega
    have e2 : (y 0).val / 256 % 2 = 1 := by omega
    rw [slot_congr _ e2 _ (by omega), e1]
    refine congrArg _ (funext fun a => Fin.ext ?_)
    fin_cases a
    · show (y 0).val - 256 * (2 * b + 1) = (y 0).val % 256; omega
    · show (y 1).val - 0 = (y 1).val; omega
  · have hout : ¬ ∀ a, (![256 * (2 * b + 1), 0] : Fin 2 → ℕ) a ≤ (y a).val ∧ (y a).val < (![256 * (2 * b + 1), 0] : Fin 2 → ℕ) a + S256x128.size a :=
      fun hall => c1 (hall 0).1
    show (if h : _ then _ else _) = _
    rw [dif_neg hout]
    by_cases c0 : 256 * (2 * b) ≤ (y 0).val
    · have hin : ∀ a, (![256 * (2 * b), 0] : Fin 2 → ℕ) a ≤ (y a).val ∧ (y a).val < (![256 * (2 * b), 0] : Fin 2 → ℕ) a + S256x128.size a := by
        intro a; fin_cases a
        · show 256 * (2 * b) ≤ (y 0).val ∧ (y 0).val < 256 * (2 * b) + 256; omega
        · show 0 ≤ (y 1).val ∧ (y 1).val < 0 + 128; omega
      show (if h : _ then _ else _) = _
      rw [dif_pos hin]
      unfold outOf
      have e1 : (y 0).val / 512 + 1 = b + 1 := by omega
      have e2 : (y 0).val / 256 % 2 = 0 := by omega
      rw [slot_congr _ e2 _ (by omega), e1]
      refine congrArg _ (funext fun a => Fin.ext ?_)
      fin_cases a
      · show (y 0).val - 256 * (2 * b) = (y 0).val % 256; omega
      · show (y 1).val - 0 = (y 1).val; omega
    · have hout0 : ¬ ∀ a, (![256 * (2 * b), 0] : Fin 2 → ℕ) a ≤ (y a).val ∧ (y a).val < (![256 * (2 * b), 0] : Fin 2 → ℕ) a + S256x128.size a :=
        fun hall => c0 (hall 0).1
      show (if h : _ then _ else _) = _
      rw [dif_neg hout0]
      exact h y (by omega)

theorem wp_pairTail (t2 : Fin k0_t2_loop.trips) (dk dv : Vec F S2x256x128 .f32) (x9 x10 : Vec F S4096x128 .bf16) {α : Type} {Q : α → sProp 𝕄} {kk : PUnit → P (F := F) α} :
    iprop(own c arg14 dk ∗ own c arg15 dv ∗ own c arg9 x9 ∗ own c arg10 x10) ⊢
      iprop((own c arg14 dk ∗ own c arg15 dv
          ∗ own c arg9 (VecWindow.put (VecWindow.put x9 ![256 * (2 * t2.val), 0] S256x128.size (slot dk 0 (by omega))) ![256 * (2 * t2.val + 1), 0] S256x128.size (slot dk 1 (by omega)))
          ∗ own c arg10 (VecWindow.put (VecWindow.put x10 ![256 * (2 * t2.val), 0] S256x128.size (slot dv 0 (by omega))) ![256 * (2 * t2.val + 1), 0] S256x128.size (slot dv 1 (by omega))) -∗
          WP 𝒱 c bd E (kk ⟨⟩) Q)
        -∗ WP 𝒱 c bd E (pairTail arg9 harg9 arg10 harg10 arg14 arg15 t2 >>= kk) Q) := by
  unfold pairTail
  simp only [bind_assoc, pure_bind]
  rw [← off4_0_eq t2, ← off4_1_eq t2]
  iintro ⟨H14, H15, H9, H10⟩ HK
  iapply (wp_ld 𝒱 c bd E) $$ H14; iintro H14
  iapply (wp_ld 𝒱 c bd E) $$ H9; iintro H9
  iapply (wp_st 𝒱 c bd E) $$ H9; iintro H9
  iapply (wp_ld 𝒱 c bd E) $$ H15; iintro H15
  iapply (wp_ld 𝒱 c bd E) $$ H10; iintro H10
  iapply (wp_st 𝒱 c bd E) $$ H10; iintro H10
  iapply (wp_ld 𝒱 c bd E) $$ H14; iintro H14
  iapply (wp_ld 𝒱 c bd E) $$ H9; iintro H9
  iapply (wp_st 𝒱 c bd E) $$ H9; iintro H9
  iapply (wp_ld 𝒱 c bd E) $$ H15; iintro H15
  iapply (wp_ld 𝒱 c bd E) $$ H10; iintro H10
  iapply (wp_st 𝒱 c bd E) $$ H10; iintro H10
  iapply HK
  iframe H14 H15
  isplitl [H9]; iexact H9
  iexact H10

theorem wp_pairBody (b : Fin k0_t2_loop.trips) {α : Type} {Q : α → sProp 𝕄} {kk : PUnit → P (F := F) α} :
    pairRes c arg1 arg2 arg3 arg5 arg6 arg7 arg9 arg10 arg11 arg12 arg13 arg14 arg15 arg16 I lane h0 h1 ones3 keep b.val ⊢
      iprop((pairRes c arg1 arg2 arg3 arg5 arg6 arg7 arg9 arg10 arg11 arg12 arg13 arg14 arg15 arg16 I lane h0 h1 ones3 keep (b.val + 1) -∗ WP 𝒱 c bd E (kk ⟨⟩) Q)
        -∗ WP 𝒱 c bd E (pairBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 lane h0 h1 ones3 keep b >>= kk) Q) := by
  have hb := lt_t2 b
  have eA : belowTo I lane h0 h1 ones3 b.val hb (7 - b.val)
      (step2F I.q I.g I.lse (ddOf I) lane h0 h1 ones3 (kvAt I h0 h1 b.val hb) (kBlk b.val hb) (qBlk (2 * b.val + 1) (by omega)) (masked keep)
        (step1F I.q I.g I.lse (ddOf I) lane h0 h1 ones3 (kvAt I h0 h1 b.val hb) (kBlk b.val hb) (qBlk (2 * b.val) (by omega)) (masked keep)
          (zeroKV (accAt I lane h0 h1 ones3 keep b.val)))) = accAt I lane h0 h1 ones3 keep (b.val + 1) := by
    rw [accAt, dif_pos hb]; rfl
  unfold pairBody
  simp only [bind_assoc, pure_bind]
  rw [kOff_eq, qDiag0_eq, qDiag1_eq]
  unfold pairRes
  iintro ⟨%dk, %dv, %x9, %x10, %hS, HR, H2, H3, H6, H9, H10⟩ HK
  ihave HR := (res_split c arg1 arg5 arg7 arg11 arg12 arg13 arg14 arg15 arg16 I.q I.g I.lse (ddOf I) _) $$ HR
  icases HR with ⟨H1, H5, H7, H16, H11, H12, H13, H14, H15⟩
  iapply (wp_pairHead 𝒱 c bd E arg2 arg3 arg6 arg14 arg15 I h0 h1 b _ _) $$ [H2 H3 H6 H14 H15]
  · iframe
  iintro ⟨H2, H3, H6, H14, H15⟩
  iapply (wp_qStep1 c arg1 arg5 arg7 arg11 arg12 arg13 arg14 arg15 arg16 I.q I.g I.lse (ddOf I) 𝒱 bd E _ _ _ _ _ _ _ _ (by show 0 < 2; omega) (by show 1 < 2; omega)
    (zeroKV (accAt I lane h0 h1 ones3 keep b.val))) $$ [H1 H5 H7 H16 H11 H12 H13 H14 H15]
  · unfold res
    isplitl [H1]; iexact H1
    isplitl [H5]; iexact H5
    isplitl [H7]; iexact H7
    isplitl [H16]; iexact H16
    isplitl [H11]; iexact H11
    isplitl [H12]; iexact H12
    isplitl [H13]; iexact H13
    isplitl [H14]; iexact H14
    iexact H15
  iintro HR
  iapply (wp_qStep2 c arg1 arg5 arg7 arg11 arg12 arg13 arg14 arg15 arg16 I.q I.g I.lse (ddOf I) 𝒱 bd E _ _ _ _ _ _ _ _ (by show 0 < 2; omega) (by show 1 < 2; omega)) $$ HR
  iintro HR
  iapply (wp_below 𝒱 c bd E arg1 arg5 arg7 arg11 arg12 arg13 arg14 arg15 arg16 I lane h0 h1 ones3 b) $$ HR
  iintro %acc HR
  iapply (wp_rest 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 lane h0 h1 ones3 keep b) $$ HR
  iintro %acc' HR
  rw [eA]
  ihave HR := (res_split c arg1 arg5 arg7 arg11 arg12 arg13 arg14 arg15 arg16 I.q I.g I.lse (ddOf I) _) $$ HR
  icases HR with ⟨H1, H5, H7, H16, H11, H12, H13, H14, H15⟩
  iapply (wp_pairTail 𝒱 c bd E arg9 harg9 arg10 harg10 arg14 arg15 b _ _ x9 x10) $$ [H14 H15 H9 H10]
  · iframe
  iintro ⟨H14, H15, H9, H10⟩
  iapply HK
  iexists _, _, _, _
  isplitr
  · ipureintro
    exact ⟨stored_step (fun n => (accAt I lane h0 h1 ones3 keep n).dk) b.val hb x9 hS.1,
      stored_step (fun n => (accAt I lane h0 h1 ones3 keep n).dv) b.val hb x10 hS.2⟩
  isplitl [H1 H5 H7 H16 H11 H12 H13 H14 H15]
  · unfold res
    iframe
  iframe

end Progs

end Cert.KernelIdeal.Fox
-- ==== Proof.FoxBody.lean ====
/- The kernel body on buffers held at the values they read, from its first line to its last. -/
module

public import proofs.«01_k».proof.Proof.FoxLoop

@[expose] public section

set_option synthInstance.maxSize 4096
set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.FoxCover (put_full window_full window_off)

variable {F : FTy → Type} [FloatOps F] [Named F]

local notation "𝕄" => MT nD τ sig Unit (Elt F) ℕ (UR sig nD τ) ℕ

/-! ## The results of one grid point -/

/-- The lane numbers. -/
def laneV : IVec S1x128 32 := iota .tc S1x128 32 [1] iota_S1x128_d1_w32
/-- The lanes of the first head and of the second. -/
def lo64 : IVec S1x128 1 := k0_pay335
def hi64 : IVec S1x128 1 := k0_pay336
/-- The lanes of the bias planes. -/
def ones3V : FVec F S1x128 .bf16 := k0_pay337
/-- The causal mask of a block on the diagonal. -/
def keepV : IVec S256x256 1 := k0_pay334

/-- The accumulators before pair `b` of blocks of keys, at one grid point. -/
def accV (I : Inp F) (b : ℕ) : Acc F := accAt I laneV lo64 hi64 ones3V keepV b

/-- The gradients of the queries, the keys, the values and the bias, at one grid point. -/
def outQ (I : Inp F) : Vec F S4096x128 .bf16 := k0_pay4 (accV I 8).dq
def outK (I : Inp F) : Vec F S4096x128 .bf16 := outOf fun n => (accV I n).dk
def outV (I : Inp F) : Vec F S4096x128 .bf16 := outOf fun n => (accV I n).dv
def outC (I : Inp F) : Vec F S1x2x4096 .f32 := colsTo (accV I 8).col 16 (accV I 8).dc

section Body

variable (𝒱 : Variants) (c : Dev nD) (bd : Option 𝒱.V) (E : Set ℕ)

variable (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S1x2x4096 .f32) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x2x4096 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S2x256x128 .f32) (harg14 : arg14.IsWhole)
  (arg15 : Memref sig .tc .vmem S2x256x128 .f32) (harg15 : arg15.IsWhole)
  (arg16 : Memref sig .tc .vmem S8x4096 .f32) (harg16 : arg16.IsWhole)
  (I : Inp F)

/-- The first `n` blocks of the row dots are told. -/
def Dotted (x : Vec F S8x4096 .f32) (dd : Vec F S8x4096 .f32) (n : ℕ) : Prop :=
  ∀ y : S8x4096.Idx, (y 0).val < 2 → (y 1).val < 256 * n → x y = dd y

theorem dot_inb (r n : ℕ) (hr : r < 2) (hn : n < 16) : ∀ a, (![r, 256 * n] : Fin 2 → ℕ) a + S1x256.size a ≤ S8x4096.size a := by
  intro a; fin_cases a <;> simp [S1x256, S8x4096] <;> omega

theorem dotted_step (n : ℕ) (hn : n < 16) (x : Vec F S8x4096 .f32) (h : Dotted x (ddOf I) n) :
    Dotted (VecWindow.put (VecWindow.put x ![0, 256 * n] S1x256.size (k0_pay2 (rows I.g n hn) (rows I.o n hn)))
      ![1, 256 * n] S1x256.size (k0_pay3 (rows I.g n hn) (rows I.o n hn))) (ddOf I) (n + 1) := by
  intro y h0 h1
  by_cases c0 : 256 * n ≤ (y 1).val
  · have en : (y 1).val / 256 = n := by omega
    have hr : ∀ (m : ℕ) (hm : m < 16), m = n → rows I.g m hm = rows I.g n hn ∧ rows I.o m hm = rows I.o n hn := by
      intro m hm e; subst e; exact ⟨rfl, rfl⟩
    have hdd : ddOf I y = if (y 0).val = 0 then k0_pay2 (rows I.g n hn) (rows I.o n hn) (fun | 0 => (0 : Fin 1) | 1 => (⟨(y 1).val % 256, Nat.mod_lt _ (by omega)⟩ : Fin 256))
        else k0_pay3 (rows I.g n hn) (rows I.o n hn) (fun | 0 => (0 : Fin 1) | 1 => (⟨(y 1).val % 256, Nat.mod_lt _ (by omega)⟩ : Fin 256)) := by
      unfold ddOf
      simp only []
      rw [(hr _ _ en).1, (hr _ _ en).2]
      rfl
    rw [hdd]
    by_cases e0 : (y 0).val = 0
    · have hout : ¬ ∀ a, (![1, 256 * n] : Fin 2 → ℕ) a ≤ (y a).val ∧ (y a).val < (![1, 256 * n] : Fin 2 → ℕ) a + S1x256.size a :=
        fun hall => by have : 1 ≤ (y 0).val := (hall 0).1; omega
      have hin : ∀ a, (![0, 256 * n] : Fin 2 → ℕ) a ≤ (y a).val ∧ (y a).val < (![0, 256 * n] : Fin 2 → ℕ) a + S1x256.size a := by
        intro a; fin_cases a
        · show 0 ≤ (y 0).val ∧ (y 0).val < 0 + 1; omega
        · show 256 * n ≤ (y 1).val ∧ (y 1).val < 256 * n + 256; omega
      show (if h : _ then _ else _) = _
      rw [dif_neg hout]
      show (if h : _ then _ else _) = _
      rw [dif_pos hin, if_pos e0]
      refine congrArg _ (funext fun a => Fin.ext ?_)
      fin_cases a
      · show (y 0).val - 0 = 0; omega
      · show (y 1).val - 256 * n = (y 1).val % 256; omega
    · have hin : ∀ a, (![1, 256 * n] : Fin 2 → ℕ) a ≤ (y a).val ∧ (y a).val < (![1, 256 * n] : Fin 2 → ℕ) a + S1x256.size a := by
        intro a; fin_cases a
        · show 1 ≤ (y 0).val ∧ (y 0).val < 1 + 1; omega
        · show 256 * n ≤ (y 1).val ∧ (y 1).val < 256 * n + 256; omega
      show (if h : _ then _ else _) = _
      rw [dif_pos hin, if_neg e0]
      refine congrArg _ (funext fun a => Fin.ext ?_)
      fin_cases a
      · show (y 0).val - 1 = 0; omega
      · show (y 1).val - 256 * n = (y 1).val % 256; omega
  · have hout : ∀ r : ℕ, ¬ ∀ a, (![r, 256 * n] : Fin 2 → ℕ) a ≤ (y a).val ∧ (y a).val < (![r, 256 * n] : Fin 2 → ℕ) a + S1x256.size a :=
      fun r hall => c0 (hall 1).1
    show (if h : _ then _ else _) = _
    rw [dif_neg (hout 1)]
    show (if h : _ then _ else _) = _
    rw [dif_neg (hout 0)]
    exact h y h0 (by omega)

/-- The loop over the row dots. -/
theorem wp_dots (x16 : Vec F S8x4096 .f32) {α : Type} {Q : α → sProp 𝕄} {kk : PUnit → P (F := F) α} :
    iprop(own c arg5 I.g ∗ own c arg4 I.o ∗ own c arg16 x16) ⊢
      iprop((own c arg5 I.g ∗ own c arg4 I.o ∗ (∃ x : Vec F S8x4096 .f32, ⌜∀ y : S8x4096.Idx, (y 0).val < 2 → x y = ddOf I y⌝ ∗ own c arg16 x) -∗ WP 𝒱 c bd E (kk ⟨⟩) Q)
        -∗ WP 𝒱 c bd E (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) >>= kk) Q) := by
  have h := wp_loop (F := F) 𝒱 c bd E k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
    (fun n _ => iprop(own c arg5 I.g ∗ own c arg4 I.o ∗ (∃ x : Vec F S8x4096 .f32, ⌜Dotted x (ddOf I) n⌝ ∗ own c arg16 x)))
    (by
      intro t u
      have ht : t.val < 16 := lt_of_lt_of_eq t.isLt t1_trips
      unfold k0_t1_body
      iintro ⟨H5, H4, %x, %hx, H16⟩
      iapply (wp_ld 𝒱 c bd E) $$ H5; iintro H5
      iapply (wp_ld 𝒱 c bd E) $$ H4; iintro H4
      iapply (wp_ld 𝒱 c bd E) $$ H16; iintro H16
      iapply (wp_st 𝒱 c bd E) $$ H16; iintro H16
      iapply (wp_ld 𝒱 c bd E) $$ H16; iintro H16
      iapply (wp_st 𝒱 c bd E) $$ H16; iintro H16
      iapply (wp_done 𝒱 c bd E)
      isplitl [H5]; iexact H5
      isplitl [H4]; iexact H4
      have e5 : VecWindow.window I.g (k0_off1 t) S256x128.size (k0_off1_inb t) = rows I.g t.val ht := window_off _ _ (off1_eq t) _ _
      have e4 : VecWindow.window I.o (k0_off1 t) S256x128.size (k0_off1_inb t) = rows I.o t.val ht := window_off _ _ (off1_eq t) _ _
      rw [e5, e4, off2_eq t, off3_eq t]
      iexists _
      isplitr
      · ipureintro
        exact dotted_step I t.val ht x hx
      iexact H16)
    (kk := kk) (Q := Q)
  iintro ⟨H5, H4, H16⟩ HK
  iapply h $$ [H5 H4 H16]
  · isplitl [H5]; iexact H5
    isplitl [H4]; iexact H4
    iexists x16
    isplitr
    · ipureintro
      intro y _ hy
      exact absurd hy (by omega)
    iexact H16
  iintro %u ⟨H5, H4, %x, %hx, H16⟩
  iapply HK
  isplitl [H5]; iexact H5
  isplitl [H4]; iexact H4
  iexists x
  isplitr
  · ipureintro
    intro y hy
    have h1 : (y 1).val < 4096 := (y 1).isLt
    refine hx y hy ?_
    rw [t1_trips]
    exact h1
  iexact H16

/-- The loop over the pairs of blocks of keys. -/
theorem wp_pairs {α : Type} {Q : α → sProp 𝕄} {kk : PUnit → P (F := F) α} :
    pairRes c arg1 arg2 arg3 arg5 arg6 arg7 arg9 arg10 arg11 arg12 arg13 arg14 arg15 arg16 I laneV lo64 hi64 ones3V keepV 0 ⊢ iprop((pairRes c arg1 arg2 arg3 arg5 arg6 arg7 arg9 arg10 arg11 arg12 arg13 arg14 arg15 arg16 I laneV lo64 hi64 ones3V keepV 8 -∗ WP 𝒱 c bd E (kk ⟨⟩) Q)
      -∗ WP 𝒱 c bd E (Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 keepV laneV lo64 hi64 ones3V) >>= kk) Q) := by
  have h := wp_loop (F := F) 𝒱 c bd E k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 keepV laneV lo64 hi64 ones3V)
    (fun n _ => pairRes c arg1 arg2 arg3 arg5 arg6 arg7 arg9 arg10 arg11 arg12 arg13 arg14 arg15 arg16 I laneV lo64 hi64 ones3V keepV n)
    (by
      intro t u
      rw [t2_body_eq]
      iintro H
      iapply (wp_pairBody 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 I laneV lo64 hi64 ones3V keepV t) $$ H
      iintro H
      iapply (wp_done 𝒱 c bd E)
      iexact H)
    (kk := kk) (Q := Q)
  rw [show k0_t2_loop.trips = 8 from t2_trips] at h
  iintro H HK
  iapply h $$ H
  iintro %u H
  iapply HK
  iexact H

/-- The loop that adds the columns. -/
theorem wp_cols (col : Vec F S4096x128 .f32) (dc : Vec F S1x2x4096 .f32) {α : Type} {Q : α → sProp 𝕄} {kk : PUnit → P (F := F) α} :
    iprop(own c arg13 col ∗ own c arg11 dc) ⊢
      iprop((own c arg13 col ∗ own c arg11 (colsTo col 16 dc) -∗ WP 𝒱 c bd E (kk ⟨⟩) Q)
        -∗ WP 𝒱 c bd E (Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) >>= kk) Q) := by
  have h := wp_loop (F := F) 𝒱 c bd E k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
    (fun n _ => iprop(own c arg13 col ∗ own c arg11 (colsTo col n dc)))
    (by
      intro t u
      have ht : t.val < 16 := lt_of_lt_of_eq t.isLt t5_trips
      unfold k0_t5_body
      iintro ⟨H13, H11⟩
      iapply (wp_ld 𝒱 c bd E) $$ H11; iintro H11
      iapply (wp_ld 𝒱 c bd E) $$ H13; iintro H13
      iapply (wp_ld 𝒱 c bd E) $$ H11; iintro H11
      iapply (wp_st 𝒱 c bd E) $$ H11; iintro H11
      iapply (wp_done 𝒱 c bd E)
      isplitl [H13]; iexact H13
      have e13 : VecWindow.window col (k0_off27 t) S256x128.size (k0_off27_inb t) = rows col t.val ht := window_off _ _ (off27_eq t) _ _
      have e11 := window_off (colsTo col t.val dc) S1x2x256.size (off26_eq t) (k0_off26_inb t) (by intro a; fin_cases a <;> simp [S1x2x256, S1x2x4096]; omega)
      rw [e13, e11, off26_eq t, colsTo, dif_pos ht]
      iexact H11)
    (kk := kk) (Q := Q)
  rw [show k0_t5_loop.trips = 16 from t5_trips] at h
  change iprop(own c arg13 col ∗ own c arg11 dc) ⊢ _ at h
  iintro H HK
  iapply h $$ H
  iintro %u H
  iapply HK
  iexact H

/-- The whole body. -/
theorem wp_body (x8 x9 x10 : Vec F S4096x128 .bf16) (x11 : Vec F S1x2x4096 .f32) (x12 x13 : Vec F S4096x128 .f32)
    (x14 x15 : Vec F S2x256x128 .f32) (x16 : Vec F S8x4096 .f32) :
    iprop(own c arg1 I.q ∗ own c arg2 I.k ∗ own c arg3 I.v ∗ own c arg4 I.o ∗ own c arg5 I.g ∗ own c arg6 I.ca ∗ own c arg7 I.lse
        ∗ own c arg8 x8 ∗ own c arg9 x9 ∗ own c arg10 x10 ∗ own c arg11 x11 ∗ own c arg12 x12 ∗ own c arg13 x13 ∗ own c arg14 x14 ∗ own c arg15 x15 ∗ own c arg16 x16) ⊢
      WP 𝒱 c bd E (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop(own c arg1 I.q ∗ own c arg2 I.k ∗ own c arg3 I.v ∗ own c arg4 I.o ∗ own c arg5 I.g ∗ own c arg6 I.ca ∗ own c arg7 I.lse
          ∗ own c arg8 (outQ I) ∗ own c arg9 (outK I) ∗ own c arg10 (outV I) ∗ own c arg11 (outC I)
          ∗ (∃ y12, own c arg12 y12) ∗ (∃ y13, own c arg13 y13) ∗ (∃ y14, own c arg14 y14) ∗ (∃ y15, own c arg15 y15) ∗ (∃ y16, own c arg16 y16))) := by
  rw [cc0_fox_bwd_eq_skeleton]
  unfold cc0_fox_bwd_skel
  rw [k0_part43_eq_skeleton]
  unfold k0_part43_skel
  simp only [bind_assoc, pure_bind]
  have z11 : VecWindow.put x11 ![0, 0, 0] S1x2x4096.size (k0_pay340 (F := F)) = k0_pay340 := put_full _ _ (by intro a; fin_cases a <;> rfl) _
  have z12 : VecWindow.put x12 ![0, 0] S4096x128.size (k0_pay338 (F := F)) = k0_pay338 := put_full _ _ (by intro a; fin_cases a <;> rfl) _
  have z13 : VecWindow.put x13 ![0, 0] S4096x128.size (k0_pay339 (F := F)) = k0_pay339 := put_full _ _ (by intro a; fin_cases a <;> rfl) _
  iintro ⟨H1, H2, H3, H4, H5, H6, H7, H8, H9, H10, H11, H12, H13, H14, H15, H16⟩
  iapply (wp_ld 𝒱 c bd E) $$ H12; iintro H12
  iapply (wp_st 𝒱 c bd E) $$ H12; iintro H12
  iapply (wp_ld 𝒱 c bd E) $$ H13; iintro H13
  iapply (wp_st 𝒱 c bd E) $$ H13; iintro H13
  iapply (wp_ld 𝒱 c bd E) $$ H11; iintro H11
  iapply (wp_st 𝒱 c bd E) $$ H11; iintro H11
  rw [z11, z12, z13]
  iapply (wp_dots 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 I x16) $$ [H5 H4 H16]
  · iframe
  iintro ⟨H5, H4, H16⟩
  iapply (wp_pairs 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 I) $$ [H1 H2 H3 H5 H6 H7 H9 H10 H11 H12 H13 H14 H15 H16]
  · unfold pairRes
    iexists x14, x15, x9, x10
    isplitr
    · ipureintro
      exact ⟨fun y hy => absurd hy (by omega), fun y hy => absurd hy (by omega)⟩
    isplitl [H1 H5 H7 H16 H11 H12 H13 H14 H15]
    · unfold res
      iframe H1 H5 H7 H16 H14 H15
      isplitl [H11]; iexact H11
      isplitl [H12]; iexact H12
      iexact H13
    iframe
  unfold pairRes
  iintro ⟨%dk, %dv, %y9, %y10, %hS, HR, H2, H3, H6, H9, H10⟩
  ihave HR := (res_split c arg1 arg5 arg7 arg11 arg12 arg13 arg14 arg15 arg16 I.q I.g I.lse (ddOf I) _) $$ HR
  icases HR with ⟨H1, H5, H7, H16, H11, H12, H13, H14, H15⟩
  icases H16 with ⟨%y16, %hy16, H16⟩
  have e9 : y9 = outK I := funext fun y => hS.1 y (by have : (y 0).val < 4096 := (y 0).isLt; omega)
  have e10 : y10 = outV I := funext fun y => hS.2 y (by have : (y 0).val < 4096 := (y 0).isLt; omega)
  subst e9 e10
  iapply (wp_ld 𝒱 c bd E) $$ H12; iintro H12
  iapply (wp_ld 𝒱 c bd E) $$ H8; iintro H8
  iapply (wp_st 𝒱 c bd E) $$ H8; iintro H8
  rw [put_full x8 ![0, 0] (by intro a; fin_cases a <;> rfl), window_full]
  iapply (wp_cols 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) $$ [H13 H11]
  · isplitl [H13]; iexact H13
    iexact H11
  iintro ⟨H13, H11⟩
  iapply (wp_done 𝒱 c bd E)
  iframe H1 H2 H3 H4 H5 H6 H7 H8 H9 H10 H11
  isplitl [H12]; (iexists _; iexact H12)
  isplitl [H13]; (iexists _; iexact H13)
  isplitl [H14]; (iexists _; iexact H14)
  isplitl [H15]; (iexists _; iexact H15)
  iexists _; iexact H16

end Body

end Cert.KernelIdeal.Fox
-- ==== Proof.FoxRun.lean ====
/- The kernel's call on its grid: the pipeline's proof data, the body's obligation at a point, and the program's run. -/
module

public import proofs.«01_k».proof.Proof.FoxBody
public import proofs.«01_k».proof.Proof.Gen.KernelIdeal.Frame
public import Idealize.ShloMosaic.Lib.Pipeline.TableIdle

@[expose] public section

set_option synthInstance.maxSize 4096
set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal Cert.KernelIdeal.Gen

variable {F : FTy → Type} [FloatOps F] [Named F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- What the body reads at a point: the point's block of each of the seven operands. -/
def inpAt (c : Dev nD) (t : Fin cfg0.N) : Inp F where
  q := iblk m c 0 t
  k := iblk m c 1 t
  v := iblk m c 2 t
  o := iblk m c 3 t
  g := iblk m c 4 t
  ca := iblk m c 5 t
  lse := iblk m c 6 t

/-- The arrays as the region finds them; after the body each operand's buffer at its block and each result's at the
    value the body computes of the blocks; between points only the scratch, at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outQ (inpAt m c t)
    | ⟨8, _⟩ => outK (inpAt m c t)
    | ⟨9, _⟩ => outV (inpAt m c t)
    | ⟨10, _⟩ => outC (inpAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outQ (inpAt m c t) := by dsimp only [dats]
theorem after0_8 (c : Dev nD) (t : Fin cfg0.N) : (dats m 0 c).after 8 t = outK (inpAt m c t) := by dsimp only [dats]
theorem after0_9 (c : Dev nD) (t : Fin cfg0.N) : (dats m 0 c).after 9 t = outV (inpAt m c t) := by dsimp only [dats]
theorem after0_10 (c : Dev nD) (t : Fin cfg0.N) : (dats m 0 c).after 10 t = outC (inpAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! The operands' blocks as the body's arguments. -/
theorem inp_q (c : Dev nD) (t : Fin cfg0.N) : (inpAt m c t).q = iblk m c 0 t := rfl
theorem inp_k (c : Dev nD) (t : Fin cfg0.N) : (inpAt m c t).k = iblk m c 1 t := rfl
theorem inp_v (c : Dev nD) (t : Fin cfg0.N) : (inpAt m c t).v = iblk m c 2 t := rfl
theorem inp_o (c : Dev nD) (t : Fin cfg0.N) : (inpAt m c t).o = iblk m c 3 t := rfl
theorem inp_g (c : Dev nD) (t : Fin cfg0.N) : (inpAt m c t).g = iblk m c 4 t := rfl
theorem inp_ca (c : Dev nD) (t : Fin cfg0.N) : (inpAt m c t).ca = iblk m c 5 t := rfl
theorem inp_lse (c : Dev nD) (t : Fin cfg0.N) : (inpAt m c t).lse = iblk m c 6 t := rfl
/-- A memref owned at a value is its elements at the value's contents. -/
theorem owns_own (c : Dev nD) {sp : Space} {s : Shape} {e : EltTy} (M : Memref sig .tc sp s e) (X : Vec F s e) :
    (owns (c : Thread nD τ) M fullShare X : sProp 𝕄) = own c M X :=
  owns_eq_rep (c : Thread nD τ) M fullShare X

/-- A scratch buffer whole at anything is its memref at anything. -/
theorem owns_of_whole (c : Dev nD) (b : Ref sig .tc) :
    iprop(∃ f : Buf (Elt F) ((c : Thread nD τ).loc b), ((c : Thread nD τ).loc b) ↦{fullShare} f) ⊢ (iprop(∃ X, owns (c : Thread nD τ) (Memref.whole b) fullShare X) : sProp 𝕄) := by
  iintro ⟨%f, H⟩
  ihave H := (Entails.of_eq (owns_whole (c : Thread nD τ) b fullShare f).symm) $$ H
  iexists f
  iexact H
theorem whole_of_owns (c : Dev nD) (b : Ref sig .tc) :
    (iprop(∃ X, owns (c : Thread nD τ) (Memref.whole b) fullShare X) : sProp 𝕄) ⊢ iprop(∃ f : Buf (Elt F) ((c : Thread nD τ).loc b), ((c : Thread nD τ).loc b) ↦{fullShare} f) := by
  iintro ⟨%f, H⟩
  ihave H := (Entails.of_eq (owns_whole (c : Thread nD τ) b fullShare f)) $$ H
  iexists f
  iexact H

set_option maxHeartbeats 4000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10]
  unfold Pipeline.ΦA
  rw [scopedRest0_eq]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave S0 := (owns_of_whole c cc0_scratch0) $$ S0
  icases S0 with ⟨%x0, S0⟩
  ihave S1 := (owns_of_whole c cc0_scratch1) $$ S1
  icases S1 with ⟨%x1, S1⟩
  ihave S2 := (owns_of_whole c cc0_scratch2) $$ S2
  icases S2 with ⟨%x2, S2⟩
  ihave S3 := (owns_of_whole c cc0_scratch3) $$ S3
  icases S3 with ⟨%x3, S3⟩
  ihave S4 := (owns_of_whole c cc0_scratch4) $$ S4
  icases S4 with ⟨%x4, S4⟩
  have hb := wp_body (F := F) 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (inpAt m c t) ((dats m 0 c).before 7 t d7) ((dats m 0 c).before 8 t d8) ((dats m 0 c).before 9 t d9) ((dats m 0 c).before 10 t d10) x0 x1 x2 x3 x4
  simp only [← owns_own, inp_q, inp_k, inp_v, inp_o, inp_g, inp_ca, inp_lse] at hb
  unfold WP at hb
  iapply (hb.trans (wp_wand _ _ _)) $$ [H0 H1 H2 H3 H4 H5 H6 H7 H8 H9 H10 S0 S1 S2 S3 S4]
  · iframe
  iintro %_ ⟨H0, H1, H2, H3, H4, H5, H6, H7, H8, H9, H10, S0, S1, S2, S3, S4⟩
  icases S0 with ⟨%y0, S0⟩
  icases S1 with ⟨%y1, S1⟩
  icases S2 with ⟨%y2, S2⟩
  icases S3 with ⟨%y3, S3⟩
  icases S4 with ⟨%y4, S4⟩
  isplitl [S0 S1 S2 S3 S4 Hr]
  · isplitr [Hr]
    · isplitl [S0]
      · iapply (whole_of_owns c cc0_scratch0); iexists y0; iexact S0
      isplitl [S1]
      · iapply (whole_of_owns c cc0_scratch1); iexists y1; iexact S1
      isplitl [S2]
      · iapply (whole_of_owns c cc0_scratch2); iexists y2; iexact S2
      isplitl [S3]
      · iapply (whole_of_owns c cc0_scratch3); iexists y3; iexact S3
      iapply (whole_of_owns c cc0_scratch4); iexists y4; iexact S4
    iexact Hr
  iframe

set_option backward.isDefEq.respectTransparency.types false in
/-- The program runs to the end from any memory: every window's array at what the points wrote, no signal left. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame of the program, at any values: it ends with its arguments as they were and no signal left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) fun _ _ => rfl) (run_main m ρ)

end Cert.KernelIdeal.Fox

end
-- ==== Proof.FoxRefDef.lean ====
/- The reference's results written over their own steps: the logits, the weights, and the cotangents. -/
module

public import proofs.«01_k».proof.Proof.Gen.ReferenceIdeal.Run

@[expose] public section

set_option maxRecDepth 16384

noncomputable section

namespace Cert.ReferenceIdeal.Fox

open Idealize.ShloMosaic Idealize.ShloMosaic.TcCoe Idealize.SL.Sem
open Cert.ReferenceIdeal Cert.ReferenceIdeal.Gen

variable {F : FTy → Type} [FloatOps F]

/-- An array of rows, by heads. -/
def heads (x : FVec F S4096x768 .bf16) : FVec F S4096x12x64 .f32 :=
  shapeCast S4096x12x64 (extf .f32 x bitsLt_bf16_f32) shapeCasts_S4096x768_S4096x12x64

/-- The columns of the output's cotangent. -/
def cols (g : FVec F S4096x1024 .bf16) : FVec F S4096x768 .bf16 :=
  extractStridedSlice S4096x768 ![0, 0] g slices_S4096x1024_S4096x768_0_0

/-- The pairs of a query and a key not after it. -/
def causal : IVec S12x4096x4096 1 :=
  broadcastInDim S12x4096x4096 ![0, 1, 2] bcast_S1x4096x4096_S12x4096x4096_0_1_2
    (broadcastInDim S1x4096x4096 ![1, 2] bcast_S4096x4096_S1x4096x4096_1_2
      (cmpi .sle
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))

/-- One number for each row, along the keys. -/
def along (x : FVec F S12x4096 .f32) : FVec F S12x4096x4096 .f32 :=
  broadcastInDim S12x4096x4096 ![0, 1, 2] bcast_S12x4096x1_S12x4096x4096_0_1_2
    (broadcastInDim S12x4096x1 ![0, 1] bcast_S12x4096_S12x4096x1_0_1 x)

/-- The logits. -/
def logits (q k : FVec F S4096x12x64 .f32) (c : FVec F S12x4096 .f32) : FVec F S12x4096x4096 .f32 :=
  subf
    (addf
      (mulf (Host.dotGeneral dot_S4096x12x64_S4096x12x64_S12x4096x4096_2_2_0_0_1_1 none q k)
        (broadcastInDim S12x4096x4096 ![] bcast_S_S12x4096x4096 (constant S_ .f32 0x3E000000#32)))
      (along c))
    (broadcastInDim S12x4096x4096 ![0, 1, 2] bcast_S12x1x4096_S12x4096x4096_0_1_2
      (broadcastInDim S12x1x4096 ![0, 2] bcast_S12x4096_S12x1x4096_0_2 c))

/-- The logits with the keys after a query masked. -/
def scores (q k : FVec F S4096x12x64 .f32) (c : FVec F S12x4096 .f32) : FVec F S12x4096x4096 .f32 :=
  select causal (logits q k c) (broadcastInDim S12x4096x4096 ![] bcast_S_S12x4096x4096 (id (constant S_ .f32 0xFF800000#32)))

/-- The rows' greatest logits. -/
def top (x : FVec F S12x4096x4096 .f32) : FVec F S12x4096 .f32 :=
  Host.reduce FloatOps.maximumf x (constant S_ .f32 0xFF800000#32) reducesTo_S12x4096x4096_S12x4096_d2 h_S_

def top' (x : FVec F S12x4096x4096 .f32) : FVec F S12x4096 .f32 :=
  maximumf (broadcastInDim S12x4096 ![] bcast_S_S12x4096 (constant S_ .f32 0xFF800000#32)) (top x)

/-- The exponentials of the logits less the rows' shifts. -/
def shifted (x : FVec F S12x4096x4096 .f32) (m : FVec F S12x4096 .f32) : FVec F S12x4096x4096 .f32 :=
  Host.exp (subf x (along m))

/-- The rows' sums. -/
def total (x : FVec F S12x4096x4096 .f32) : FVec F S12x4096 .f32 :=
  Host.reduceAdd x (constant S_ .f32 0x00000000#32) reducesTo_S12x4096x4096_S12x4096_d2 h_S_

/-- The weights, from the exponentials. -/
def probs (e : FVec F S12x4096x4096 .f32) : FVec F S12x4096x4096 .f32 := Host.divf e (along (total e))

/-- The output's cotangent by heads, rows last. -/
def gT (g : FVec F S4096x1024 .bf16) : FVec F S12x64x4096 .f32 :=
  transpose S12x64x4096 [1, 2, 0] (heads (cols g)) transposes_S4096x12x64_S12x64x4096_1_2_0

/-- The cotangent of the weights. -/
def dWeights (g : FVec F S4096x1024 .bf16) (v : FVec F S4096x12x64 .f32) : FVec F S12x4096x4096 .f32 :=
  Host.dotGeneral dot_S12x64x4096_S4096x12x64_S12x4096x4096_1_2_2_0_0_1 none (gT g) v

/-- Less the rows' sums of the cotangent of the weights over the squared normaliser. -/
def less (dp e : FVec F S12x4096x4096 .f32) : FVec F S12x4096x1 .f32 :=
  Host.negf (shapeCast S12x4096x1
    (total (mulf
      (mulf dp (broadcastInDim S12x4096x4096 ![0, 1, 2] bcast_S12x4096x1_S12x4096x4096_0_1_2
        (Host.divf (broadcastInDim S12x4096x1 ![] bcast_S_S12x4096x1 (constant S_ .f32 0x3F800000#32))
          (mulf (broadcastInDim S12x4096x1 ![0, 1] bcast_S12x4096_S12x4096x1_0_1 (total e))
            (broadcastInDim S12x4096x1 ![0, 1] bcast_S12x4096_S12x4096x1_0_1 (total e))))))
      e)) shapeCasts_S12x4096_S12x4096x1)

/-- The cotangent of the logits. -/
def dScores (dp e : FVec F S12x4096x4096 .f32) : FVec F S12x4096x4096 .f32 :=
  select causal
    (mulf
      (addf (Host.divf dp (along (total e)))
        (broadcastInDim S12x4096x4096 ![0, 1] bcast_S12x4096_S12x4096x4096_0_1
          (Host.reduceAdd (less dp e) (constant S_ .f32 0x00000000#32) reducesTo_S12x4096x1_S12x4096_d2 h_S_)))
      e)
    (broadcastInDim S12x4096x4096 ![] bcast_S_S12x4096x4096 (constant S_ .f32 0x00000000#32))

/-- The cotangent of the logits times their scale. -/
def eighth (x : FVec F S12x4096x4096 .f32) : FVec F S12x4096x4096 .f32 :=
  mulf x (broadcastInDim S12x4096x4096 ![] bcast_S_S12x4096x4096 (constant S_ .f32 0x3E000000#32))

/-- An array by heads, as rows. -/
def flat (x : FVec F S4096x12x64 .f32) : FVec F S4096x768 .f32 := shapeCast S4096x768 x shapeCasts_S4096x12x64_S4096x768

/-- The gradients from the weights and the cotangent of the logits. -/
def gradV (g : FVec F S4096x1024 .bf16) (p : FVec F S12x4096x4096 .f32) : FVec F S4096x768 .bf16 :=
  truncf .bf16 (flat (transpose S4096x12x64 [2, 0, 1]
    (Host.dotGeneral dot_S12x64x4096_S12x4096x4096_S12x64x4096_2_1_1_2_0_0 none (gT g) p) transposes_S12x64x4096_S4096x12x64_2_0_1)) bitsLt_bf16_f32

def gradK (ds : FVec F S12x4096x4096 .f32) (q : FVec F S4096x12x64 .f32) : FVec F S4096x768 .bf16 :=
  truncf .bf16 (flat (transpose S4096x12x64 [1, 0, 2]
    (Host.dotGeneral dot_S12x4096x4096_S4096x12x64_S12x4096x64_1_0_2_2_0_1 none (eighth ds) q) transposes_S12x4096x64_S4096x12x64_1_0_2)) bitsLt_bf16_f32

def gradQ (ds : FVec F S12x4096x4096 .f32) (k : FVec F S4096x12x64 .f32) : FVec F S4096x768 .f32 :=
  flat (transpose S4096x12x64 [1, 0, 2]
    (Host.dotGeneral dot_S12x4096x4096_S4096x12x64_S12x4096x64_2_0_1_2_0_1 none (eighth ds) k) transposes_S12x4096x64_S4096x12x64_1_0_2)

def rowSums (ds : FVec F S12x4096x4096 .f32) : FVec F S12x4096 .f32 :=
  Host.reduceAdd (shapeCast S12x4096x1 (total ds) shapeCasts_S12x4096_S12x4096x1) (constant S_ .f32 0x00000000#32) reducesTo_S12x4096x1_S12x4096_d2 h_S_

def colSums (ds : FVec F S12x4096x4096 .f32) : FVec F S12x4096 .f32 :=
  Host.reduceAdd (shapeCast S12x1x4096
    (Host.reduceAdd (Host.negf ds) (constant S_ .f32 0x00000000#32) reducesTo_S12x4096x4096_S12x4096_d1 h_S_) shapeCasts_S12x4096_S12x1x4096)
    (constant S_ .f32 0x00000000#32) reducesTo_S12x1x4096_S12x4096_d1 h_S_

def gradC (ds : FVec F S12x4096x4096 .f32) : FVec F S6x2x4096 .f32 :=
  shapeCast S6x2x4096 (addf (colSums ds) (rowSums ds)) shapeCasts_S12x4096_S6x2x4096

/-! ## The results -/

variable (m : (ℓ : Loc nD τ sig) → Buf (Elt F) ℓ) (c : Dev nD)

abbrev argQ : FVec F S4096x768 .bf16 := m ((c.tc : Thread nD τ).loc main_arg0)
abbrev argK : FVec F S4096x768 .bf16 := m ((c.tc : Thread nD τ).loc main_arg1)
abbrev argV : FVec F S4096x768 .bf16 := m ((c.tc : Thread nD τ).loc main_arg2)
abbrev argC : FVec F S12x4096 .f32 := m ((c.tc : Thread nD τ).loc main_arg3)
abbrev argG : FVec F S4096x1024 .bf16 := m ((c.tc : Thread nD τ).loc main_arg4)

def scoresOf (q k : FVec F S4096x768 .bf16) (c : FVec F S12x4096 .f32) : FVec F S12x4096x4096 .f32 := scores (heads q) (heads k) c
def exOf (q k : FVec F S4096x768 .bf16) (c : FVec F S12x4096 .f32) : FVec F S12x4096x4096 .f32 :=
  shifted (scoresOf q k c) (top' (scoresOf q k c))
def dsOf (q k v : FVec F S4096x768 .bf16) (c : FVec F S12x4096 .f32) (g : FVec F S4096x1024 .bf16) : FVec F S12x4096x4096 .f32 :=
  dScores (dWeights g (heads v)) (exOf q k c)

theorem out2_eq : Value.res_out2 m c = gradV (argG m c) (probs (exOf (argQ m c) (argK m c) (argC m c))) := rfl
theorem out1_eq : Value.res_out1 m c = gradK (dsOf (argQ m c) (argK m c) (argV m c) (argC m c) (argG m c)) (heads (argQ m c)) := rfl
theorem out3_eq : Value.res_out3 m c = gradC (dsOf (argQ m c) (argK m c) (argV m c) (argC m c) (argG m c)) := rfl
theorem out0_eq : Value.res_out0 m c
    = truncf .bf16 (Value.fn_main_v91 (gradQ (dsOf (argQ m c) (argK m c) (argV m c) (argC m c) (argG m c)) (heads (argK m c)))
        (extf .f32 (extractStridedSlice S4096x256 ![0, 768] (argG m c) slices_S4096x1024_S4096x256_0_768) bitsLt_bf16_f32)) bitsLt_bf16_f32 := rfl

end Cert.ReferenceIdeal.Fox

end
-- ==== Proof.FoxReal.lean ====
/- Causal softmax attention with a forget-gate bias, and its gradient, over the reals: the functions of the
   argument arrays that both programs compute. Rows and columns are natural numbers; head `h` is columns
   `64 h` to `64 h + 63`. -/
module

public import Mathlib.Data.EReal.Inv
public import Mathlib.Analysis.SpecialFunctions.Log.Basic

@[expose] public section

noncomputable section

namespace Cert.FoxReal

open Finset

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of extended reals that are reals, over an initial segment. -/
theorem sum_fin {n : ℕ} (f : Fin n → EReal) (g : ℕ → ℝ) (h : ∀ i : Fin n, f i = (g i : EReal)) :
    ∑ i : Fin n, f i = ((∑ i ∈ range n, g i : ℝ) : EReal) := by
  rw [coe_sum, ← Fin.sum_univ_eq_sum_range (fun i => (g i : EReal)) n]
  exact Finset.sum_congr rfl fun i _ => h i

/-- The argument arrays, as reals, and the rows' shifts of the logits. -/
structure Args where
  q : ℕ → ℕ → ℝ
  k : ℕ → ℕ → ℝ
  v : ℕ → ℕ → ℝ
  g : ℕ → ℕ → ℝ
  c : ℕ → ℕ → ℝ
  m : ℕ → ℕ → ℝ

namespace Args

variable (A : Args)

/-- The logit of query `t` and key `s`. -/
def logit (h t s : ℕ) : ℝ := (∑ d ∈ range 64, A.q t (64 * h + d) * A.k s (64 * h + d)) * (1 / 8) + A.c h t - A.c h s

/-- The shifted exponential, zero where the key comes after the query. -/
def ex (h t s : ℕ) : ℝ := if s ≤ t then Real.exp (A.logit h t s - A.m h t) else 0

def den (h t : ℕ) : ℝ := ∑ s ∈ range 4096, A.ex h t s

/-- The weights. -/
def p (h t s : ℕ) : ℝ := A.ex h t s / A.den h t

/-- The output, and the rows' normaliser. -/
def o (t j : ℕ) : ℝ := ∑ s ∈ range 4096, A.v s j * A.p (j / 64) t s
def lse (h t : ℕ) : ℝ := A.m h t + Real.log (A.den h t) - A.c h t

/-- The cotangent of the weights, its mean under them, and the cotangent of the logits. -/
def dp (h t s : ℕ) : ℝ := ∑ d ∈ range 64, A.g t (64 * h + d) * A.v s (64 * h + d)
def mean (h t : ℕ) : ℝ := ∑ s ∈ range 4096, A.dp h t s * A.p h t s
def ds (h t s : ℕ) : ℝ := A.p h t s * (A.dp h t s - A.mean h t)

/-- The gradients. -/
def dq (t j : ℕ) : ℝ := ∑ s ∈ range 4096, A.ds (j / 64) t s * (A.k s j * (1 / 8))
def dk (s j : ℕ) : ℝ := ∑ t ∈ range 4096, A.ds (j / 64) t s * (A.q t j * (1 / 8))
def dv (s j : ℕ) : ℝ := ∑ t ∈ range 4096, A.p (j / 64) t s * A.g t j
def dc (h t : ℕ) : ℝ := ∑ s ∈ range 4096, A.ds h t s - ∑ s ∈ range 4096, A.ds h s t

theorem ex_nonneg (h t s : ℕ) : 0 ≤ A.ex h t s := by
  unfold ex; split
  · exact (Real.exp_pos _).le
  · exact le_refl _

theorem den_pos (h : ℕ) {t : ℕ} (ht : t < 4096) : 0 < A.den h t := by
  refine Finset.sum_pos' (fun s _ => A.ex_nonneg h t s) ⟨t, mem_range.2 ht, ?_⟩
  unfold ex; rw [if_pos (le_refl t)]; exact Real.exp_pos _

theorem p_after (h : ℕ) {t s : ℕ} (hs : t < s) : A.p h t s = 0 := by
  unfold p ex; rw [if_neg (by omega), zero_div]

theorem ds_after (h : ℕ) {t s : ℕ} (hs : t < s) : A.ds h t s = 0 := by
  unfold ds; rw [A.p_after h hs, zero_mul]

/-- The weights from the logits and the rows' normaliser. -/
theorem p_eq (h : ℕ) {t s : ℕ} (ht : t < 4096) (hs : s ≤ t) :
    A.p h t s = Real.exp ((∑ d ∈ range 64, A.q t (64 * h + d) * A.k s (64 * h + d)) * (1 / 8) - A.c h s - A.lse h t) := by
  have hd := A.den_pos h ht
  have : (∑ d ∈ range 64, A.q t (64 * h + d) * A.k s (64 * h + d)) * (1 / 8) - A.c h s - A.lse h t
      = (A.logit h t s - A.m h t) - Real.log (A.den h t) := by unfold lse logit; ring
  rw [this, Real.exp_sub, Real.exp_log hd]; unfold p ex; rw [if_pos hs]

/-- The mean of the cotangent of the weights is the output against its own cotangent. -/
theorem mean_eq (h t : ℕ) : A.mean h t = ∑ d ∈ range 64, A.g t (64 * h + d) * A.o t (64 * h + d) := by
  have e : ∀ d ∈ range 64, A.g t (64 * h + d) * A.o t (64 * h + d)
      = ∑ s ∈ range 4096, A.g t (64 * h + d) * A.v s (64 * h + d) * A.p h t s := by
    intro d hd
    have hj : (64 * h + d) / 64 = h := by have := mem_range.1 hd; omega
    unfold o; rw [hj, mul_sum]; exact sum_congr rfl fun s _ => by ring
  rw [sum_congr rfl e, sum_comm]; unfold mean dp
  exact sum_congr rfl fun s _ => by rw [sum_mul]

end Args

end Cert.FoxReal

end
-- ==== Proof.FoxWord.lean ====
/- Comparisons of small numbers held as words, and the constants of the programs, at the extended reals. -/
module

public import proofs.«01_k».proof.Proof.FoxReal
public import Idealize.ShloMosaic.Lib.Pointwise

@[expose] public section

noncomputable section

namespace Cert.FoxReal

open Idealize.ShloMosaic

theorem toInt_small (a : ℕ) (ha : a < 4096) : (BitVec.ofNat 32 a).toInt = (a : ℤ) := by
  rw [BitVec.toInt_eq_toNat_cond, BitVec.toNat_ofNat]
  have : a % 2 ^ 32 = a := Nat.mod_eq_of_lt (by omega)
  rw [this, if_pos (by omega)]

theorem word_le (a b : ℕ) (ha : a < 4096) (hb : b < 4096) :
    IntOp.cmpi CmpIPredicate.sle (BitVec.ofNat 32 a) (BitVec.ofNat 32 b) = if a ≤ b then 1#1 else 0#1 := by
  have e : (BitVec.ofNat 32 a).sle (BitVec.ofNat 32 b) = decide (a ≤ b) := by
    unfold BitVec.sle; rw [toInt_small a ha, toInt_small b hb]; simp
  show BitVec.ofBool ((BitVec.ofNat 32 a).sle (BitVec.ofNat 32 b)) = _
  rw [e]; by_cases h : a ≤ b <;> simp [h]

theorem word_lt (a b : ℕ) (ha : a < 4096) (hb : b < 4096) :
    IntOp.cmpi CmpIPredicate.slt (BitVec.ofNat 32 a) (BitVec.ofNat 32 b) = if a < b then 1#1 else 0#1 := by
  have e : (BitVec.ofNat 32 a).slt (BitVec.ofNat 32 b) = decide (a < b) := by
    unfold BitVec.slt; rw [toInt_small a ha, toInt_small b hb]; simp
  show BitVec.ofBool ((BitVec.ofNat 32 a).slt (BitVec.ofNat 32 b)) = _
  rw [e]; by_cases h : a < b <;> simp [h]

theorem word_ge (a b : ℕ) (ha : a < 4096) (hb : b < 4096) :
    IntOp.cmpi CmpIPredicate.sge (BitVec.ofNat 32 a) (BitVec.ofNat 32 b) = if b ≤ a then 1#1 else 0#1 := by
  exact word_le b a hb ha

theorem word_eq (a b : ℕ) (ha : a < 4096) (hb : b < 4096) :
    IntOp.cmpi CmpIPredicate.eq (BitVec.ofNat 32 a) (BitVec.ofNat 32 b) = if a = b then 1#1 else 0#1 := by
  have e : (BitVec.ofNat 32 a == BitVec.ofNat 32 b) = decide (a = b) := by
    have : (BitVec.ofNat 32 a = BitVec.ofNat 32 b) ↔ a = b := by
      constructor
      · intro h; have h2 := congrArg BitVec.toInt h; rw [toInt_small a ha, toInt_small b hb] at h2; exact_mod_cast h2
      · intro h; rw [h]
    rw [Bool.eq_iff_iff, beq_iff_eq, decide_eq_true_iff]; exact this
  show BitVec.ofBool (BitVec.ofNat 32 a == BitVec.ofNat 32 b) = _
  rw [e]; by_cases h : a = b <;> simp [h]

theorem select_ite {α : Type} (P : Prop) [Decidable P] (x y : α) : Scalar.select (if P then 1#1 else 0#1) x y = if P then x else y := by
  show (if (if P then 1#1 else 0#1) = 1#1 then x else y) = _
  by_cases h : P <;> simp [h]

theorem and_ite (P Q : Prop) [Decidable P] [Decidable Q] :
    IntOp.andi (if P then 1#1 else 0#1) (if Q then 1#1 else 0#1) = if P ∧ Q then 1#1 else 0#1 := by
  by_cases h : P <;> by_cases h' : Q <;> simp [h, h', IntOp.andi]

theorem eighth_f32 : Ideal.ofBits .f32 0x3E000000#32 = ((1 / 8 : ℝ) : EReal) := by
  simp [Ideal.ofBits, Ideal.ieee, -EReal.coe_mul]; norm_num

theorem eighth_bf16 : Ideal.ofBits .bf16 0x3E00#16 = ((1 / 8 : ℝ) : EReal) := by
  simp [Ideal.ofBits, Ideal.ieee, -EReal.coe_mul]; norm_num

theorem bot_f32 : Ideal.ofBits .f32 0xFF800000#32 = ⊥ := by
  simp [Ideal.ofBits, Ideal.ieee]

theorem top_f32 : Ideal.ofBits .f32 0x7F800000#32 = ⊤ := by
  simp [Ideal.ofBits, Ideal.ieee]

theorem div_real (a b : ℝ) (hb : b ≠ 0) : Ideal.div (a : EReal) (b : EReal) = ((a / b : ℝ) : EReal) := by
  rw [Ideal.div_coe hb, ← EReal.coe_mul]; congr 1; ring

end Cert.FoxReal

end
-- ==== Proof.FoxRefVal.lean ====
/- The reference's results over the reals. -/
module

public import proofs.«01_k».proof.Proof.FoxRefDef
public import proofs.«01_k».proof.Proof.FoxWord

@[expose] public section

set_option maxRecDepth 16384

noncomputable section

namespace Cert.ReferenceIdeal.Fox

open Idealize.ShloMosaic Idealize.ShloMosaic.TcCoe Idealize.SL.Sem
open Cert.ReferenceIdeal Cert.ReferenceIdeal.Gen
open Cert.FoxReal Finset

/-! ## The steps at an index -/

theorem heads_at (x : FVec Ideal S4096x768 .bf16) (t : Fin 4096) (h : Fin 12) (d : Fin 64) :
    heads x (ix3 t h d) = x (ix2 t ⟨h.val * 64 + d.val, by omega⟩) := by
  pointwise [heads]

theorem cols_at (x : FVec Ideal S4096x1024 .bf16) (t : Fin 4096) (j : Fin 768) :
    cols x (ix2 t j) = x (ix2 t ⟨j.val, by omega⟩) := by
  pointwise [cols]

theorem causal_at (h : Fin 12) (t s : Fin 4096) (x y : EReal) :
    Scalar.select (causal (ix3 h t s)) x y = if s.val ≤ t.val then x else y := by
  pointwise [causal]
  rw [word_le _ _ s.isLt t.isLt, select_ite]

theorem logits_at (q k : FVec Ideal S4096x12x64 .f32) (c : FVec Ideal S12x4096 .f32) (h : Fin 12) (t s : Fin 4096)  :
    logits q k c (ix3 h t s) = (∑ x, q (ix3 t h x) * k (ix3 s h x)) * Ideal.ofBits FTy.f32 0x3E000000#32 + c (ix2 h t) - c (ix2 h s) := by
  pointwise [logits, along]

theorem scores_at (q k : FVec Ideal S4096x12x64 .f32) (c : FVec Ideal S12x4096 .f32) (h : Fin 12) (t s : Fin 4096)  :
    scores q k c (ix3 h t s) = if s.val ≤ t.val then logits q k c (ix3 h t s) else ⊥ := by
  pointwise [scores]
  refine (causal_at h t s _ _).trans ?_
  rw [show (id (constant (F := Ideal) S_ FTy.f32 0xFF800000#32) ix0 : EReal) = ⊥ from bot_f32]

theorem top_at (x : FVec Ideal S12x4096x4096 .f32) (h : Fin 12) (t : Fin 4096) :
    top x (ix2 h t) = Finset.fold max ⊥ (fun s => x (ix3 h t s)) Finset.univ := by
  pointwise [top]
  rw [bot_f32]

/-- The greater of each entry and the least value. -/
def raised (y : FVec Ideal S12x4096 .f32) : FVec Ideal S12x4096 .f32 :=
  maximumf (broadcastInDim S12x4096 ![] bcast_S_S12x4096 (constant S_ .f32 0xFF800000#32)) y

theorem raised_at (y : FVec Ideal S12x4096 .f32) (h : Fin 12) (t : Fin 4096) : raised y (ix2 h t) = y (ix2 h t) := by
  pointwise [raised]
  rw [bot_f32]; exact max_eq_right bot_le

theorem top'_at (x : FVec Ideal S12x4096x4096 .f32) (h : Fin 12) (t : Fin 4096) : top' x (ix2 h t) = top x (ix2 h t) :=
  raised_at (top x) h t

theorem total_at (x : FVec Ideal S12x4096x4096 .f32) (h : Fin 12) (t : Fin 4096) : total x (ix2 h t) = ∑ s, x (ix3 h t s) := by
  pointwise [total]

theorem probs_at (x : FVec Ideal S12x4096x4096 .f32) (h : Fin 12) (t s : Fin 4096)  :
    probs x (ix3 h t s) = Ideal.div (x (ix3 h t s)) (∑ s', x (ix3 h t s')) := by
  pointwise [probs, along, total]

theorem shifted_at (x : FVec Ideal S12x4096x4096 .f32) (m : FVec Ideal S12x4096 .f32) (h : Fin 12) (t s : Fin 4096)  :
    shifted x m (ix3 h t s) = Ideal.exp (x (ix3 h t s) - m (ix2 h t)) := by
  pointwise [shifted, along]

theorem dScores_at (x y : FVec Ideal S12x4096x4096 .f32) (h : Fin 12) (t s : Fin 4096)  :
    dScores x y (ix3 h t s) = if s.val ≤ t.val then
      (Ideal.div (x (ix3 h t s)) (∑ s', y (ix3 h t s')) +
          ∑ _u : Fin 1, -∑ s', x (ix3 h t s') * Ideal.div 1 ((∑ s', y (ix3 h t s')) * ∑ s', y (ix3 h t s')) * y (ix3 h t s')) *
        y (ix3 h t s) else 0 := by
  pointwise [dScores, along, less, total]
  exact causal_at h t s _ _

theorem gradV_at (x : FVec Ideal S12x4096x4096 .f32) (g : FVec Ideal S4096x1024 .bf16) (s : Fin 4096) (j : Fin 768) :
    gradV g x (ix2 s j) = ∑ t, heads (cols g) (ix3 t ⟨j.val / 64, by omega⟩ ⟨j.val % 64, by omega⟩) * x (ix3 ⟨j.val / 64, by omega⟩ t s) := by
  pointwise [gradV, flat, gT]

theorem gradK_at (x : FVec Ideal S12x4096x4096 .f32) (q : FVec Ideal S4096x12x64 .f32) (s : Fin 4096) (j : Fin 768) :
    gradK x q (ix2 s j) = ∑ t, x (ix3 ⟨j.val / 64, by omega⟩ t s) * Ideal.ofBits FTy.f32 0x3E000000#32 * q (ix3 t ⟨j.val / 64, by omega⟩ ⟨j.val % 64, by omega⟩) := by
  pointwise [gradK, flat, eighth]

theorem gradQ_at (x : FVec Ideal S12x4096x4096 .f32) (k : FVec Ideal S4096x12x64 .f32) (t : Fin 4096) (j : Fin 768) :
    gradQ x k (ix2 t j) = ∑ s, x (ix3 ⟨j.val / 64, by omega⟩ t s) * Ideal.ofBits FTy.f32 0x3E000000#32 * k (ix3 s ⟨j.val / 64, by omega⟩ ⟨j.val % 64, by omega⟩) := by
  pointwise [gradQ, flat, eighth]

theorem dWeights_at (g : FVec Ideal S4096x1024 .bf16) (v : FVec Ideal S4096x12x64 .f32) (h : Fin 12) (t s : Fin 4096) :
    dWeights g v (ix3 h t s) = ∑ d, heads (cols g) (ix3 t h d) * v (ix3 s h d) := by
  pointwise [dWeights, gT]

theorem gradC_at (x : FVec Ideal S12x4096x4096 .f32) (p : Fin 6) (e : Fin 2) (t : Fin 4096) :
    gradC x (ix3 p e t) = ∑ _u : Fin 1, ∑ s, -x (ix3 ⟨p.val * 2 + e.val, by omega⟩ s t) + ∑ _u : Fin 1, ∑ s, x (ix3 ⟨p.val * 2 + e.val, by omega⟩ t s) := by
  pointwise [gradC, rowSums, colSums, total]

/-! ## Over the reals -/

/-- The real arrays that the arguments are, and the rows' greatest logits. -/
structure Reads (A : Args) (q k v : FVec Ideal S4096x768 .bf16) (c : FVec Ideal S12x4096 .f32) (g : FVec Ideal S4096x1024 .bf16) : Prop where
  hq : ∀ (t : Fin 4096) (j : Fin 768), q (ix2 t j) = (A.q t j : EReal)
  hk : ∀ (t : Fin 4096) (j : Fin 768), k (ix2 t j) = (A.k t j : EReal)
  hv : ∀ (t : Fin 4096) (j : Fin 768), v (ix2 t j) = (A.v t j : EReal)
  hg : ∀ (t : Fin 4096) (j : Fin 1024), j.val < 768 → g (ix2 t j) = (A.g t j : EReal)
  hc : ∀ (h : Fin 12) (t : Fin 4096), c (ix2 h t) = (A.c h t : EReal)
  hm : ∀ (h : Fin 12) (t : Fin 4096), top (scoresOf q k c) (ix2 h t) = (A.m h t : EReal)

section

variable {A : Args} {q k v : FVec Ideal S4096x768 .bf16} {c : FVec Ideal S12x4096 .f32} {g : FVec Ideal S4096x1024 .bf16}

/-- The logits from finite arguments. -/
theorem logits_real (hq : ∀ (t : Fin 4096) (j : Fin 768), q (ix2 t j) = (A.q t j : EReal))
    (hk : ∀ (t : Fin 4096) (j : Fin 768), k (ix2 t j) = (A.k t j : EReal))
    (hc : ∀ (h : Fin 12) (t : Fin 4096), c (ix2 h t) = (A.c h t : EReal)) (h : Fin 12) (t s : Fin 4096) :
    logits (heads q) (heads k) c (ix3 h t s) = (A.logit h t s : EReal) := by
  rw [logits_at, hc, hc, eighth_f32,
    sum_fin _ (fun d => A.q t (64 * h + d) * A.k s (64 * h + d)) (fun d => by
      rw [heads_at, heads_at, hq, hk, ← EReal.coe_mul]; simp only [Nat.mul_comm h.val 64])]
  rw [← EReal.coe_mul, ← EReal.coe_add, ← EReal.coe_sub]; rfl

theorem scores_real (hq : ∀ (t : Fin 4096) (j : Fin 768), q (ix2 t j) = (A.q t j : EReal))
    (hk : ∀ (t : Fin 4096) (j : Fin 768), k (ix2 t j) = (A.k t j : EReal))
    (hc : ∀ (h : Fin 12) (t : Fin 4096), c (ix2 h t) = (A.c h t : EReal)) (h : Fin 12) (t s : Fin 4096) :
    scoresOf q k c (ix3 h t s) = if s.val ≤ t.val then (A.logit h t s : EReal) else ⊥ := by
  unfold scoresOf; rw [scores_at, logits_real hq hk hc]

/-- A greatest element of finitely many values below infinity, one of them a real. -/
theorem fold_real {n : ℕ} (f : Fin n → EReal) (i : Fin n) (r : ℝ) (hi : f i = (r : EReal)) (hf : ∀ i, f i < ⊤) :
    ((Finset.fold max ⊥ f Finset.univ).toReal : EReal) = Finset.fold max ⊥ f Finset.univ := by
  refine EReal.coe_toReal ?_ ?_
  · exact ne_of_lt ((Finset.fold_max_lt _).2 ⟨bot_lt_top, fun x _ => hf x⟩)
  · have h1 : (r : EReal) ≤ Finset.fold max ⊥ f Finset.univ := (Finset.le_fold_max _).2 (Or.inr ⟨i, Finset.mem_univ i, hi.ge⟩)
    exact ne_of_gt (lt_of_lt_of_le (EReal.bot_lt_coe r) h1)

/-- A number for each pair of naturals, from an array of extended reals. -/
def ext {a b : ℕ} (x : Fin a → Fin b → EReal) (i j : ℕ) : ℝ := if h : i < a ∧ j < b then (x ⟨i, h.1⟩ ⟨j, h.2⟩).toReal else 0

theorem ext_eq {a b : ℕ} (x : Fin a → Fin b → EReal) (i : Fin a) (j : Fin b) (h : ∃ r : ℝ, x i j = (r : EReal)) :
    x i j = ((ext x i.val j.val : ℝ) : EReal) := by
  obtain ⟨r, hr⟩ := h
  unfold ext; rw [dif_pos ⟨i.isLt, j.isLt⟩]; rw [hr]; rfl

/-- Finite arguments are real arrays. -/
theorem exists_reads (hq : ∀ i, ∃ r : ℝ, q i = (r : EReal)) (hk : ∀ i, ∃ r : ℝ, k i = (r : EReal)) (hv : ∀ i, ∃ r : ℝ, v i = (r : EReal))
    (hc : ∀ i, ∃ r : ℝ, c i = (r : EReal)) (hg : ∀ (t : Fin 4096) (j : Fin 1024), j.val < 768 → ∃ r : ℝ, g (ix2 t j) = (r : EReal)) :
    ∃ A : Args, Reads A q k v c g := by
  let A : Args :=
    { q := ext fun t j => q (ix2 t j), k := ext fun t j => k (ix2 t j), v := ext fun t j => v (ix2 t j), g := ext fun t j => g (ix2 t j),
      c := ext fun h t => c (ix2 h t), m := ext fun h t => top (scoresOf q k c) (ix2 h t) }
  have eq : ∀ (t : Fin 4096) (j : Fin 768), q (ix2 t j) = (A.q t j : EReal) := fun t j => ext_eq (fun t j => q (ix2 t j)) t j (hq _)
  have ek : ∀ (t : Fin 4096) (j : Fin 768), k (ix2 t j) = (A.k t j : EReal) := fun t j => ext_eq (fun t j => k (ix2 t j)) t j (hk _)
  have ec : ∀ (h : Fin 12) (t : Fin 4096), c (ix2 h t) = (A.c h t : EReal) := fun t j => ext_eq (fun t j => c (ix2 t j)) t j (hc _)
  refine ⟨A, eq, ek, fun t j => ext_eq (fun t j => v (ix2 t j)) t j (hv _), fun t j hj => ext_eq (fun t j => g (ix2 t j)) t j (hg t j hj), ec, fun h t => ?_⟩
  refine ext_eq (fun h t => top (scoresOf q k c) (ix2 h t)) h t ⟨(top (scoresOf q k c) (ix2 h t)).toReal, ?_⟩
  · show top (scoresOf q k c) (ix2 h t) = ((top (scoresOf q k c) (ix2 h t)).toReal : EReal)
    rw [top_at]
    refine (fold_real _ t (A.logit h t t) ?_ fun s => ?_).symm
    · rw [scores_real eq ek ec, if_pos (le_refl _)]
    · rw [scores_real eq ek ec]; split
      · exact EReal.coe_lt_top _
      · exact bot_lt_top

variable (R : Reads A q k v c g)

include R

theorem gHeads_real (t : Fin 4096) (h : Fin 12) (d : Fin 64) : heads (cols g) (ix3 t h d) = (A.g t (64 * h + d) : EReal) := by
  rw [heads_at, cols_at, R.hg _ _ (by show h.val * 64 + d.val < 768; omega)]; simp only [Nat.mul_comm h.val 64]

theorem ex_real (h : Fin 12) (t s : Fin 4096) : exOf q k c (ix3 h t s) = (A.ex h t s : EReal) := by
  unfold exOf; rw [shifted_at, top'_at, R.hm, scores_real R.hq R.hk R.hc]
  unfold Args.ex; split
  · rw [← EReal.coe_sub, Ideal.exp_coe]
  · rw [EReal.bot_sub]; rfl

theorem den_real (h : Fin 12) (t : Fin 4096) : ∑ s, exOf q k c (ix3 h t s) = (A.den h t : EReal) :=
  sum_fin _ (fun s => A.ex h t s) fun s => ex_real R h t s

theorem p_real (h : Fin 12) (t s : Fin 4096) : probs (exOf q k c) (ix3 h t s) = (A.p h t s : EReal) := by
  rw [probs_at, den_real R, ex_real R, div_real _ _ (A.den_pos h t.isLt).ne']; rfl

theorem dp_real (h : Fin 12) (t s : Fin 4096) : dWeights g (heads v) (ix3 h t s) = (A.dp h t s : EReal) := by
  rw [dWeights_at]
  exact sum_fin _ (fun d => A.g t (64 * h + d) * A.v s (64 * h + d)) fun d => by
    rw [gHeads_real R, heads_at, R.hv, ← EReal.coe_mul]; simp only [Nat.mul_comm h.val 64]

theorem ds_real (h : Fin 12) (t s : Fin 4096) : dsOf q k v c g (ix3 h t s) = (A.ds h t s : EReal) := by
  have hd := (A.den_pos h t.isLt).ne'
  unfold dsOf; rw [dScores_at]
  by_cases hs : s.val ≤ t.val
  · rw [if_pos hs, den_real R, dp_real R, ex_real R, ← EReal.coe_mul, ← EReal.coe_one, div_real _ _ hd, div_real _ _ (mul_ne_zero hd hd), Fin.sum_univ_one,
      sum_fin _ (fun s' => A.dp h t s' * (1 / (A.den h t * A.den h t)) * A.ex h t s') (fun s' => by
        rw [dp_real R, ex_real R, ← EReal.coe_mul, ← EReal.coe_mul])]
    rw [← EReal.coe_neg, ← EReal.coe_add, ← EReal.coe_mul]
    congr 1
    have e : ∑ s' ∈ range 4096, A.dp h t s' * (1 / (A.den h t * A.den h t)) * A.ex h t s' = A.mean h t / A.den h t := by
      unfold Args.mean Args.p; rw [Finset.sum_div]
      exact Finset.sum_congr rfl fun s' _ => by field_simp
    rw [e]; unfold Args.ds Args.p; field_simp; ring
  · rw [if_neg hs, A.ds_after h (by omega)]; rfl

theorem gradV_real (s : Fin 4096) (j : Fin 768) : gradV g (probs (exOf q k c)) (ix2 s j) = (A.dv s j : EReal) := by
  rw [gradV_at]
  exact sum_fin _ (fun t => A.p (j / 64) t s * A.g t j) fun t => by
    rw [gHeads_real R, p_real R, ← EReal.coe_mul, mul_comm]; simp only [Nat.div_add_mod]

theorem gradK_real (s : Fin 4096) (j : Fin 768) : gradK (dsOf q k v c g) (heads q) (ix2 s j) = (A.dk s j : EReal) := by
  rw [gradK_at]
  exact sum_fin _ (fun t => A.ds (j / 64) t s * (A.q t j * (1 / 8))) fun t => by
    rw [ds_real R, heads_at, R.hq, eighth_f32, ← EReal.coe_mul, ← EReal.coe_mul]; simp only [Nat.div_add_mod']; congr 1; ring

theorem gradQ_real (t : Fin 4096) (j : Fin 768) : gradQ (dsOf q k v c g) (heads k) (ix2 t j) = (A.dq t j : EReal) := by
  rw [gradQ_at]
  exact sum_fin _ (fun s => A.ds (j / 64) t s * (A.k s j * (1 / 8))) fun s => by
    rw [ds_real R, heads_at, R.hk, eighth_f32, ← EReal.coe_mul, ← EReal.coe_mul]; simp only [Nat.div_add_mod']; congr 1; ring

theorem gradC_real (p : Fin 6) (e : Fin 2) (t : Fin 4096) : gradC (dsOf q k v c g) (ix3 p e t) = (A.dc (2 * p + e) t : EReal) := by
  rw [gradC_at, Fin.sum_univ_one, Fin.sum_univ_one,
    sum_fin _ (fun s => -A.ds (2 * p + e) s t) (fun s => by rw [ds_real R, ← EReal.coe_neg]; simp only [Nat.mul_comm p.val 2]),
    sum_fin _ (fun s => A.ds (2 * p + e) t s) (fun s => by rw [ds_real R]; simp only [Nat.mul_comm p.val 2]), ← EReal.coe_add]
  congr 1; unfold Args.dc; rw [Finset.sum_neg_distrib]; ring

end

end Cert.ReferenceIdeal.Fox

end
-- ==== Proof.FoxAt.lean ====
/- The kernel's operations at an index, at the extended reals. -/
module

public import proofs.«01_k».proof.Proof.FoxBody
public import proofs.«01_k».proof.Proof.FoxWord

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.FoxReal Finset

/-! ## Lanes and masks -/

theorem lo_at (l : Fin 128) (x y : EReal) : Scalar.select (lo64 (ix2 0 l)) x y = if l.val / 64 = 0 then x else y := by
  have h := l.isLt
  pointwise [lo64, k0_pay335]
  rw [word_ge _ 0 (by omega) (by omega), word_lt _ 64 (by omega) (by omega), and_ite, select_ite]
  exact if_congr (by omega) rfl rfl

theorem hi_at (l : Fin 128) (x y : EReal) : Scalar.select (hi64 (ix2 0 l)) x y = if l.val / 64 = 1 then x else y := by
  have h := l.isLt
  pointwise [hi64, k0_pay336]
  rw [word_ge _ 64 (by omega) (by omega), word_lt _ 128 (by omega) (by omega), and_ite, select_ite]
  exact if_congr (by omega) rfl rfl

theorem and_low (l : Fin 128) : IntOp.andi (BitVec.ofNat 32 l.val) 63#32 = BitVec.ofNat 32 (l.val % 64) := by
  revert l; decide +kernel

theorem ones3_at (l : Fin 128) : ones3V (F := Ideal) (ix2 0 l) = ((if l.val % 64 < 3 then 1 else 0 : ℝ) : EReal) := by
  pointwise [ones3V, k0_pay337]
  rw [and_low, word_lt _ 3 (by omega) (by omega)]
  by_cases h : l.val % 64 < 3
  · rw [if_pos h, if_pos h]; show ((((1#1).setWidth 32).toInt : ℝ) : EReal) = _; norm_num
  · rw [if_neg h, if_neg h]; show ((((0#1).setWidth 32).toInt : ℝ) : EReal) = _; norm_num

theorem keep_at (r c : Fin 256) (x y : EReal) : Scalar.select (keepV (ix2 r c)) x y = if r.val ≤ c.val then x else y := by
  pointwise [keepV, k0_pay334]
  rw [word_le _ _ (by omega) (by omega), select_ite]

theorem lane_at (l : Fin 128) (e : ℕ) (he : e < 2) (x y : EReal) :
    Scalar.select (IntOp.cmpi CmpIPredicate.eq (laneV (ix2 0 l)) (BitVec.ofNat 32 e)) x y = if l.val = e then x else y := by
  have : laneV (ix2 0 l) = BitVec.ofNat 32 l.val := by pointwise [laneV]
  rw [this, word_eq _ _ (by omega) (by omega), select_ite]

/-! ## Blocks -/

theorem scaled_at (x : FVec Ideal S256x128 .bf16) (r : Fin 256) (l : Fin 128) :
    scaled x (ix2 r l) = x (ix2 r l) * ((1 / 8 : ℝ) : EReal) := by
  pointwise [scaled]
  rw [eighth_bf16]

theorem headOf_at (m : IVec S1x128 1) (x : FVec Ideal S256x128 .bf16) (r : Fin 256) (l : Fin 128) :
    headOf (F := Ideal) m x (ix2 r l) = Scalar.select (m (ix2 0 l)) (x (ix2 r l)) 0 := by
  pointwise [headOf, lanes]

theorem kAug_at (m : IVec S1x128 1) (x y : FVec Ideal S256x128 .bf16) (r : Fin 256) (l : Fin 128) :
    kAug (F := Ideal) m x y (ix2 r l) = Scalar.select (m (ix2 0 l)) (x (ix2 r l)) (y (ix2 r l)) := by
  pointwise [kAug, lanes]

theorem qAug_at (m : IVec S1x128 1) (x : FVec Ideal S256x128 .bf16) (y : FVec Ideal S1x128 .bf16) (r : Fin 256) (l : Fin 128) :
    qAug (F := Ideal) m x y (ix2 r l) = Scalar.select (m (ix2 0 l)) (x (ix2 r l)) (y (ix2 0 l)) := by
  pointwise [qAug, lanes]

theorem rowDots_at (x y : FVec Ideal S256x128 .bf16) (r c : Fin 256) :
    rowDots x y (ix2 r c) = ∑ k : Fin 128, x (ix2 r k) * y (ix2 c k) := by
  pointwise [rowDots]

theorem maskVal_eq : maskVal (F := Ideal) = (⊥ : EReal) := rfl

theorem masked_at (x : FVec Ideal S256x256 .f32) (r c : Fin 256) :
    masked keepV x (ix2 r c) = if r.val ≤ c.val then x (ix2 r c) else ⊥ := by
  pointwise [masked]
  exact keep_at r c _ _

theorem weights_at (x : FVec Ideal S256x256 .f32) (l : FVec Ideal S1x1x256 .f32) (r c : Fin 256) :
    weights x l (ix2 r c) = Ideal.exp (x (ix2 r c) - l (ix3 0 0 c)) := by
  pointwise [weights]

theorem dLogits_at (x y : FVec Ideal S256x256 .f32) (l : FVec Ideal S1x256 .f32) (r c : Fin 256) :
    dLogits x y l (ix2 r c) = x (ix2 r c) * (y (ix2 r c) - l (ix2 0 c)) := by
  pointwise [dLogits]

theorem accRows_at (w : FVec Ideal S256x256 .f32) (x : FVec Ideal S256x128 .bf16) (old : FVec Ideal S1x256x128 .f32) (r : Fin 256) (l : Fin 128) :
    accRows w x old (ix3 0 r l) = old (ix3 0 r l) + ∑ k : Fin 256, w (ix2 r k) * x (ix2 k l) := by
  pointwise [accRows]

theorem subCols_at (lane : IVec S1x128 32) (e : BitVec 32) (ds : FVec Ideal S256x256 .f32) (old : FVec Ideal S256x128 .f32) (r : Fin 256) (l : Fin 128) :
    subCols lane e ds old (ix2 r l) =
      old (ix2 r l) - Scalar.select (IntOp.cmpi CmpIPredicate.eq (lane (ix2 0 l)) e) (∑ k : Fin 256, ds (ix2 r k)) 0 := by
  pointwise [subCols]

theorem addQ_at (dq : FVec Ideal S256x128 .f32) (ds : FVec Ideal S256x256 .f32) (ks : FVec Ideal S256x128 .bf16) (r : Fin 256) (l : Fin 128) :
    addQ dq ds ks (ix2 r l) = dq (ix2 r l) + ∑ k : Fin 256, ds (ix2 k r) * ks (ix2 k l) := by
  pointwise [addQ]

theorem addRow_at (dr : FVec Ideal S1x256 .f32) (ds : FVec Ideal S256x256 .f32) (r : Fin 256) :
    addRow dr ds (ix2 0 r) = dr (ix2 0 r) + ∑ k : Fin 256, ds (ix2 k r) := by
  pointwise [addRow]

theorem putRow_at (dr : FVec Ideal S1x256 .f32) (o : FVec Ideal S1x1x256 .f32) (r : Fin 256) :
    putRow dr o (ix3 0 0 r) = o (ix3 0 0 r) + dr (ix2 0 r) := by
  pointwise [putRow]

theorem putQ_at (dr : FVec Ideal S256x128 .f32) (o : FVec Ideal S256x128 .f32) (r : Fin 256) (l : Fin 128) :
    putQ dr o (ix2 r l) = o (ix2 r l) + dr (ix2 r l) := by
  pointwise [putQ]

theorem zeroQ_at (r : Fin 256) (l : Fin 128) : zeroQ (F := Ideal) (ix2 r l) = 0 := by
  pointwise [zeroQ]

theorem zeroRow_at (r : Fin 256) : zeroRow (F := Ideal) (ix2 0 r) = 0 := by
  pointwise [zeroRow]

theorem zeroAcc_at (j : Fin 2) (r : Fin 256) (l : Fin 128) : zeroAcc (F := Ideal) (ix3 j r l) = 0 := by
  pointwise [zeroAcc]

theorem zeroDc_at (e : Fin 2) (t : Fin 4096) : (k0_pay340 (F := Ideal)) (ix3 0 e t) = 0 := by
  pointwise [k0_pay340]

theorem zeroDq_at (t : Fin 4096) (l : Fin 128) : (k0_pay338 (F := Ideal)) (ix2 t l) = 0 := by
  pointwise [k0_pay338]

theorem zeroCol_at (t : Fin 4096) (l : Fin 128) : (k0_pay339 (F := Ideal)) (ix2 t l) = 0 := by
  pointwise [k0_pay339]

theorem outBlock_at (o : FVec Ideal S1x256x128 .f32) (r : Fin 256) (l : Fin 128) : outBlock (F := Ideal) o (ix2 r l) = o (ix3 0 r l) := by
  pointwise [outBlock]

theorem dots0_at (a b : FVec Ideal S256x128 .bf16) (r : Fin 256) :
    k0_pay2 (F := Ideal) a b (ix2 0 r) = ∑ d : Fin 64, a (ix2 r ⟨d.val, by omega⟩) * b (ix2 r ⟨d.val, by omega⟩) := by
  pointwise [k0_pay2, k0_pay1]

theorem dots1_at (a b : FVec Ideal S256x128 .bf16) (r : Fin 256) :
    k0_pay3 (F := Ideal) a b (ix2 0 r) = ∑ d : Fin 64, a (ix2 r ⟨64 + d.val, by omega⟩) * b (ix2 r ⟨64 + d.val, by omega⟩) := by
  pointwise [k0_pay3, k0_pay1]

theorem outQ_at (a : FVec Ideal S4096x128 .f32) (r : Fin 4096) (l : Fin 128) : k0_pay4 (F := Ideal) a (ix2 r l) = a (ix2 r l) := by
  pointwise [k0_pay4]

theorem addCols_at (a : FVec Ideal S1x2x256 .f32) (b : FVec Ideal S256x128 .f32) (e : Fin 2) (l : Fin 256) :
    k0_pay5 (F := Ideal) a b (ix3 0 e l) = a (ix3 0 e l) + b (ix2 l ⟨e.val, by omega⟩) := by
  pointwise [k0_pay5]

/-! ## Windows -/

section Windows

variable {α : Type}

theorem rows_at {e : EltTy} (x : Vec Ideal S4096x128 e) (n : ℕ) (hn : n < 16) (r : Fin 256) (l : Fin 128) :
    rows (F := Ideal) x n hn (ix2 r l) = x (ix2 ⟨256 * n + r.val, by omega⟩ l) := by
  refine congrArg x (funext fun a => Fin.ext ?_)
  fin_cases a
  · show 256 * n + 1 * r.val = 256 * n + r.val; omega
  · show 0 + 1 * l.val = l.val; omega

theorem win2_at (x : S4096x128.Idx → α) (n : ℕ) (h : ∀ a, (![256 * n, 0] : Fin 2 → ℕ) a + S256x128.size a ≤ S4096x128.size a) (hn : n < 16) (r : Fin 256) (l : Fin 128) :
    VecWindow.window x ![256 * n, 0] S256x128.size h (ix2 r l) = x (ix2 ⟨256 * n + r.val, by omega⟩ l) := by
  refine congrArg x (funext fun a => Fin.ext ?_)
  fin_cases a
  · show 256 * n + 1 * r.val = 256 * n + r.val; omega
  · show 0 + 1 * l.val = l.val; omega

theorem winD_at (x : S8x4096.Idx → α) (e n : ℕ) (h : ∀ a, (![e, 256 * n] : Fin 2 → ℕ) a + S1x256.size a ≤ S8x4096.size a) (he : e < 8) (hn : n < 16) (r : Fin 256) :
    VecWindow.window x ![e, 256 * n] S1x256.size h (ix2 0 r) = x (ix2 ⟨e, he⟩ ⟨256 * n + r.val, by omega⟩) := by
  refine congrArg x (funext fun a => Fin.ext ?_)
  fin_cases a
  · show e + 1 * 0 = e; omega
  · show 256 * n + 1 * r.val = 256 * n + r.val; omega

theorem winL_at (x : S1x2x4096.Idx → α) (e n : ℕ) (h : ∀ a, (![0, e, 256 * n] : Fin 3 → ℕ) a + S1x1x256.size a ≤ S1x2x4096.size a) (he : e < 2) (hn : n < 16) (r : Fin 256) :
    VecWindow.window x ![0, e, 256 * n] S1x1x256.size h (ix3 0 0 r) = x (ix3 0 ⟨e, he⟩ ⟨256 * n + r.val, by omega⟩) := by
  refine congrArg x (funext fun a => Fin.ext ?_)
  fin_cases a
  · rfl
  · show e + 1 * 0 = e; omega
  · show 256 * n + 1 * r.val = 256 * n + r.val; omega

theorem winB_at (x : S1x2x4096.Idx → α) (n : ℕ) (h : ∀ a, (![0, 0, 256 * n] : Fin 3 → ℕ) a + S1x2x256.size a ≤ S1x2x4096.size a) (hn : n < 16) (e : Fin 2) (r : Fin 256) :
    VecWindow.window x ![0, 0, 256 * n] S1x2x256.size h (ix3 0 e r) = x (ix3 0 e ⟨256 * n + r.val, by omega⟩) := by
  refine congrArg x (funext fun a => Fin.ext ?_)
  fin_cases a
  · rfl
  · show 0 + 1 * e.val = e.val; omega
  · show 256 * n + 1 * r.val = 256 * n + r.val; omega

theorem winS_at (x : S2x256x128.Idx → α) (j : ℕ) (h : ∀ a, (![j, 0, 0] : Fin 3 → ℕ) a + S1x256x128.size a ≤ S2x256x128.size a) (hj : j < 2) (r : Fin 256) (l : Fin 128) :
    VecWindow.window x ![j, 0, 0] S1x256x128.size h (ix3 0 r l) = x (ix3 ⟨j, hj⟩ r l) := by
  refine congrArg x (funext fun a => Fin.ext ?_)
  fin_cases a
  · show j + 1 * 0 = j; omega
  · show 0 + 1 * r.val = r.val; omega
  · show 0 + 1 * l.val = l.val; omega

theorem put2_at (x : S4096x128.Idx → α) (n : ℕ) (hn : n < 16) (w : S256x128.Idx → α) (t : Fin 4096) (l : Fin 128) :
    VecWindow.put x ![256 * n, 0] S256x128.size w (ix2 t l) =
      if t.val / 256 = n then w (ix2 ⟨t.val % 256, by omega⟩ l) else x (ix2 t l) := by
  show (if h : _ then _ else _) = _
  by_cases e : t.val / 256 = n
  · rw [if_pos e, dif_pos (by
      intro a; fin_cases a
      · show 256 * n ≤ t.val ∧ t.val < 256 * n + 256; omega
      · show 0 ≤ l.val ∧ l.val < 0 + 128; omega)]
    refine congrArg w (funext fun a => Fin.ext ?_)
    fin_cases a
    · show t.val - 256 * n = t.val % 256; omega
    · show l.val - 0 = l.val; omega
  · rw [if_neg e, dif_neg (by
      intro h
      have h0 : 256 * n ≤ t.val ∧ t.val < 256 * n + 256 := h 0
      omega)]

theorem putS_at (x : S2x256x128.Idx → α) (j : ℕ) (w : S1x256x128.Idx → α) (j' : Fin 2) (r : Fin 256) (l : Fin 128) :
    VecWindow.put x ![j, 0, 0] S1x256x128.size w (ix3 j' r l) =
      if j'.val = j then w (ix3 0 r l) else x (ix3 j' r l) := by
  show (if h : _ then _ else _) = _
  by_cases e : j'.val = j
  · rw [if_pos e, dif_pos (by
      intro a; fin_cases a
      · show j ≤ j'.val ∧ j'.val < j + 1; omega
      · show 0 ≤ r.val ∧ r.val < 0 + 256; omega
      · show 0 ≤ l.val ∧ l.val < 0 + 128; omega)]
    refine congrArg w (funext fun a => Fin.ext ?_)
    fin_cases a
    · show j'.val - j = 0; omega
    · show r.val - 0 = r.val; omega
    · show l.val - 0 = l.val; omega
  · rw [if_neg e, dif_neg (by
      intro h
      have h0 : j ≤ j'.val ∧ j'.val < j + 1 := h 0
      omega)]

theorem putL_at (x : S1x2x4096.Idx → α) (e n : ℕ) (hn : n < 16) (w : S1x1x256.Idx → α) (e' : Fin 2) (t : Fin 4096) :
    VecWindow.put x ![0, e, 256 * n] S1x1x256.size w (ix3 0 e' t) =
      if e'.val = e ∧ t.val / 256 = n then w (ix3 0 0 ⟨t.val % 256, by omega⟩) else x (ix3 0 e' t) := by
  show (if h : _ then _ else _) = _
  by_cases he : e'.val = e ∧ t.val / 256 = n
  · rw [if_pos he, dif_pos (by
      intro a; fin_cases a
      · show 0 ≤ 0 ∧ 0 < 0 + 1; omega
      · show e ≤ e'.val ∧ e'.val < e + 1; omega
      · show 256 * n ≤ t.val ∧ t.val < 256 * n + 256; omega)]
    refine congrArg w (funext fun a => Fin.ext ?_)
    fin_cases a
    · rfl
    · show e'.val - e = 0; omega
    · show t.val - 256 * n = t.val % 256; omega
  · rw [if_neg he, dif_neg (by
      intro h
      have h1 : e ≤ e'.val ∧ e'.val < e + 1 := h 1
      have h0 : 256 * n ≤ t.val ∧ t.val < 256 * n + 256 := h 2
      omega)]

theorem putB_at (x : S1x2x4096.Idx → α) (n : ℕ) (hn : n < 16) (w : S1x2x256.Idx → α) (e : Fin 2) (t : Fin 4096) :
    VecWindow.put x ![0, 0, 256 * n] S1x2x256.size w (ix3 0 e t) =
      if t.val / 256 = n then w (ix3 0 e ⟨t.val % 256, by omega⟩) else x (ix3 0 e t) := by
  show (if h : _ then _ else _) = _
  by_cases he : t.val / 256 = n
  · rw [if_pos he, dif_pos (by
      intro a; fin_cases a
      · show 0 ≤ 0 ∧ 0 < 0 + 1; omega
      · show 0 ≤ e.val ∧ e.val < 0 + 2; omega
      · show 256 * n ≤ t.val ∧ t.val < 256 * n + 256; omega)]
    refine congrArg w (funext fun a => Fin.ext ?_)
    fin_cases a
    · rfl
    · show e.val - 0 = e.val; omega
    · show t.val - 256 * n = t.val % 256; omega
  · rw [if_neg he, dif_neg (by
      intro h
      have h0 : 256 * n ≤ t.val ∧ t.val < 256 * n + 256 := h 2
      omega)]

end Windows

end Cert.KernelIdeal.Fox

end
-- ==== Proof.FoxVal.lean ====
/- What the kernel accumulates, over the reals. -/
module

public import proofs.«01_k».proof.Proof.FoxAt

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.FoxReal Finset

/-- A block of reals that is a function of the block's row and column. -/
def IsBlk {a b : ℕ} (x : Fin a → Fin b → EReal) (f : ℕ → ℕ → ℝ) : Prop := ∀ i j, x i j = ((f i.val j.val : ℝ) : EReal)

/-- The reals that one grid point reads: the pair `p` of heads. -/
structure At (A : Args) (p : ℕ) (I : Inp Ideal) : Prop where
  hq : ∀ (t : Fin 4096) (l : Fin 128), I.q (ix2 t l) = ((A.q t (128 * p + l) : ℝ) : EReal)
  hk : ∀ (t : Fin 4096) (l : Fin 128), I.k (ix2 t l) = ((A.k t (128 * p + l) : ℝ) : EReal)
  hv : ∀ (t : Fin 4096) (l : Fin 128), I.v (ix2 t l) = ((A.v t (128 * p + l) : ℝ) : EReal)
  hg : ∀ (t : Fin 4096) (l : Fin 128), I.g (ix2 t l) = ((A.g t (128 * p + l) : ℝ) : EReal)
  ho : ∀ (t : Fin 4096) (l : Fin 128), I.o (ix2 t l) = ((A.o t (128 * p + l) : ℝ) : EReal)
  hl : ∀ (e : Fin 2) (t : Fin 4096), I.lse (ix3 0 e t) = ((A.lse (2 * p + e) t : ℝ) : EReal)
  hb : ∀ (s : Fin 4096) (l : Fin 128), I.ca (ix2 s l) = ((if l.val % 64 = 0 then -A.c (2 * p + (1 - l.val / 64)) s else 0 : ℝ) : EReal)

/-- A row of lane flags that marks the lanes of head `e` of the pair. -/
def Marks (m : IVec S1x128 1) (e : ℕ) : Prop :=
  ∀ (l : Fin 128) (x y : EReal), Scalar.select (m (ix2 0 l)) x y = if l.val / 64 = e then x else y

theorem marks_lo : Marks lo64 0 := lo_at
theorem marks_hi : Marks hi64 1 := hi_at

/-- A sum over the lanes of both heads. -/
theorem sum_lanes (f : ℕ → ℝ) : ∑ l ∈ range 128, f l = ∑ d ∈ range 64, f d + ∑ d ∈ range 64, f (64 + d) :=
  Finset.sum_range_add f 64 64

/-- A sum over the lanes of one head. -/
theorem sum_head (e : ℕ) (he : e < 2) (f : ℕ → ℝ) : ∑ l ∈ range 128, (if l / 64 = e then f l else 0) = ∑ d ∈ range 64, f (64 * e + d) := by
  rw [sum_lanes]
  have a : ∀ d ∈ range 64, (if d / 64 = e then f d else 0) = if 0 = e then f d else 0 := fun d hd => by
    rw [show d / 64 = 0 by have := mem_range.1 hd; omega]
  have b : ∀ d ∈ range 64, (if (64 + d) / 64 = e then f (64 + d) else 0) = if 1 = e then f (64 + d) else 0 := fun d hd => by
    rw [show (64 + d) / 64 = 1 by have := mem_range.1 hd; omega]
  rw [sum_congr rfl a, sum_congr rfl b]
  rcases (by omega : e = 0 ∨ e = 1) with rfl | rfl <;> simp

/-- The logits' products over the lanes: the head's own lanes, and the first of the other head's. -/
theorem sum_aug (e : ℕ) (he : e < 2) (K Q C : ℕ → ℝ) :
    ∑ l ∈ range 128, (if l / 64 = e then K l else if l % 64 = 0 then C (1 - l / 64) else 0) *
        (if l / 64 = e then Q l * (1 / 8) else if l % 64 < 3 then 1 else 0)
      = (∑ d ∈ range 64, Q (64 * e + d) * K (64 * e + d)) * (1 / 8) + C e := by
  have h : ∀ l ∈ range 128, (if l / 64 = e then K l else if l % 64 = 0 then C (1 - l / 64) else 0) *
        (if l / 64 = e then Q l * (1 / 8) else if l % 64 < 3 then 1 else 0)
      = (if l / 64 = e then Q l * K l * (1 / 8) else 0) + (if l / 64 = 1 - e then (if l = 64 * (1 - e) then C e else 0) else 0) := by
    intro l hl
    have := mem_range.1 hl
    by_cases h1 : l / 64 = e
    · rw [if_pos h1, if_pos h1, if_pos h1, if_neg (by omega : ¬ l / 64 = 1 - e)]; ring
    · rw [if_neg h1, if_neg h1, if_neg h1, if_pos (by omega : l / 64 = 1 - e)]
      by_cases h2 : l % 64 = 0
      · rw [if_pos h2, if_pos (by omega : l % 64 < 3), if_pos (by omega : l = 64 * (1 - e)), show 1 - l / 64 = e by omega]; ring
      · rw [if_neg h2, if_neg (by omega : ¬ l = 64 * (1 - e))]; ring
  rw [sum_congr rfl h, sum_add_distrib, sum_head e he, sum_head (1 - e) (by omega), sum_mul]
  congr 1
  rw [sum_eq_single 0]
  · simp
  · intro d _ hd; rw [if_neg (by omega)]
  · intro h; simp at h

section Blocks

variable {A : Args} {p : ℕ} {I : Inp Ideal} (H : At A p I)

include H

/-- The logits of a block, over the reals. -/
theorem lgt_real {m : IVec S1x128 1} {e : ℕ} (he : e < 2) (hm : Marks m e) (kb : ℕ) (hkb : kb < 16) (n : ℕ) (hn : n < 16) (r c : Fin 256) :
    lgt I.q ones3V (qBlk n hn) (kAug m (rows I.k kb hkb) (rows I.ca kb hkb)) m (ix2 r c)
      = (((∑ d ∈ range 64, A.q (256 * n + c) (64 * (2 * p + e) + d) * A.k (256 * kb + r) (64 * (2 * p + e) + d)) * (1 / 8) - A.c (2 * p + e) (256 * kb + r) : ℝ) : EReal) := by
  unfold lgt
  rw [rowDots_at, sum_fin _ (fun l => (if l / 64 = e then A.k (256 * kb + r) (128 * p + l) else if l % 64 = 0 then (fun x => -A.c (2 * p + x) (256 * kb + r)) (1 - l / 64) else 0) *
        (if l / 64 = e then A.q (256 * n + c) (128 * p + l) * (1 / 8) else if l % 64 < 3 then 1 else 0)) (fun l => ?_)]
  · refine congrArg _ ((sum_aug e he (fun l => A.k (256 * kb + r) (128 * p + l)) (fun l => A.q (256 * n + c) (128 * p + l))
      (fun x => -A.c (2 * p + x) (256 * kb + r))).trans ?_)
    simp only [show ∀ d, 128 * p + (64 * e + d) = 64 * (2 * p + e) + d from fun d => by omega]
    rfl
  · rw [kAug_at, qAug_at, hm, hm, rows_at, rows_at, scaled_at, H.hk, H.hb, ones3_at]
    rw [show VecWindow.window I.q (qBlk n hn).q S256x128.size (qBlk n hn).hq (ix2 c l) = _ from win2_at I.q n _ hn c l, H.hq]
    by_cases h1 : l.val / 64 = e
    · rw [if_pos h1, if_pos h1, if_pos h1, if_pos h1, ← EReal.coe_mul, ← EReal.coe_mul]
    · rw [if_neg h1, if_neg h1, if_neg h1, if_neg h1, ← EReal.coe_mul]

/-- The normalisers of a block of rows. -/
theorem lse_real (e : ℕ) (he : e < 2) (n : ℕ) (hn : n < 16) (h : ∀ a, (![0, e, 256 * n] : Fin 3 → ℕ) a + S1x1x256.size a ≤ S1x2x4096.size a) (c : Fin 256) :
    VecWindow.window I.lse ![0, e, 256 * n] S1x1x256.size h (ix3 0 0 c) = ((A.lse (2 * p + e) (256 * n + c) : ℝ) : EReal) := by
  rw [winL_at I.lse e n h he hn, H.hl]

/-- The weights of a block, every key before every query. -/
theorem weights_real {e : ℕ} (he : e < 2) (kb : ℕ) (n : ℕ) (hn : n < 16) (h) (st : FVec Ideal S256x256 .f32)
    (hst : ∀ r c : Fin 256, st (ix2 r c) = (((∑ d ∈ range 64, A.q (256 * n + c) (64 * (2 * p + e) + d) * A.k (256 * kb + r) (64 * (2 * p + e) + d)) * (1 / 8) - A.c (2 * p + e) (256 * kb + r) : ℝ) : EReal))
    (hk : kb < n) (r c : Fin 256) :
    pOf I.lse ![0, e, 256 * n] h st (ix2 r c) = ((A.p (2 * p + e) (256 * n + c) (256 * kb + r) : ℝ) : EReal) := by
  unfold pOf
  rw [weights_at, hst, lse_real H e he n hn, ← EReal.coe_sub, Ideal.exp_coe, A.p_eq _ (by omega) (by omega)]

/-- The weights of a block on the diagonal, masked. -/
theorem masked_real {e : ℕ} (he : e < 2) (kb : ℕ) (n : ℕ) (hn : n < 16) (h) (st : FVec Ideal S256x256 .f32)
    (hst : ∀ r c : Fin 256, st (ix2 r c) = (((∑ d ∈ range 64, A.q (256 * n + c) (64 * (2 * p + e) + d) * A.k (256 * kb + r) (64 * (2 * p + e) + d)) * (1 / 8) - A.c (2 * p + e) (256 * kb + r) : ℝ) : EReal))
    (hk : kb = n) (r c : Fin 256) :
    pOf I.lse ![0, e, 256 * n] h (masked keepV st) (ix2 r c) = ((A.p (2 * p + e) (256 * n + c) (256 * kb + r) : ℝ) : EReal) := by
  unfold pOf
  rw [weights_at, masked_at, hst, lse_real H e he n hn]
  by_cases hrc : r.val ≤ c.val
  · rw [if_pos hrc, ← EReal.coe_sub, Ideal.exp_coe, A.p_eq _ (by omega) (by omega)]
  · rw [if_neg hrc, A.p_after _ (by omega), EReal.bot_sub]; rfl

/-- The row dots are the means of the cotangent of the weights. -/
theorem dd_real (e : ℕ) (he : e < 2) (t : Fin 4096) : ddOf I (ix2 ⟨e, by omega⟩ t) = ((A.mean (2 * p + e) t : ℝ) : EReal) := by
  have key : ∀ r : Fin 256, t.val = 256 * (t.val / 256) + r.val → ∀ d : Fin 128,
      rows (F := Ideal) I.g (t.val / 256) (by omega) (ix2 r d) * rows (F := Ideal) I.o (t.val / 256) (by omega) (ix2 r d) = ((A.g t (128 * p + d) * A.o t (128 * p + d) : ℝ) : EReal) := by
    intro r hr d
    rw [rows_at, rows_at, H.hg, H.ho, ← EReal.coe_mul]
    simp only [← hr]
  have hr : t.val = 256 * (t.val / 256) + (⟨t.val % 256, by omega⟩ : Fin 256).val := (Nat.div_add_mod t.val 256).symm
  rw [A.mean_eq]
  rcases (by omega : e = 0 ∨ e = 1) with rfl | rfl
  · have : ddOf I (ix2 ⟨0, by omega⟩ t) = k0_pay2 (rows I.g (t.val / 256) (by omega)) (rows I.o (t.val / 256) (by omega)) (ix2 0 ⟨t.val % 256, by omega⟩) := rfl
    rw [this, dots0_at, sum_fin _ (fun d => A.g t (64 * (2 * p + 0) + d) * A.o t (64 * (2 * p + 0) + d)) (fun d => ?_)]
    rw [key _ hr]; simp only [show 64 * (2 * p + 0) + d.val = 128 * p + d.val by omega]
  · have : ddOf I (ix2 ⟨1, by omega⟩ t) = k0_pay3 (rows I.g (t.val / 256) (by omega)) (rows I.o (t.val / 256) (by omega)) (ix2 0 ⟨t.val % 256, by omega⟩) := rfl
    rw [this, dots1_at, sum_fin _ (fun d => A.g t (64 * (2 * p + 1) + d) * A.o t (64 * (2 * p + 1) + d)) (fun d => ?_)]
    rw [key _ hr]; simp only [show 64 * (2 * p + 1) + d.val = 128 * p + (64 + d.val) by omega]

/-- The output's cotangent's lanes of one head. -/
theorem gh_real {m : IVec S1x128 1} {e : ℕ} (hm : Marks m e) (n : ℕ) (hn : n < 16) (c : Fin 256) (l : Fin 128) :
    gh I.g (qBlk n hn) m (ix2 c l) = ((if l.val / 64 = e then A.g (256 * n + c) (128 * p + l) else 0 : ℝ) : EReal) := by
  unfold gh
  rw [headOf_at, hm, show VecWindow.window I.g (qBlk n hn).q S256x128.size (qBlk n hn).hq (ix2 c l) = _ from win2_at I.g n _ hn c l, H.hg]
  split <;> rfl

/-- The scaled queries' lanes of one head. -/
theorem qh_real {m : IVec S1x128 1} {e : ℕ} (hm : Marks m e) (n : ℕ) (hn : n < 16) (c : Fin 256) (l : Fin 128) :
    qh I.q (qBlk n hn) m (ix2 c l) = ((if l.val / 64 = e then A.q (256 * n + c) (128 * p + l) * (1 / 8) else 0 : ℝ) : EReal) := by
  unfold qh
  rw [headOf_at, hm, scaled_at, show VecWindow.window I.q (qBlk n hn).q S256x128.size (qBlk n hn).hq (ix2 c l) = _ from win2_at I.q n _ hn c l, H.hq, ← EReal.coe_mul]
  split <;> rfl

/-- The scaled keys' lanes of one head. -/
theorem ks_real {m : IVec S1x128 1} {e : ℕ} (hm : Marks m e) (kb : ℕ) (hkb : kb < 16) (r : Fin 256) (l : Fin 128) :
    scaled (F := Ideal) (headOf (F := Ideal) m (rows I.k kb hkb)) (ix2 r l) = ((if l.val / 64 = e then A.k (256 * kb + r) (128 * p + l) * (1 / 8) else 0 : ℝ) : EReal) := by
  rw [scaled_at, headOf_at, hm, rows_at, H.hk]
  split
  · rw [← EReal.coe_mul]
  · rw [zero_mul]; rfl

/-- The cotangent of the logits of a block. -/
theorem ds_real {m : IVec S1x128 1} {e : ℕ} (he : e < 2) (hm : Marks m e) (kb : ℕ) (hkb : kb < 16) (n : ℕ) (hn : n < 16) (h hd) (st : FVec Ideal S256x256 .f32)
    (hp : ∀ r c : Fin 256, pOf I.lse ![0, e, 256 * n] h st (ix2 r c) = ((A.p (2 * p + e) (256 * n + c) (256 * kb + r) : ℝ) : EReal)) (r c : Fin 256) :
    dsOf I.lse (ddOf I) ![0, e, 256 * n] h ![e, 256 * n] hd st (rowDots (rows I.v kb hkb) (gh I.g (qBlk n hn) m)) (ix2 r c)
      = ((A.ds (2 * p + e) (256 * n + c) (256 * kb + r) : ℝ) : EReal) := by
  unfold dsOf
  rw [dLogits_at, hp, winD_at (ddOf I) e n hd (by omega) hn, dd_real H e he, rowDots_at,
    sum_fin _ (fun l => if l / 64 = e then A.g (256 * n + c) (128 * p + l) * A.v (256 * kb + r) (128 * p + l) else 0) (fun l => ?_)]
  · rw [← EReal.coe_sub, ← EReal.coe_mul, sum_head e he]
    simp only [show ∀ d, 128 * p + (64 * e + d) = 64 * (2 * p + e) + d from fun d => by omega]
    rfl
  · rw [gh_real H hm, rows_at, H.hv, ← EReal.coe_mul]
    congr 1
    split <;> ring

end Blocks

end Cert.KernelIdeal.Fox

end
-- ==== Proof.FoxAcc.lean ====
/- The kernel's accumulators over the reals, step by step. -/
module

public import proofs.«01_k».proof.Proof.FoxVal

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.FoxReal Finset

/-- The accumulators, as reals. -/
structure RAcc where
  dc : ℕ → ℕ → ℝ
  dq : ℕ → ℕ → ℝ
  col : ℕ → ℕ → ℝ
  dk : ℕ → ℕ → ℕ → ℝ
  dv : ℕ → ℕ → ℕ → ℝ

/-- The accumulators hold these reals. -/
structure Is (s : Acc Ideal) (R : RAcc) : Prop where
  dc : ∀ (e : Fin 2) (t : Fin 4096), s.dc (ix3 0 e t) = ((R.dc e t : ℝ) : EReal)
  dq : ∀ (t : Fin 4096) (l : Fin 128), s.dq (ix2 t l) = ((R.dq t l : ℝ) : EReal)
  col : ∀ (t : Fin 4096) (l : Fin 128), s.col (ix2 t l) = ((R.col t l : ℝ) : EReal)
  dk : ∀ (j : Fin 2) (r : Fin 256) (l : Fin 128), s.dk (ix3 j r l) = ((R.dk j r l : ℝ) : EReal)
  dv : ∀ (j : Fin 2) (r : Fin 256) (l : Fin 128), s.dv (ix3 j r l) = ((R.dv j r l : ℝ) : EReal)

/-- The two hold the same reals inside the arrays. -/
structure Same (R R' : RAcc) : Prop where
  dc : ∀ e t, e < 2 → t < 4096 → R.dc e t = R'.dc e t
  dq : ∀ t l, t < 4096 → l < 128 → R.dq t l = R'.dq t l
  col : ∀ t l, t < 4096 → l < 128 → R.col t l = R'.col t l
  dk : ∀ j r l, j < 2 → r < 256 → l < 128 → R.dk j r l = R'.dk j r l
  dv : ∀ j r l, j < 2 → r < 256 → l < 128 → R.dv j r l = R'.dv j r l

theorem Is.same {s : Acc Ideal} {R R' : RAcc} (h : Is s R) (h' : Same R R') : Is s R' where
  dc e t := by rw [h.dc, h'.dc _ _ e.isLt t.isLt]
  dq t l := by rw [h.dq, h'.dq _ _ t.isLt l.isLt]
  col t l := by rw [h.col, h'.col _ _ t.isLt l.isLt]
  dk j r l := by rw [h.dk, h'.dk _ _ _ j.isLt r.isLt l.isLt]
  dv j r l := by rw [h.dv, h'.dv _ _ _ j.isLt r.isLt l.isLt]

/-! ## Shares of a block -/

section Shares

variable (A : Args) (p : ℕ)

/-- The shares of key block `kb` and query block `n` in the gradients, of one head: in a query's row and in
    its bias, in a key's row, in a value's row, and in a key's bias. -/
def SQ (e n kb c l : ℕ) : ℝ := ∑ r ∈ range 256, A.ds (2 * p + e) (256 * n + c) (256 * kb + r) * (if l / 64 = e then A.k (256 * kb + r) (128 * p + l) * (1 / 8) else 0)
def SR (e n kb c : ℕ) : ℝ := ∑ r ∈ range 256, A.ds (2 * p + e) (256 * n + c) (256 * kb + r)
def SK (e n kb r l : ℕ) : ℝ := ∑ c ∈ range 256, A.ds (2 * p + e) (256 * n + c) (256 * kb + r) * (if l / 64 = e then A.q (256 * n + c) (128 * p + l) * (1 / 8) else 0)
def SV (e n kb r l : ℕ) : ℝ := ∑ c ∈ range 256, A.p (2 * p + e) (256 * n + c) (256 * kb + r) * (if l / 64 = e then A.g (256 * n + c) (128 * p + l) else 0)
def SC (e n kb r : ℕ) : ℝ := ∑ c ∈ range 256, A.ds (2 * p + e) (256 * n + c) (256 * kb + r)

/-- The same, each lane with its own head. -/
def TQ (n kb c l : ℕ) : ℝ := ∑ r ∈ range 256, A.ds (2 * p + l / 64) (256 * n + c) (256 * kb + r) * (A.k (256 * kb + r) (128 * p + l) * (1 / 8))
def TK (n kb r l : ℕ) : ℝ := ∑ c ∈ range 256, A.ds (2 * p + l / 64) (256 * n + c) (256 * kb + r) * (A.q (256 * n + c) (128 * p + l) * (1 / 8))
def TV (n kb r l : ℕ) : ℝ := ∑ c ∈ range 256, A.p (2 * p + l / 64) (256 * n + c) (256 * kb + r) * A.g (256 * n + c) (128 * p + l)

theorem SQ_own {e l : ℕ} (h : l / 64 = e) (n kb c : ℕ) : SQ A p e n kb c l = TQ A p n kb c l := by
  unfold SQ TQ; rw [← h]; simp
theorem SQ_other {e l : ℕ} (h : l / 64 ≠ e) (n kb c : ℕ) : SQ A p e n kb c l = 0 := by
  unfold SQ; simp [h]
theorem SK_own {e l : ℕ} (h : l / 64 = e) (n kb r : ℕ) : SK A p e n kb r l = TK A p n kb r l := by
  unfold SK TK; rw [← h]; simp
theorem SK_other {e l : ℕ} (h : l / 64 ≠ e) (n kb r : ℕ) : SK A p e n kb r l = 0 := by
  unfold SK; simp [h]
theorem SV_own {e l : ℕ} (h : l / 64 = e) (n kb r : ℕ) : SV A p e n kb r l = TV A p n kb r l := by
  unfold SV TV; rw [← h]; simp
theorem SV_other {e l : ℕ} (h : l / 64 ≠ e) (n kb r : ℕ) : SV A p e n kb r l = 0 := by
  unfold SV; simp [h]

theorem SR_after {n kb c : ℕ} (h : n < kb) (hc : c < 256) (e : ℕ) : SR A p e n kb c = 0 :=
  sum_eq_zero fun r _ => A.ds_after _ (by omega)
theorem TQ_after {n kb c : ℕ} (h : n < kb) (hc : c < 256) (l : ℕ) : TQ A p n kb c l = 0 :=
  sum_eq_zero fun r _ => by rw [A.ds_after _ (by omega), zero_mul]
theorem TK_after {n kb : ℕ} (h : n < kb) (r l : ℕ) : TK A p n kb r l = 0 :=
  sum_eq_zero fun c hc => by rw [A.ds_after _ (by have := mem_range.1 hc; omega), zero_mul]
theorem TV_after {n kb : ℕ} (h : n < kb) (r l : ℕ) : TV A p n kb r l = 0 :=
  sum_eq_zero fun c hc => by rw [A.p_after _ (by have := mem_range.1 hc; omega), zero_mul]
theorem SC_after {n kb : ℕ} (h : n < kb) (e r : ℕ) : SC A p e n kb r = 0 :=
  sum_eq_zero fun c hc => by rw [A.ds_after _ (by have := mem_range.1 hc; omega)]

/-- The accumulators after one head, one block of keys and one block of queries, before the rows' shares. -/
def chainR (e kb j n : ℕ) (R : RAcc) : RAcc :=
  { R with
    dv := fun j' r l => R.dv j' r l + if j' = j then SV A p e n kb r l else 0
    dk := fun j' r l => R.dk j' r l + if j' = j then SK A p e n kb r l else 0
    col := fun s l => R.col s l - if s / 256 = kb ∧ l = e then SC A p e n kb (s % 256) else 0 }

/-- The accumulators after the rows' shares of a step. -/
def finishR (n : ℕ) (r0 r1 : ℕ → ℝ) (q : ℕ → ℕ → ℝ) (R : RAcc) : RAcc :=
  { R with
    dc := fun e t => R.dc e t + if t / 256 = n then (if e = 0 then r0 (t % 256) else r1 (t % 256)) else 0
    dq := fun t l => R.dq t l + if t / 256 = n then q (t % 256) l else 0 }

/-- The accumulators after query block `n` against both key blocks of pair `b`. -/
def stepR (b n : ℕ) (R : RAcc) : RAcc where
  dc e t := R.dc e t + if t / 256 = n then SR A p e n (2 * b) (t % 256) + SR A p e n (2 * b + 1) (t % 256) else 0
  dq t l := R.dq t l + if t / 256 = n then TQ A p n (2 * b) (t % 256) l + TQ A p n (2 * b + 1) (t % 256) l else 0
  col s l := R.col s l - if s / 512 = b ∧ l < 2 then SC A p l n (s / 256) (s % 256) else 0
  dk j r l := R.dk j r l + TK A p n (2 * b + j) r l
  dv j r l := R.dv j r l + TV A p n (2 * b + j) r l

end Shares

/-! ## The operations of a step -/

theorem is_chain {A : Args} {p : ℕ} {s : Acc Ideal} {R : RAcc} (hs : Is s R) {e : ℕ} (he : e < 2) (j : ℕ) (hj : j < 2) (kb : ℕ) (hkb : kb < 16) (n : ℕ)
    (hsl : ∀ a, (![j, 0, 0] : Fin 3 → ℕ) a + S1x256x128.size a ≤ S2x256x128.size a)
    (hco : ∀ a, (![256 * kb, 0] : Fin 2 → ℕ) a + S256x128.size a ≤ S4096x128.size a)
    {pb db : FVec Ideal S256x256 .f32} {gb qb : FVec Ideal S256x128 .bf16}
    (hp : ∀ r c : Fin 256, pb (ix2 r c) = ((A.p (2 * p + e) (256 * n + c) (256 * kb + r) : ℝ) : EReal))
    (hd : ∀ r c : Fin 256, db (ix2 r c) = ((A.ds (2 * p + e) (256 * n + c) (256 * kb + r) : ℝ) : EReal))
    (hg : ∀ (c : Fin 256) (l : Fin 128), gb (ix2 c l) = ((if l.val / 64 = e then A.g (256 * n + c) (128 * p + l) else 0 : ℝ) : EReal))
    (hq : ∀ (c : Fin 256) (l : Fin 128), qb (ix2 c l) = ((if l.val / 64 = e then A.q (256 * n + c) (128 * p + l) * (1 / 8) else 0 : ℝ) : EReal)) :
    Is (chainF (F := Ideal) ![j, 0, 0] hsl ![256 * kb, 0] hco laneV (BitVec.ofNat 32 e) pb db gb qb s) (chainR A p e kb j n R) where
  dc := hs.dc
  dq := hs.dq
  col t l := by
    refine (put2_at _ kb hkb _ t l).trans ?_
    show _ = ((R.col t l - if t.val / 256 = kb ∧ l.val = e then SC A p e n kb (t.val % 256) else 0 : ℝ) : EReal)
    by_cases h : t.val / 256 = kb
    · have ht : (⟨256 * kb + t.val % 256, by omega⟩ : Fin 4096) = t := Fin.ext (by show 256 * kb + t.val % 256 = t.val; omega)
      rw [if_pos h, subCols_at, lane_at _ e he, win2_at s.col kb hco hkb]
      rw [show (⟨256 * kb + (⟨t.val % 256, by omega⟩ : Fin 256).val, by show 256 * kb + t.val % 256 < 4096; omega⟩ : Fin 4096) = t from ht, hs.col,
        sum_fin _ (fun c => A.ds (2 * p + e) (256 * n + c) (256 * kb + t.val % 256)) (fun c => hd _ c)]
      by_cases h2 : l.val = e
      · rw [if_pos h2, if_pos ⟨h, h2⟩, ← EReal.coe_sub]; rfl
      · rw [if_neg h2, if_neg (fun x => h2 x.2), sub_zero, sub_zero]
    · rw [if_neg h, if_neg (fun x => h x.1), sub_zero]; exact hs.col t l
  dk j' r l := by
    refine (putS_at _ j _ j' r l).trans ?_
    show _ = ((R.dk j' r l + if j'.val = j then SK A p e n kb r l else 0 : ℝ) : EReal)
    by_cases h : j'.val = j
    · rw [if_pos h, if_pos h, accRows_at, winS_at s.dk j hsl hj, show (⟨j, hj⟩ : Fin 2) = j' from Fin.ext h.symm, hs.dk,
        sum_fin _ (fun c => A.ds (2 * p + e) (256 * n + c) (256 * kb + r) * (if l.val / 64 = e then A.q (256 * n + c) (128 * p + l) * (1 / 8) else 0)) (fun c => by
          rw [hd, hq, ← EReal.coe_mul]), ← EReal.coe_add]
      rfl
    · rw [if_neg h, if_neg h, add_zero]; exact hs.dk j' r l
  dv j' r l := by
    refine (putS_at _ j _ j' r l).trans ?_
    show _ = ((R.dv j' r l + if j'.val = j then SV A p e n kb r l else 0 : ℝ) : EReal)
    by_cases h : j'.val = j
    · rw [if_pos h, if_pos h, accRows_at, winS_at s.dv j hsl hj, show (⟨j, hj⟩ : Fin 2) = j' from Fin.ext h.symm, hs.dv,
        sum_fin _ (fun c => A.p (2 * p + e) (256 * n + c) (256 * kb + r) * (if l.val / 64 = e then A.g (256 * n + c) (128 * p + l) else 0)) (fun c => by
          rw [hp, hg, ← EReal.coe_mul]), ← EReal.coe_add]
      rfl
    · rw [if_neg h, if_neg h, add_zero]; exact hs.dv j' r l

theorem is_finish {s : Acc Ideal} {R : RAcc} (hs : Is s R) (n : ℕ) (hn : n < 16) {d0 d1 : FVec Ideal S1x256 .f32} {q : FVec Ideal S256x128 .f32}
    {r0 r1 : ℕ → ℝ} {rq : ℕ → ℕ → ℝ} (h0 : ∀ c : Fin 256, d0 (ix2 0 c) = ((r0 c : ℝ) : EReal)) (h1 : ∀ c : Fin 256, d1 (ix2 0 c) = ((r1 c : ℝ) : EReal))
    (hq : ∀ (c : Fin 256) (l : Fin 128), q (ix2 c l) = ((rq c l : ℝ) : EReal)) :
    Is (finishF (F := Ideal) (qBlk n hn) d0 d1 q s) (finishR n r0 r1 rq R) where
  col := hs.col
  dk := hs.dk
  dv := hs.dv
  dq t l := by
    refine (put2_at _ n hn _ t l).trans ?_
    show _ = ((R.dq t l + if t.val / 256 = n then rq (t.val % 256) l else 0 : ℝ) : EReal)
    by_cases h : t.val / 256 = n
    · have ht : (⟨256 * n + t.val % 256, by omega⟩ : Fin 4096) = t := Fin.ext (by show 256 * n + t.val % 256 = t.val; omega)
      rw [if_pos h, if_pos h, putQ_at, hq]
      rw [show VecWindow.window s.dq (qBlk n hn).q S256x128.size (qBlk n hn).hq (ix2 ⟨t.val % 256, by omega⟩ l) = s.dq (ix2 t l) from
        (win2_at s.dq n _ hn _ l).trans (congrArg (fun x => s.dq (ix2 x l)) ht), hs.dq, ← EReal.coe_add]
    · rw [if_neg h, if_neg h, add_zero]; exact hs.dq t l
  dc e t := by
    refine (putL_at _ 1 n hn _ e t).trans ?_
    show _ = ((R.dc e t + if t.val / 256 = n then (if e.val = 0 then r0 (t.val % 256) else r1 (t.val % 256)) else 0 : ℝ) : EReal)
    have old : ∀ c : Fin 256, VecWindow.put s.dc (qBlk n hn).l0 S1x1x256.size (putRow d0 (VecWindow.window s.dc (qBlk n hn).l0 S1x1x256.size (qBlk n hn).hl0)) (ix3 0 e t)
        = if e.val = 0 ∧ t.val / 256 = n then putRow d0 (VecWindow.window s.dc (qBlk n hn).l0 S1x1x256.size (qBlk n hn).hl0) (ix3 0 0 ⟨t.val % 256, by omega⟩) else s.dc (ix3 0 e t) :=
      fun c => putL_at _ 0 n hn _ e t
    by_cases h : t.val / 256 = n
    · have ht : (⟨256 * n + t.val % 256, by omega⟩ : Fin 4096) = t := Fin.ext (by show 256 * n + t.val % 256 = t.val; omega)
      rw [if_pos h]
      rcases (by omega : e.val = 0 ∨ e.val = 1) with he | he
      · rw [if_neg (by omega), if_pos he, old ⟨0, by omega⟩, if_pos ⟨he, h⟩, putRow_at, h0]
        rw [show VecWindow.window s.dc (qBlk n hn).l0 S1x1x256.size (qBlk n hn).hl0 (ix3 0 0 ⟨t.val % 256, by omega⟩) = s.dc (ix3 0 e t) from
          (winL_at s.dc 0 n _ (by omega) hn _).trans (congrArg₂ (fun y x => s.dc (ix3 0 y x)) (Fin.ext he.symm) ht), hs.dc, ← EReal.coe_add]
      · rw [if_pos ⟨he, h⟩, if_neg (by omega), putRow_at, h1]
        refine (congrArg (· + _) ((winL_at _ 1 n _ (by omega) hn _).trans (congrArg₂ (fun y x => VecWindow.put s.dc (qBlk n hn).l0 S1x1x256.size (putRow d0 (VecWindow.window s.dc (qBlk n hn).l0 S1x1x256.size (qBlk n hn).hl0)) (ix3 0 y x)) (Fin.ext he.symm : (⟨1, by omega⟩ : Fin 2) = e) ht))).trans ?_
        rw [old ⟨0, by omega⟩, if_neg (by omega), hs.dc, ← EReal.coe_add]
    · rw [if_neg (by omega), if_neg h, old ⟨0, by omega⟩, if_neg (by omega), add_zero]; exact hs.dc e t

/-- Sums of functions, and none. -/
def nil1 (_ : ℕ) : ℝ := 0
def nil2 (_ _ : ℕ) : ℝ := 0
def plus1 (f g : ℕ → ℝ) (c : ℕ) : ℝ := f c + g c
def plus2 (f g : ℕ → ℕ → ℝ) (c l : ℕ) : ℝ := f c l + g c l

/-- One block's share added to the rows' bias gradient. -/
theorem addRow_real {A : Args} {p e n kb : ℕ} {dr : FVec Ideal S1x256 .f32} {db : FVec Ideal S256x256 .f32} {f : ℕ → ℝ}
    (h : ∀ c : Fin 256, dr (ix2 0 c) = ((f c : ℝ) : EReal))
    (hd : ∀ r c : Fin 256, db (ix2 r c) = ((A.ds (2 * p + e) (256 * n + c) (256 * kb + r) : ℝ) : EReal)) (c : Fin 256) :
    addRow dr db (ix2 0 c) = ((plus1 f (SR A p e n kb) c : ℝ) : EReal) := by
  rw [addRow_at, h, sum_fin _ (fun r => A.ds (2 * p + e) (256 * n + c) (256 * kb + r)) (fun r => hd r c), ← EReal.coe_add]; rfl

/-- One block's share added to the queries' gradient. -/
theorem addQ_real {A : Args} {p e n kb : ℕ} {dq : FVec Ideal S256x128 .f32} {db : FVec Ideal S256x256 .f32} {kb' : FVec Ideal S256x128 .bf16} {f : ℕ → ℕ → ℝ}
    (h : ∀ (c : Fin 256) (l : Fin 128), dq (ix2 c l) = ((f c l : ℝ) : EReal))
    (hd : ∀ r c : Fin 256, db (ix2 r c) = ((A.ds (2 * p + e) (256 * n + c) (256 * kb + r) : ℝ) : EReal))
    (hk : ∀ (r : Fin 256) (l : Fin 128), kb' (ix2 r l) = ((if l.val / 64 = e then A.k (256 * kb + r) (128 * p + l) * (1 / 8) else 0 : ℝ) : EReal))
    (c : Fin 256) (l : Fin 128) :
    addQ dq db kb' (ix2 c l) = ((plus2 f (SQ A p e n kb) c l : ℝ) : EReal) := by
  rw [addQ_at, h, sum_fin _ (fun r => A.ds (2 * p + e) (256 * n + c) (256 * kb + r) * (if l.val / 64 = e then A.k (256 * kb + r) (128 * p + l) * (1 / 8) else 0)) (fun r => by
    rw [hd, hk, ← EReal.coe_mul]), ← EReal.coe_add]; rfl

theorem zeroRow_real (c : Fin 256) : zeroRow (F := Ideal) (ix2 0 c) = ((nil1 c : ℝ) : EReal) := zeroRow_at c
theorem zeroQ_real (c : Fin 256) (l : Fin 128) : zeroQ (F := Ideal) (ix2 c l) = ((nil2 c l : ℝ) : EReal) := zeroQ_at c l

/-! ## The steps -/

section Steps

variable {A : Args} {p : ℕ} {I : Inp Ideal} (H : At A p I)

include H

/-- One block of queries against both blocks of keys of a pair, given the weights of the blocks. -/
theorem is_step2 {s : Acc Ideal} {R : RAcc} (hs : Is s R) (b : ℕ) (hb : b < 8) (n : ℕ) (hn : n < 16) (hbn : 2 * b < n)
    (mk : FVec Ideal S256x256 .f32 → FVec Ideal S256x256 .f32)
    (hmk : ∀ (e : ℕ) (he : e < 2) (h) (st : FVec Ideal S256x256 .f32),
      (∀ r c : Fin 256, st (ix2 r c) = (((∑ d ∈ range 64, A.q (256 * n + c) (64 * (2 * p + e) + d) * A.k (256 * (2 * b + 1) + r) (64 * (2 * p + e) + d)) * (1 / 8) - A.c (2 * p + e) (256 * (2 * b + 1) + r) : ℝ) : EReal)) →
      ∀ r c : Fin 256, pOf I.lse ![0, e, 256 * n] h (mk st) (ix2 r c) = ((A.p (2 * p + e) (256 * n + c) (256 * (2 * b + 1) + r) : ℝ) : EReal)) :
    Is (stepAt2 I laneV lo64 hi64 ones3V b hb n hn mk s) (stepR A p b n R) := by
  have p00 := weights_real H (e := 0) (by omega) (2 * b) n hn (qBlk n hn).hl0 _ (lgt_real H (by omega) marks_lo (2 * b) (by omega) n hn) hbn
  have p01 := weights_real H (e := 1) (by omega) (2 * b) n hn (qBlk n hn).hl1 _ (lgt_real H (by omega) marks_hi (2 * b) (by omega) n hn) hbn
  have p10 := hmk 0 (by omega) (qBlk n hn).hl0 _ (lgt_real H (by omega) marks_lo (2 * b + 1) (by omega) n hn)
  have p11 := hmk 1 (by omega) (qBlk n hn).hl1 _ (lgt_real H (by omega) marks_hi (2 * b + 1) (by omega) n hn)
  have d00 := ds_real H (by omega) marks_lo (2 * b) (by omega) n hn (qBlk n hn).hl0 (qBlk n hn).hd0 _ p00
  have d01 := ds_real H (by omega) marks_hi (2 * b) (by omega) n hn (qBlk n hn).hl1 (qBlk n hn).hd1 _ p01
  have d10 := ds_real H (by omega) marks_lo (2 * b + 1) (by omega) n hn (qBlk n hn).hl0 (qBlk n hn).hd0 _ p10
  have d11 := ds_real H (by omega) marks_hi (2 * b + 1) (by omega) n hn (qBlk n hn).hl1 (qBlk n hn).hd1 _ p11
  have c1 := is_chain hs (by omega) 0 (by omega) (2 * b) (by omega) n inb_S2x256x128_S1x256x128_0_0_0 (kBlk b hb).hc0 p00 d00 (gh_real H marks_lo n hn) (qh_real H marks_lo n hn)
  have c2 := is_chain c1 (by omega) 1 (by omega) (2 * b + 1) (by omega) n inb_S2x256x128_S1x256x128_1_0_0 (kBlk b hb).hc1 p10 d10 (gh_real H marks_lo n hn) (qh_real H marks_lo n hn)
  have c3 := is_chain c2 (by omega) 0 (by omega) (2 * b) (by omega) n inb_S2x256x128_S1x256x128_0_0_0 (kBlk b hb).hc0 p01 d01 (gh_real H marks_hi n hn) (qh_real H marks_hi n hn)
  have c4 := is_chain c3 (by omega) 1 (by omega) (2 * b + 1) (by omega) n inb_S2x256x128_S1x256x128_1_0_0 (kBlk b hb).hc1 p11 d11 (gh_real H marks_hi n hn) (qh_real H marks_hi n hn)
  have f := is_finish c4 n hn (addRow_real (addRow_real zeroRow_real d00) d10) (addRow_real (addRow_real zeroRow_real d01) d11)
    (addQ_real (addQ_real (addQ_real (addQ_real zeroQ_real d00 (ks_real H marks_lo (2 * b) (by omega))) d10 (ks_real H marks_lo (2 * b + 1) (by omega)))
      d01 (ks_real H marks_hi (2 * b) (by omega))) d11 (ks_real H marks_hi (2 * b + 1) (by omega)))
  refine Is.same (s := stepAt2 I laneV lo64 hi64 ones3V b hb n hn mk s) f ?_
  constructor
  · intro e t he ht
    simp only [finishR, chainR, stepR, plus1, plus2, nil1, nil2]
    rcases (by omega : e = 0 ∨ e = 1) with rfl | rfl <;> simp
  · intro t l ht hl
    simp only [finishR, chainR, stepR, plus1, plus2, nil1, nil2]
    congr 2
    rcases (by omega : l / 64 = 0 ∨ l / 64 = 1) with h | h
    · rw [SQ_own A p h, SQ_own A p h, SQ_other A p (e := 1) (by omega), SQ_other A p (e := 1) (by omega)]; ring
    · rw [SQ_own A p h, SQ_own A p h, SQ_other A p (e := 0) (by omega), SQ_other A p (e := 0) (by omega)]; ring
  · intro t l ht hl
    simp only [finishR, chainR, stepR, plus1, plus2, nil1, nil2]
    by_cases h1 : t / 256 = 2 * b
    · have h2 : t / 512 = b := by omega
      have h3 : ¬ t / 256 = 2 * b + 1 := by omega
      rcases (by omega : l = 0 ∨ l = 1 ∨ 2 ≤ l) with rfl | rfl | h
      · simp [h1, h2]
      · simp [h1, h2]
      · simp [show ¬ l = 0 by omega, show ¬ l = 1 by omega, show ¬ l < 2 by omega]
    · by_cases h3 : t / 256 = 2 * b + 1
      · have h2 : t / 512 = b := by omega
        rcases (by omega : l = 0 ∨ l = 1 ∨ 2 ≤ l) with rfl | rfl | h
        · simp [h3, h2]
        · simp [h3, h2]
        · simp [show ¬ l = 0 by omega, show ¬ l = 1 by omega, show ¬ l < 2 by omega]
      · have h2 : ¬ t / 512 = b := by omega
        simp [h1, h2, h3]
  · intro j r l hj hr hl
    simp only [finishR, chainR, stepR, plus1, plus2, nil1, nil2]
    rcases (by omega : l / 64 = 0 ∨ l / 64 = 1) with h | h <;> rcases (by omega : j = 0 ∨ j = 1) with rfl | rfl <;>
      simp [SK_own A p h, SK_other A p (e := 0) (l := l), SK_other A p (e := 1) (l := l), h]
  · intro j r l hj hr hl
    simp only [finishR, chainR, stepR, plus1, plus2, nil1, nil2]
    rcases (by omega : l / 64 = 0 ∨ l / 64 = 1) with h | h <;> rcases (by omega : j = 0 ∨ j = 1) with rfl | rfl <;>
      simp [SV_own A p h, SV_other A p (e := 0) (l := l), SV_other A p (e := 1) (l := l), h]

/-- The first block of queries of a pair against its first block of keys. -/
theorem is_step1 {s : Acc Ideal} {R : RAcc} (hs : Is s R) (b : ℕ) (hb : b < 8) :
    Is (stepAt1 I laneV lo64 hi64 ones3V keepV b hb s) (stepR A p b (2 * b) R) := by
  have hn : 2 * b < 16 := by omega
  have p00 := masked_real H (e := 0) (by omega) (2 * b) (2 * b) hn (qBlk (2 * b) hn).hl0 _ (lgt_real H (by omega) marks_lo (2 * b) (by omega) (2 * b) hn) rfl
  have p01 := masked_real H (e := 1) (by omega) (2 * b) (2 * b) hn (qBlk (2 * b) hn).hl1 _ (lgt_real H (by omega) marks_hi (2 * b) (by omega) (2 * b) hn) rfl
  have d00 := ds_real H (by omega) marks_lo (2 * b) (by omega) (2 * b) hn (qBlk (2 * b) hn).hl0 (qBlk (2 * b) hn).hd0 _ p00
  have d01 := ds_real H (by omega) marks_hi (2 * b) (by omega) (2 * b) hn (qBlk (2 * b) hn).hl1 (qBlk (2 * b) hn).hd1 _ p01
  have c1 := is_chain hs (by omega) 0 (by omega) (2 * b) (by omega) (2 * b) inb_S2x256x128_S1x256x128_0_0_0 (kBlk b hb).hc0 p00 d00 (gh_real H marks_lo (2 * b) hn) (qh_real H marks_lo (2 * b) hn)
  have c3 := is_chain c1 (by omega) 0 (by omega) (2 * b) (by omega) (2 * b) inb_S2x256x128_S1x256x128_0_0_0 (kBlk b hb).hc0 p01 d01 (gh_real H marks_hi (2 * b) hn) (qh_real H marks_hi (2 * b) hn)
  have f := is_finish c3 (2 * b) hn (addRow_real zeroRow_real d00) (addRow_real zeroRow_real d01)
    (addQ_real (addQ_real zeroQ_real d00 (ks_real H marks_lo (2 * b) (by omega))) d01 (ks_real H marks_hi (2 * b) (by omega)))
  refine Is.same (s := stepAt1 I laneV lo64 hi64 ones3V keepV b hb s) f ?_
  constructor
  · intro e t he ht
    simp only [finishR, chainR, stepR, plus1, plus2, nil1, nil2]
    rw [SR_after A p (n := 2 * b) (kb := 2 * b + 1) (by omega) (by omega)]
    rcases (by omega : e = 0 ∨ e = 1) with rfl | rfl <;> simp
  · intro t l ht hl
    simp only [finishR, chainR, stepR, plus1, plus2, nil1, nil2]
    rw [TQ_after A p (n := 2 * b) (kb := 2 * b + 1) (by omega) (by omega)]
    congr 2
    rcases (by omega : l / 64 = 0 ∨ l / 64 = 1) with h | h
    · rw [SQ_own A p h, SQ_other A p (e := 1) (by omega)]; ring
    · rw [SQ_own A p h, SQ_other A p (e := 0) (by omega)]; ring
  · intro t l ht hl
    simp only [finishR, chainR, stepR, plus1, plus2, nil1, nil2]
    by_cases h1 : t / 256 = 2 * b
    · have h2 : t / 512 = b := by omega
      rcases (by omega : l = 0 ∨ l = 1 ∨ 2 ≤ l) with rfl | rfl | h
      · simp [h1, h2]
      · simp [h1, h2]
      · simp [show ¬ l = 0 by omega, show ¬ l = 1 by omega, show ¬ l < 2 by omega]
    · by_cases h3 : t / 256 = 2 * b + 1
      · rw [SC_after A p (by omega : 2 * b < t / 256)]; simp [h1]
      · have h2 : ¬ t / 512 = b := by omega
        simp [h1, h2]
  · intro j r l hj hr hl
    simp only [finishR, chainR, stepR, plus1, plus2, nil1, nil2]
    rcases (by omega : l / 64 = 0 ∨ l / 64 = 1) with h | h <;> rcases (by omega : j = 0 ∨ j = 1) with rfl | rfl <;>
      simp [SK_own A p h, SK_other A p (e := 0) (l := l), SK_other A p (e := 1) (l := l), h, TK_after A p (n := 2 * b) (kb := 2 * b + 1) (by omega)]
  · intro j r l hj hr hl
    simp only [finishR, chainR, stepR, plus1, plus2, nil1, nil2]
    rcases (by omega : l / 64 = 0 ∨ l / 64 = 1) with h | h <;> rcases (by omega : j = 0 ∨ j = 1) with rfl | rfl <;>
      simp [SV_own A p h, SV_other A p (e := 0) (l := l), SV_other A p (e := 1) (l := l), h, TV_after A p (n := 2 * b) (kb := 2 * b + 1) (by omega)]

theorem is_diag {s : Acc Ideal} {R : RAcc} (hs : Is s R) (b : ℕ) (hb : b < 8) :
    Is (stepAt2 I laneV lo64 hi64 ones3V b hb (2 * b + 1) (by omega) (masked keepV) s) (stepR A p b (2 * b + 1) R) :=
  is_step2 H hs b hb (2 * b + 1) (by omega) (by omega) _ fun e he h st hst => masked_real H he (2 * b + 1) (2 * b + 1) (by omega) h st hst rfl

theorem is_below {s : Acc Ideal} {R : RAcc} (hs : Is s R) (b : ℕ) (hb : b < 8) (n : ℕ) (hn : n < 16) (h : 2 * b + 1 < n) :
    Is (stepAt2 I laneV lo64 hi64 ones3V b hb n hn id s) (stepR A p b n R) :=
  is_step2 H hs b hb n hn (by omega) _ fun e he h' st hst => weights_real H he (2 * b + 1) n hn h' st hst h

end Steps

end Cert.KernelIdeal.Fox

end
-- ==== Proof.FoxOut.lean ====
/- The kernel's results at one grid point, over the reals: the gradients of one pair of heads. -/
module

public import proofs.«01_k».proof.Proof.FoxAcc

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.FoxReal Finset

/-- A sum over blocks of equal length is the sum over all. -/
theorem sum_blocks (a : ℕ) (f : ℕ → ℝ) (m : ℕ) : ∑ n ∈ range m, ∑ c ∈ range a, f (a * n + c) = ∑ t ∈ range (a * m), f t := by
  induction m with
  | zero => simp
  | succ m ih => rw [sum_range_succ, ih, Nat.mul_succ, sum_range_add]

theorem sum_pairs (f : ℕ → ℝ) (m : ℕ) : ∑ b ∈ range m, (f (2 * b) + f (2 * b + 1)) = ∑ n ∈ range (2 * m), f n := by
  rw [← sum_blocks 2 f m]
  exact sum_congr rfl fun b _ => by simp [sum_range_succ]

section Loops

variable (A : Args) (p : ℕ)

/-- The accumulators after the query blocks before `m` against both key blocks of pair `b`. -/
def upTo (b : ℕ) (R : RAcc) (m : ℕ) : RAcc where
  dc e t := R.dc e t + ∑ n ∈ range m, if t / 256 = n then SR A p e n (2 * b) (t % 256) + SR A p e n (2 * b + 1) (t % 256) else 0
  dq t l := R.dq t l + ∑ n ∈ range m, if t / 256 = n then TQ A p n (2 * b) (t % 256) l + TQ A p n (2 * b + 1) (t % 256) l else 0
  col s l := R.col s l - ∑ n ∈ range m, if s / 512 = b ∧ l < 2 then SC A p l n (s / 256) (s % 256) else 0
  dk j r l := R.dk j r l + ∑ n ∈ range m, TK A p n (2 * b + j) r l
  dv j r l := R.dv j r l + ∑ n ∈ range m, TV A p n (2 * b + j) r l

/-- No query block before the diagonal has a share. -/
theorem upTo_diag (b : ℕ) (R : RAcc) : Same R (upTo A p b R (2 * b)) where
  dc e t _ _ := by
    show _ = _ + _
    rw [sum_eq_zero, add_zero]
    intro n hn; have := mem_range.1 hn
    rw [SR_after A p (by omega) (by omega), SR_after A p (by omega) (by omega)]; simp
  dq t l _ _ := by
    show _ = _ + _
    rw [sum_eq_zero, add_zero]
    intro n hn; have := mem_range.1 hn
    rw [TQ_after A p (by omega) (by omega), TQ_after A p (by omega) (by omega)]; simp
  col s l _ _ := by
    show _ = _ - _
    rw [sum_eq_zero, sub_zero]
    intro n hn; have := mem_range.1 hn
    by_cases h : s / 512 = b
    · rw [SC_after A p (by omega)]; simp
    · simp [h]
  dk j r l _ _ _ := by
    show _ = _ + _
    rw [sum_eq_zero, add_zero]
    intro n hn; have := mem_range.1 hn
    exact TK_after A p (by omega) _ _
  dv j r l _ _ _ := by
    show _ = _ + _
    rw [sum_eq_zero, add_zero]
    intro n hn; have := mem_range.1 hn
    exact TV_after A p (by omega) _ _

theorem upTo_succ (b : ℕ) (R : RAcc) (m : ℕ) : Same (stepR A p b m (upTo A p b R m)) (upTo A p b R (m + 1)) where
  dc e t _ _ := by simp only [stepR, upTo, sum_range_succ, add_assoc]
  dq t l _ _ := by simp only [stepR, upTo, sum_range_succ, add_assoc]
  col s l _ _ := by simp only [stepR, upTo, sum_range_succ, sub_sub]
  dk j r l _ _ _ := by simp only [stepR, upTo, sum_range_succ, add_assoc]
  dv j r l _ _ _ := by simp only [stepR, upTo, sum_range_succ, add_assoc]

/-- The accumulators of the keys and the values at zero. -/
def zeroR (R : RAcc) : RAcc := { R with dk := fun _ _ _ => 0, dv := fun _ _ _ => 0 }

/-- The accumulators before pair `b` of blocks of keys. -/
def accR : ℕ → RAcc
  | 0 => { dc := fun _ _ => 0, dq := fun _ _ => 0, col := fun _ _ => 0, dk := fun _ _ _ => 0, dv := fun _ _ _ => 0 }
  | b + 1 => upTo A p b (zeroR (accR b)) 16

variable {A p} {I : Inp Ideal} (H : At A p I)

include H

theorem is_belowTo {s : Acc Ideal} {R : RAcc} (b : ℕ) (hb : b < 8) (hs : Is s (upTo A p b R (2 * b + 2))) (k : ℕ) (hk : k + b ≤ 7) :
    Is (belowTo I laneV lo64 hi64 ones3V b hb k s) (upTo A p b R (2 * b + 2 + 2 * k)) := by
  induction k with
  | zero => exact hs
  | succ k ih =>
    have h1 := ih (by omega)
    have h2 := (is_below H h1 b hb (2 * b + 2 + 2 * k) (by omega) (by omega)).same (upTo_succ A p b R _)
    have h3 := is_below H h2 b hb (2 * b + 2 + 2 * k + 1) (by omega) (by omega)
    have h4 := h3.same (upTo_succ A p b R _)
    rw [show 2 * b + 2 + 2 * (k + 1) = 2 * b + 2 + 2 * k + 1 + 1 by omega]
    rw [show belowTo I laneV lo64 hi64 ones3V b hb (k + 1) s = stepAt2 I laneV lo64 hi64 ones3V b hb (2 * b + 3 + 2 * k) (by omega) id
        (stepAt2 I laneV lo64 hi64 ones3V b hb (2 * b + 2 + 2 * k) (by omega) id (belowTo I laneV lo64 hi64 ones3V b hb k s)) from dif_pos (by omega)]
    have e : ∀ (n m : ℕ) (hn : n < 16) (hm : m < 16) (x : Acc Ideal), n = m → stepAt2 I laneV lo64 hi64 ones3V b hb n hn id x = stepAt2 I laneV lo64 hi64 ones3V b hb m hm id x := by
      intro n m hn hm x h; subst h; rfl
    rw [e (2 * b + 3 + 2 * k) (2 * b + 2 + 2 * k + 1) (by omega) (by omega) _ (by omega)]
    exact h4

theorem is_pair {s : Acc Ideal} {R : RAcc} (hs : Is s R) (b : ℕ) (hb : b < 8) :
    Is (pairF I laneV lo64 hi64 ones3V keepV b hb s) (upTo A p b (zeroR R) 16) := by
  have h0 : Is (zeroKV s) (zeroR R) :=
    { dc := hs.dc, dq := hs.dq, col := hs.col, dk := fun j r l => zeroAcc_at j r l, dv := fun j r l => zeroAcc_at j r l }
  have h1 := (is_step1 H (h0.same (upTo_diag A p b _)) b hb).same (upTo_succ A p b _ _)
  have h2 := (is_diag H h1 b hb).same (upTo_succ A p b _ _)
  have h3 := is_belowTo H b hb h2 (7 - b) (by omega)
  rw [show 2 * b + 2 + 2 * (7 - b) = 16 by omega] at h3
  exact h3

theorem is_acc (b : ℕ) (hb : b ≤ 8) : Is (accV I b) (accR A p b) := by
  induction b with
  | zero => exact { dc := zeroDc_at, dq := zeroDq_at, col := zeroCol_at, dk := zeroAcc_at, dv := zeroAcc_at }
  | succ b ih =>
    have h := is_pair H (ih (by omega)) b (by omega)
    rw [show accV I (b + 1) = pairF I laneV lo64 hi64 ones3V keepV b (by omega) (accV I b) from dif_pos (by omega)]
    exact h

omit H

/-! ## Sums of all shares -/

theorem accR_dq (b t l : ℕ) (ht : t < 4096) : (accR A p b).dq t l = ∑ b' ∈ range b, (TQ A p (t / 256) (2 * b') (t % 256) l + TQ A p (t / 256) (2 * b' + 1) (t % 256) l) := by
  induction b with
  | zero => rfl
  | succ b ih =>
    rw [sum_range_succ, ← ih]
    show (accR A p b).dq t l + _ = _
    rw [Finset.sum_ite_eq, if_pos (mem_range.2 (by omega))]

theorem accR_dc (b e t : ℕ) (ht : t < 4096) : (accR A p b).dc e t = ∑ b' ∈ range b, (SR A p e (t / 256) (2 * b') (t % 256) + SR A p e (t / 256) (2 * b' + 1) (t % 256)) := by
  induction b with
  | zero => rfl
  | succ b ih =>
    rw [sum_range_succ, ← ih]
    show (accR A p b).dc e t + _ = _
    rw [Finset.sum_ite_eq, if_pos (mem_range.2 (by omega))]

theorem accR_col (b s l : ℕ) (hl : l < 2) : (accR A p b).col s l = if s / 512 < b then -∑ n ∈ range 16, SC A p l n (s / 256) (s % 256) else 0 := by
  induction b with
  | zero => rfl
  | succ b ih =>
    show (accR A p b).col s l - _ = _
    rw [ih]
    by_cases h : s / 512 = b
    · rw [if_neg (by omega), if_pos (by omega)]; simp [h, hl]
    · simp only [h, false_and, if_false, sum_const_zero, sub_zero]
      exact if_congr (by omega) rfl rfl

theorem at_block (t : ℕ) : 256 * (t / 256) + t % 256 = t := Nat.div_add_mod t 256

theorem all_dq (t l : ℕ) (ht : t < 4096) : (accR A p 8).dq t l = A.dq t (128 * p + l) := by
  rw [accR_dq _ _ _ ht, sum_pairs (fun kb => TQ A p (t / 256) kb (t % 256) l) 8]
  unfold TQ; rw [sum_blocks 256 (fun s => A.ds (2 * p + l / 64) (256 * (t / 256) + t % 256) s * (A.k s (128 * p + l) * (1 / 8))) 16, at_block]
  unfold Args.dq; rw [show (128 * p + l) / 64 = 2 * p + l / 64 by omega]

theorem all_dk (s l : ℕ) (hs : s < 4096) : (accR A p (s / 512 + 1)).dk (s / 256 % 2) (s % 256) l = A.dk s (128 * p + l) := by
  show 0 + _ = _
  rw [zero_add, show 2 * (s / 512) + s / 256 % 2 = s / 256 by omega]
  unfold TK; rw [sum_blocks 256 (fun t => A.ds (2 * p + l / 64) t (256 * (s / 256) + s % 256) * (A.q t (128 * p + l) * (1 / 8))) 16, at_block]
  unfold Args.dk; rw [show (128 * p + l) / 64 = 2 * p + l / 64 by omega]

theorem all_dv (s l : ℕ) (hs : s < 4096) : (accR A p (s / 512 + 1)).dv (s / 256 % 2) (s % 256) l = A.dv s (128 * p + l) := by
  show 0 + _ = _
  rw [zero_add, show 2 * (s / 512) + s / 256 % 2 = s / 256 by omega]
  unfold TV; rw [sum_blocks 256 (fun t => A.p (2 * p + l / 64) t (256 * (s / 256) + s % 256) * A.g t (128 * p + l)) 16, at_block]
  unfold Args.dv; rw [show (128 * p + l) / 64 = 2 * p + l / 64 by omega]

theorem all_dc (e t : ℕ) (he : e < 2) (ht : t < 4096) : (accR A p 8).dc e t + (accR A p 8).col t e = A.dc (2 * p + e) t := by
  rw [accR_dc _ _ _ ht, accR_col _ _ _ he, if_pos (by omega), sum_pairs (fun kb => SR A p e (t / 256) kb (t % 256)) 8]
  unfold SR SC
  rw [sum_blocks 256 (fun s => A.ds (2 * p + e) (256 * (t / 256) + t % 256) s) 16, sum_blocks 256 (fun s => A.ds (2 * p + e) s (256 * (t / 256) + t % 256)) 16, at_block]
  unfold Args.dc; ring

/-! ## The results -/

include H

theorem outQ_real (t : Fin 4096) (l : Fin 128) : outQ I (ix2 t l) = ((A.dq t (128 * p + l) : ℝ) : EReal) := by
  unfold outQ
  rw [outQ_at, (is_acc H 8 (by omega)).dq, all_dq _ _ t.isLt]

theorem outK_real (t : Fin 4096) (l : Fin 128) : outK I (ix2 t l) = ((A.dk t (128 * p + l) : ℝ) : EReal) := by
  show slot (accV I (t.val / 512 + 1)).dk (t.val / 256 % 2) (Nat.mod_lt _ (by omega)) (ix2 ⟨t.val % 256, Nat.mod_lt _ (by omega)⟩ l) = _
  unfold slot
  rw [outBlock_at, winS_at _ _ _ (Nat.mod_lt _ (by omega)), (is_acc H _ (by omega)).dk]
  exact congrArg _ (all_dk t.val l.val t.isLt)

theorem outV_real (t : Fin 4096) (l : Fin 128) : outV I (ix2 t l) = ((A.dv t (128 * p + l) : ℝ) : EReal) := by
  show slot (accV I (t.val / 512 + 1)).dv (t.val / 256 % 2) (Nat.mod_lt _ (by omega)) (ix2 ⟨t.val % 256, Nat.mod_lt _ (by omega)⟩ l) = _
  unfold slot
  rw [outBlock_at, winS_at _ _ _ (Nat.mod_lt _ (by omega)), (is_acc H _ (by omega)).dv]
  exact congrArg _ (all_dv t.val l.val t.isLt)

omit H

theorem colsTo_at (col : Vec Ideal S4096x128 .f32) (x : Vec Ideal S1x2x4096 .f32) (m : ℕ) (hm : m ≤ 16) (e : Fin 2) (t : Fin 4096) :
    colsTo col m x (ix3 0 e t) = if t.val / 256 < m then (x (ix3 0 e t) + col (ix2 t ⟨e.val, by omega⟩) : EReal) else x (ix3 0 e t) := by
  induction m with
  | zero => rfl
  | succ m ih =>
    have ih := ih (by omega)
    rw [show colsTo col (m + 1) x = _ from dif_pos (by omega : m < 16)]
    refine (putB_at _ m (by omega) _ e t).trans ?_
    by_cases h : t.val / 256 = m
    · have ht : (⟨256 * m + t.val % 256, by omega⟩ : Fin 4096) = t := Fin.ext (by show 256 * m + t.val % 256 = t.val; omega)
      rw [if_pos h, if_pos (by omega), addCols_at, rows_at]
      refine congrArg₂ (fun a b : EReal => a + b) ?_ (congrArg (fun y => col (ix2 y _)) ht)
      refine (winB_at _ m _ (by omega) e _).trans ?_
      refine (congrArg (fun y => colsTo col m x (ix3 0 e y)) ht).trans ?_
      rw [ih, if_neg (by omega)]
    · rw [if_neg h, ih]; exact if_congr (by omega) rfl rfl

include H

theorem outC_real (e : Fin 2) (t : Fin 4096) : outC I (ix3 0 e t) = ((A.dc (2 * p + e) t : ℝ) : EReal) := by
  unfold outC
  rw [colsTo_at _ _ 16 (by omega), if_pos (by omega), (is_acc H 8 (by omega)).dc, (is_acc H 8 (by omega)).col, ← EReal.coe_add]
  exact congrArg _ (all_dc e.val t.val e.isLt t.isLt)

end Loops

end Cert.KernelIdeal.Fox

end
-- ==== Proof.FoxHost.lean ====
/- What the kernel's windows read: the host's arrays before the call, over the reals. -/
module

public import proofs.«01_k».proof.Proof.FoxRun
public import proofs.«01_k».proof.Proof.FoxRefVal
public import proofs.«01_k».proof.Proof.FoxOut
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic Idealize.SL.Sem
open Cert.KernelIdeal Cert.KernelIdeal.Gen
open Cert.ReferenceIdeal.Fox (heads top top' shifted total probs scoresOf exOf)

/-! ## The host's arrays -/

/-- The output from the values and the weights. -/
def oOf (v : FVec Ideal S4096x12x64 .f32) (p : FVec Ideal S12x4096x4096 .f32) : FVec Ideal S4096x768 .bf16 :=
  truncf .bf16 (shapeCast S4096x768
    (transpose S4096x12x64 [2, 0, 1] (Host.dotGeneral dot_S4096x12x64_S12x4096x4096_S12x64x4096_0_2_2_1_1_0 none v p) transposes_S12x64x4096_S4096x12x64_2_0_1)
    shapeCasts_S4096x12x64_S4096x768) bitsLt_bf16_f32

/-- The rows' normalisers less their biases. -/
def lseOf (sc : FVec Ideal S12x4096x4096 .f32) (c : FVec Ideal S12x4096 .f32) : FVec Ideal S6x2x4096 .f32 :=
  shapeCast S6x2x4096 (subf (addf (top sc) (Host.log (total (shifted sc (top sc))))) c) shapeCasts_S12x4096_S6x2x4096

/-- The negated biases in three half-width parts. -/
def hiOf (c : FVec Ideal S12x4096 .f32) : FVec Ideal S12x4096 .bf16 := truncf .bf16 (negf c) bitsLt_bf16_f32

def midOf (c : FVec Ideal S12x4096 .f32) : FVec Ideal S12x4096 .f32 := subf (negf c) (extf .f32 (hiOf c) bitsLt_bf16_f32)

def loOf (c : FVec Ideal S12x4096 .f32) : FVec Ideal S12x4096 .f32 :=
  subf (midOf c) (extf .f32 (truncf .bf16 (midOf c) bitsLt_bf16_f32 : FVec Ideal S12x4096 .bf16) bitsLt_bf16_f32)

/-- One part, wide again, under a leading axis. -/
def partOf (x : FVec Ideal S12x4096 .bf16) : FVec Ideal S1x12x4096 .f32 :=
  broadcastInDim S1x12x4096 ![1, 2] bcast_S12x4096_S1x12x4096_1_2 (extf .f32 x bitsLt_bf16_f32)

/-- The three parts side by side, one head a row. -/
def partsOf (c : FVec Ideal S12x4096 .f32) : FVec Ideal S4096x12x3 .f32 :=
  transpose S4096x12x3 [2, 1, 0] (concatenate S3x12x4096 0
    [⟨S1x12x4096, partOf (hiOf c)⟩, ⟨S1x12x4096, partOf (truncf .bf16 (midOf c) bitsLt_bf16_f32)⟩,
      ⟨S1x12x4096, partOf (truncf .bf16 (loOf c) bitsLt_bf16_f32)⟩] concatenates_S1x12x4096_S1x12x4096_S1x12x4096_S3x12x4096_d0) transposes_S3x12x4096_S4096x12x3_2_1_0

/-- Each head's parts at the head of its columns, the two heads of a pair exchanged. -/
def caOf (c : FVec Ideal S12x4096 .f32) : FVec Ideal S4096x768 .bf16 :=
  truncf .bf16 (shapeCast S4096x768 (Host.reverse [2] (shapeCast S4096x6x2x64
    (pad S4096x12x64 ![0, 0, 0] ![0, 0, 61] ![0, 0, 0] (partsOf c) (sitofp .f32 (constantI S_ 32 0#32))
      pads_S4096x12x3_S4096x12x64_000_000_0610 h_S_) shapeCasts_S4096x12x64_S4096x6x2x64)) shapeCasts_S4096x6x2x64_S4096x768) bitsLt_bf16_f32

variable (m : (ℓ : Loc nD τ sig) → Buf (Elt Ideal) ℓ) (c : Dev nD)

abbrev argQ : FVec Ideal S4096x768 .bf16 := m ((c : Thread nD τ).loc main_arg0)
abbrev argK : FVec Ideal S4096x768 .bf16 := m ((c : Thread nD τ).loc main_arg1)
abbrev argV : FVec Ideal S4096x768 .bf16 := m ((c : Thread nD τ).loc main_arg2)
abbrev argC : FVec Ideal S12x4096 .f32 := m ((c : Thread nD τ).loc main_arg3)
abbrev argG : FVec Ideal S4096x1024 .bf16 := m ((c : Thread nD τ).loc main_arg4)

theorem V_o : V m c main_v38 = oOf (heads (argV m c)) (probs (exOf (argQ m c) (argK m c) (argC m c))) := by
  unfold V
  simp only [hostOps0, hostOps0_1, hostOps0_2, hostOps0_3, hostOps0_4, hostOps0_5, hostOps0_6, List.flatten_cons,
    List.flatten_nil, List.append_nil, List.cons_append, List.nil_append, StableHlo.after_cons, StableHlo.after_nil]
  after_results_simp
  rfl

theorem V_lse : V m c main_v70 = lseOf (scoresOf (argQ m c) (argK m c) (argC m c)) (argC m c) := by
  unfold V
  simp only [hostOps0, hostOps0_1, hostOps0_2, hostOps0_3, hostOps0_4, hostOps0_5, hostOps0_6, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem V_ca : V m c main_v91 = caOf (argC m c) := by
  unfold V
  simp only [hostOps0, hostOps0_1, hostOps0_2, hostOps0_3, hostOps0_4, hostOps0_5, hostOps0_6, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

end Cert.KernelIdeal.Fox

end
-- ==== Proof.FoxHostVal.lean ====
/- The host's arrays at an index, over the reals. -/
module

public import proofs.«01_k».proof.Proof.FoxHost

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen Cert.FoxReal
open Cert.ReferenceIdeal.Fox (heads top top' shifted total probs scoresOf exOf Reads)

theorem oOf_at (v : FVec Ideal S4096x12x64 .f32) (p : FVec Ideal S12x4096x4096 .f32) (t : Fin 4096) (j : Fin 768) :
    oOf v p (ix2 t j) = ∑ s, v (ix3 s ⟨j.val / 64, by omega⟩ ⟨j.val % 64, by omega⟩) * p (ix3 ⟨j.val / 64, by omega⟩ t s) := by
  pointwise [oOf]

/-- The normalisers from the rows' greatest logits and sums. -/
def lseFrom (u n c : FVec Ideal S12x4096 .f32) : FVec Ideal S6x2x4096 .f32 :=
  shapeCast S6x2x4096 (subf (addf u (Host.log n)) c) shapeCasts_S12x4096_S6x2x4096

theorem lseFrom_at (u n c : FVec Ideal S12x4096 .f32) (p : Fin 6) (e : Fin 2) (t : Fin 4096) :
    lseFrom u n c (ix3 p e t) = u (ix2 ⟨p.val * 2 + e.val, by omega⟩ t) + Ideal.log (n (ix2 ⟨p.val * 2 + e.val, by omega⟩ t))
      - c (ix2 ⟨p.val * 2 + e.val, by omega⟩ t) := by
  pointwise [lseFrom]

theorem hiOf_at (c : FVec Ideal S12x4096 .f32) (h : Fin 12) (s : Fin 4096) : hiOf c (ix2 h s) = - c (ix2 h s) := by
  pointwise [hiOf]

theorem midOf_at (c : FVec Ideal S12x4096 .f32) (h : Fin 12) (s : Fin 4096) : midOf c (ix2 h s) = - c (ix2 h s) - - c (ix2 h s) := by
  pointwise [midOf, hiOf]

theorem loOf_at (c : FVec Ideal S12x4096 .f32) (h : Fin 12) (s : Fin 4096) : loOf c (ix2 h s) = midOf c (ix2 h s) - midOf c (ix2 h s) := by
  pointwise [loOf]

theorem partOf_at (x : FVec Ideal S12x4096 .bf16) (h : Fin 12) (s : Fin 4096) : partOf x (ix3 0 h s) = x (ix2 h s) := by
  pointwise [partOf]

theorem partsOf_at (c : FVec Ideal S12x4096 .f32) (s : Fin 4096) (h : Fin 12) (u : Fin 3) :
    partsOf c (ix3 s h u) = if u.val < 1 then hiOf c (ix2 h s) else if u.val - 1 < 1 then midOf c (ix2 h s) else loOf c (ix2 h s) := by
  have key : ∀ (a b d : FVec Ideal S1x12x4096 .f32), (transpose S4096x12x3 [2, 1, 0] (concatenate S3x12x4096 0
      [⟨S1x12x4096, a⟩, ⟨S1x12x4096, b⟩, ⟨S1x12x4096, d⟩] concatenates_S1x12x4096_S1x12x4096_S1x12x4096_S3x12x4096_d0)
      transposes_S3x12x4096_S4096x12x3_2_1_0 : FVec Ideal S4096x12x3 .f32) (ix3 s h u) =
      if u.val < 1 then a (ix3 0 h s) else if u.val - 1 < 1 then b (ix3 0 h s) else d (ix3 0 h s) := by
    intro a b d
    pointwise
    by_cases h1 : u.val < 1
    · rw [dif_pos h1, if_pos h1]; exact congrArg (fun w => a (ix3 w h s)) (Subsingleton.elim _ _)
    · rw [dif_neg h1, if_neg h1]
      by_cases h2 : u.val - 1 < 1
      · rw [dif_pos h2, if_pos h2]; exact congrArg (fun w => b (ix3 w h s)) (Subsingleton.elim _ _)
      · rw [dif_neg h2, if_neg h2]; exact congrArg (fun w => d (ix3 w h s)) (Subsingleton.elim _ _)
  unfold partsOf
  rw [key, partOf_at, partOf_at, partOf_at]; rfl

/-- Zeros after each head's parts. -/
def padOf (x : FVec Ideal S4096x12x3 .f32) : FVec Ideal S4096x12x64 .f32 :=
  pad S4096x12x64 ![0, 0, 0] ![0, 0, 61] ![0, 0, 0] x (sitofp .f32 (constantI S_ 32 0#32)) pads_S4096x12x3_S4096x12x64_000_000_0610 h_S_

theorem padOf_at (x : FVec Ideal S4096x12x3 .f32) (s : Fin 4096) (h : Fin 12) (d : Fin 64) :
    padOf x (ix3 s h d) = if h : d.val < 3 then x (ix3 s ‹_› ⟨d.val, h⟩) else FloatOps.sitofp FTy.f32 0#32 := by
  pointwise [padOf]

/-- The two heads of each pair exchanged. -/
def revOf (x : FVec Ideal S4096x12x64 .f32) : FVec Ideal S4096x768 .bf16 :=
  truncf .bf16 (shapeCast S4096x768 (Host.reverse [2] (shapeCast S4096x6x2x64 x shapeCasts_S4096x12x64_S4096x6x2x64)) shapeCasts_S4096x6x2x64_S4096x768) bitsLt_bf16_f32

theorem revOf_at (x : FVec Ideal S4096x12x64 .f32) (s : Fin 4096) (j : Fin 768) :
    revOf x (ix2 s j) = x (ix3 s ⟨j.val / 128 * 2 + (1 - j.val / 64 % 2), by omega⟩ ⟨j.val % 64, by omega⟩) := by
  pointwise [revOf]
  congr 1; ext i; fin_cases i <;> simp [Fin.rev] <;> omega

theorem sitofp_zero : (FloatOps.sitofp FTy.f32 0#32 : Ideal .f32) = ((0 : ℝ) : EReal) := by
  show (((0#32 : BitVec 32).toInt : ℝ) : EReal) = _
  simp

/-! ## Over the reals -/

variable {A : Args} {q k v : FVec Ideal S4096x768 .bf16} {c : FVec Ideal S12x4096 .f32} {g : FVec Ideal S4096x1024 .bf16}

theorem o_real (R : Reads A q k v c g) (t : Fin 4096) (j : Fin 768) : oOf (heads v) (probs (exOf q k c)) (ix2 t j) = (A.o t j : EReal) := by
  rw [oOf_at]
  exact sum_fin _ (fun s => A.v s j * A.p (j / 64) t s) fun s => by
    rw [Cert.ReferenceIdeal.Fox.p_real R, Cert.ReferenceIdeal.Fox.heads_at, R.hv, ← EReal.coe_mul]; simp only [Nat.div_add_mod']

theorem rows_real (R : Reads A q k v c g) (p : Fin 6) (e : Fin 2) (t : Fin 4096) :
    lseOf (scoresOf q k c) c (ix3 p e t) = (A.lse (2 * p + e) t : EReal) := by
  have hn : ∀ h : Fin 12, total (shifted (scoresOf q k c) (top (scoresOf q k c))) (ix2 h t) = (A.den h t : EReal) := by
    intro h
    rw [Cert.ReferenceIdeal.Fox.total_at, ← Cert.ReferenceIdeal.Fox.den_real R]
    refine Finset.sum_congr rfl fun s _ => ?_
    unfold exOf
    rw [Cert.ReferenceIdeal.Fox.shifted_at, Cert.ReferenceIdeal.Fox.shifted_at, Cert.ReferenceIdeal.Fox.top'_at]
  show lseFrom (top (scoresOf q k c)) (total (shifted (scoresOf q k c) (top (scoresOf q k c)))) c (ix3 p e t) = _
  rw [lseFrom_at, hn, R.hm, R.hc, Ideal.log_coe, if_neg (not_le.2 (A.den_pos _ t.isLt)), ← EReal.coe_add, ← EReal.coe_sub]
  simp only [Nat.mul_comm p.val 2]; rfl

theorem parts_real (hc : ∀ (h : Fin 12) (t : Fin 4096), c (ix2 h t) = (A.c h t : EReal)) (s : Fin 4096) (h : Fin 12) (u : Fin 3) :
    partsOf c (ix3 s h u) = ((if u.val = 0 then -A.c h s else 0 : ℝ) : EReal) := by
  have hm : midOf c (ix2 h s) = ((0 : ℝ) : EReal) := by
    rw [midOf_at, hc, ← EReal.coe_neg, ← EReal.coe_sub, sub_self]
  have hl : loOf c (ix2 h s) = ((0 : ℝ) : EReal) := by
    rw [loOf_at, hm, ← EReal.coe_sub, sub_self]
  rw [partsOf_at, hm, hl, hiOf_at, hc, ← EReal.coe_neg, ite_self]
  by_cases h0 : u.val = 0
  · rw [if_pos (by omega), if_pos h0]
  · rw [if_neg (by omega), if_neg h0]

theorem ca_real (hc : ∀ (h : Fin 12) (t : Fin 4096), c (ix2 h t) = (A.c h t : EReal)) (s : Fin 4096) (j : Fin 768) :
    caOf c (ix2 s j) = ((if j.val % 64 = 0 then -A.c (j.val / 128 * 2 + (1 - j.val / 64 % 2)) s else 0 : ℝ) : EReal) := by
  show revOf (padOf (partsOf c)) (ix2 s j) = _
  rw [revOf_at, padOf_at]
  by_cases h3 : j.val % 64 < 3
  · rw [dif_pos h3, parts_real hc]
  · rw [dif_neg h3, sitofp_zero, if_neg (by omega)]

end Cert.KernelIdeal.Fox

end
-- ==== Proof.FoxBridge.lean ====
/- The kernel's results over the reals: each window's blocks, and the arrays that they make. -/
module

public import proofs.«01_k».proof.Proof.FoxHostVal

@[expose] public section

set_option maxRecDepth 16384

noncomputable section

namespace Cert.KernelIdeal.Fox

open Idealize.ShloMosaic Idealize.ShloMosaic.TcCoe Idealize.ShloMosaic.Tactic Idealize.SL.Sem
open Cert.KernelIdeal Cert.KernelIdeal.Gen Cert.FoxReal
open Cert.ReferenceIdeal.Fox (heads probs scoresOf exOf Reads)

/-- Where the windows stand at each grid point. -/
theorem places : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![t.val, 0, 0]
    ∧ win0_7.index t = ![0, t.val] ∧ win0_8.index t = ![0, t.val] ∧ win0_9.index t = ![0, t.val] ∧ win0_10.index t = ![t.val, 0, 0]
    ∧ t.val < 6 :=
  (by decide +kernel : ∀ t : Fin grid0.N, _)

variable (m : (ℓ : Loc nD τ sig) → Buf (Elt Ideal) ℓ) (c : Dev nD)

theorem six (t : Fin cfg0.N) : t.val < 6 := by have := places t; tauto

theorem blk_q (t : Fin cfg0.N) (r : Fin 4096) (l : Fin 128) :
    iblk m c 0 t (ix2 r l) = argQ m c (ix2 r ⟨128 * t.val + l.val, by have := six t; omega⟩) := by
  blk_simp [iblk]
  rw [show V m c main_arg0 = argQ m c from V_main_arg0 m c]
  blk_ext [places t]

theorem blk_k (t : Fin cfg0.N) (r : Fin 4096) (l : Fin 128) :
    iblk m c 1 t (ix2 r l) = argK m c (ix2 r ⟨128 * t.val + l.val, by have := six t; omega⟩) := by
  blk_simp [iblk]
  rw [show V m c main_arg1 = argK m c from V_main_arg1 m c]
  blk_ext [places t]

theorem blk_v (t : Fin cfg0.N) (r : Fin 4096) (l : Fin 128) :
    iblk m c 2 t (ix2 r l) = argV m c (ix2 r ⟨128 * t.val + l.val, by have := six t; omega⟩) := by
  blk_simp [iblk]
  rw [show V m c main_arg2 = argV m c from V_main_arg2 m c]
  blk_ext [places t]

theorem blk_o (t : Fin cfg0.N) (r : Fin 4096) (l : Fin 128) :
    iblk m c 3 t (ix2 r l) = oOf (heads (argV m c)) (probs (exOf (argQ m c) (argK m c) (argC m c))) (ix2 r ⟨128 * t.val + l.val, by have := six t; omega⟩) := by
  blk_simp [iblk]
  rw [V_o m c]
  generalize oOf (heads (argV m c)) (probs (exOf (argQ m c) (argK m c) (argC m c))) = X
  blk_ext [places t]

theorem blk_g (t : Fin cfg0.N) (r : Fin 4096) (l : Fin 128) :
    iblk m c 4 t (ix2 r l) = argG m c (ix2 r ⟨128 * t.val + l.val, by have := six t; omega⟩) := by
  blk_simp [iblk]
  rw [show V m c main_arg4 = argG m c from V_main_arg4 m c]
  blk_ext [places t]

theorem blk_ca (t : Fin cfg0.N) (r : Fin 4096) (l : Fin 128) :
    iblk m c 5 t (ix2 r l) = caOf (argC m c) (ix2 r ⟨128 * t.val + l.val, by have := six t; omega⟩) := by
  blk_simp [iblk]
  rw [V_ca m c]
  generalize caOf (argC m c) = X
  blk_ext [places t]

theorem read_lse (X : FVec Ideal S6x2x4096 .f32) (t : Fin cfg0.N) (e : Fin 2) (r : Fin 4096) :
    (((cfg0.win 6).blk t).view.read (Elt Ideal) X : ((cfg0.win 6).xblock (cfg0.grid.coords t)).Idx → Elt Ideal (cfg0.win 6).elt) (ix3 0 e r)
      = X (ix3 ⟨t.val, six t⟩ e r) := by
  blk_simp
  blk_ext [places t]

theorem blk_lse (t : Fin cfg0.N) (e : Fin 2) (r : Fin 4096) :
    iblk m c 6 t (ix3 0 e r) = lseOf (scoresOf (argQ m c) (argK m c) (argC m c)) (argC m c) (ix3 ⟨t.val, six t⟩ e r) :=
  (congrArg (fun X : FVec Ideal S6x2x4096 .f32 => (((cfg0.win 6).blk t).view.read (Elt Ideal) X : ((cfg0.win 6).xblock (cfg0.grid.coords t)).Idx → Elt Ideal (cfg0.win 6).elt) (ix3 0 e r))
    (V_lse m c)).trans (read_lse _ t e r)

variable {A : Args} (R : Reads A (argQ m c) (argK m c) (argV m c) (argC m c) (argG m c))
include R

theorem point_q (t : Fin cfg0.N) (r : Fin 4096) (l : Fin 128) : (inpAt m c t).q (ix2 r l) = ((A.q r (128 * t.val + l) : ℝ) : EReal) :=
  (blk_q m c t r l).trans (R.hq _ _)

theorem point_k (t : Fin cfg0.N) (r : Fin 4096) (l : Fin 128) : (inpAt m c t).k (ix2 r l) = ((A.k r (128 * t.val + l) : ℝ) : EReal) :=
  (blk_k m c t r l).trans (R.hk _ _)

theorem point_v (t : Fin cfg0.N) (r : Fin 4096) (l : Fin 128) : (inpAt m c t).v (ix2 r l) = ((A.v r (128 * t.val + l) : ℝ) : EReal) :=
  (blk_v m c t r l).trans (R.hv _ _)

theorem point_g (t : Fin cfg0.N) (r : Fin 4096) (l : Fin 128) : (inpAt m c t).g (ix2 r l) = ((A.g r (128 * t.val + l) : ℝ) : EReal) :=
  (blk_g m c t r l).trans (R.hg _ _ (by have := six t; show 128 * t.val + l.val < 768; omega))

theorem point_o (t : Fin cfg0.N) (r : Fin 4096) (l : Fin 128) : (inpAt m c t).o (ix2 r l) = ((A.o r (128 * t.val + l) : ℝ) : EReal) :=
  (blk_o m c t r l).trans (o_real R _ _)

theorem point_l (t : Fin cfg0.N) (e : Fin 2) (r : Fin 4096) : (inpAt m c t).lse (ix3 0 e r) = ((A.lse (2 * t.val + e) r : ℝ) : EReal) :=
  (blk_lse m c t e r).trans (rows_real R _ _ _)

theorem point_b (t : Fin cfg0.N) (s : Fin 4096) (l : Fin 128) :
    (inpAt m c t).ca (ix2 s l) = ((if l.val % 64 = 0 then -A.c (2 * t.val + (1 - l.val / 64)) s else 0 : ℝ) : EReal) := by
  have hj : 128 * t.val + l.val < 768 := by have := six t; omega
  have e : (inpAt m c t).ca (ix2 s l) = caOf (argC m c) (ix2 s ⟨128 * t.val + l.val, hj⟩) := blk_ca m c t s l
  have f := ca_real (A := A) R.hc s ⟨128 * t.val + l.val, hj⟩
  have h1 : (128 * t.val + l.val) % 64 = l.val % 64 := by omega
  have h2 : (128 * t.val + l.val) / 128 = t.val := by omega
  have h3 : (128 * t.val + l.val) / 64 % 2 = l.val / 64 := by omega
  simp only [h1, h2, h3, Nat.mul_comm t.val 2] at f
  exact e.trans f

/-- What every grid point reads. -/
theorem at_point (t : Fin cfg0.N) : At A t.val (inpAt m c t) :=
  ⟨point_q m c R t, point_k m c R t, point_v m c R t, point_g m c R t, point_o m c R t, point_l m c R t, point_b m c R t⟩

/-! ## The results -/

theorem cell_q (t : Fin cfg0.N) (y : S4096x128.Idx) : outQ (inpAt m c t) y = ((A.dq (y 0).val (128 * t.val + (y 1).val) : ℝ) : EReal) := by
  obtain ⟨a, b, rfl⟩ : ∃ (a : Fin 4096) (b : Fin 128), y = ix2 a b := ⟨y 0, y 1, eq_ix2 y⟩
  exact outQ_real (at_point m c R t) a b

theorem cell_k (t : Fin cfg0.N) (y : S4096x128.Idx) : outK (inpAt m c t) y = ((A.dk (y 0).val (128 * t.val + (y 1).val) : ℝ) : EReal) := by
  obtain ⟨a, b, rfl⟩ : ∃ (a : Fin 4096) (b : Fin 128), y = ix2 a b := ⟨y 0, y 1, eq_ix2 y⟩
  exact outK_real (at_point m c R t) a b

theorem cell_v (t : Fin cfg0.N) (y : S4096x128.Idx) : outV (inpAt m c t) y = ((A.dv (y 0).val (128 * t.val + (y 1).val) : ℝ) : EReal) := by
  obtain ⟨a, b, rfl⟩ : ∃ (a : Fin 4096) (b : Fin 128), y = ix2 a b := ⟨y 0, y 1, eq_ix2 y⟩
  exact outV_real (at_point m c R t) a b

theorem cell_c (t : Fin cfg0.N) (y : S1x2x4096.Idx) : outC (inpAt m c t) y = ((A.dc (2 * t.val + (y 1).val) (y 2).val : ℝ) : EReal) := by
  obtain ⟨e, a, rfl⟩ : ∃ (e : Fin 2) (a : Fin 4096), y = ix3 0 e a := ⟨y 1, y 2, (eq_ix3 y).trans (congrArg (fun w : Fin 1 => (ix3 w (y 1) (y 2) : S1x2x4096.Idx)) (Subsingleton.elim (α := Fin 1) (y 0) 0))⟩
  exact outC_real (at_point m c R t) e a

theorem final_k : (dats m 0 c).arrAt 8 (cfgs 0).N = fun i => ((A.dk (i 0).val (i 1).val : ℝ) : EReal) := by
  refine (dats m 0 c).arrAt_eq_of_covers 8 _ (by decide +kernel) fun t _ y => ?_
  blk_simp
  rw [after0_8]
  refine (cell_k m c R t y).trans ?_
  have h : win0_8.index t = ![0, t.val] := by have := places t; tauto
  rw [h]
  exact congrArg₂ (fun a b => ((A.dk a b : ℝ) : EReal)) (by simp) (by simp; omega)

theorem final_v : (dats m 0 c).arrAt 9 (cfgs 0).N = fun i => ((A.dv (i 0).val (i 1).val : ℝ) : EReal) := by
  refine (dats m 0 c).arrAt_eq_of_covers 9 _ (by decide +kernel) fun t _ y => ?_
  blk_simp
  rw [after0_9]
  refine (cell_v m c R t y).trans ?_
  have h : win0_9.index t = ![0, t.val] := by have := places t; tauto
  rw [h]
  exact congrArg₂ (fun a b => ((A.dv a b : ℝ) : EReal)) (by simp) (by simp; omega)

theorem final_c : (dats m 0 c).arrAt 10 (cfgs 0).N = fun i => ((A.dc (2 * (i 0).val + (i 1).val) (i 2).val : ℝ) : EReal) := by
  refine (dats m 0 c).arrAt_eq_of_covers 10 _ (by decide +kernel) fun t _ y => ?_
  blk_simp
  rw [after0_10]
  refine (cell_c m c R t y).trans ?_
  have h : win0_10.index t = ![t.val, 0, 0] := by have := places t; tauto
  rw [h]
  have h0 : (y 0).val = 0 := by have := (y 0).isLt; exact Nat.lt_one_iff.1 this
  exact congrArg₂ (fun a b => ((A.dc a b : ℝ) : EReal)) (by simp [h0]) (by simp)

theorem final_q : (dats m 0 c).arrAt 7 (cfgs 0).N =
    fun i => if (i 1).val < 768 then ((A.dq (i 0).val (i 1).val : ℝ) : EReal) else (dats m 0 c).A 7 i := by
  refine (dats m 0 c).arrAt_eq_of_coversWhere 7 (fun i => ((A.dq (i 0).val (i 1).val : ℝ) : EReal)) (fun β => β 1 < 6) (by decide +kernel) (fun t hf y => ?_)
    (fun j => by blk_simp [Pipeline.Window.cell_apply]; omega)
  blk_simp
  rw [after0_7]
  refine (cell_q m c R t y).trans ?_
  have h : win0_7.index t = ![0, t.val] := by have := places t; tauto
  rw [h]
  exact congrArg₂ (fun a b => ((A.dq a b : ℝ) : EReal)) (by simp) (by simp; omega)

end Cert.KernelIdeal.Fox

end
-- ==== Proof.FoxFinal.lean ====
/- The kernel's results are the reference's. -/
module

public import proofs.«01_k».proof.Proof.FoxBridge

@[expose] public section

set_option maxRecDepth 16384

noncomputable section

namespace Cert.ReferenceIdeal.Fox

open Idealize.ShloMosaic Idealize.ShloMosaic.TcCoe Idealize.ShloMosaic.Tactic
open Cert.ReferenceIdeal Cert.ReferenceIdeal.Gen Cert.FoxReal

/-- The gradient of the queries before the columns that pass through. -/
def joined (a : FVec Ideal S4096x768 .f32) (g : FVec Ideal S4096x1024 .bf16) : FVec Ideal S4096x1024 .bf16 :=
  truncf .bf16 (Value.fn_main_v91 a
    (extf .f32 (extractStridedSlice S4096x256 ![0, 768] g slices_S4096x1024_S4096x256_0_768) bitsLt_bf16_f32)) bitsLt_bf16_f32

theorem joined_at (a : FVec Ideal S4096x768 .f32) (g : FVec Ideal S4096x1024 .bf16) (t : Fin 4096) (j : Fin 1024) :
    joined a g (ix2 t j) = if h : j.val < 768 then a (ix2 t ⟨j.val, h⟩) else g (ix2 t j) := by
  pointwise [joined, Value.fn_main_v91]
  by_cases h : j.val < 768
  · rw [dif_pos h, dif_pos h]
  · rw [dif_neg h, dif_neg h]
    congr 1
    ext i
    fin_cases i
    · rfl
    · simp; omega

end Cert.ReferenceIdeal.Fox

namespace Cert.KernelIdeal.Fox

open Idealize.ShloMosaic Idealize.ShloMosaic.TcCoe Idealize.ShloMosaic.Tactic
open Cert.KernelIdeal Cert.KernelIdeal.Gen Cert.FoxReal
open Cert.ReferenceIdeal.Fox (heads probs scoresOf exOf gradQ gradK gradV gradC joined Reads)

variable (m : (ℓ : Loc nD τ sig) → Buf (Elt Ideal) ℓ) (c : Dev nD)

theorem V_g : V m c main_v92_0 = argG m c := by
  unfold V
  simp only [hostOps0, hostOps0_1, hostOps0_2, hostOps0_3, hostOps0_4, hostOps0_5, hostOps0_6, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem entry_g : (dats m 0 c).A 7 = argG m c := V_g m c

variable {A : Args} (R : Reads A (argQ m c) (argK m c) (argV m c) (argC m c) (argG m c))
include R

theorem agree_k : ((dats m 0 c).arrAt 8 (cfgs 0).N : FVec Ideal S4096x768 .bf16)
    = gradK (F := Ideal) (Cert.ReferenceIdeal.Fox.dsOf (F := Ideal) (argQ m c) (argK m c) (argV m c) (argC m c) (argG m c)) (heads (argQ m c)) := by
  rw [final_k m c R]
  funext i
  obtain ⟨a, b, rfl⟩ : ∃ (a : Fin 4096) (b : Fin 768), i = ix2 a b := ⟨i 0, i 1, eq_ix2 i⟩
  exact (Cert.ReferenceIdeal.Fox.gradK_real R a b).symm

theorem agree_v : ((dats m 0 c).arrAt 9 (cfgs 0).N : FVec Ideal S4096x768 .bf16)
    = gradV (F := Ideal) (argG m c) (probs (exOf (argQ m c) (argK m c) (argC m c))) := by
  rw [final_v m c R]
  funext i
  obtain ⟨a, b, rfl⟩ : ∃ (a : Fin 4096) (b : Fin 768), i = ix2 a b := ⟨i 0, i 1, eq_ix2 i⟩
  exact (Cert.ReferenceIdeal.Fox.gradV_real R a b).symm

theorem agree_c : ((dats m 0 c).arrAt 10 (cfgs 0).N : FVec Ideal S6x2x4096 .f32)
    = gradC (F := Ideal) (Cert.ReferenceIdeal.Fox.dsOf (F := Ideal) (argQ m c) (argK m c) (argV m c) (argC m c) (argG m c)) := by
  rw [final_c m c R]
  funext i
  obtain ⟨a, b, d, rfl⟩ : ∃ (a : Fin 6) (b : Fin 2) (d : Fin 4096), i = ix3 a b d := ⟨i 0, i 1, i 2, eq_ix3 i⟩
  exact (Cert.ReferenceIdeal.Fox.gradC_real R a b d).symm

theorem agree_q : ((dats m 0 c).arrAt 7 (cfgs 0).N : FVec Ideal S4096x1024 .bf16)
    = joined (gradQ (Cert.ReferenceIdeal.Fox.dsOf (F := Ideal) (argQ m c) (argK m c) (argV m c) (argC m c) (argG m c)) (heads (argK m c))) (argG m c) := by
  rw [final_q m c R, entry_g]
  funext i
  obtain ⟨a, b, rfl⟩ : ∃ (a : Fin 4096) (b : Fin 1024), i = ix2 a b := ⟨i 0, i 1, eq_ix2 i⟩
  rw [Cert.ReferenceIdeal.Fox.joined_at]
  by_cases h : b.val < 768
  · rw [dif_pos h]
    exact (if_pos h).trans (Cert.ReferenceIdeal.Fox.gradQ_real R a ⟨b.val, h⟩).symm
  · rw [dif_neg h]
    exact if_neg h

end Cert.KernelIdeal.Fox

end
-- ==== Proof.FoxPre.lean ====
/- What the precondition says of the arguments: every entry that is read is a real number. -/
module

public import proofs.«01_k».proof.Pre_finite
public import proofs.«01_k».proof.Proof.FoxWord
public import Idealize.ShloMosaic.Lib.ReduceAll

@[expose] public section

set_option maxRecDepth 16384

noncomputable section

namespace Cert.Pre_finite

open Idealize.ShloMosaic Idealize.ShloMosaic.Tactic

/-- The operations' side conditions. -/
theorem facts : Facts where
  bitsLt_bf16_f32 := by decide
  bcast_S_S4096x768 := by decide
  reducesTo_S4096x768_S_d0_1 := by decide
  h_S_ := by decide
  bcast_S_S12x4096 := by decide
  reducesTo_S12x4096_S_d0_1 := by decide
  slices_S4096x1024_S4096x768_0_0 := by decide

variable [Facts]
open Facts

/-- A number whose magnitude is below infinity is real. -/
theorem real_of_lt (x : EReal) (h : max x (-x) < ⊤) : ∃ r : ℝ, x = (r : EReal) := by
  induction x with
  | bot => simp at h
  | coe r => exact ⟨r, rfl⟩
  | top => simp at h

/-- One array's flags. -/
def small {s : Shape} (x b : FVec Ideal s .f32) : IVec s 1 := cmpf .olt (Host.absf x) b

theorem real_of_small {s : Shape} (x b : FVec Ideal s .f32) (i : s.Idx) (hb : b i = (⊤ : EReal)) (h : small x b i = 1#1) :
    ∃ r : ℝ, (x i : EReal) = (r : EReal) := by
  apply real_of_lt
  unfold small at h
  rw [ValueIdx.cmpf_apply, Host.absf_apply] at h
  simp only [hb] at h
  by_contra hn
  have h' : (FloatOps.cmpf CmpFPredicate.olt (FloatOps.hostAbsf (x i)) (⊤ : EReal) : BitVec 1) = 0#1 := by
    show BitVec.ofBool (decide (max (x i : EReal) (-(x i : EReal)) < ⊤)) = 0#1
    rw [decide_eq_false hn]; rfl
  rw [h'] at h
  exact absurd h (by decide)

theorem both {a b : BitVec 1} (h : IntOp.andi a b = 1#1) : a = 1#1 ∧ b = 1#1 := by
  revert a b; decide

theorem andi_both {s : Shape} {a b : IVec s 1} {i : s.Idx} (h : andi a b i = 1#1) : a i = 1#1 ∧ b i = 1#1 := both h

theorem bound_at {s : Shape} (hs : S_.BroadcastsInDim s (![] : Fin 0 → Fin s.rank)) (i : s.Idx) :
    (broadcastInDim s ![] hs (constant (F := Ideal) S_ .f32 0x7F800000#32) i : EReal) = ⊤ := Cert.FoxReal.top_f32

/-- The columns of the output's cotangent that belong to it. -/
def colsOf (g : FVec Ideal S4096x1024 .bf16) : FVec Ideal S4096x768 .f32 :=
  extf .f32 (extractStridedSlice S4096x768 ![0, 0] g slices_S4096x1024_S4096x768_0_0) bitsLt_bf16_f32

theorem colsOf_at (g : FVec Ideal S4096x1024 .bf16) (t : Fin 4096) (j : Fin 768) : colsOf g (ix2 t j) = g (ix2 t ⟨j.val, by omega⟩) := by
  pointwise [colsOf]

theorem reals {q k v : FVec Ideal S4096x768 .bf16} {c : FVec Ideal S12x4096 .f32} {g : FVec Ideal S4096x1024 .bf16}
    (h : fn (F := Ideal) q k v c g = fun _ => 1#1) :
    (∀ i, ∃ r : ℝ, (q i : EReal) = (r : EReal)) ∧ (∀ i, ∃ r : ℝ, (k i : EReal) = (r : EReal)) ∧ (∀ i, ∃ r : ℝ, (v i : EReal) = (r : EReal)) ∧
      (∀ i, ∃ r : ℝ, (c i : EReal) = (r : EReal)) ∧
      (∀ (t : Fin 4096) (j : Fin 1024), j.val < 768 → ∃ r : ℝ, (g (ix2 t j) : EReal) = (r : EReal)) := by
  have e := congrFun h ix0
  unfold fn fn_part1 at e
  obtain ⟨e, hg⟩ := andi_both e
  obtain ⟨e, hc⟩ := andi_both e
  obtain ⟨e, hv⟩ := andi_both e
  obtain ⟨hq, hk⟩ := andi_both e
  refine ⟨fun i => ?_, fun i => ?_, fun i => ?_, fun i => ?_, fun t j hj => ?_⟩
  · exact real_of_small (extf .f32 q bitsLt_bf16_f32) _ i (bound_at _ i) (Host.reduce_andi_all _ _ _ _ _ hq i)
  · exact real_of_small (extf .f32 k bitsLt_bf16_f32) _ i (bound_at _ i) (Host.reduce_andi_all _ _ _ _ _ hk i)
  · exact real_of_small (extf .f32 v bitsLt_bf16_f32) _ i (bound_at _ i) (Host.reduce_andi_all _ _ _ _ _ hv i)
  · exact real_of_small c _ i (bound_at _ i) (Host.reduce_andi_all _ _ _ _ _ hc i)
  · have w := Host.reduce_andi_all _ _ _ _ _ hg (ix2 t ⟨j.val, hj⟩)
    have w := real_of_small (s := S4096x768) (colsOf g) (broadcastInDim S4096x768 ![] bcast_S_S4096x768 (constant (F := Ideal) S_ .f32 0x7F800000#32))
      (ix2 t ⟨j.val, hj⟩) (bound_at bcast_S_S4096x768 (ix2 t ⟨j.val, hj⟩)) w
    rw [colsOf_at] at w
    exact w

end Cert.Pre_finite

end
-- ==== Proof.FoxClaim.lean ====
/- The value claim: the two programs run, and end with the same results. -/
module

public import proofs.«01_k».proof.Defs
public import proofs.«01_k».proof.Proof.FoxFinal
public import proofs.«01_k».proof.Proof.FoxPre

@[expose] public section

set_option maxRecDepth 16384

noncomputable section

namespace Cert.KernelIdeal.Fox

open Idealize.ShloMosaic Idealize.ShloMosaic.TcCoe Idealize.SL.Sem
open Cert.KernelIdeal Cert.KernelIdeal.Gen Cert.FoxReal
open Cert.ReferenceIdeal.Fox (Reads)

attribute [local instance] Cert.Pre_finite.facts

variable (m : (ℓ : Loc nD τ sig) → Buf (Elt Ideal) ℓ) (ρ : Dev nD → PrngReg)

/-- The results' arrays at the end of the run. -/
def resQ (c : Dev nD) : Buf (Elt Ideal) ((c.tc : Thread nD τ).loc main_v92_0) := (dats m 0 c).arrAt 7 (cfgs 0).N
def resK (c : Dev nD) : Buf (Elt Ideal) ((c.tc : Thread nD τ).loc main_v92_1) := (dats m 0 c).arrAt 8 (cfgs 0).N
def resV (c : Dev nD) : Buf (Elt Ideal) ((c.tc : Thread nD τ).loc main_v92_2) := (dats m 0 c).arrAt 9 (cfgs 0).N
def resC (c : Dev nD) : Buf (Elt Ideal) ((c.tc : Thread nD τ).loc main_v92_3) := (dats m 0 c).arrAt 10 (cfgs 0).N

section Post

variable {r : PUnit × MemSt nD τ sig (Elt Ideal)} (h : Pipeline.FramePost cfgs (dats m) 0 (V m) r) (c : Dev nD)
include h

theorem post_q : r.2.mem ((c.tc : Thread nD τ).loc main_v92_0) = resQ m c := (h c).1 7
theorem post_k : r.2.mem ((c.tc : Thread nD τ).loc main_v92_1) = resK m c := (h c).1 8
theorem post_v : r.2.mem ((c.tc : Thread nD τ).loc main_v92_2) = resV m c := (h c).1 9
theorem post_c : r.2.mem ((c.tc : Thread nD τ).loc main_v92_3) = resC m c := (h c).1 10
theorem post_arg0 : r.2.mem ((c.tc : Thread nD τ).loc main_arg0) = m ((c.tc : Thread nD τ).loc main_arg0) :=
  ((h c).1 0).trans (((dats m 0 c).arrAt_in 0 rfl _).trans (V_main_arg0 m c))
theorem post_arg1 : r.2.mem ((c.tc : Thread nD τ).loc main_arg1) = m ((c.tc : Thread nD τ).loc main_arg1) :=
  ((h c).1 1).trans (((dats m 0 c).arrAt_in 1 rfl _).trans (V_main_arg1 m c))
theorem post_arg2 : r.2.mem ((c.tc : Thread nD τ).loc main_arg2) = m ((c.tc : Thread nD τ).loc main_arg2) :=
  ((h c).1 2).trans (((dats m 0 c).arrAt_in 2 rfl _).trans (V_main_arg2 m c))
theorem post_arg3 : r.2.mem ((c.tc : Thread nD τ).loc main_arg3) = m ((c.tc : Thread nD τ).loc main_arg3) :=
  ((h c).2 main_arg3 (Pipeline.mem_restRefs_of main_arg3 (by decide) (by decide))).trans (V_main_arg3 m c)
theorem post_arg4 : r.2.mem ((c.tc : Thread nD τ).loc main_arg4) = m ((c.tc : Thread nD τ).loc main_arg4) :=
  ((h c).1 4).trans (((dats m 0 c).arrAt_in 4 rfl _).trans (V_main_arg4 m c))

end Post

/-- The kernel's run: its results' arrays, and its arguments as launched. -/
theorem run : θ_run defs (onTc (τ := τ) (main (F := Ideal))) ⟨m, fun _ => 0, ρ⟩ (fun r => ∀ c : Dev nD,
      r.2.mem ((c.tc : Thread nD τ).loc main_v92_0) = resQ m c
      ∧ r.2.mem ((c.tc : Thread nD τ).loc main_v92_1) = resK m c
      ∧ r.2.mem ((c.tc : Thread nD τ).loc main_v92_2) = resV m c
      ∧ r.2.mem ((c.tc : Thread nD τ).loc main_v92_3) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨post_q m h.1 c, post_k m h.1 c, post_v m h.1 c, post_c m h.1 c, post_arg0 m h.1 c, post_arg1 m h.1 c, post_arg2 m h.1 c,
      post_arg3 m h.1 c, post_arg4 m h.1 c⟩) (run_main m ρ)

/-- The reals behind the arguments of one device. -/
theorem reads (h : Cert.Pre_KernelIdeal_finite m) (c : Dev nD) :
    ∃ A : Args, Reads A (argQ m c) (argK m c) (argV m c) (argC m c) (argG m c) := by
  obtain ⟨hq, hk, hv, hc, hg⟩ := Cert.Pre_finite.reals (h c)
  exact Cert.ReferenceIdeal.Fox.exists_reads hq hk hv hc hg

/-- One device's results agree where its arguments do. -/
theorem same (m' : (ℓ : Loc Cert.ReferenceIdeal.nD Cert.ReferenceIdeal.τ Cert.ReferenceIdeal.sig) → Buf (Elt Ideal) ℓ) (c : Dev nD)
    {A : Args} (R : Reads A (argQ m c) (argK m c) (argV m c) (argC m c) (argG m c))
    (hq : Cert.ReferenceIdeal.Fox.argQ m' c = argQ m c) (hk : Cert.ReferenceIdeal.Fox.argK m' c = argK m c)
    (hv : Cert.ReferenceIdeal.Fox.argV m' c = argV m c) (hc : Cert.ReferenceIdeal.Fox.argC m' c = argC m c)
    (hg : Cert.ReferenceIdeal.Fox.argG m' c = argG m c) :
    Cert.ReferenceIdeal.Value.res_out0 (F := Ideal) m' c = resQ m c ∧ Cert.ReferenceIdeal.Value.res_out1 (F := Ideal) m' c = resK m c ∧
      Cert.ReferenceIdeal.Value.res_out2 (F := Ideal) m' c = resV m c ∧ Cert.ReferenceIdeal.Value.res_out3 (F := Ideal) m' c = resC m c := by
  have e0 := Cert.ReferenceIdeal.Fox.out0_eq m' c
  have e1 := Cert.ReferenceIdeal.Fox.out1_eq m' c
  have e2 := Cert.ReferenceIdeal.Fox.out2_eq m' c
  have e3 := Cert.ReferenceIdeal.Fox.out3_eq m' c
  rw [hq, hk, hv, hc, hg] at e0
  rw [hq, hk, hv, hc, hg] at e1
  rw [hq, hk, hc, hg] at e2
  rw [hq, hk, hv, hc, hg] at e3
  exact ⟨e0.trans (agree_q m c R).symm, e1.trans (agree_k m c R).symm, e2.trans (agree_v m c R).symm, e3.trans (agree_c m c R).symm⟩

theorem values : Cert.algebraic_KernelIdeal_ReferenceIdeal_pre_finite := by
  intro m ρ m' ρ' hp hm
  refine ⟨resQ m, resK m, resV m, resC m, run m ρ, ?_⟩
  refine (θ_run Cert.ReferenceIdeal.defs _ _).mono (fun r h c => ?_) (Cert.ReferenceIdeal.Value.run (F := Ideal) m' ρ')
  obtain ⟨A, R⟩ := reads m hp c
  obtain ⟨h0, h1, h2, h3, h4⟩ := hm c
  obtain ⟨r0, r1, r2, r3, ra⟩ := h c
  have e := same m m' c R h0 h1 h2 h3 h4
  exact ⟨r0.trans e.1, r1.trans e.2.1, r2.trans e.2.2.1, r3.trans e.2.2.2, ra⟩

end Cert.KernelIdeal.Fox

end
-- ==== Proof.MmVal.lean ====
/- The weight-gradient product: what one grid point leaves in the accumulator and in the result's block. -/
module

public import proofs.«01_k».proof.Proof.Gen.Kernel2Ideal.Value
public import Idealize.ShloMosaic.Lib.Pointwise

@[expose] public section

set_option maxRecDepth 16384

noncomputable section

namespace Cert.Kernel2Ideal.Mm

open Idealize.ShloMosaic Idealize.ShloMosaic.TcCoe Idealize.SL.Sem
open Cert.Kernel2Ideal Cert.Kernel2Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section Any

variable {F : FTy → Type} [FloatOps F]

/-- The first point of a block leaves the product added to zero. -/
theorem acc_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .bf16) (h5 : a5.IsWhole)
    (a6 : Memref sig .tc .vmem S1024x1024 .f32) (h6 : a6.IsWhole) (hc0 : cond0_0 i) (hc1 : ¬cond0_1 i) (x y : Vec F S1024x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point of a block adds its product to the accumulator. -/
theorem acc_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .bf16) (h5 : a5.IsWhole)
    (a6 : Memref sig .tc .vmem S1024x1024 .f32) (h6 : a6.IsWhole) (hc0 : ¬cond0_0 i) (hc1 : ¬cond0_1 i) (x y : Vec F S1024x1024 .bf16)
    (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x1024) hz]

/-- The last point of a block stores the finished accumulator. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .bf16) (h5 : a5.IsWhole)
    (a6 : Memref sig .tc .vmem S1024x1024 .f32) (h6 : a6.IsWhole) (hc0 : ¬cond0_0 i) (hc1 : cond0_1 i) (x y : Vec F S1024x1024 .bf16)
    (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz3, View.readCov_unit_zero (S := S1024x1024) _ hz]
  simp only [View.readAt_eq_ld, h3.read_unread, h4.read_unread, h6.read_unread, View.ld_unit_zero (S := S1024x1024) hz]

variable (m : (ℓ : Loc nD τ sig) → Buf (Elt F) ℓ)

/-- What the accumulator holds after each point of a block, and what the last one stores. -/
theorem acc_first (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  rw [acc_A]

theorem acc_next (c : Dev nD) (t : Fin cfg0.N) (h0 : ¬t.val % 4 = 0) (h1 : ¬t.val % 4 = 3) :
    (outsAt0 m c t.val t.isLt).2
      = k0_pay2 (F := F) (outsAt0 m c (t.val - 1) (Nat.lt_of_le_of_lt (Nat.sub_le _ _) t.isLt)).2 (iblk m c 0 t) (iblk m c 1 t) := by
  rw [outsAt0_B m c t h0 h1]
  dsimp only
  rw [acc_B]

theorem out_last (c : Dev nD) (t : Fin cfg0.N) (h1 : t.val % 4 = 3) :
    (outsAt0 m c t.val t.isLt).1
      = k0_pay3 (F := F) (k0_pay2 (outsAt0 m c (t.val - 1) (Nat.lt_of_le_of_lt (Nat.sub_le _ _) t.isLt)).2 (iblk m c 0 t) (iblk m c 1 t)) := by
  have h0 : ¬t.val % 4 = 0 := by omega
  rw [outsAt0_C m c t h0 h1]
  dsimp only
  rw [out_C]

end Any

/-- A product added to the accumulator, at an index. -/
theorem step_at (s : FVec Ideal S1024x1024 .f32) (x y : FVec Ideal S1024x1024 .bf16) (i j : Fin 1024) :
    k0_pay2 s x y (ix2 i j) = s (ix2 i j) + ∑ k : Fin 1024, x (ix2 i k) * y (ix2 k j) := by
  unfold k0_pay2
  pointwise [dot_S1024x1024_S1024x1024_S1024x1024_1_0_0_1_n_n]

theorem zero_at (i j : Fin 1024) : (k0_pay1 : FVec Ideal S1024x1024 .f32) (ix2 i j) = 0 := by
  unfold k0_pay1
  pointwise []

/-- The stored block, at an index. -/
theorem store_at (s : FVec Ideal S1024x1024 .f32) (i j : Fin 1024) : (k0_pay3 s : FVec Ideal S1x1024x1024 .bf16) (ix3 0 i j) = (s (ix2 i j) : EReal) := by
  unfold k0_pay3
  pointwise []

end Cert.Kernel2Ideal.Mm

end
-- ==== Proof.MmRef.lean ====
/- The weight-gradient product: what the reference computes, at an index. -/
module

public import proofs.«01_k».proof.Proof.Gen.Reference2Ideal.Run
public import Idealize.ShloMosaic.Lib.Pointwise

@[expose] public section

set_option maxRecDepth 16384

noncomputable section

namespace Cert.Reference2Ideal.Mm

open Idealize.ShloMosaic Idealize.ShloMosaic.TcCoe Idealize.SL.Sem
open Cert.Reference2Ideal Cert.Reference2Ideal.Gen

/-- The gradient of the weight. -/
def grad (a : FVec Ideal S1024x4096 .bf16) (b : FVec Ideal S4096x4096 .bf16) : FVec Ideal S1024x4096 .f32 :=
  transpose S1024x4096 [1, 0] (Host.dotGeneral dot_S4096x4096_S4096x1024_S4096x1024_0_0_1_1_n_n none (extf .f32 b bitsLt_bf16_f32)
    (extf .f32 (transpose S4096x1024 [1, 0] a transposes_S1024x4096_S4096x1024_1_0) bitsLt_bf16_f32)) transposes_S4096x1024_S1024x4096_1_0

/-- Its columns in four parts. -/
def parts (w : FVec Ideal S1024x4096 .f32) : FVec Ideal S4x1024x1024 .bf16 :=
  truncf .bf16 ((concatenate S4x1024x1024 0 [
    ⟨S1x1024x1024, ((broadcastInDim S1x1024x1024 ![1, 2] bcast_S1024x1024_S1x1024x1024_1_2 (extractStridedSlice S1024x1024 ![0, 0] w slices_S1024x4096_S1024x1024_0_0)) : (⟨S1x1024x1024, .f32⟩ : BufTy).Contents (Elt Ideal))⟩,
    ⟨S1x1024x1024, ((broadcastInDim S1x1024x1024 ![1, 2] bcast_S1024x1024_S1x1024x1024_1_2 (extractStridedSlice S1024x1024 ![0, 1024] w slices_S1024x4096_S1024x1024_0_1024)) : (⟨S1x1024x1024, .f32⟩ : BufTy).Contents (Elt Ideal))⟩,
    ⟨S1x1024x1024, ((broadcastInDim S1x1024x1024 ![1, 2] bcast_S1024x1024_S1x1024x1024_1_2 (extractStridedSlice S1024x1024 ![0, 2048] w slices_S1024x4096_S1024x1024_0_2048)) : (⟨S1x1024x1024, .f32⟩ : BufTy).Contents (Elt Ideal))⟩,
    ⟨S1x1024x1024, ((broadcastInDim S1x1024x1024 ![1, 2] bcast_S1024x1024_S1x1024x1024_1_2 (extractStridedSlice S1024x1024 ![0, 3072] w slices_S1024x4096_S1024x1024_0_3072)) : (⟨S1x1024x1024, .f32⟩ : BufTy).Contents (Elt Ideal))⟩]
    concatenates_S1x1024x1024_S1x1024x1024_S1x1024x1024_S1x1024x1024_S4x1024x1024_d0 : (⟨S4x1024x1024, .f32⟩ : BufTy).Contents (Elt Ideal))) bitsLt_bf16_f32

theorem grad_at (a : FVec Ideal S1024x4096 .bf16) (b : FVec Ideal S4096x4096 .bf16) (i : Fin 1024) (j : Fin 4096) :
    grad a b (ix2 i j) = ∑ s : Fin 4096, (b (ix2 s j) * a (ix2 i s) : EReal) := by
  unfold grad
  pointwise [dot_S4096x4096_S4096x1024_S4096x1024_0_0_1_1_n_n]

theorem parts_at (w : FVec Ideal S1024x4096 .f32) (q : Fin 4) (i j : Fin 1024) :
    parts w (ix3 q i j) = (w (ix2 i ⟨1024 * q.val + j.val, by omega⟩) : EReal) := by
  unfold parts
  fin_cases q <;> pointwise []

end Cert.Reference2Ideal.Mm

end
-- ==== Proof.MmFinal.lean ====
/- The weight-gradient product: the kernel's result, and the equation. -/
module

public import proofs.«01_k».proof.Defs
public import proofs.«01_k».proof.Proof.MmVal
public import proofs.«01_k».proof.Proof.MmRef
public import Idealize.ShloMosaic.Lib.Pipeline.ValueKit

@[expose] public section

set_option maxRecDepth 16384

noncomputable section

namespace Cert.Kernel2Ideal.Mm

open Idealize.ShloMosaic Idealize.ShloMosaic.TcCoe Idealize.ShloMosaic.Tactic Idealize.SL.Sem
open Cert.Kernel2Ideal Cert.Kernel2Ideal.Gen

/-- A sum over all the rows, in four runs of rows. -/
theorem sum_runs (f : ℕ → EReal) : ∑ s : Fin 4096, f s.val
    = 0 + ∑ k : Fin 1024, f (1024 * 0 + k.val) + ∑ k : Fin 1024, f (1024 * 1 + k.val) + ∑ k : Fin 1024, f (1024 * 2 + k.val) + ∑ k : Fin 1024, f (1024 * 3 + k.val) := by
  have e : ∀ n : ℕ, ∑ k ∈ Finset.range 1024, f (n + k) = ∑ k : Fin 1024, f (n + k.val) := fun n => Finset.sum_range fun k => f (n + k)
  rw [← Finset.sum_range f, show 4096 = 1024 * 3 + 1024 from rfl, Finset.sum_range_add, show 1024 * 3 = 1024 * 2 + 1024 from rfl,
    Finset.sum_range_add, show 1024 * 2 = 1024 * 1 + 1024 from rfl, Finset.sum_range_add, show 1024 * 1 = 1024 * 0 + 1024 from rfl,
    Finset.sum_range_add, e, e, e, e]
  simp

/-- Where the windows stand at each grid point. -/
theorem places : ∀ t : Fin cfg0.N, win0_0.index t = ![0, t.val % 4] ∧ win0_1.index t = ![t.val % 4, t.val / 4] ∧ t.val < 16 :=
  (by decide +kernel : ∀ t : Fin grid0.N, _)

variable (m : (ℓ : Loc nD τ sig) → Buf (Elt Ideal) ℓ) (c : Dev nD)

abbrev argA : FVec Ideal S1024x4096 .bf16 := m ((c.tc : Thread nD τ).loc main_arg0)
abbrev argB : FVec Ideal S4096x4096 .bf16 := m ((c.tc : Thread nD τ).loc main_arg1)

theorem lt16 (t : Fin cfg0.N) : t.val < 16 := (places t).2.2

theorem blk_a (t : Fin cfg0.N) (i k : Fin 1024) :
    iblk m c 0 t (ix2 i k) = argA m c (ix2 i ⟨1024 * (t.val % 4) + k.val, by omega⟩) := by
  blk_simp [iblk]
  rw [show V m c main_arg0 = argA m c from rfl]
  blk_ext [places t]

theorem blk_b (t : Fin cfg0.N) (k j : Fin 1024) :
    iblk m c 1 t (ix2 k j) = argB m c (ix2 ⟨1024 * (t.val % 4) + k.val, by omega⟩ ⟨1024 * (t.val / 4) + j.val, by have := lt16 t; omega⟩) := by
  blk_simp [iblk]
  rw [show V m c main_arg1 = argB m c from rfl]
  blk_ext [places t]

/-- The factors of one entry of the product, by the row that they share. -/
def term (i : Fin 1024) (q : ℕ) (j : Fin 1024) (s : ℕ) : EReal :=
  if h : s < 4096 ∧ q < 4 then (argA m c (ix2 i ⟨s, h.1⟩) * argB m c (ix2 ⟨s, h.1⟩ ⟨1024 * q + j.val, by omega⟩) : EReal) else 0

/-- One point's step, at an index. -/
theorem step_blk (s : FVec Ideal S1024x1024 .f32) (t : Fin cfg0.N) (i j : Fin 1024) :
    k0_pay2 s (iblk m c 0 t) (iblk m c 1 t) (ix2 i j) = s (ix2 i j) + ∑ k : Fin 1024, term m c i (t.val / 4) j (1024 * (t.val % 4) + k.val) := by
  refine (step_at s _ _ i j).trans (congrArg (s (ix2 i j) + ·) (Finset.sum_congr rfl fun k _ => ?_))
  have := lt16 t
  rw [blk_a, blk_b, term, dif_pos (by omega)]

/-- The accumulator after the first, second and third point of a block. -/
theorem acc0 (q : ℕ) (h : 4 * q < cfg0.N) (i j : Fin 1024) :
    (outsAt0 m c (4 * q) h).2 (ix2 i j) = 0 + ∑ k : Fin 1024, term m c i q j (1024 * 0 + k.val) := by
  rw [acc_first m c ⟨4 * q, h⟩ (by dsimp only; omega), step_blk, zero_at]
  rw [show (⟨4 * q, h⟩ : Fin cfg0.N).val / 4 = q by dsimp only; omega, show (⟨4 * q, h⟩ : Fin cfg0.N).val % 4 = 0 by dsimp only; omega]

theorem acc1 (q : ℕ) (h : 4 * q + 1 < cfg0.N) (i j : Fin 1024) :
    (outsAt0 m c (4 * q + 1) h).2 (ix2 i j) = 0 + ∑ k : Fin 1024, term m c i q j (1024 * 0 + k.val) + ∑ k : Fin 1024, term m c i q j (1024 * 1 + k.val) := by
  rw [acc_next m c ⟨4 * q + 1, h⟩ (by dsimp only; omega) (by dsimp only; omega), step_blk]
  rw [show (⟨4 * q + 1, h⟩ : Fin cfg0.N).val / 4 = q by dsimp only; omega, show (⟨4 * q + 1, h⟩ : Fin cfg0.N).val % 4 = 1 by dsimp only; omega]
  exact congrArg (· + _) (acc0 m c q _ i j)

theorem acc2 (q : ℕ) (h : 4 * q + 2 < cfg0.N) (i j : Fin 1024) :
    (outsAt0 m c (4 * q + 2) h).2 (ix2 i j) = 0 + ∑ k : Fin 1024, term m c i q j (1024 * 0 + k.val) + ∑ k : Fin 1024, term m c i q j (1024 * 1 + k.val)
      + ∑ k : Fin 1024, term m c i q j (1024 * 2 + k.val) := by
  rw [acc_next m c ⟨4 * q + 2, h⟩ (by dsimp only; omega) (by dsimp only; omega), step_blk]
  rw [show (⟨4 * q + 2, h⟩ : Fin cfg0.N).val / 4 = q by dsimp only; omega, show (⟨4 * q + 2, h⟩ : Fin cfg0.N).val % 4 = 2 by dsimp only; omega]
  exact congrArg (· + _) (acc1 m c q _ i j)

/-- What the last point of a block stores is the whole sum. -/
theorem out3 (q : ℕ) (h : 4 * q + 3 < cfg0.N) (i j : Fin 1024) :
    (outsAt0 m c (4 * q + 3) h).1 (ix3 0 i j) = ∑ s : Fin 4096, term m c i q j s.val := by
  rw [out_last m c ⟨4 * q + 3, h⟩ (by dsimp only; omega), store_at, step_blk, sum_runs]
  rw [show (⟨4 * q + 3, h⟩ : Fin cfg0.N).val / 4 = q by dsimp only; omega, show (⟨4 * q + 3, h⟩ : Fin cfg0.N).val % 4 = 3 by dsimp only; omega]
  exact congrArg (· + _) (acc2 m c q _ i j)

open Cert.Reference2Ideal.Mm (grad parts grad_at parts_at)

/-- The kernel's result is the reference's. -/
theorem result_eq : Value.G2 m c = parts (grad (argA m c) (argB m c)) := by
  funext x
  obtain ⟨q, i, j, rfl⟩ : ∃ (q : Fin 4) (i j : Fin 1024), x = ix3 q i j := ⟨x 0, x 1, x 2, by funext a; fin_cases a <;> rfl⟩
  have hp : Value.pt2Of (ix3 q i j) = 4 * q.val + 3 := by
    show 4 * (1 * (q.val / 1 - 0) + 1 * (i.val / 1024 - 0) + 1 * (j.val / 1024 - 0)) + 3 = _
    omega
  have hl : Value.loc2Of (ix3 q i j) = ix3 0 i j := by
    funext a
    apply Fin.ext
    fin_cases a
    · show q.val % 1 = 0; omega
    · show i.val % 1024 = i.val; omega
    · show j.val % 1024 = j.val; omega
  have hN : cfg0.N = 16 := N_0
  have hlt : 4 * q.val + 3 < cfg0.N := by omega
  unfold Value.G2
  rw [dif_pos (by rw [hp]; exact hlt), ← Value.outsAt0_sweep m c (Value.pt2Of (ix3 q i j)) (by rw [hp]; exact hlt), hl]
  have e : ∀ n (h : n < cfg0.N), n = 4 * q.val + 3 → (outsAt0 m c n h).1 = (outsAt0 m c (4 * q.val + 3) hlt).1 := by
    intro n h hn; subst hn; rfl
  refine (congrFun (e _ _ hp) (ix3 0 i j)).trans ((out3 m c q.val hlt i j).trans (Eq.trans ?_ ((parts_at _ q i j).trans (grad_at _ _ _ _)).symm))
  refine Finset.sum_congr rfl fun s _ => ?_
  rw [term, dif_pos ⟨s.isLt, q.isLt⟩]
  exact mul_comm _ _

theorem values : Cert.algebraic_Kernel2Ideal_Reference2Ideal := by
  intro m ρ m' ρ' _ hm
  refine ⟨fun c => Value.G2 m c, Value.run m ρ, ?_⟩
  refine (θ_run Cert.Reference2Ideal.defs _ _).mono (fun r h c => ?_) (Cert.Reference2Ideal.Value.run (F := Ideal) m' ρ')
  obtain ⟨h0, h1⟩ := hm c
  obtain ⟨r0, ra⟩ := h c
  refine ⟨(r0.trans ?_).trans (result_eq m c).symm, ra⟩
  exact congrArg parts (congrArg₂ grad h0 h1)

end Cert.Kernel2Ideal.Mm

end
-- ==== Proof.FfnReal.lean ====
/- The feed-forward layer's gradient over the reals: of the layer norm, of the squared activation and of the two products. -/
module

public import proofs.«01_k».proof.Proof.FoxWord

@[expose] public section

noncomputable section

namespace Cert.FfnReal

open Finset

/-! ## A row's layer norm -/

def mean (f : Fin 1024 → ℝ) : ℝ := (∑ d, f d) / 1024

/-- A row less its mean. -/
def dev (ρ : Fin 1024 → ℝ) (d : Fin 1024) : ℝ := ρ d - mean ρ

/-- The variance and the small constant. -/
def rvar (ε : ℝ) (ρ : Fin 1024 → ℝ) : ℝ := mean (fun d => dev ρ d * dev ρ d) + ε

def rstd (ε : ℝ) (ρ : Fin 1024 → ℝ) : ℝ := (Real.sqrt (rvar ε ρ))⁻¹

def xhat (ε : ℝ) (ρ : Fin 1024 → ℝ) (d : Fin 1024) : ℝ := dev ρ d * rstd ε ρ

/-- The cotangent of the row, from the cotangent `y` of its layer norm with gain `g`. -/
def dr (ε : ℝ) (ρ y g : Fin 1024 → ℝ) (d : Fin 1024) : ℝ :=
  rstd ε ρ * (y d * g d - mean (fun e => y e * g e) - xhat ε ρ d * mean (fun e => y e * g e * xhat ε ρ e))

theorem sum_dev (ρ : Fin 1024 → ℝ) : ∑ d, dev ρ d = 0 := by
  unfold dev mean
  rw [Finset.sum_sub_distrib, Finset.sum_const, Finset.card_univ, Fintype.card_fin, nsmul_eq_mul]
  push_cast; ring

theorem rvar_pos {ε : ℝ} (hε : 0 < ε) (ρ : Fin 1024 → ℝ) : 0 < rvar ε ρ := by
  unfold rvar mean
  have : 0 ≤ ∑ d, dev ρ d * dev ρ d := Finset.sum_nonneg fun d _ => mul_self_nonneg _
  positivity

theorem rstd_div {ε : ℝ} (hε : 0 < ε) (ρ : Fin 1024 → ℝ) : rstd ε ρ / rvar ε ρ = rstd ε ρ * (rstd ε ρ * rstd ε ρ) := by
  have h := rvar_pos hε ρ
  have e : rstd ε ρ * rstd ε ρ = (rvar ε ρ)⁻¹ := by
    unfold rstd; rw [← mul_inv, Real.mul_self_sqrt h.le]
  rw [e]; rfl

/-- The cotangent through the variance, as differentiating the formula gives it. -/
def thru (ε : ℝ) (ρ y g : Fin 1024 → ℝ) : ℝ :=
  (∑ e, dev ρ e * (y e * g e)) * (-(1 / 2) * (rstd ε ρ / rvar ε ρ)) / 1024

theorem dr_eq {ε : ℝ} (hε : 0 < ε) (ρ y g : Fin 1024 → ℝ) (d : Fin 1024) :
    y d * g d * rstd ε ρ + thru ε ρ y g * (2 * dev ρ d)
      + ((∑ e, -(y e * g e * rstd ε ρ)) + ∑ e, -(thru ε ρ y g * (2 * dev ρ e))) / 1024 = dr ε ρ y g d := by
  have h0 : ∑ e, -(thru ε ρ y g * (2 * dev ρ e)) = 0 := by
    rw [Finset.sum_neg_distrib, ← Finset.mul_sum, ← Finset.mul_sum, sum_dev]; ring
  have h1 : ∑ e, -(y e * g e * rstd ε ρ) = -((∑ e, y e * g e) * rstd ε ρ) := by
    rw [Finset.sum_neg_distrib, ← Finset.sum_mul]
  have h2 : ∑ e, y e * g e * xhat ε ρ e = (∑ e, dev ρ e * (y e * g e)) * rstd ε ρ := by
    rw [Finset.sum_mul]; exact Finset.sum_congr rfl fun e _ => by unfold xhat; ring
  rw [h0, h1]
  unfold dr thru mean
  rw [h2, rstd_div hε]; unfold xhat; ring

/-! ## The layer -/

structure Args where
  x : Fin 4096 → Fin 1024 → ℝ
  u : Fin 1024 → Fin 4096 → ℝ
  w : Fin 4096 → Fin 1024 → ℝ
  g : Fin 1024 → ℝ
  y : Fin 4096 → Fin 1024 → ℝ

/-- The scale of the residual. -/
def α : ℝ := 11863283 / 8388608

/-- The layer norm's small constant. -/
def ε : ℝ := 10995116 / 1099511627776

theorem ε_pos : 0 < ε := by unfold ε; norm_num

namespace Args

variable (A : Args)

def pre (i : Fin 4096) (f : Fin 4096) : ℝ := ∑ d, A.x i d * A.u d f
def rel (i : Fin 4096) (f : Fin 4096) : ℝ := max (A.pre i f) 0
def r (i : Fin 4096) (d : Fin 1024) : ℝ := α * A.x i d + ∑ f, A.rel i f * A.rel i f * A.w f d
def dr (i : Fin 4096) (d : Fin 1024) : ℝ := FfnReal.dr ε (A.r i) (A.y i) A.g d
def dpre (i : Fin 4096) (f : Fin 4096) : ℝ := 2 * A.rel i f * ∑ d, A.dr i d * A.w f d
def dx (i : Fin 4096) (d : Fin 1024) : ℝ := α * A.dr i d + ∑ f, A.dpre i f * A.u d f
def dg (d : Fin 1024) : ℝ := ∑ i, A.y i d * xhat ε (A.r i) d
def db (d : Fin 1024) : ℝ := ∑ i, A.y i d

theorem dpre_ite (i f : Fin 4096) : (if 0 < A.pre i f then (∑ d, A.dr i d * A.w f d) * (2 * A.rel i f) else 0) = A.dpre i f := by
  unfold dpre
  split
  · ring
  · next h => rw [show A.rel i f = 0 from max_eq_right (not_lt.1 h)]; ring

theorem sqrt_rel (i f : Fin 4096) : Real.sqrt (A.rel i f * A.rel i f) = A.rel i f := Real.sqrt_mul_self (le_max_right _ _)

end Args

/-! ## Sums of reals held as extended reals -/

theorem sum_real {n : ℕ} (f : Fin n → EReal) (g : Fin n → ℝ) (h : ∀ i, f i = (g i : EReal)) : ∑ i, f i = ((∑ i, g i : ℝ) : EReal) := by
  rw [FoxReal.coe_sum]; exact Finset.sum_congr rfl fun i _ => h i

theorem max_real (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

theorem two_f32 : Idealize.ShloMosaic.Ideal.ofBits .f32 0x40000000#32 = ((2 : ℝ) : EReal) := by
  simp [Idealize.ShloMosaic.Ideal.ofBits, Idealize.ShloMosaic.Ideal.ieee, -EReal.coe_mul]; norm_num

theorem neg_half_f32 : Idealize.ShloMosaic.Ideal.ofBits .f32 0xBF000000#32 = ((-(1 / 2) : ℝ) : EReal) := by
  simp [Idealize.ShloMosaic.Ideal.ofBits, Idealize.ShloMosaic.Ideal.ieee, -EReal.coe_mul, -EReal.coe_neg]; norm_num

theorem width_f32 : Idealize.ShloMosaic.Ideal.ofBits .f32 0x44800000#32 = ((1024 : ℝ) : EReal) := by
  simp [Idealize.ShloMosaic.Ideal.ofBits, Idealize.ShloMosaic.Ideal.ieee, -EReal.coe_mul]; norm_num

theorem alpha_f32 : Idealize.ShloMosaic.Ideal.ofBits .f32 0x3FB504F3#32 = ((α : ℝ) : EReal) := by
  unfold α; simp [Idealize.ShloMosaic.Ideal.ofBits, Idealize.ShloMosaic.Ideal.ieee, -EReal.coe_mul]; norm_num

theorem eps_f32 : Idealize.ShloMosaic.Ideal.ofBits .f32 0x3727C5AC#32 = ((ε : ℝ) : EReal) := by
  unfold ε; simp [Idealize.ShloMosaic.Ideal.ofBits, Idealize.ShloMosaic.Ideal.ieee, -EReal.coe_mul]; norm_num

theorem rsqrt_real (v : ℝ) (h : 0 < v) : Idealize.ShloMosaic.Ideal.rsqrt (v : EReal) = (((Real.sqrt v)⁻¹ : ℝ) : EReal) := by
  rw [Idealize.ShloMosaic.Ideal.rsqrt_coe, if_neg (not_lt.2 h.le), if_neg h.ne']

theorem sqrt_real (v : ℝ) (h : 0 ≤ v) : Idealize.ShloMosaic.Ideal.sqrt (v : EReal) = ((Real.sqrt v : ℝ) : EReal) := by
  rw [Idealize.ShloMosaic.Ideal.sqrt_coe, if_neg (not_lt.2 h)]

end Cert.FfnReal

end
-- ==== Proof.FfnRef.lean ====
/- The reference of the feed-forward layer's gradient: its steps, and what they are over the reals. -/
module

public import proofs.«01_k».proof.Proof.Gen.Reference3Ideal.Run
public import proofs.«01_k».proof.Proof.FfnReal

@[expose] public section

set_option maxRecDepth 16384

noncomputable section

namespace Cert.Reference3Ideal.Ffn

open Idealize.ShloMosaic Idealize.ShloMosaic.TcCoe Idealize.SL.Sem
open Cert.Reference3Ideal Cert.Reference3Ideal.Gen
open Cert.FfnReal Cert.FoxReal

section Steps

variable {F : FTy → Type} [FloatOps F]

def zf : FVec F S4096x4096 .f32 := broadcastInDim S4096x4096 ![] bcast_S_S4096x4096 (constant S_ .f32 0x00000000#32)
def zd : FVec F S4096x1024 .f32 := broadcastInDim S4096x1024 ![] bcast_S_S4096x1024 (constant S_ .f32 0x00000000#32)

/-- One number for every entry, and for every row. -/
def fill (b : BitVec 32) : FVec F S4096x1024 .f32 := broadcastInDim S4096x1024 ![] bcast_S_S4096x1024 (constant S_ .f32 b)
def fill1 (b : BitVec 32) : FVec F S4096x1 .f32 := broadcastInDim S4096x1 ![] bcast_S_S4096x1 (constant S_ .f32 b)

/-- The activation's argument, the activation before its square, and the residual. -/
def preOf (x : FVec F S4096x1024 .f32) (u : FVec F S1024x4096 .bf16) : FVec F S4096x4096 .f32 :=
  addf (Host.dotGeneral dot_S4096x1024_S1024x4096_S4096x4096_1_0_0_1_n_n none x (extf .f32 u bitsLt_bf16_f32)) zf
def relOf (p : FVec F S4096x4096 .f32) : FVec F S4096x4096 .f32 := maximumf p zf
def residOf (x : FVec F S4096x1024 .f32) (h : FVec F S4096x4096 .f32) (w : FVec F S4096x1024 .bf16) : FVec F S4096x1024 .f32 :=
  addf (addf (mulf (fill 0x3FB504F3#32) x)
    (Host.dotGeneral dot_S4096x4096_S4096x1024_S4096x1024_1_0_0_1_n_n none (mulf h h) (extf .f32 w bitsLt_bf16_f32))) zd

/-- The rows' sums, and their means. -/
def sums (a : FVec F S4096x1024 .f32) : FVec F S4096 .f32 := Host.reduceAdd a (constant S_ .f32 0x00000000#32) reducesTo_S4096x1024_S4096_d1 h_S_
def means (a : FVec F S4096x1024 .f32) : FVec F S4096x1 .f32 := Host.divf (broadcastInDim S4096x1 ![0] bcast_S4096_S4096x1_0 (sums a)) (fill1 0x44800000#32)
/-- The columns' sums. -/
def colSums (a : FVec F S4096x1024 .f32) : FVec F S1024 .f32 :=
  Host.reduceAdd (shapeCast S1x1024 (Host.reduceAdd a (constant S_ .f32 0x00000000#32) reducesTo_S4096x1024_S1024_d0 h_S_) shapeCasts_S1024_S1x1024)
    (constant S_ .f32 0x00000000#32) reducesTo_S1x1024_S1024_d0 h_S_
/-- One number for each row, along it. -/
def wide (a : FVec F S4096x1 .f32) : FVec F S4096x1024 .f32 := broadcastInDim S4096x1024 ![0, 1] bcast_S4096x1_S4096x1024_0_1 a
def asCol (a : FVec F S4096 .f32) : FVec F S4096x1 .f32 := shapeCast S4096x1 a shapeCasts_S4096_S4096x1
/-- A column's numbers along the rows, by way of its sums along its one place. -/
def spread (a : FVec F S4096x1 .f32) : FVec F S4096x1024 .f32 :=
  broadcastInDim S4096x1024 ![0] bcast_S4096_S4096x1024_0 (Host.reduceAdd a (constant S_ .f32 0x00000000#32) reducesTo_S4096x1_S4096_d1 h_S_)

def devOf (r : FVec F S4096x1024 .f32) : FVec F S4096x1024 .f32 := subf r (wide (means r))
def varOf (r : FVec F S4096x1024 .f32) : FVec F S4096x1 .f32 := addf (means (mulf (devOf r) (devOf r))) (fill1 0x3727C5AC#32)
def rstdOf (r : FVec F S4096x1024 .f32) : FVec F S4096x1 .f32 := Host.rsqrt (varOf r)
def xhatOf (r : FVec F S4096x1024 .f32) : FVec F S4096x1024 .f32 := mulf (devOf r) (wide (rstdOf r))
def same (y : FVec F S4096x1024 .f32) : FVec F S4096x1024 .f32 := shapeCast S4096x1024 y shapeCasts_S4096x1024_S4096x1024
def gainOf (g : FVec F S1x1024 .f32) : FVec F S4096x1024 .f32 :=
  broadcastInDim S4096x1024 ![0, 1] bcast_S1x1024_S4096x1024_0_1 (broadcastInDim S1x1024 ![1] bcast_S1024_S1x1024_1 (shapeCast S1024 g shapeCasts_S1x1024_S1024))
def dyg (y : FVec F S4096x1024 .f32) (g : FVec F S1x1024 .f32) : FVec F S4096x1024 .f32 := mulf (same y) (gainOf g)

/-- The cotangent through the variance, from the residual and the gained cotangent. -/
def thruOf (r n : FVec F S4096x1024 .f32) : FVec F S4096x1 .f32 :=
  Host.divf (mulf (asCol (sums (mulf (devOf r) n))) (mulf (fill1 0xBF000000#32) (Host.divf (rstdOf r) (varOf r)))) (fill1 0x44800000#32)
def side (r n : FVec F S4096x1024 .f32) : FVec F S4096x1024 .f32 := mulf (spread (thruOf r n)) (mulf (fill 0x40000000#32) (devOf r))
def main (r n : FVec F S4096x1024 .f32) : FVec F S4096x1024 .f32 := mulf n (wide (rstdOf r))
def drOf (r n : FVec F S4096x1024 .f32) : FVec F S4096x1024 .f32 :=
  addf (addf (main r n) (side r n))
    (spread (Host.divf (addf (asCol (sums (Host.negf (main r n)))) (asCol (sums (Host.negf (side r n))))) (fill1 0x44800000#32)))

/-- The cotangent of the activation's argument, from the residual's cotangent. -/
def dpreOf (p : FVec F S4096x4096 .f32) (d : FVec F S4096x1024 .f32) (w : FVec F S4096x1024 .bf16) : FVec F S4096x4096 .f32 :=
  select (cmpf .ogt p zf)
    (mulf (Host.dotGeneral dot_S4096x1024_S4096x1024_S4096x4096_1_1_0_0_n_n none d (extf .f32 w bitsLt_bf16_f32))
      (mulf (broadcastInDim S4096x4096 ![] bcast_S_S4096x4096 (constant S_ .f32 0x40000000#32)) (relOf p))) zf
def dxOf (d : FVec F S4096x1024 .f32) (q : FVec F S4096x4096 .f32) (u : FVec F S1024x4096 .bf16) : FVec F S4096x1024 .f32 :=
  addf (mulf (fill 0x3FB504F3#32) d) (Host.dotGeneral dot_S4096x4096_S1024x4096_S4096x1024_1_1_0_0_n_n none q (extf .f32 u bitsLt_bf16_f32))
def drT (d : FVec F S4096x1024 .f32) : FVec F S1024x4096 .bf16 :=
  truncf .bf16 (transpose S1024x4096 [1, 0] d transposes_S4096x1024_S1024x4096_1_0) bitsLt_bf16_f32
def half (q : FVec F S4096x4096 .f32) : FVec F S4096x4096 .bf16 := truncf .bf16 q bitsLt_bf16_f32
def twoRows (a b : FVec F S1024 .f32) : FVec F S2x1024 .f32 :=
  concatenate S2x1024 0 [⟨S1x1024, broadcastInDim S1x1024 ![1] bcast_S1024_S1x1024_1 a⟩, ⟨S1x1024, broadcastInDim S1x1024 ![1] bcast_S1024_S1x1024_1 b⟩]
    concatenates_S1x1024_S1x1024_S2x1024_d0

/-! ## The results over the steps -/

section Args
variable (x : FVec F S4096x1024 .f32) (u : FVec F S1024x4096 .bf16) (w : FVec F S4096x1024 .bf16) (g : FVec F S1x1024 .f32) (y : FVec F S4096x1024 .f32)

def resid : FVec F S4096x1024 .f32 := residOf x (relOf (preOf x u)) w
def dRes : FVec F S4096x1024 .f32 := drOf (resid x u w) (dyg y g)
def dPre : FVec F S4096x4096 .f32 := dpreOf (preOf x u) (dRes x u w g y) w
def outX : FVec F S4096x1024 .f32 := dxOf (dRes x u w g y) (dPre x u w g y) u
def outT : FVec F S1024x4096 .bf16 := drT (dRes x u w g y)
def outP : FVec F S4096x4096 .bf16 := half (dPre x u w g y)
def outG : FVec F S2x1024 .f32 := twoRows (colSums (mulf (xhatOf (resid x u w)) (same y))) (colSums y)

end Args

variable (m : (ℓ : Loc nD τ sig) → Buf (Elt F) ℓ) (c : Dev nD)

theorem res_x : Value.res_main_v90 m c = outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v90; rfl
theorem res_t : Value.res_main_v92 m c = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v92; rfl
theorem res_p : Value.res_main_v93 m c = outP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v93; rfl
theorem res_g : Value.res_main_v96 m c = outG (m ((c.tc : Thread nD τ).loc main_arg0)) (m ((c.tc : Thread nD τ).loc main_arg1)) (m ((c.tc : Thread nD τ).loc main_arg2)) (m ((c.tc : Thread nD τ).loc main_arg4)) := by
  unfold Value.res_main_v96; rfl

end Steps

/-! ## The steps at an index -/

theorem preOf_at (x : FVec Ideal S4096x1024 .f32) (u : FVec Ideal S1024x4096 .bf16) (i f : Fin 4096) :
    preOf x u (ix2 i f) = (∑ d : Fin 1024, x (ix2 i d) * u (ix2 d f)) := by
  pointwise [preOf, zf]
theorem relOf_at (p : FVec Ideal S4096x4096 .f32) (i f : Fin 4096) : relOf p (ix2 i f) = max (p (ix2 i f)) 0 := by
  pointwise [relOf, zf]
theorem residOf_at (x : FVec Ideal S4096x1024 .f32) (h : FVec Ideal S4096x4096 .f32) (w : FVec Ideal S4096x1024 .bf16) (i : Fin 4096) (d : Fin 1024) :
    residOf x h w (ix2 i d) = Ideal.ofBits .f32 0x3FB504F3#32 * x (ix2 i d) + ∑ f : Fin 4096, h (ix2 i f) * h (ix2 i f) * w (ix2 f d) := by
  pointwise [residOf, fill, zd]
theorem sums_at (a : FVec Ideal S4096x1024 .f32) (i : Fin 4096) : sums a (ix1 i) = ∑ d : Fin 1024, a (ix2 i d) := by
  pointwise [sums]
theorem means_at (a : FVec Ideal S4096x1024 .f32) (i : Fin 4096) (o : Fin 1) :
    means a (ix2 i o) = Ideal.div (∑ d : Fin 1024, a (ix2 i d)) (Ideal.ofBits .f32 0x44800000#32) := by
  pointwise [means, sums, fill1]
theorem colSums_at (a : FVec Ideal S4096x1024 .f32) (d : Fin 1024) : colSums a (ix1 d) = ∑ i : Fin 4096, a (ix2 i d) := by
  pointwise [colSums]
  exact Fin.sum_univ_one _
theorem wide_at (a : FVec Ideal S4096x1 .f32) (i : Fin 4096) (d : Fin 1024) : wide a (ix2 i d) = a (ix2 i 0) := by
  pointwise [wide]
theorem asCol_at (a : FVec Ideal S4096 .f32) (i : Fin 4096) (o : Fin 1) : asCol a (ix2 i o) = a (ix1 i) := by
  pointwise [asCol]
theorem spread_at (a : FVec Ideal S4096x1 .f32) (i : Fin 4096) (d : Fin 1024) : spread a (ix2 i d) = a (ix2 i 0) := by
  pointwise [spread]
  exact Fin.sum_univ_one _
theorem dyg_at (y : FVec Ideal S4096x1024 .f32) (g : FVec Ideal S1x1024 .f32) (i : Fin 4096) (d : Fin 1024) :
    dyg y g (ix2 i d) = y (ix2 i d) * g (ix2 0 d) := by
  pointwise [dyg, same, gainOf]
theorem same_at (y : FVec Ideal S4096x1024 .f32) (i : Fin 4096) (d : Fin 1024) : same y (ix2 i d) = y (ix2 i d) := by
  pointwise [same]
theorem dpreOf_at (p : FVec Ideal S4096x4096 .f32) (d : FVec Ideal S4096x1024 .f32) (w : FVec Ideal S4096x1024 .bf16) (i f : Fin 4096) :
    dpreOf p d w (ix2 i f) = if 0 < p (ix2 i f) then (∑ e : Fin 1024, d (ix2 i e) * w (ix2 f e)) * (Ideal.ofBits .f32 0x40000000#32 * relOf p (ix2 i f)) else 0 := by
  pointwise [dpreOf, zf]
theorem dxOf_at (d : FVec Ideal S4096x1024 .f32) (q : FVec Ideal S4096x4096 .f32) (u : FVec Ideal S1024x4096 .bf16) (i : Fin 4096) (e : Fin 1024) :
    dxOf d q u (ix2 i e) = Ideal.ofBits .f32 0x3FB504F3#32 * d (ix2 i e) + ∑ f : Fin 4096, q (ix2 i f) * u (ix2 e f) := by
  pointwise [dxOf, fill]
theorem drT_at (d : FVec Ideal S4096x1024 .f32) (e : Fin 1024) (i : Fin 4096) : drT d (ix2 e i) = d (ix2 i e) := by
  pointwise [drT]
theorem half_at (q : FVec Ideal S4096x4096 .f32) (i f : Fin 4096) : half q (ix2 i f) = q (ix2 i f) := by
  pointwise [half]
theorem twoRows_at0 (a b : FVec Ideal S1024 .f32) (d : Fin 1024) : twoRows a b (ix2 0 d) = a (ix1 d) := by
  pointwise [twoRows]
theorem twoRows_at1 (a b : FVec Ideal S1024 .f32) (d : Fin 1024) : twoRows a b (ix2 1 d) = b (ix1 d) := by
  pointwise [twoRows]

/-! ## The layer norm's steps over the reals -/

section Norm

variable {r n : FVec Ideal S4096x1024 .f32} {R N : Fin 4096 → Fin 1024 → ℝ}

theorem means_real {a : FVec Ideal S4096x1024 .f32} {f : Fin 4096 → Fin 1024 → ℝ} (h : ∀ i d, a (ix2 i d) = ((f i d : ℝ) : EReal)) (i : Fin 4096) (o : Fin 1) :
    means a (ix2 i o) = ((mean (f i) : ℝ) : EReal) := by
  rw [means_at, sum_real _ (f i) (h i), width_f32, div_real _ _ (by norm_num)]; rfl

theorem devOf_real (h : ∀ i d, r (ix2 i d) = ((R i d : ℝ) : EReal)) (i : Fin 4096) (d : Fin 1024) :
    devOf r (ix2 i d) = ((dev (R i) d : ℝ) : EReal) := by
  show r (ix2 i d) - wide (means r) (ix2 i d) = _
  rw [wide_at, means_real h, h, ← EReal.coe_sub]; rfl

theorem varOf_real (h : ∀ i d, r (ix2 i d) = ((R i d : ℝ) : EReal)) (i : Fin 4096) (o : Fin 1) :
    varOf r (ix2 i o) = ((rvar ε (R i) : ℝ) : EReal) := by
  show means (mulf (devOf r) (devOf r)) (ix2 i o) + Ideal.ofBits .f32 0x3727C5AC#32 = _
  rw [means_real (f := fun i d => dev (R i) d * dev (R i) d) (fun i d => by
    show devOf r (ix2 i d) * devOf r (ix2 i d) = _
    rw [devOf_real h, ← EReal.coe_mul]), eps_f32, ← EReal.coe_add]; rfl

theorem rstdOf_real (h : ∀ i d, r (ix2 i d) = ((R i d : ℝ) : EReal)) (i : Fin 4096) (o : Fin 1) :
    rstdOf r (ix2 i o) = ((rstd ε (R i) : ℝ) : EReal) := by
  show Ideal.rsqrt (varOf r (ix2 i o)) = _
  rw [varOf_real h, rsqrt_real _ (rvar_pos ε_pos _)]; rfl

theorem xhatOf_real (h : ∀ i d, r (ix2 i d) = ((R i d : ℝ) : EReal)) (i : Fin 4096) (d : Fin 1024) :
    xhatOf r (ix2 i d) = ((xhat ε (R i) d : ℝ) : EReal) := by
  show devOf r (ix2 i d) * wide (rstdOf r) (ix2 i d) = _
  rw [wide_at, devOf_real h, rstdOf_real h, ← EReal.coe_mul]; rfl

variable {Y : Fin 4096 → Fin 1024 → ℝ} {G : Fin 1024 → ℝ}

theorem thruOf_real (h : ∀ i d, r (ix2 i d) = ((R i d : ℝ) : EReal)) (hn : ∀ i d, n (ix2 i d) = ((Y i d * G d : ℝ) : EReal)) (i : Fin 4096) (o : Fin 1) :
    thruOf r n (ix2 i o) = ((thru ε (R i) (Y i) G : ℝ) : EReal) := by
  show Ideal.div (asCol (sums (mulf (devOf r) n)) (ix2 i o) * (Ideal.ofBits .f32 0xBF000000#32 * Ideal.div (rstdOf r (ix2 i o)) (varOf r (ix2 i o))))
    (Ideal.ofBits .f32 0x44800000#32) = _
  rw [asCol_at, sums_at, sum_real _ (fun e => dev (R i) e * (Y i e * G e)) (fun e => by
    show devOf r (ix2 i e) * n (ix2 i e) = _
    rw [devOf_real h, hn, ← EReal.coe_mul]), rstdOf_real h, varOf_real h, div_real _ _ (rvar_pos ε_pos _).ne', neg_half_f32, width_f32,
    ← EReal.coe_mul, ← EReal.coe_mul, div_real _ _ (by norm_num)]; rfl

theorem side_real (h : ∀ i d, r (ix2 i d) = ((R i d : ℝ) : EReal)) (hn : ∀ i d, n (ix2 i d) = ((Y i d * G d : ℝ) : EReal)) (i : Fin 4096) (d : Fin 1024) :
    side r n (ix2 i d) = ((thru ε (R i) (Y i) G * (2 * dev (R i) d) : ℝ) : EReal) := by
  show spread (thruOf r n) (ix2 i d) * (Ideal.ofBits .f32 0x40000000#32 * devOf r (ix2 i d)) = _
  rw [spread_at, thruOf_real h hn, devOf_real h, two_f32, ← EReal.coe_mul, ← EReal.coe_mul]

theorem main_real (h : ∀ i d, r (ix2 i d) = ((R i d : ℝ) : EReal)) (hn : ∀ i d, n (ix2 i d) = ((Y i d * G d : ℝ) : EReal)) (i : Fin 4096) (d : Fin 1024) :
    main r n (ix2 i d) = ((Y i d * G d * rstd ε (R i) : ℝ) : EReal) := by
  show n (ix2 i d) * wide (rstdOf r) (ix2 i d) = _
  rw [wide_at, hn, rstdOf_real h, ← EReal.coe_mul]

theorem negSums_real {a : FVec Ideal S4096x1024 .f32} {f : Fin 4096 → Fin 1024 → ℝ} (h : ∀ i d, a (ix2 i d) = ((f i d : ℝ) : EReal)) (i : Fin 4096) (o : Fin 1) :
    asCol (sums (Host.negf a)) (ix2 i o) = ((∑ d, -f i d : ℝ) : EReal) := by
  rw [asCol_at, sums_at]
  exact sum_real _ _ fun d => (show Host.negf a (ix2 i d) = -(a (ix2 i d) : EReal) from rfl).trans (by rw [h, ← EReal.coe_neg])

theorem drOf_real (h : ∀ i d, r (ix2 i d) = ((R i d : ℝ) : EReal)) (hn : ∀ i d, n (ix2 i d) = ((Y i d * G d : ℝ) : EReal)) (i : Fin 4096) (d : Fin 1024) :
    drOf r n (ix2 i d) = ((dr ε (R i) (Y i) G d : ℝ) : EReal) := by
  unfold drOf
  show main r n (ix2 i d) + side r n (ix2 i d) + spread (Host.divf (addf (asCol (sums (Host.negf (main r n)))) (asCol (sums (Host.negf (side r n))))) (fill1 0x44800000#32)) (ix2 i d) = _
  rw [spread_at]
  show _ + Ideal.div (asCol (sums (Host.negf (main r n))) (ix2 i 0) + asCol (sums (Host.negf (side r n))) (ix2 i 0)) (Ideal.ofBits .f32 0x44800000#32) = _
  rw [main_real h hn, side_real h hn, negSums_real (main_real h hn), negSums_real (side_real h hn), width_f32, ← EReal.coe_add, ← EReal.coe_add,
    div_real _ _ (by norm_num), ← EReal.coe_add, dr_eq ε_pos]

end Norm

/-! ## The results over the reals -/

/-- The real arrays that the arguments are. -/
structure Reads (A : FfnReal.Args) (x : FVec Ideal S4096x1024 .f32) (u : FVec Ideal S1024x4096 .bf16) (w : FVec Ideal S4096x1024 .bf16)
    (g : FVec Ideal S1x1024 .f32) (y : FVec Ideal S4096x1024 .f32) : Prop where
  hx : ∀ i d, x (ix2 i d) = ((A.x i d : ℝ) : EReal)
  hu : ∀ d f, u (ix2 d f) = ((A.u d f : ℝ) : EReal)
  hw : ∀ f d, w (ix2 f d) = ((A.w f d : ℝ) : EReal)
  hg : ∀ d, g (ix2 0 d) = ((A.g d : ℝ) : EReal)
  hy : ∀ i d, y (ix2 i d) = ((A.y i d : ℝ) : EReal)

section

variable {A : FfnReal.Args} {x : FVec Ideal S4096x1024 .f32} {u : FVec Ideal S1024x4096 .bf16} {w : FVec Ideal S4096x1024 .bf16}
  {g : FVec Ideal S1x1024 .f32} {y : FVec Ideal S4096x1024 .f32}

theorem pre_real (hx : ∀ i d, x (ix2 i d) = ((A.x i d : ℝ) : EReal)) (hu : ∀ d f, u (ix2 d f) = ((A.u d f : ℝ) : EReal)) (i f : Fin 4096) :
    preOf x u (ix2 i f) = ((A.pre i f : ℝ) : EReal) := by
  rw [preOf_at]; exact sum_real _ (fun d => A.x i d * A.u d f) fun d => by rw [hx, hu, ← EReal.coe_mul]

variable (R : Reads A x u w g y)
include R

theorem rel_real (i f : Fin 4096) : relOf (preOf x u) (ix2 i f) = ((A.rel i f : ℝ) : EReal) := by
  rw [relOf_at, pre_real R.hx R.hu]; exact max_real _

theorem resid_real (i : Fin 4096) (d : Fin 1024) : resid x u w (ix2 i d) = ((A.r i d : ℝ) : EReal) := by
  unfold resid
  rw [residOf_at, R.hx, alpha_f32, sum_real _ (fun f => A.rel i f * A.rel i f * A.w f d) (fun f => by
    rw [rel_real R, R.hw, ← EReal.coe_mul, ← EReal.coe_mul]), ← EReal.coe_mul, ← EReal.coe_add]; rfl

theorem dRes_real (i : Fin 4096) (d : Fin 1024) : dRes x u w g y (ix2 i d) = ((A.dr i d : ℝ) : EReal) :=
  drOf_real (resid_real R) (Y := A.y) (G := A.g) (fun i d => by rw [dyg_at, R.hy, R.hg, ← EReal.coe_mul]) i d

theorem dPre_real (i f : Fin 4096) : dPre x u w g y (ix2 i f) = ((A.dpre i f : ℝ) : EReal) := by
  unfold dPre
  rw [dpreOf_at, rel_real R, pre_real R.hx R.hu, two_f32, sum_real _ (fun e => A.dr i e * A.w f e) (fun e => by
    rw [dRes_real R, R.hw, ← EReal.coe_mul]), ← EReal.coe_mul, ← EReal.coe_mul, ← A.dpre_ite]
  split
  · next h => rw [if_pos (EReal.coe_pos.1 h)]
  · next h => rw [if_neg (fun h' => h (EReal.coe_pos.2 h'))]; rfl

theorem outX_real (i : Fin 4096) (d : Fin 1024) : outX x u w g y (ix2 i d) = ((A.dx i d : ℝ) : EReal) := by
  unfold outX
  rw [dxOf_at, dRes_real R, alpha_f32, sum_real _ (fun f => A.dpre i f * A.u d f) (fun f => by
    rw [dPre_real R, R.hu, ← EReal.coe_mul]), ← EReal.coe_mul, ← EReal.coe_add]; rfl

theorem outT_real (d : Fin 1024) (i : Fin 4096) : outT x u w g y (ix2 d i) = ((A.dr i d : ℝ) : EReal) := by
  unfold outT; rw [drT_at, dRes_real R]

theorem outP_real (i f : Fin 4096) : outP x u w g y (ix2 i f) = ((A.dpre i f : ℝ) : EReal) := by
  unfold outP; rw [half_at, dPre_real R]

theorem outG_real0 (d : Fin 1024) : outG x u w y (ix2 0 d) = ((A.dg d : ℝ) : EReal) := by
  unfold outG; rw [twoRows_at0, colSums_at]
  exact sum_real _ (fun i => A.y i d * xhat ε (A.r i) d) fun i => by
    show xhatOf (resid x u w) (ix2 i d) * same y (ix2 i d) = _
    rw [xhatOf_real (resid_real R), same_at, R.hy, ← EReal.coe_mul, mul_comm]

theorem outG_real1 (d : Fin 1024) : outG x u w y (ix2 1 d) = ((A.db d : ℝ) : EReal) := by
  unfold outG; rw [twoRows_at1, colSums_at]
  exact sum_real _ _ fun i => R.hy i d

end

end Cert.Reference3Ideal.Ffn

end
-- ==== Proof.FfnCase.lean ====
/- The feed-forward layer's backward call: what one grid point leaves in its results' blocks. -/
module

public import proofs.«01_k».proof.Proof.Gen.Kernel3Ideal.Value
public import Idealize.ShloMosaic.Lib.Pointwise

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section Any

variable {F : FTy → Type} [FloatOps F]

/-- The slabs of the weights, and the columns of the activations. -/
def slab0 (w : Vec F S4x1024x1024 .bf16) : Vec F S1x1024x1024 .bf16 := View.ld w (Rect.unit ![0, 0, 0] ![1, 1024, 1024] inb_S4x1024x1024_S1x1024x1024_0_0_0)
def slab1 (w : Vec F S4x1024x1024 .bf16) : Vec F S1x1024x1024 .bf16 := View.ld w (Rect.unit ![1, 0, 0] ![1, 1024, 1024] inb_S4x1024x1024_S1x1024x1024_1_0_0)
def slab2 (w : Vec F S4x1024x1024 .bf16) : Vec F S1x1024x1024 .bf16 := View.ld w (Rect.unit ![2, 0, 0] ![1, 1024, 1024] inb_S4x1024x1024_S1x1024x1024_2_0_0)
def slab3 (w : Vec F S4x1024x1024 .bf16) : Vec F S1x1024x1024 .bf16 := View.ld w (Rect.unit ![3, 0, 0] ![1, 1024, 1024] inb_S4x1024x1024_S1x1024x1024_3_0_0)
def cols0 (h : Vec F S512x4096 .bf16) : Vec F S512x1024 .bf16 := View.ld h (Rect.unit ![0, 0] ![512, 1024] inb_S512x4096_S512x1024_0_0)
def cols1 (h : Vec F S512x4096 .bf16) : Vec F S512x1024 .bf16 := View.ld h (Rect.unit ![0, 1024] ![512, 1024] inb_S512x4096_S512x1024_0_1024)
def cols2 (h : Vec F S512x4096 .bf16) : Vec F S512x1024 .bf16 := View.ld h (Rect.unit ![0, 2048] ![512, 1024] inb_S512x4096_S512x1024_0_2048)
def cols3 (h : Vec F S512x4096 .bf16) : Vec F S512x1024 .bf16 := View.ld h (Rect.unit ![0, 3072] ![512, 1024] inb_S512x4096_S512x1024_0_3072)

section Parts

variable (x0 x1 : Vec F S512x1024 .f32) (x2 : Vec F S512x4096 .bf16) (x3 x4 : Vec F S4x1024x1024 .bf16) (x5 : Vec F S1x1024 .f32)

/-- The residual's cotangent, rounded; and the four parts of the activations' cotangent. -/
def drBlk : FVec F S512x1024 .bf16 := k0_pay10 (k0_pay5 x1) (k0_pay6 x1) x0 x5
def dpre0 : FVec F S512x1024 .bf16 :=
  k0_pay13 (k0_pay5 x1) (k0_pay6 x1) x0 x5 (slab0 x4) (cols0 x2)
def dpre1 : FVec F S512x1024 .bf16 :=
  k0_pay14 (drBlk x0 x1 x5) (slab1 x4) (cols1 x2)
def dpre2 : FVec F S512x1024 .bf16 :=
  k0_pay16 (drBlk x0 x1 x5) (slab2 x4) (cols2 x2)
def dpre3 : FVec F S512x1024 .bf16 :=
  k0_pay1 (drBlk x0 x1 x5) (slab3 x4) (cols3 x2)

/-- The argument's cotangent. -/
def dxBlk : FVec F S512x1024 .f32 :=
  k0_pay2 (drBlk x0 x1 x5)
    (k0_pay15 (drBlk x0 x1 x5) (k0_pay12 (k0_pay5 x1) (k0_pay6 x1) x0 x5) (dpre0 x0 x1 x2 x4 x5) (slab0 x3) (slab1 x4) (cols1 x2) (slab1 x3))
    (dpre2 x0 x1 x2 x4 x5) (slab2 x3) (slab3 x4) (cols3 x2) (slab3 x3)

/-- The four stores of the activations' cotangent. -/
def dpreList : List (View.Piece (Elt F) S512x4096 .bf16) :=
  [⟨Rect.unit ![0, 3072] ![512, 1024] inb_S512x4096_S512x1024_0_3072, dpre3 x0 x1 x2 x4 x5⟩,
   ⟨Rect.unit ![0, 2048] ![512, 1024] inb_S512x4096_S512x1024_0_2048, dpre2 x0 x1 x2 x4 x5⟩,
   ⟨Rect.unit ![0, 1024] ![512, 1024] inb_S512x4096_S512x1024_0_1024, dpre1 x0 x1 x2 x4 x5⟩,
   ⟨Rect.unit ![0, 0] ![512, 1024] inb_S512x4096_S512x1024_0_0, dpre0 x0 x1 x2 x4 x5⟩]

end Parts

def row0 : Rect S2x1024 := Rect.unit ![0, 0] ![1, 1024] inb_S2x1024_S1x1024_0_0
def row1 : Rect S2x1024 := Rect.unit ![1, 0] ![1, 1024] inb_S2x1024_S1x1024_1_0

theorem row0_emb (d : Fin 1024) : (ix2 0 d : S2x1024.Idx) = row0.emb (ix2 0 d : S1x1024.Idx) := by
  funext a; fin_cases a <;> apply Fin.ext
  · rfl
  · show d.val = 0 + 1 * d.val; omega
theorem row1_emb (d : Fin 1024) : (ix2 1 d : S2x1024.Idx) = row1.emb (ix2 0 d : S1x1024.Idx) := by
  funext a; fin_cases a <;> apply Fin.ext
  · rfl
  · show d.val = 0 + 1 * d.val; omega
theorem row0_not_row1 (d : Fin 1024) : (ix2 0 d : S2x1024.Idx) ∉ row1.set := by
  intro h; have := (Rect.mem_set_unit.1 h 0).1; exact absurd (show 1 ≤ 0 from this) (by decide)
theorem row1_not_row0 (d : Fin 1024) : (ix2 1 d : S2x1024.Idx) ∉ row0.set := by
  intro h; have := (Rect.mem_set_unit.1 h 0).2; exact absurd (show 1 < 0 + 1 from this) (by decide)

theorem canon_row1 (w1 : Vec F S1x1024 .f32) (L : List (View.Piece (Elt F) S2x1024 .f32)) (d : Fin 1024) :
    View.canon (⟨row1, w1⟩ :: L) (ix2 1 d) = w1 (ix2 0 d) := by
  rw [row1_emb]; exact View.canon_cons_emb row1 w1 L _
theorem canon_row0 (w1 w0 : Vec F S1x1024 .f32) (L : List (View.Piece (Elt F) S2x1024 .f32)) (d : Fin 1024) :
    View.canon (⟨row1, w1⟩ :: ⟨row0, w0⟩ :: L) (ix2 0 d) = w0 (ix2 0 d) := by
  rw [View.canon_cons_of_not_mem ⟨row1, w1⟩ _ (row0_not_row1 d), row0_emb]; exact View.canon_cons_emb row0 w0 L _

/-- The stores of the gain's and the shift's gradients, added to the rows `z0` and `z1`. -/
def dgList (x0 x1 : Vec F S512x1024 .f32) (z0 z1 : Vec F S1x1024 .f32) (L : List (View.Piece (Elt F) S2x1024 .f32)) : List (View.Piece (Elt F) S2x1024 .f32) :=
  ⟨row1, k0_pay8 x0 z1⟩ :: ⟨row0, k0_pay7 x1 x0 z0⟩ :: L

/-- The zero store the first point makes. -/
def zeroStore : View.Piece (Elt F) S2x1024 .f32 := ⟨Rect.unit ![0, 0] ![2, 1024] inb_S2x1024_S2x1024_0_0, k0_pay3⟩
def zeroRow0 (x0 x1 : Vec F S512x1024 .f32) : Vec F S1x1024 .f32 := fun j => View.canon [zeroStore (F := F)] (row0.toLoadRect.idx j)
def zeroRow1 (x0 x1 : Vec F S512x1024 .f32) : Vec F S1x1024 .f32 :=
  fun j => View.canon [⟨row0, k0_pay7 x1 x0 (zeroRow0 x0 x1)⟩, zeroStore (F := F)] (row1.toLoadRect.idx j)

theorem zeroStore_canon : View.canon [zeroStore (F := F)] = k0_pay3 (F := F) := View.canon_unit_zero hz _ _

theorem zeroRow0_at (x0 x1 : Vec F S512x1024 .f32) (d : Fin 1024) : zeroRow0 x0 x1 (ix2 0 d) = k0_pay3 (F := F) (ix2 0 d) := by
  unfold zeroRow0; rw [zeroStore_canon, row0_emb]; rfl
theorem zeroRow1_at (x0 x1 : Vec F S512x1024 .f32) (d : Fin 1024) : zeroRow1 x0 x1 (ix2 0 d) = k0_pay3 (F := F) (ix2 1 d) := by
  unfold zeroRow1
  rw [show row1.toLoadRect.idx (ix2 0 d : S1x1024.Idx) = ix2 1 d from (row1_emb d).symm]
  exact (View.canon_cons_of_not_mem (⟨row0, k0_pay7 x1 x0 (zeroRow0 x0 x1)⟩ : View.Piece (Elt F) S2x1024 .f32) [zeroStore] (row1_not_row0 d)).trans
    (congrFun zeroStore_canon _)

section CaseA

variable (c : Dev nD) (i : grid0.Coords) (a1 : Memref sig .tc .vmem S512x1024 .f32) (h1 : a1.IsWhole)
    (a2 : Memref sig .tc .vmem S512x1024 .f32) (h2 : a2.IsWhole) (a3 : Memref sig .tc .vmem S512x4096 .bf16) (h3 : a3.IsWhole)
    (a4 : Memref sig .tc .vmem S4x1024x1024 .bf16) (h4 : a4.IsWhole) (a5 : Memref sig .tc .vmem S4x1024x1024 .bf16) (h5 : a5.IsWhole)
    (a6 : Memref sig .tc .vmem S1x1024 .f32) (h6 : a6.IsWhole) (a7 : Memref sig .tc .vmem S512x1024 .f32) (h7 : a7.IsWhole)
    (a8 : Memref sig .tc .vmem S1024x512 .bf16) (h8 : a8.IsWhole) (a9 : Memref sig .tc .vmem S512x4096 .bf16) (h9 : a9.IsWhole)
    (a10 : Memref sig .tc .vmem S2x1024 .f32) (h10 : a10.IsWhole) (hc : cond0_0 i)
    (x0 x1 : Vec F S512x1024 .f32) (x2 : Vec F S512x4096 .bf16) (x3 x4 : Vec F S4x1024x1024 .bf16) (x5 : Vec F S1x1024 .f32)

theorem out6_A :
    out0_A_6 c i a1 h1 a2 h2 a3 h3 a4 h4 a5 h5 a6 h6 a7 h7 a8 h8 a9 h9 a10 h10 hc x0 x1 x2 x3 x4 x5 = dxBlk x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp (disch := assumption) only [View.readAt_eq_ld, Memref.IsWhole.read_unread, View.ld_unit_zero (S := S512x1024) hz, View.ld_unit_zero (S := S1x1024) hz]
  rfl

theorem out7_A :
    out0_A_7 c i a1 h1 a2 h2 a3 h3 a4 h4 a5 h5 a6 h6 a7 h7 a8 h8 a9 h9 a10 h10 hc x0 x1 x2 x3 x4 x5 = k0_pay11 (k0_pay5 x1) (k0_pay6 x1) x0 x5 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp (disch := assumption) only [View.readAt_eq_ld, Memref.IsWhole.read_unread, View.ld_unit_zero (S := S512x1024) hz, View.ld_unit_zero (S := S1x1024) hz]
  done

theorem out8_A :
    out0_A_8 c i a1 h1 a2 h2 a3 h3 a4 h4 a5 h5 a6 h6 a7 h7 a8 h8 a9 h9 a10 h10 hc x0 x1 x2 x3 x4 x5 = View.canon (dpreList x0 x1 x2 x4 x5) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5)]
  unfold kernelRun0_A
  dsimp only
  sl_unfold_words
  simp (disch := assumption) only [View.readAt_eq_ld, Memref.IsWhole.read_unread, View.ld_unit_zero (S := S512x1024) hz, View.ld_unit_zero (S := S1x1024) hz]
  rfl

theorem out9_A :
    out0_A_9 c i a1 h1 a2 h2 a3 h3 a4 h4 a5 h5 a6 h6 a7 h7 a8 h8 a9 h9 a10 h10 hc x0 x1 x2 x3 x4 x5 = View.canon (dgList x0 x1 (zeroRow0 x0 x1) (zeroRow1 x0 x1) [zeroStore]) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5)]
  unfold kernelRun0_A
  dsimp only
  sl_unfold_words
  simp (disch := assumption) only [View.readAt_eq_ld, Memref.IsWhole.read_unread, View.ld_unit_zero (S := S512x1024) hz, View.ld_unit_zero (S := S1x1024) hz]
  simp only [View.readCov_eq_canon']
  rfl

end CaseA

section CaseB

variable (c : Dev nD) (i : grid0.Coords) (a1 : Memref sig .tc .vmem S512x1024 .f32) (h1 : a1.IsWhole)
    (a2 : Memref sig .tc .vmem S512x1024 .f32) (h2 : a2.IsWhole) (a3 : Memref sig .tc .vmem S512x4096 .bf16) (h3 : a3.IsWhole)
    (a4 : Memref sig .tc .vmem S4x1024x1024 .bf16) (h4 : a4.IsWhole) (a5 : Memref sig .tc .vmem S4x1024x1024 .bf16) (h5 : a5.IsWhole)
    (a6 : Memref sig .tc .vmem S1x1024 .f32) (h6 : a6.IsWhole) (a7 : Memref sig .tc .vmem S512x1024 .f32) (h7 : a7.IsWhole)
    (a8 : Memref sig .tc .vmem S1024x512 .bf16) (h8 : a8.IsWhole) (a9 : Memref sig .tc .vmem S512x4096 .bf16) (h9 : a9.IsWhole)
    (a10 : Memref sig .tc .vmem S2x1024 .f32) (h10 : a10.IsWhole) (hc : ¬cond0_0 i)
    (x0 x1 : Vec F S512x1024 .f32) (x2 : Vec F S512x4096 .bf16) (x3 x4 : Vec F S4x1024x1024 .bf16) (x5 : Vec F S1x1024 .f32) (s : Vec F S2x1024 .f32)

theorem out6_B :
    out0_B_6 c i a1 h1 a2 h2 a3 h3 a4 h4 a5 h5 a6 h6 a7 h7 a8 h8 a9 h9 a10 h10 hc x0 x1 x2 x3 x4 x5 s = dxBlk x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 hc x0 x1 x2 x3 x4 x5 s)]
  unfold kernelRun0_B
  dsimp only
  sl_unfold_words
  rw [View.canon_unit_zero hz]
  simp (disch := assumption) only [View.readAt_eq_ld, Memref.IsWhole.read_unread, View.ld_unit_zero (S := S512x1024) hz, View.ld_unit_zero (S := S1x1024) hz]
  rfl

theorem out7_B :
    out0_B_7 c i a1 h1 a2 h2 a3 h3 a4 h4 a5 h5 a6 h6 a7 h7 a8 h8 a9 h9 a10 h10 hc x0 x1 x2 x3 x4 x5 s = k0_pay11 (k0_pay5 x1) (k0_pay6 x1) x0 x5 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 s)]
  unfold kernelRun0_B
  dsimp only
  sl_unfold_words
  rw [View.canon_unit_zero hz]
  simp (disch := assumption) only [View.readAt_eq_ld, Memref.IsWhole.read_unread, View.ld_unit_zero (S := S512x1024) hz, View.ld_unit_zero (S := S1x1024) hz]
  done

theorem out8_B :
    out0_B_8 c i a1 h1 a2 h2 a3 h3 a4 h4 a5 h5 a6 h6 a7 h7 a8 h8 a9 h9 a10 h10 hc x0 x1 x2 x3 x4 x5 s = View.canon (dpreList x0 x1 x2 x4 x5) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 s)]
  unfold kernelRun0_B
  dsimp only
  sl_unfold_words
  simp (disch := assumption) only [View.readAt_eq_ld, Memref.IsWhole.read_unread, View.ld_unit_zero (S := S512x1024) hz, View.ld_unit_zero (S := S1x1024) hz]
  rfl

theorem out9_B :
    out0_B_9 c i a1 h1 a2 h2 a3 h3 a4 h4 a5 h5 a6 h6 a7 h7 a8 h8 a9 h9 a10 h10 hc x0 x1 x2 x3 x4 x5 s = View.canon (dgList x0 x1 (View.ld s row0) (View.ld s row1) []) := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 s)]
  unfold kernelRun0_B
  dsimp only
  sl_unfold_words
  simp (disch := assumption) only [View.readAt_eq_ld, Memref.IsWhole.read_unread, View.ld_unit_zero (S := S512x1024) hz, View.ld_unit_zero (S := S1x1024) hz]
  rfl

end CaseB

end Any

end Cert.Kernel3Ideal.Ffn

end
-- ==== Proof.FfnVal.lean ====
/- The feed-forward layer's backward call: a grid point's blocks over the reals. -/
module

public import proofs.«01_k».proof.Proof.FfnCase
public import proofs.«01_k».proof.Proof.FfnReal
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.FfnReal Cert.FoxReal

/-! ## The loads at an index -/

theorem slab0_at (w : Vec Ideal S4x1024x1024 .bf16) (j d : Fin 1024) : slab0 w (ix3 0 j d) = w (ix3 0 j d) :=
  View.ld_unit_apply_of _ _ _ _ _ _ fun a => by
    fin_cases a
    · rfl
    · show j.val = 0 + j.val; omega
    · show d.val = 0 + d.val; omega
theorem cols0_at (h : Vec Ideal S512x4096 .bf16) (p : Fin 512) (j : Fin 1024) : cols0 h (ix2 p j) = h (ix2 p ⟨0 + j.val, by omega⟩) :=
  View.ld_unit_apply_of _ _ _ _ _ _ fun a => by
    fin_cases a
    · show p.val = 0 + p.val; omega
    · rfl
theorem slab1_at (w : Vec Ideal S4x1024x1024 .bf16) (j d : Fin 1024) : slab1 w (ix3 0 j d) = w (ix3 1 j d) :=
  View.ld_unit_apply_of _ _ _ _ _ _ fun a => by
    fin_cases a
    · rfl
    · show j.val = 0 + j.val; omega
    · show d.val = 0 + d.val; omega
theorem cols1_at (h : Vec Ideal S512x4096 .bf16) (p : Fin 512) (j : Fin 1024) : cols1 h (ix2 p j) = h (ix2 p ⟨1024 + j.val, by omega⟩) :=
  View.ld_unit_apply_of _ _ _ _ _ _ fun a => by
    fin_cases a
    · show p.val = 0 + p.val; omega
    · rfl
theorem slab2_at (w : Vec Ideal S4x1024x1024 .bf16) (j d : Fin 1024) : slab2 w (ix3 0 j d) = w (ix3 2 j d) :=
  View.ld_unit_apply_of _ _ _ _ _ _ fun a => by
    fin_cases a
    · rfl
    · show j.val = 0 + j.val; omega
    · show d.val = 0 + d.val; omega
theorem cols2_at (h : Vec Ideal S512x4096 .bf16) (p : Fin 512) (j : Fin 1024) : cols2 h (ix2 p j) = h (ix2 p ⟨2048 + j.val, by omega⟩) :=
  View.ld_unit_apply_of _ _ _ _ _ _ fun a => by
    fin_cases a
    · show p.val = 0 + p.val; omega
    · rfl
theorem slab3_at (w : Vec Ideal S4x1024x1024 .bf16) (j d : Fin 1024) : slab3 w (ix3 0 j d) = w (ix3 3 j d) :=
  View.ld_unit_apply_of _ _ _ _ _ _ fun a => by
    fin_cases a
    · rfl
    · show j.val = 0 + j.val; omega
    · show d.val = 0 + d.val; omega
theorem cols3_at (h : Vec Ideal S512x4096 .bf16) (p : Fin 512) (j : Fin 1024) : cols3 h (ix2 p j) = h (ix2 p ⟨3072 + j.val, by omega⟩) :=
  View.ld_unit_apply_of _ _ _ _ _ _ fun a => by
    fin_cases a
    · show p.val = 0 + p.val; omega
    · rfl

/-! ## The payloads at an index -/

theorem pay4_at (r : FVec Ideal S512x1024 .f32) (p : Fin 512) (d : Fin 1024) :
    k0_pay4 r (ix2 p d) = r (ix2 p d) - Ideal.div (∑ e : Fin 1024, r (ix2 p e)) (Ideal.ofBits .f32 0x44800000#32) := by
  pointwise [k0_pay4]
theorem pay5_at (r : FVec Ideal S512x1024 .f32) (p : Fin 512) (o : Fin 1) :
    k0_pay5 (F := Ideal) r (ix2 p o) = Ideal.rsqrt (Ideal.div (∑ e : Fin 1024, k0_pay4 (F := Ideal) r (ix2 p e) * k0_pay4 (F := Ideal) r (ix2 p e)) (Ideal.ofBits .f32 0x44800000#32) + Ideal.ofBits .f32 0x3727C5AC#32) := by
  pointwise [k0_pay5]
theorem pay6_at (r : FVec Ideal S512x1024 .f32) (p : Fin 512) (d : Fin 1024) :
    k0_pay6 (F := Ideal) r (ix2 p d) = k0_pay4 (F := Ideal) r (ix2 p d) * k0_pay5 (F := Ideal) r (ix2 p 0) := by
  pointwise [k0_pay6]
theorem pay7_at (r y : FVec Ideal S512x1024 .f32) (z : FVec Ideal S1x1024 .f32) (d : Fin 1024) :
    k0_pay7 r y z (ix2 0 d) = z (ix2 0 d) + ∑ p : Fin 512, y (ix2 p d) * k0_pay6 r (ix2 p d) := by
  pointwise [k0_pay7]
theorem pay8_at (y : FVec Ideal S512x1024 .f32) (z : FVec Ideal S1x1024 .f32) (d : Fin 1024) :
    k0_pay8 y z (ix2 0 d) = z (ix2 0 d) + ∑ p : Fin 512, y (ix2 p d) := by
  pointwise [k0_pay8]
theorem pay3_at (q : Fin 2) (d : Fin 1024) : k0_pay3 (F := Ideal) (ix2 q d) = 0 := by
  pointwise [k0_pay3]
theorem pay9_at (a : FVec Ideal S512x1 .f32) (x y : FVec Ideal S512x1024 .f32) (g : FVec Ideal S1x1024 .f32) (p : Fin 512) (d : Fin 1024) :
    k0_pay9 a x y g (ix2 p d) = a (ix2 p 0) * ((y (ix2 p d) * g (ix2 0 d) - Ideal.div (∑ e : Fin 1024, y (ix2 p e) * g (ix2 0 e)) (Ideal.ofBits .f32 0x44800000#32))
      - x (ix2 p d) * Ideal.div (∑ e : Fin 1024, y (ix2 p e) * g (ix2 0 e) * x (ix2 p e)) (Ideal.ofBits .f32 0x44800000#32)) := by
  pointwise [k0_pay9]
theorem pay10_at (a : FVec Ideal S512x1 .f32) (x y : FVec Ideal S512x1024 .f32) (g : FVec Ideal S1x1024 .f32) (p : Fin 512) (d : Fin 1024) :
    k0_pay10 a x y g (ix2 p d) = k0_pay9 a x y g (ix2 p d) := by
  pointwise [k0_pay10]
theorem pay11_at (a : FVec Ideal S512x1 .f32) (x y : FVec Ideal S512x1024 .f32) (g : FVec Ideal S1x1024 .f32) (p : Fin 512) (d : Fin 1024) :
    k0_pay11 a x y g (ix2 d p) = k0_pay9 a x y g (ix2 p d) := by
  pointwise [k0_pay11]
theorem pay12_at (a : FVec Ideal S512x1 .f32) (x y : FVec Ideal S512x1024 .f32) (g : FVec Ideal S1x1024 .f32) (p : Fin 512) (d : Fin 1024) :
    k0_pay12 a x y g (ix2 p d) = Ideal.ofBits .f32 0x3FB504F3#32 * k0_pay9 a x y g (ix2 p d) := by
  pointwise [k0_pay12]
theorem pay13_at (a : FVec Ideal S512x1 .f32) (x y : FVec Ideal S512x1024 .f32) (g : FVec Ideal S1x1024 .f32) (w : FVec Ideal S1x1024x1024 .bf16) (h : FVec Ideal S512x1024 .bf16) (p : Fin 512) (j : Fin 1024) :
    k0_pay13 a x y g w h (ix2 p j) = Ideal.ofBits .f32 0x40000000#32 * Ideal.sqrt (h (ix2 p j)) * ∑ d : Fin 1024, k0_pay10 a x y g (ix2 p d) * w (ix3 0 j d) := by
  pointwise [k0_pay13]
theorem pay14_at (b : FVec Ideal S512x1024 .bf16) (w : FVec Ideal S1x1024x1024 .bf16) (h : FVec Ideal S512x1024 .bf16) (p : Fin 512) (j : Fin 1024) :
    k0_pay14 b w h (ix2 p j) = Ideal.ofBits .f32 0x40000000#32 * Ideal.sqrt (h (ix2 p j)) * ∑ d : Fin 1024, b (ix2 p d) * w (ix3 0 j d) := by
  pointwise [k0_pay14]
theorem pay16_at (b : FVec Ideal S512x1024 .bf16) (w : FVec Ideal S1x1024x1024 .bf16) (h : FVec Ideal S512x1024 .bf16) (p : Fin 512) (j : Fin 1024) :
    k0_pay16 b w h (ix2 p j) = Ideal.ofBits .f32 0x40000000#32 * Ideal.sqrt (h (ix2 p j)) * ∑ d : Fin 1024, b (ix2 p d) * w (ix3 0 j d) := by
  pointwise [k0_pay16]
theorem pay1_at (b : FVec Ideal S512x1024 .bf16) (w : FVec Ideal S1x1024x1024 .bf16) (h : FVec Ideal S512x1024 .bf16) (p : Fin 512) (j : Fin 1024) :
    k0_pay1 b w h (ix2 p j) = Ideal.ofBits .f32 0x40000000#32 * Ideal.sqrt (h (ix2 p j)) * ∑ d : Fin 1024, b (ix2 p d) * w (ix3 0 j d) := by
  pointwise [k0_pay1]
theorem pay15_at (b : FVec Ideal S512x1024 .bf16) (s : FVec Ideal S512x1024 .f32) (q : FVec Ideal S512x1024 .bf16) (u w : FVec Ideal S1x1024x1024 .bf16) (h : FVec Ideal S512x1024 .bf16) (u' : FVec Ideal S1x1024x1024 .bf16) (p : Fin 512) (d : Fin 1024) :
    k0_pay15 b s q u w h u' (ix2 p d) = s (ix2 p d) + (∑ j : Fin 1024, q (ix2 p j) * u (ix3 0 d j)) + ∑ j : Fin 1024, k0_pay14 b w h (ix2 p j) * u' (ix3 0 d j) := by
  pointwise [k0_pay15]
theorem pay2_at (b : FVec Ideal S512x1024 .bf16) (s : FVec Ideal S512x1024 .f32) (q : FVec Ideal S512x1024 .bf16) (u w : FVec Ideal S1x1024x1024 .bf16) (h : FVec Ideal S512x1024 .bf16) (u' : FVec Ideal S1x1024x1024 .bf16) (p : Fin 512) (d : Fin 1024) :
    k0_pay2 b s q u w h u' (ix2 p d) = s (ix2 p d) + (∑ j : Fin 1024, q (ix2 p j) * u (ix3 0 d j)) + ∑ j : Fin 1024, k0_pay1 b w h (ix2 p j) * u' (ix3 0 d j) := by
  pointwise [k0_pay2]

/-! ## Over the reals -/

/-- The real arrays that a point's blocks are: `l` the activations before their square. -/
structure Blk (Y R : Fin 512 → Fin 1024 → ℝ) (L : Fin 512 → Fin 4096 → ℝ) (U : Fin 1024 → Fin 4096 → ℝ) (W : Fin 4096 → Fin 1024 → ℝ) (G : Fin 1024 → ℝ)
    (x0 x1 : Vec Ideal S512x1024 .f32) (x2 : Vec Ideal S512x4096 .bf16) (x3 x4 : Vec Ideal S4x1024x1024 .bf16) (x5 : Vec Ideal S1x1024 .f32) : Prop where
  hy : ∀ p d, x0 (ix2 p d) = ((Y p d : ℝ) : EReal)
  hr : ∀ p d, x1 (ix2 p d) = ((R p d : ℝ) : EReal)
  hh : ∀ p f, x2 (ix2 p f) = ((L p f * L p f : ℝ) : EReal)
  hl : ∀ p f, 0 ≤ L p f
  hu : ∀ (k : Fin 4) (d j : Fin 1024), x3 (ix3 k d j) = ((U d ⟨1024 * k.val + j.val, by omega⟩ : ℝ) : EReal)
  hw : ∀ (k : Fin 4) (j d : Fin 1024), x4 (ix3 k j d) = ((W ⟨1024 * k.val + j.val, by omega⟩ d : ℝ) : EReal)
  hg : ∀ d, x5 (ix2 0 d) = ((G d : ℝ) : EReal)

section

variable {Y R : Fin 512 → Fin 1024 → ℝ} {L : Fin 512 → Fin 4096 → ℝ} {U : Fin 1024 → Fin 4096 → ℝ} {W : Fin 4096 → Fin 1024 → ℝ} {G : Fin 1024 → ℝ}
  {x0 x1 : FVec Ideal S512x1024 .f32} {x2 : FVec Ideal S512x4096 .bf16} {x3 x4 : FVec Ideal S4x1024x1024 .bf16} {x5 : FVec Ideal S1x1024 .f32}

theorem pay4_real (hr : ∀ p d, x1 (ix2 p d) = ((R p d : ℝ) : EReal)) (p : Fin 512) (d : Fin 1024) : k0_pay4 (F := Ideal) x1 (ix2 p d) = ((dev (R p) d : ℝ) : EReal) := by
  rw [pay4_at, sum_real _ (R p) (hr p), hr, width_f32, div_real _ _ (by norm_num), ← EReal.coe_sub]; rfl

theorem pay5_real (hr : ∀ p d, x1 (ix2 p d) = ((R p d : ℝ) : EReal)) (p : Fin 512) (o : Fin 1) : k0_pay5 (F := Ideal) x1 (ix2 p o) = ((rstd ε (R p) : ℝ) : EReal) := by
  rw [pay5_at, sum_real _ (fun e => dev (R p) e * dev (R p) e) (fun e => by rw [pay4_real hr, ← EReal.coe_mul]), width_f32, div_real _ _ (by norm_num),
    eps_f32, ← EReal.coe_add]
  exact rsqrt_real (rvar ε (R p)) (rvar_pos ε_pos _)

theorem pay6_real (hr : ∀ p d, x1 (ix2 p d) = ((R p d : ℝ) : EReal)) (p : Fin 512) (d : Fin 1024) : k0_pay6 (F := Ideal) x1 (ix2 p d) = ((xhat ε (R p) d : ℝ) : EReal) := by
  rw [pay6_at, pay4_real hr, pay5_real hr, ← EReal.coe_mul]; rfl

variable (B : Blk Y R L U W G x0 x1 x2 x3 x4 x5)
include B

theorem dr_real (p : Fin 512) (d : Fin 1024) : k0_pay9 (F := Ideal) (k0_pay5 x1) (k0_pay6 x1) x0 x5 (ix2 p d) = ((dr ε (R p) (Y p) G d : ℝ) : EReal) := by
  rw [pay9_at, pay5_real B.hr, pay6_real B.hr, B.hy, B.hg, sum_real _ (fun e => Y p e * G e) (fun e => by rw [B.hy, B.hg, ← EReal.coe_mul]),
    sum_real _ (fun e => Y p e * G e * xhat ε (R p) e) (fun e => by rw [B.hy, B.hg, pay6_real B.hr, ← EReal.coe_mul, ← EReal.coe_mul]),
    width_f32, div_real _ _ (by norm_num), div_real _ _ (by norm_num), ← EReal.coe_mul, ← EReal.coe_mul, ← EReal.coe_sub, ← EReal.coe_sub, ← EReal.coe_mul]
  rfl

theorem pay10_real (p : Fin 512) (d : Fin 1024) : k0_pay10 (F := Ideal) (k0_pay5 x1) (k0_pay6 x1) x0 x5 (ix2 p d) = ((dr ε (R p) (Y p) G d : ℝ) : EReal) := by
  rw [pay10_at]; exact dr_real B p d

theorem drBlk_real (p : Fin 512) (d : Fin 1024) : drBlk (F := Ideal) x0 x1 x5 (ix2 p d) = ((dr ε (R p) (Y p) G d : ℝ) : EReal) := by
  exact pay10_real B p d

omit B in
/-- A part's entry of the activations' cotangent. -/
theorem part_real {b : EReal} {l : ℝ} (hb : b = ((l * l : ℝ) : EReal)) (hl : 0 ≤ l) {f : Fin 1024 → EReal} {a w : Fin 1024 → ℝ} (hf : ∀ d, f d = ((a d * w d : ℝ) : EReal)) :
    Ideal.ofBits .f32 0x40000000#32 * Ideal.sqrt b * ∑ d, f d = ((2 * l * ∑ d, a d * w d : ℝ) : EReal) := by
  rw [hb, sqrt_real _ (mul_self_nonneg _), Real.sqrt_mul_self hl, two_f32, sum_real f _ hf, ← EReal.coe_mul, ← EReal.coe_mul]

/-- The activations' cotangent. -/
def dpreR (Y R : Fin 512 → Fin 1024 → ℝ) (L : Fin 512 → Fin 4096 → ℝ) (W : Fin 4096 → Fin 1024 → ℝ) (G : Fin 1024 → ℝ) (p : Fin 512) (f : Fin 4096) : ℝ :=
  2 * L p f * ∑ d, dr ε (R p) (Y p) G d * W f d

theorem dpre0_real (p : Fin 512) (j : Fin 1024) : dpre0 (F := Ideal) x0 x1 x2 x4 x5 (ix2 p j) = ((dpreR Y R L W G p ⟨0 + j.val, by omega⟩ : ℝ) : EReal) := by
  unfold dpre0
  rw [pay13_at, cols0_at]
  exact part_real (B.hh p _) (B.hl p _) fun d => by
    rw [slab0_at, B.hw, pay10_real B, ← EReal.coe_mul]; rfl
theorem pay14_real (p : Fin 512) (j : Fin 1024) : k0_pay14 (F := Ideal) (drBlk x0 x1 x5) (slab1 x4) (cols1 x2) (ix2 p j) = ((dpreR Y R L W G p ⟨1024 + j.val, by omega⟩ : ℝ) : EReal) := by
  rw [pay14_at, cols1_at]
  exact part_real (B.hh p _) (B.hl p _) fun d => by
    rw [slab1_at, B.hw, drBlk_real B, ← EReal.coe_mul]; rfl
theorem dpre1_real (p : Fin 512) (j : Fin 1024) : dpre1 (F := Ideal) x0 x1 x2 x4 x5 (ix2 p j) = ((dpreR Y R L W G p ⟨1024 + j.val, by omega⟩ : ℝ) : EReal) :=
  pay14_real B p j
theorem dpre2_real (p : Fin 512) (j : Fin 1024) : dpre2 (F := Ideal) x0 x1 x2 x4 x5 (ix2 p j) = ((dpreR Y R L W G p ⟨2048 + j.val, by omega⟩ : ℝ) : EReal) := by
  unfold dpre2
  rw [pay16_at, cols2_at]
  exact part_real (B.hh p _) (B.hl p _) fun d => by
    rw [slab2_at, B.hw, drBlk_real B, ← EReal.coe_mul]; rfl
theorem pay1_real (p : Fin 512) (j : Fin 1024) : k0_pay1 (F := Ideal) (drBlk x0 x1 x5) (slab3 x4) (cols3 x2) (ix2 p j) = ((dpreR Y R L W G p ⟨3072 + j.val, by omega⟩ : ℝ) : EReal) := by
  rw [pay1_at, cols3_at]
  exact part_real (B.hh p _) (B.hl p _) fun d => by
    rw [slab3_at, B.hw, drBlk_real B, ← EReal.coe_mul]; rfl
theorem dpre3_real (p : Fin 512) (j : Fin 1024) : dpre3 (F := Ideal) x0 x1 x2 x4 x5 (ix2 p j) = ((dpreR Y R L W G p ⟨3072 + j.val, by omega⟩ : ℝ) : EReal) :=
  pay1_real B p j

theorem dpre_real (p : Fin 512) (f : Fin 4096) : View.canon (dpreList (F := Ideal) x0 x1 x2 x4 x5) (ix2 p f) = ((dpreR Y R L W G p f : ℝ) : EReal) := by
  refine View.canon_eq_of_allAt _ _ _ (View.cover_of_tiled_head _ _ _ (by rfl) _) ?_
  unfold dpreList
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    have h0 : p.val = 0 + (x 0).val := hx 0
    have h1 := hx 1
    have e : x = ix2 (⟨p.val, p.isLt⟩ : Fin 512) (⟨(x 1).val, (x 1).isLt⟩ : Fin 1024) := by
      funext a; fin_cases a
      · exact Fin.ext (by show (x 0).val = p.val; omega)
      · rfl
    rw [e]
  · exact (dpre3_real B p _).trans (congrArg (fun f => ((dpreR Y R L W G p f : ℝ) : EReal)) (Fin.ext h1.symm))
  · exact (dpre2_real B p _).trans (congrArg (fun f => ((dpreR Y R L W G p f : ℝ) : EReal)) (Fin.ext h1.symm))
  · exact (dpre1_real B p _).trans (congrArg (fun f => ((dpreR Y R L W G p f : ℝ) : EReal)) (Fin.ext h1.symm))
  · exact (dpre0_real B p _).trans (congrArg (fun f => ((dpreR Y R L W G p f : ℝ) : EReal)) (Fin.ext h1.symm))

omit B in
theorem sum_four (f : Fin 4096 → ℝ) : ∑ s, f s
    = (∑ j : Fin 1024, f ⟨0 + j.val, by omega⟩) + (∑ j : Fin 1024, f ⟨1024 + j.val, by omega⟩) + (∑ j : Fin 1024, f ⟨2048 + j.val, by omega⟩) + ∑ j : Fin 1024, f ⟨3072 + j.val, by omega⟩ := by
  obtain ⟨e, he⟩ : ∃ e : ℕ → ℝ, ∀ (s : ℕ) (h : s < 4096), f ⟨s, h⟩ = e s :=
    ⟨fun s => if h : s < 4096 then f ⟨s, h⟩ else 0, fun s h => by simp only [dif_pos h]⟩
  have t : ∑ s, f s = ∑ s ∈ Finset.range 4096, e s := by
    rw [Finset.sum_range]; exact Finset.sum_congr rfl fun k _ => he k.val k.isLt
  have g : ∀ n : ℕ, ∑ k ∈ Finset.range 1024, e (n + k) = ∑ k : Fin 1024, e (n + k.val) := fun n => Finset.sum_range fun k => e (n + k)
  rw [t]
  simp only [he]
  rw [show 4096 = 0 + 1024 + 1024 + 1024 + 1024 from rfl, Finset.sum_range_add, Finset.sum_range_add, Finset.sum_range_add, Finset.sum_range_add,
    g, g, g, g]
  simp

theorem dx_real (p : Fin 512) (d : Fin 1024) : dxBlk (F := Ideal) x0 x1 x2 x3 x4 x5 (ix2 p d) = ((α * dr ε (R p) (Y p) G d + ∑ f, dpreR Y R L W G p f * U d f : ℝ) : EReal) := by
  unfold dxBlk
  rw [pay2_at, pay15_at, pay12_at, dr_real B, alpha_f32]
  rw [sum_real _ (fun j : Fin 1024 => dpreR Y R L W G p ⟨0 + j.val, by omega⟩ * U d ⟨0 + j.val, by omega⟩) (fun j => by
      rw [dpre0_real B, slab0_at, B.hu, ← EReal.coe_mul]; rfl),
    sum_real _ (fun j : Fin 1024 => dpreR Y R L W G p ⟨1024 + j.val, by omega⟩ * U d ⟨1024 + j.val, by omega⟩) (fun j => by
      rw [pay14_real B, slab1_at, B.hu, ← EReal.coe_mul]; rfl),
    sum_real _ (fun j : Fin 1024 => dpreR Y R L W G p ⟨2048 + j.val, by omega⟩ * U d ⟨2048 + j.val, by omega⟩) (fun j => by
      rw [dpre2_real B, slab2_at, B.hu, ← EReal.coe_mul]; rfl),
    sum_real _ (fun j : Fin 1024 => dpreR Y R L W G p ⟨3072 + j.val, by omega⟩ * U d ⟨3072 + j.val, by omega⟩) (fun j => by
      rw [pay1_real B, slab3_at, B.hu, ← EReal.coe_mul]; rfl),
    sum_four, ← EReal.coe_mul, ← EReal.coe_add, ← EReal.coe_add, ← EReal.coe_add, ← EReal.coe_add]
  refine congrArg _ ?_
  ring

theorem drT_real (p : Fin 512) (d : Fin 1024) : k0_pay11 (F := Ideal) (k0_pay5 x1) (k0_pay6 x1) x0 x5 (ix2 d p) = ((dr ε (R p) (Y p) G d : ℝ) : EReal) := by
  rw [pay11_at]; exact dr_real B p d

/-- The gain's and the shift's gradients after a point, from what the rows hold before it. -/
theorem dg_real (z0 z1 : FVec Ideal S1x1024 .f32) (l : List (View.Piece (Elt Ideal) S2x1024 .f32)) (d : Fin 1024) (a : ℝ) (h : z0 (ix2 0 d) = ((a : ℝ) : EReal)) :
    View.canon (dgList x0 x1 z0 z1 l) (ix2 0 d) = ((a + ∑ p, Y p d * xhat ε (R p) d : ℝ) : EReal) := by
  refine (canon_row0 _ _ _ d).trans ?_
  rw [pay7_at, h, sum_real _ (fun p => Y p d * xhat ε (R p) d) (fun p => by rw [B.hy, pay6_real B.hr, ← EReal.coe_mul]), ← EReal.coe_add]

theorem db_real (z0 z1 : FVec Ideal S1x1024 .f32) (l : List (View.Piece (Elt Ideal) S2x1024 .f32)) (d : Fin 1024) (a : ℝ) (h : z1 (ix2 0 d) = ((a : ℝ) : EReal)) :
    View.canon (dgList x0 x1 z0 z1 l) (ix2 1 d) = ((a + ∑ p, Y p d : ℝ) : EReal) := by
  refine (canon_row1 _ _ d).trans ?_
  rw [pay8_at, h, sum_real _ (fun p => Y p d) (fun p => B.hy p d), ← EReal.coe_add]

end

theorem ld_row0 (s : FVec Ideal S2x1024 .f32) (d : Fin 1024) : View.ld (Val := Elt Ideal) (e' := .f32) s row0 (ix2 0 d) = s (ix2 0 d) := by
  rw [row0_emb]; rfl
theorem ld_row1 (s : FVec Ideal S2x1024 .f32) (d : Fin 1024) : View.ld (Val := Elt Ideal) (e' := .f32) s row1 (ix2 0 d) = s (ix2 1 d) := by
  rw [row1_emb]; rfl

end Cert.Kernel3Ideal.Ffn

end
-- ==== Proof.FfnHost.lean ====
/- What the feed-forward kernel's windows read: the host's arrays before the call, over the reals. -/
module

public import proofs.«01_k».proof.Proof.FfnRef
public import proofs.«01_k».proof.Proof.FfnVal

@[expose] public section

set_option maxRecDepth 16384

noncomputable section

namespace Cert.Kernel3Ideal.Ffn

open Idealize.ShloMosaic Idealize.ShloMosaic.TcCoe Idealize.ShloMosaic.Tactic Idealize.SL.Sem
open Cert.Kernel3Ideal Cert.Kernel3Ideal.Gen Cert.FfnReal
open Cert.Reference3Ideal.Ffn (Reads)

/-! ## The host's arrays -/

/-- The activations before their square. -/
def relH (x : FVec Ideal S4096x1024 .f32) (u : FVec Ideal S1024x4096 .bf16) : FVec Ideal S4096x4096 .f32 :=
  maximumf (Host.dotGeneral dot_S4096x1024_S1024x4096_S4096x4096_1_0_0_1_n_n none x (extf .f32 u bitsLt_bf16_f32))
    (broadcastInDim S4096x4096 ![] bcast_S_S4096x4096 (constant S_ .f32 0x00000000#32))

/-- The activations' squares. -/
def sqH (x : FVec Ideal S4096x1024 .f32) (u : FVec Ideal S1024x4096 .bf16) : FVec Ideal S4096x4096 .f32 := mulf (relH x u) (relH x u)

def halfH (x : FVec Ideal S4096x1024 .f32) (u : FVec Ideal S1024x4096 .bf16) : FVec Ideal S4096x4096 .bf16 := truncf .bf16 (sqH x u) bitsLt_bf16_f32

/-- The residual. -/
def resH (x : FVec Ideal S4096x1024 .f32) (u : FVec Ideal S1024x4096 .bf16) (w : FVec Ideal S4096x1024 .bf16) : FVec Ideal S4096x1024 .f32 :=
  addf (mulf (broadcastInDim S4096x1024 ![] bcast_S_S4096x1024 (constant S_ .f32 0x3FB504F3#32)) x)
    (Host.dotGeneral dot_S4096x4096_S4096x1024_S4096x1024_1_0_0_1_n_n none (sqH x u) (extf .f32 w bitsLt_bf16_f32))

def lead (a : FVec Ideal S1024x1024 .bf16) : FVec Ideal S1x1024x1024 .bf16 := broadcastInDim S1x1024x1024 ![1, 2] bcast_S1024x1024_S1x1024x1024_1_2 a

/-- Four blocks under a leading axis. -/
def four (a b d e : FVec Ideal S1024x1024 .bf16) : FVec Ideal S4x1024x1024 .bf16 :=
  concatenate S4x1024x1024 0 [⟨S1x1024x1024, lead a⟩, ⟨S1x1024x1024, lead b⟩, ⟨S1x1024x1024, lead d⟩, ⟨S1x1024x1024, lead e⟩]
    concatenates_S1x1024x1024_S1x1024x1024_S1x1024x1024_S1x1024x1024_S4x1024x1024_d0

def upH (u : FVec Ideal S1024x4096 .bf16) : FVec Ideal S4x1024x1024 .bf16 :=
  four (extractStridedSlice S1024x1024 ![0, 0] u slices_S1024x4096_S1024x1024_0_0) (extractStridedSlice S1024x1024 ![0, 1024] u slices_S1024x4096_S1024x1024_0_1024)
    (extractStridedSlice S1024x1024 ![0, 2048] u slices_S1024x4096_S1024x1024_0_2048) (extractStridedSlice S1024x1024 ![0, 3072] u slices_S1024x4096_S1024x1024_0_3072)

def downH (w : FVec Ideal S4096x1024 .bf16) : FVec Ideal S4x1024x1024 .bf16 :=
  four (extractStridedSlice S1024x1024 ![0, 0] w slices_S4096x1024_S1024x1024_0_0) (extractStridedSlice S1024x1024 ![1024, 0] w slices_S4096x1024_S1024x1024_1024_0)
    (extractStridedSlice S1024x1024 ![2048, 0] w slices_S4096x1024_S1024x1024_2048_0) (extractStridedSlice S1024x1024 ![3072, 0] w slices_S4096x1024_S1024x1024_3072_0)

/-! ## At an index -/

theorem relH_at (x : FVec Ideal S4096x1024 .f32) (u : FVec Ideal S1024x4096 .bf16) (i f : Fin 4096) :
    relH x u (ix2 i f) = max (∑ d : Fin 1024, x (ix2 i d) * u (ix2 d f)) 0 := by
  pointwise [relH]

theorem sqH_at (x : FVec Ideal S4096x1024 .f32) (u : FVec Ideal S1024x4096 .bf16) (i f : Fin 4096) :
    sqH x u (ix2 i f) = relH x u (ix2 i f) * relH x u (ix2 i f) := by
  unfold sqH
  generalize relH x u = a
  pointwise

theorem halfH_at (x : FVec Ideal S4096x1024 .f32) (u : FVec Ideal S1024x4096 .bf16) (i f : Fin 4096) :
    halfH x u (ix2 i f) = relH x u (ix2 i f) * relH x u (ix2 i f) := by
  unfold halfH
  refine Eq.trans ?_ (sqH_at x u i f)
  generalize sqH x u = a
  pointwise

theorem resH_at (x : FVec Ideal S4096x1024 .f32) (u : FVec Ideal S1024x4096 .bf16) (w : FVec Ideal S4096x1024 .bf16) (i : Fin 4096) (d : Fin 1024) :
    resH x u w (ix2 i d) = Ideal.ofBits .f32 0x3FB504F3#32 * x (ix2 i d) + ∑ f : Fin 4096, sqH x u (ix2 i f) * w (ix2 f d) := by
  unfold resH
  generalize sqH x u = a
  pointwise

theorem four_at (a b d e : FVec Ideal S1024x1024 .bf16) (k : Fin 4) (i j : Fin 1024) :
    four a b d e (ix3 k i j) = if k.val < 1 then a (ix2 i j) else if k.val - 1 < 1 then b (ix2 i j) else if k.val - 1 - 1 < 1 then d (ix2 i j) else e (ix2 i j) := by
  pointwise [four, lead]
  simp only [dite_eq_ite]

theorem upH_at (u : FVec Ideal S1024x4096 .bf16) (k : Fin 4) (d j : Fin 1024) : upH u (ix3 k d j) = u (ix2 d ⟨1024 * k.val + j.val, by omega⟩) := by
  unfold upH
  rw [four_at]
  pointwise
  fin_cases k <;> simp

theorem downH_at (w : FVec Ideal S4096x1024 .bf16) (k : Fin 4) (j d : Fin 1024) : downH w (ix3 k j d) = w (ix2 ⟨1024 * k.val + j.val, by omega⟩ d) := by
  unfold downH
  rw [four_at]
  pointwise
  fin_cases k <;> simp

/-! ## Over the reals -/

section

variable {A : FfnReal.Args} {x : FVec Ideal S4096x1024 .f32} {u : FVec Ideal S1024x4096 .bf16} {w : FVec Ideal S4096x1024 .bf16} {g : FVec Ideal S1x1024 .f32}
  {y : FVec Ideal S4096x1024 .f32} (R : Reads A x u w g y)
include R

theorem relH_real (i f : Fin 4096) : relH x u (ix2 i f) = ((A.rel i f : ℝ) : EReal) := by
  rw [relH_at, sum_real _ (fun d => A.x i d * A.u d f) (fun d => by rw [R.hx, R.hu, ← EReal.coe_mul]), max_real]; rfl

theorem halfH_real (i f : Fin 4096) : halfH x u (ix2 i f) = ((A.rel i f * A.rel i f : ℝ) : EReal) := by
  rw [halfH_at, relH_real R, ← EReal.coe_mul]

theorem resH_real (i : Fin 4096) (d : Fin 1024) : resH x u w (ix2 i d) = ((A.r i d : ℝ) : EReal) := by
  rw [resH_at, sum_real _ (fun f => A.rel i f * A.rel i f * A.w f d) (fun f => by rw [sqH_at, relH_real R, R.hw, ← EReal.coe_mul, ← EReal.coe_mul]), alpha_f32, R.hx,
    ← EReal.coe_mul, ← EReal.coe_add]; rfl

end

/-! ## The kernel's operands -/

variable (m : (ℓ : Loc nD τ sig) → Buf (Elt Ideal) ℓ) (c : Dev nD)

abbrev argX : FVec Ideal S4096x1024 .f32 := m ((c.tc : Thread nD τ).loc main_arg0)
abbrev argU : FVec Ideal S1024x4096 .bf16 := m ((c.tc : Thread nD τ).loc main_arg1)
abbrev argW : FVec Ideal S4096x1024 .bf16 := m ((c.tc : Thread nD τ).loc main_arg2)
abbrev argG : FVec Ideal S1x1024 .f32 := m ((c.tc : Thread nD τ).loc main_arg3)
abbrev argY : FVec Ideal S4096x1024 .f32 := m ((c.tc : Thread nD τ).loc main_arg4)

theorem V_r : V m c main_v8 = resH (argX m c) (argU m c) (argW m c) := by
  unfold V
  simp only [hostOps0, hostOps0_1, hostOps0_2, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem V_h : V m c main_v27 = halfH (argX m c) (argU m c) := by
  unfold V
  simp only [hostOps0, hostOps0_1, hostOps0_2, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem V_up : V m c main_v17 = upH (argU m c) := by
  unfold V
  simp only [hostOps0, hostOps0_1, hostOps0_2, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem V_down : V m c main_v26 = downH (argW m c) := by
  unfold V
  simp only [hostOps0, hostOps0_1, hostOps0_2, List.flatten_cons,
    List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

end Cert.Kernel3Ideal.Ffn

end
-- ==== Proof.FfnBlocks.lean ====
/- The feed-forward kernel's blocks: what a grid point reads of the host's arrays. -/
module

public import proofs.«01_k».proof.Proof.FfnHost

@[expose] public section

set_option maxRecDepth 16384

noncomputable section

namespace Cert.Kernel3Ideal.Ffn

open Idealize.ShloMosaic Idealize.ShloMosaic.TcCoe Idealize.ShloMosaic.Tactic Idealize.SL.Sem
open Cert.Kernel3Ideal Cert.Kernel3Ideal.Gen Cert.FfnReal
open Cert.Reference3Ideal.Ffn (Reads)

/-- Where the windows stand at each grid point. -/
theorem places : ∀ t : Fin cfg0.N, win0_0.index t = ![t.val, 0] ∧ win0_1.index t = ![t.val, 0] ∧ win0_2.index t = ![t.val, 0] ∧ win0_3.index t = ![0, 0, 0] ∧
    win0_4.index t = ![0, 0, 0] ∧ win0_5.index t = ![0, 0] ∧ win0_6.index t = ![t.val, 0] ∧ win0_7.index t = ![0, t.val] ∧ win0_8.index t = ![t.val, 0] ∧
    win0_9.index t = ![0, 0] ∧ t.val < 8 :=
  (by decide +kernel : ∀ t : Fin grid0.N, _)

theorem lt8 (t : Fin cfg0.N) : t.val < 8 := by have := places t; tauto

/-- A row of a point's block, among all the rows. -/
def row (t : Fin cfg0.N) (p : Fin 512) : Fin 4096 := ⟨512 * t.val + p.val, by have := lt8 t; omega⟩

variable (m : (ℓ : Loc nD τ sig) → Buf (Elt Ideal) ℓ) (c : Dev nD)

theorem blk_y (t : Fin cfg0.N) (p : Fin 512) (d : Fin 1024) : iblk m c 0 t (ix2 p d) = argY m c (ix2 (row t p) d) := by
  blk_simp [iblk]
  rw [show V m c main_arg4 = argY m c from rfl]
  unfold row
  blk_ext [places t]

theorem blk_r (t : Fin cfg0.N) (p : Fin 512) (d : Fin 1024) : iblk m c 1 t (ix2 p d) = resH (argX m c) (argU m c) (argW m c) (ix2 (row t p) d) := by
  blk_simp [iblk]
  rw [V_r m c]
  generalize resH (argX m c) (argU m c) (argW m c) = X
  unfold row
  blk_ext [places t]

theorem blk_h (t : Fin cfg0.N) (p : Fin 512) (f : Fin 4096) : iblk m c 2 t (ix2 p f) = halfH (argX m c) (argU m c) (ix2 (row t p) f) := by
  blk_simp [iblk]
  rw [V_h m c]
  generalize halfH (argX m c) (argU m c) = X
  unfold row
  blk_ext [places t]

theorem blk_u (t : Fin cfg0.N) (k : Fin 4) (d j : Fin 1024) : iblk m c 3 t (ix3 k d j) = upH (argU m c) (ix3 k d j) := by
  blk_simp [iblk]
  rw [V_up m c]
  generalize upH (argU m c) = X
  blk_ext [places t]

theorem blk_w (t : Fin cfg0.N) (k : Fin 4) (j d : Fin 1024) : iblk m c 4 t (ix3 k j d) = downH (argW m c) (ix3 k j d) := by
  blk_simp [iblk]
  rw [V_down m c]
  generalize downH (argW m c) = X
  blk_ext [places t]

theorem blk_g (t : Fin cfg0.N) (d : Fin 1024) : iblk m c 5 t (ix2 0 d) = argG m c (ix2 0 d) := by
  blk_simp [iblk]
  rw [show V m c main_arg3 = argG m c from rfl]
  blk_ext [places t]

/-- What a point's blocks are over the reals. -/
theorem at_point {A : FfnReal.Args} (R : Reads A (argX m c) (argU m c) (argW m c) (argG m c) (argY m c)) (t : Fin cfg0.N) :
    Blk (fun p => A.y (row t p)) (fun p => A.r (row t p)) (fun p => A.rel (row t p)) A.u A.w A.g (iblk m c 0 t) (iblk m c 1 t) (iblk m c 2 t) (iblk m c 3 t)
      (iblk m c 4 t) (iblk m c 5 t) where
  hy p d := (blk_y m c t p d).trans (R.hy _ _)
  hr p d := (blk_r m c t p d).trans (resH_real R _ _)
  hh p f := (blk_h m c t p f).trans (halfH_real R _ _)
  hl p f := le_max_right _ _
  hu k d j := (blk_u m c t k d j).trans ((upH_at _ k d j).trans (R.hu _ _))
  hw k j d := (blk_w m c t k j d).trans ((downH_at _ k j d).trans (R.hw _ _))
  hg d := (blk_g m c t d).trans (R.hg _)

end Cert.Kernel3Ideal.Ffn

end
-- ==== Proof.FfnFinal.lean ====
/- The feed-forward kernel's results over the reals. -/
module

public import proofs.«01_k».proof.Proof.FfnBlocks

@[expose] public section

set_option maxRecDepth 16384

noncomputable section

namespace Cert.Kernel3Ideal.Ffn

open Idealize.ShloMosaic Idealize.ShloMosaic.TcCoe Idealize.ShloMosaic.Tactic Idealize.SL.Sem
open Cert.Kernel3Ideal Cert.Kernel3Ideal.Gen Cert.FfnReal
open Cert.Reference3Ideal.Ffn (Reads)

/-! ## All the rows, block by block -/

/-- One block's share of a sum over all the rows. -/
def share (F : Fin 4096 → ℝ) (k : ℕ) : ℝ := if h : k < cfg0.N then ∑ p : Fin 512, F (row ⟨k, h⟩ p) else 0

theorem share_at (F : Fin 4096 → ℝ) (t : Fin cfg0.N) : share F t.val = ∑ p : Fin 512, F (row t p) := by
  unfold share; rw [dif_pos t.isLt]

theorem sum_shares (F : Fin 4096 → ℝ) : ∑ k ∈ Finset.range 8, share F k = ∑ i, F i := by
  obtain ⟨e, he⟩ : ∃ e : ℕ → ℝ, ∀ i : Fin 4096, F i = e i.val := ⟨fun k => if h : k < 4096 then F ⟨k, h⟩ else 0, fun i => by simp⟩
  have hN : cfg0.N = 8 := N_0
  have hs : ∀ k, k < 8 → share F k = ∑ p ∈ Finset.range 512, e (512 * k + p) := by
    intro k hk
    unfold share
    rw [dif_pos (hN ▸ hk), Finset.sum_range fun p => e (512 * k + p)]
    exact Finset.sum_congr rfl fun p _ => he _
  rw [Finset.sum_congr rfl fun k hk => hs k (Finset.mem_range.1 hk), Finset.sum_congr rfl fun i _ => he i, ← Finset.sum_range e]
  have g : ∀ n, ∑ k ∈ Finset.range n, ∑ p ∈ Finset.range 512, e (512 * k + p) = ∑ i ∈ Finset.range (512 * n), e i := by
    intro n
    induction n with
    | zero => simp
    | succ n ih => rw [Finset.sum_range_succ, ih, show 512 * (n + 1) = 512 * n + 512 by ring, Finset.sum_range_add]
  exact g 8

variable (m : (ℓ : Loc nD τ sig) → Buf (Elt Ideal) ℓ) (c : Dev nD)

/-! ## What each point leaves -/

theorem left6 (t : Fin cfg0.N) : (outsAt0 m c t.val t.isLt).1 =
    dxBlk (F := Ideal) (iblk m c 0 t) (iblk m c 1 t) (iblk m c 2 t) (iblk m c 3 t) (iblk m c 4 t) (iblk m c 5 t) := by
  by_cases h0 : t.val % 8 = 0
  · rw [outsAt0_A m c t h0]; dsimp only; rw [out6_A]
  · rw [outsAt0_B m c t h0]; dsimp only; rw [out6_B]

theorem left7 (t : Fin cfg0.N) : (outsAt0 m c t.val t.isLt).2.1 =
    k0_pay11 (F := Ideal) (k0_pay5 (iblk m c 1 t)) (k0_pay6 (iblk m c 1 t)) (iblk m c 0 t) (iblk m c 5 t) := by
  by_cases h0 : t.val % 8 = 0
  · rw [outsAt0_A m c t h0]; dsimp only; rw [out7_A]
  · rw [outsAt0_B m c t h0]; dsimp only; rw [out7_B]

theorem left8 (t : Fin cfg0.N) : (outsAt0 m c t.val t.isLt).2.2.1 =
    View.canon (dpreList (F := Ideal) (iblk m c 0 t) (iblk m c 1 t) (iblk m c 2 t) (iblk m c 4 t) (iblk m c 5 t)) := by
  by_cases h0 : t.val % 8 = 0
  · rw [outsAt0_A m c t h0]; dsimp only; rw [out8_A]
  · rw [outsAt0_B m c t h0]; dsimp only; rw [out8_B]

theorem left9_A (t : Fin cfg0.N) (h0 : t.val % 8 = 0) : (outsAt0 m c t.val t.isLt).2.2.2 =
    View.canon (dgList (F := Ideal) (iblk m c 0 t) (iblk m c 1 t) (zeroRow0 (iblk m c 0 t) (iblk m c 1 t)) (zeroRow1 (iblk m c 0 t) (iblk m c 1 t)) [zeroStore]) := by
  rw [outsAt0_A m c t h0]; dsimp only; rw [out9_A]

theorem left9_B (t : Fin cfg0.N) (h0 : ¬t.val % 8 = 0) (hp : t.val - 1 < cfg0.N) : (outsAt0 m c t.val t.isLt).2.2.2 =
    View.canon (dgList (F := Ideal) (iblk m c 0 t) (iblk m c 1 t) (View.ld (outsAt0 m c (t.val - 1) hp).2.2.2 row0)
      (View.ld (outsAt0 m c (t.val - 1) hp).2.2.2 row1) []) := by
  rw [outsAt0_B m c t h0]; dsimp only; rw [out9_B]

/-! ## Over the reals -/

variable {A : FfnReal.Args} (R : Reads A (argX m c) (argU m c) (argW m c) (argG m c) (argY m c))
include R

theorem cell6 (t : Fin cfg0.N) (p : Fin 512) (d : Fin 1024) : (outsAt0 m c t.val t.isLt).1 (ix2 p d) = ((A.dx (row t p) d : ℝ) : EReal) :=
  (congrFun (left6 m c t) _).trans (dx_real (at_point m c R t) p d)

theorem cell7 (t : Fin cfg0.N) (d : Fin 1024) (p : Fin 512) : (outsAt0 m c t.val t.isLt).2.1 (ix2 d p) = ((A.dr (row t p) d : ℝ) : EReal) :=
  (congrFun (left7 m c t) _).trans (drT_real (at_point m c R t) p d)

theorem cell8 (t : Fin cfg0.N) (p : Fin 512) (f : Fin 4096) : (outsAt0 m c t.val t.isLt).2.2.1 (ix2 p f) = ((A.dpre (row t p) f : ℝ) : EReal) :=
  (congrFun (left8 m c t) _).trans (dpre_real (at_point m c R t) p f)

/-- The gain's row after each point. -/
theorem sofar0 (d : Fin 1024) : ∀ (n : ℕ) (h : n < cfg0.N), (outsAt0 m c n h).2.2.2 (ix2 0 d)
    = ((∑ k ∈ Finset.range (n + 1), share (fun i => A.y i d * xhat ε (A.r i) d) k : ℝ) : EReal)
  | 0, h => by
    refine (congrFun (left9_A m c ⟨0, h⟩ (Nat.zero_mod _)) _).trans ?_
    refine (dg_real (at_point m c R ⟨0, h⟩) _ _ _ d 0 ((zeroRow0_at _ _ d).trans ((pay3_at 0 d).trans EReal.coe_zero.symm))).trans ?_
    rw [Finset.sum_range_succ, Finset.sum_range_zero, ← share_at (fun i => A.y i d * xhat ε (A.r i) d) ⟨0, h⟩]
  | n + 1, h => by
    have hN : cfg0.N = 8 := N_0
    refine (congrFun (left9_B m c ⟨n + 1, h⟩ (by dsimp only; omega) (by dsimp only; omega)) _).trans ?_
    refine (dg_real (at_point m c R ⟨n + 1, h⟩) _ _ _ d (∑ k ∈ Finset.range (n + 1), share (fun i => A.y i d * xhat ε (A.r i) d) k)
      ((ld_row0 _ d).trans (sofar0 d n (by omega)))).trans ?_
    rw [Finset.sum_range_succ _ (n + 1), ← share_at (fun i => A.y i d * xhat ε (A.r i) d) ⟨n + 1, h⟩]

/-- The shift's row after each point. -/
theorem sofar1 (d : Fin 1024) : ∀ (n : ℕ) (h : n < cfg0.N), (outsAt0 m c n h).2.2.2 (ix2 1 d)
    = ((∑ k ∈ Finset.range (n + 1), share (fun i => A.y i d) k : ℝ) : EReal)
  | 0, h => by
    refine (congrFun (left9_A m c ⟨0, h⟩ (Nat.zero_mod _)) _).trans ?_
    refine (db_real (at_point m c R ⟨0, h⟩) _ _ _ d 0 ((zeroRow1_at _ _ d).trans ((pay3_at 1 d).trans EReal.coe_zero.symm))).trans ?_
    rw [Finset.sum_range_succ, Finset.sum_range_zero, ← share_at (fun i => A.y i d) ⟨0, h⟩]
  | n + 1, h => by
    have hN : cfg0.N = 8 := N_0
    refine (congrFun (left9_B m c ⟨n + 1, h⟩ (by dsimp only; omega) (by dsimp only; omega)) _).trans ?_
    refine (db_real (at_point m c R ⟨n + 1, h⟩) _ _ _ d (∑ k ∈ Finset.range (n + 1), share (fun i => A.y i d) k)
      ((ld_row1 _ d).trans (sofar1 d n (by omega)))).trans ?_
    rw [Finset.sum_range_succ _ (n + 1), ← share_at (fun i => A.y i d) ⟨n + 1, h⟩]

/-- The two rows after the last point. -/
def rows (A : FfnReal.Args) (q : Fin 2) (d : Fin 1024) : ℝ := if q = 0 then A.dg d else A.db d

theorem cell9 (t : Fin cfg0.N) (ht : t.val = 7) (q : Fin 2) (d : Fin 1024) : (outsAt0 m c t.val t.isLt).2.2.2 (ix2 q d) = ((rows A q d : ℝ) : EReal) := by
  fin_cases q
  · refine (sofar0 m c R d t.val t.isLt).trans ?_
    rw [ht, sum_shares]; rfl
  · refine (sofar1 m c R d t.val t.isLt).trans ?_
    rw [ht, sum_shares]; rfl

theorem cell6' (t : Fin cfg0.N) (y : S512x1024.Idx) : (outsAt0 m c t.val t.isLt).1 y = ((A.dx (row t (y 0)) (y 1) : ℝ) : EReal) := by
  obtain ⟨a, b, rfl⟩ : ∃ (a : Fin 512) (b : Fin 1024), y = ix2 a b := ⟨y 0, y 1, eq_ix2 y⟩
  exact cell6 m c R t a b

theorem cell7' (t : Fin cfg0.N) (y : S1024x512.Idx) : (outsAt0 m c t.val t.isLt).2.1 y = ((A.dr (row t (y 1)) (y 0) : ℝ) : EReal) := by
  obtain ⟨a, b, rfl⟩ : ∃ (a : Fin 1024) (b : Fin 512), y = ix2 a b := ⟨y 0, y 1, eq_ix2 y⟩
  exact cell7 m c R t a b

theorem cell8' (t : Fin cfg0.N) (y : S512x4096.Idx) : (outsAt0 m c t.val t.isLt).2.2.1 y = ((A.dpre (row t (y 0)) (y 1) : ℝ) : EReal) := by
  obtain ⟨a, b, rfl⟩ : ∃ (a : Fin 512) (b : Fin 4096), y = ix2 a b := ⟨y 0, y 1, eq_ix2 y⟩
  exact cell8 m c R t a b

theorem cell9' (t : Fin cfg0.N) (ht : t.val = 7) (y : S2x1024.Idx) : (outsAt0 m c t.val t.isLt).2.2.2 y = ((rows A (y 0) (y 1) : ℝ) : EReal) := by
  obtain ⟨a, b, rfl⟩ : ∃ (a : Fin 2) (b : Fin 1024), y = ix2 a b := ⟨y 0, y 1, eq_ix2 y⟩
  exact cell9 m c R t ht a b

/-! ## The results' arrays -/

theorem final_x : (dats m 0 c).arrAt 6 (cfgs 0).N = fun i : S4096x1024.Idx => ((A.dx (i 0) (i 1) : ℝ) : EReal) := by
  refine (dats m 0 c).arrAt_eq_of_covers 6 _ (by decide +kernel) fun t _ y => ?_
  blk_simp
  rw [after0_6]
  refine (cell6' m c R t y).trans ?_
  have h : win0_6.index t = ![t.val, 0] := by have := places t; tauto
  exact congrArg₂ (fun a b => ((A.dx a b : ℝ) : EReal)) (Fin.ext (by simp [row, h]; omega)) (Fin.ext (by simp [h]))

theorem final_t : (dats m 0 c).arrAt 7 (cfgs 0).N = fun i : S1024x4096.Idx => ((A.dr (i 1) (i 0) : ℝ) : EReal) := by
  refine (dats m 0 c).arrAt_eq_of_covers 7 _ (by decide +kernel) fun t _ y => ?_
  blk_simp
  rw [after0_7]
  refine (cell7' m c R t y).trans ?_
  have h : win0_7.index t = ![0, t.val] := by have := places t; tauto
  exact congrArg₂ (fun a b => ((A.dr a b : ℝ) : EReal)) (Fin.ext (by simp [row, h]; omega)) (Fin.ext (by simp [h]))

theorem final_p : (dats m 0 c).arrAt 8 (cfgs 0).N = fun i : S4096x4096.Idx => ((A.dpre (i 0) (i 1) : ℝ) : EReal) := by
  refine (dats m 0 c).arrAt_eq_of_covers 8 _ (by decide +kernel) fun t _ y => ?_
  blk_simp
  rw [after0_8]
  refine (cell8' m c R t y).trans ?_
  have h : win0_8.index t = ![t.val, 0] := by have := places t; tauto
  exact congrArg₂ (fun a b => ((A.dpre a b : ℝ) : EReal)) (Fin.ext (by simp [row, h]; omega)) (Fin.ext (by simp [h]))

omit R in
theorem last_flush : ∀ t : Fin cfg0.N, (cfg0.win 9).flush t = true → t.val = 7 :=
  (by decide +kernel : ∀ t : Fin grid0.N, (cfg0.win 9).flush t = true → t.val = 7)

theorem final_g : (dats m 0 c).arrAt 9 (cfgs 0).N = fun i : S2x1024.Idx => ((rows A (i 0) (i 1) : ℝ) : EReal) := by
  refine (dats m 0 c).arrAt_eq_of_covers 9 _ (by decide +kernel) fun t hf y => ?_
  blk_simp
  rw [after0_9]
  refine (cell9' m c R t (last_flush t hf) y).trans ?_
  have h : win0_9.index t = ![0, 0] := by have := places t; tauto
  exact congrArg₂ (fun a b => ((rows A a b : ℝ) : EReal)) (Fin.ext (by simp [h])) (Fin.ext (by simp [h]))

end Cert.Kernel3Ideal.Ffn

end
-- ==== Proof.FfnPre.lean ====
/- What the feed-forward kernel's precondition says of the arguments: every entry is a real number. -/
module

public import proofs.«01_k».proof.Pre_finite3
public import proofs.«01_k».proof.Proof.FoxPre

@[expose] public section

set_option maxRecDepth 16384

noncomputable section

namespace Cert.Pre_finite3

open Idealize.ShloMosaic Idealize.ShloMosaic.Tactic
attribute [local instance] Cert.Pre_finite.facts
open Cert.Pre_finite (real_of_small andi_both bound_at)

/-- The operations' side conditions. -/
theorem facts : Facts where
  bcast_S_S4096x1024 := by decide
  reducesTo_S4096x1024_S_d0_1 := by decide
  h_S_ := by decide
  bitsLt_bf16_f32 := by decide
  bcast_S_S1024x4096 := by decide
  reducesTo_S1024x4096_S_d0_1 := by decide
  bcast_S_S1x1024 := by decide
  reducesTo_S1x1024_S_d0_1 := by decide

variable [Facts]
open Facts

theorem reals {x : FVec Ideal S4096x1024 .f32} {u : FVec Ideal S1024x4096 .bf16} {w : FVec Ideal S4096x1024 .bf16} {g : FVec Ideal S1x1024 .f32}
    {y : FVec Ideal S4096x1024 .f32} (h : fn (F := Ideal) x u w g y = fun _ => 1#1) :
    (∀ i, ∃ r : ℝ, (x i : EReal) = (r : EReal)) ∧ (∀ i, ∃ r : ℝ, (u i : EReal) = (r : EReal)) ∧ (∀ i, ∃ r : ℝ, (w i : EReal) = (r : EReal)) ∧
      (∀ i, ∃ r : ℝ, (g i : EReal) = (r : EReal)) ∧ (∀ i, ∃ r : ℝ, (y i : EReal) = (r : EReal)) := by
  have e := congrFun h ix0
  unfold fn fn_part1 at e
  obtain ⟨e, hy⟩ := andi_both e
  obtain ⟨e, hg⟩ := andi_both e
  obtain ⟨e, hw⟩ := andi_both e
  obtain ⟨hx, hu⟩ := andi_both e
  refine ⟨fun i => ?_, fun i => ?_, fun i => ?_, fun i => ?_, fun i => ?_⟩
  · exact real_of_small x _ i (bound_at _ i) (Host.reduce_andi_all _ _ _ _ _ hx i)
  · exact real_of_small (extf .f32 u bitsLt_bf16_f32) _ i (bound_at _ i) (Host.reduce_andi_all _ _ _ _ _ hu i)
  · exact real_of_small (extf .f32 w bitsLt_bf16_f32) _ i (bound_at _ i) (Host.reduce_andi_all _ _ _ _ _ hw i)
  · exact real_of_small g _ i (bound_at _ i) (Host.reduce_andi_all _ _ _ _ _ hg i)
  · exact real_of_small y _ i (bound_at _ i) (Host.reduce_andi_all _ _ _ _ _ hy i)

end Cert.Pre_finite3

end
-- ==== Proof.FfnClaim.lean ====
/- The feed-forward call's value claim: the two programs run, and end with the same results. -/
module

public import proofs.«01_k».proof.Defs
public import proofs.«01_k».proof.Proof.FfnFinal
public import proofs.«01_k».proof.Proof.FfnPre

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Cert.FfnReal
open Cert.Reference3Ideal.Ffn (Reads outX outT outP outG)

attribute [local instance] Cert.Pre_finite3.facts

variable (m : (ℓ : Loc nD τ sig) → Buf (Elt Ideal) ℓ) (ρ : Dev nD → PrngReg)

/-- The results' arrays at the end of the run. -/
def resX (c : Dev nD) : Buf (Elt Ideal) ((c.tc : Thread nD τ).loc main_v28_0) := (dats m 0 c).arrAt 6 (cfgs 0).N
def resT (c : Dev nD) : Buf (Elt Ideal) ((c.tc : Thread nD τ).loc main_v28_1) := (dats m 0 c).arrAt 7 (cfgs 0).N
def resP (c : Dev nD) : Buf (Elt Ideal) ((c.tc : Thread nD τ).loc main_v28_2) := (dats m 0 c).arrAt 8 (cfgs 0).N
def resG (c : Dev nD) : Buf (Elt Ideal) ((c.tc : Thread nD τ).loc main_v28_3) := (dats m 0 c).arrAt 9 (cfgs 0).N

/-- The kernel's run: its results' arrays, and its arguments as launched. -/
theorem run : θ_run defs (onTc (τ := τ) (main (F := Ideal))) ⟨m, fun _ => 0, ρ⟩ (fun r => ∀ c : Dev nD,
      r.2.mem ((c.tc : Thread nD τ).loc main_v28_0) = resX m c
      ∧ r.2.mem ((c.tc : Thread nD τ).loc main_v28_1) = resT m c
      ∧ r.2.mem ((c.tc : Thread nD τ).loc main_v28_2) = resP m c
      ∧ r.2.mem ((c.tc : Thread nD τ).loc main_v28_3) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Value.run_blocks m ρ

/-! ## One device's arguments and results -/

theorem exists_reads {x : FVec Ideal S4096x1024 .f32} {u : FVec Ideal S1024x4096 .bf16} {w : FVec Ideal S4096x1024 .bf16} {g : FVec Ideal S1x1024 .f32}
    {y : FVec Ideal S4096x1024 .f32} (hx : ∀ i, ∃ r : ℝ, (x i : EReal) = (r : EReal)) (hu : ∀ i, ∃ r : ℝ, (u i : EReal) = (r : EReal))
    (hw : ∀ i, ∃ r : ℝ, (w i : EReal) = (r : EReal)) (hg : ∀ i, ∃ r : ℝ, (g i : EReal) = (r : EReal)) (hy : ∀ i, ∃ r : ℝ, (y i : EReal) = (r : EReal)) :
    ∃ A : FfnReal.Args, Reads A x u w g y := by
  choose x' hx using hx
  choose u' hu using hu
  choose w' hw using hw
  choose g' hg using hg
  choose y' hy using hy
  exact ⟨⟨fun i d => x' (ix2 i d), fun d f => u' (ix2 d f), fun f d => w' (ix2 f d), fun d => g' (ix2 0 d), fun i d => y' (ix2 i d)⟩,
    fun _ _ => hx _, fun _ _ => hu _, fun _ _ => hw _, fun _ => hg _, fun _ _ => hy _⟩

theorem reads (h : Cert.Pre_Kernel3Ideal_finite3 m) (c : Dev nD) :
    ∃ A : FfnReal.Args, Reads A (argX m c) (argU m c) (argW m c) (argG m c) (argY m c) := by
  obtain ⟨hx, hu, hw, hg, hy⟩ := Cert.Pre_finite3.reals (h c)
  exact exists_reads hx hu hw hg hy

section

variable (c : Dev nD) {A : FfnReal.Args} (R : Reads A (argX m c) (argU m c) (argW m c) (argG m c) (argY m c))
include R

theorem agree_x : outX (argX m c) (argU m c) (argW m c) (argG m c) (argY m c) = resX m c := by
  refine Eq.trans (funext fun i => ?_) (final_x m c R).symm
  obtain ⟨a, b, rfl⟩ : ∃ (a : Fin 4096) (b : Fin 1024), i = ix2 a b := ⟨i 0, i 1, eq_ix2 i⟩
  exact Cert.Reference3Ideal.Ffn.outX_real R a b

theorem agree_t : outT (argX m c) (argU m c) (argW m c) (argG m c) (argY m c) = resT m c := by
  refine Eq.trans (funext fun i => ?_) (final_t m c R).symm
  obtain ⟨a, b, rfl⟩ : ∃ (a : Fin 1024) (b : Fin 4096), i = ix2 a b := ⟨i 0, i 1, eq_ix2 i⟩
  exact Cert.Reference3Ideal.Ffn.outT_real R a b

theorem agree_p : outP (argX m c) (argU m c) (argW m c) (argG m c) (argY m c) = resP m c := by
  refine Eq.trans (funext fun i => ?_) (final_p m c R).symm
  obtain ⟨a, b, rfl⟩ : ∃ (a b : Fin 4096), i = ix2 a b := ⟨i 0, i 1, eq_ix2 i⟩
  exact Cert.Reference3Ideal.Ffn.outP_real R a b

theorem agree_g : outG (argX m c) (argU m c) (argW m c) (argY m c) = resG m c := by
  refine Eq.trans (funext fun i => ?_) (final_g m c R).symm
  obtain ⟨q, d, rfl⟩ : ∃ (q : Fin 2) (d : Fin 1024), i = ix2 q d := ⟨i 0, i 1, eq_ix2 i⟩
  fin_cases q
  · exact Cert.Reference3Ideal.Ffn.outG_real0 R d
  · exact Cert.Reference3Ideal.Ffn.outG_real1 R d

/-- One device's results agree where its arguments do. -/
theorem same (m' : (ℓ : Loc Cert.Reference3Ideal.nD Cert.Reference3Ideal.τ Cert.Reference3Ideal.sig) → Buf (Elt Ideal) ℓ)
    (h0 : m' ((c.tc : Thread Cert.Reference3Ideal.nD Cert.Reference3Ideal.τ).loc Cert.Reference3Ideal.main_arg0) = argX m c)
    (h1 : m' ((c.tc : Thread Cert.Reference3Ideal.nD Cert.Reference3Ideal.τ).loc Cert.Reference3Ideal.main_arg1) = argU m c)
    (h2 : m' ((c.tc : Thread Cert.Reference3Ideal.nD Cert.Reference3Ideal.τ).loc Cert.Reference3Ideal.main_arg2) = argW m c)
    (h3 : m' ((c.tc : Thread Cert.Reference3Ideal.nD Cert.Reference3Ideal.τ).loc Cert.Reference3Ideal.main_arg3) = argG m c)
    (h4 : m' ((c.tc : Thread Cert.Reference3Ideal.nD Cert.Reference3Ideal.τ).loc Cert.Reference3Ideal.main_arg4) = argY m c) :
    Cert.Reference3Ideal.Value.res_main_v90 (F := Ideal) m' c = resX m c ∧ Cert.Reference3Ideal.Value.res_main_v92 (F := Ideal) m' c = resT m c ∧
      Cert.Reference3Ideal.Value.res_main_v93 (F := Ideal) m' c = resP m c ∧ Cert.Reference3Ideal.Value.res_main_v96 (F := Ideal) m' c = resG m c := by
  have e0 := Cert.Reference3Ideal.Ffn.res_x (F := Ideal) m' c
  have e1 := Cert.Reference3Ideal.Ffn.res_t (F := Ideal) m' c
  have e2 := Cert.Reference3Ideal.Ffn.res_p (F := Ideal) m' c
  have e3 := Cert.Reference3Ideal.Ffn.res_g (F := Ideal) m' c
  rw [h0, h1, h2, h3, h4] at e0
  rw [h0, h1, h2, h3, h4] at e1
  rw [h0, h1, h2, h3, h4] at e2
  rw [h0, h1, h2, h4] at e3
  exact ⟨e0.trans (agree_x m c R), e1.trans (agree_t m c R), e2.trans (agree_p m c R), e3.trans (agree_g m c R)⟩

end

theorem values : Cert.algebraic_Kernel3Ideal_Reference3Ideal_pre_finite3 := by
  intro m ρ m' ρ' hp hm
  refine ⟨resX m, resT m, resP m, resG m, run m ρ, ?_⟩
  refine (θ_run Cert.Reference3Ideal.defs _ _).mono (fun r h c => ?_) (Cert.Reference3Ideal.Value.run (F := Ideal) m' ρ')
  obtain ⟨A, R⟩ := reads m hp c
  obtain ⟨h0, h1, h2, h3, h4⟩ := hm c
  obtain ⟨r0, r1, r2, r3, ra⟩ := h c
  have e := same m c R m' h0 h1 h2 h3 h4
  exact ⟨r0.trans e.1, r1.trans e.2.1, r2.trans e.2.2.1, r3.trans e.2.2.2, ra⟩

end Cert.Kernel3Ideal.Ffn

end
-- ==== Proof.FwdSum.lean ====
/- The feed-forward layer's forward call: one row's values, and the sums that the kernel takes in parts. -/
module

public import Idealize.ShloMosaic.PureOps.Ideal

@[expose] public section

noncomputable section

namespace Cert.FwdSum

open Idealize.ShloMosaic

/-! ## One row -/

/-- The activation before its square, and its square. -/
def rel (x : Fin 1024 → EReal) (u : Fin 1024 → Fin 4096 → EReal) (f : Fin 4096) : EReal := max (∑ d, x d * u d f) 0
def act (x : Fin 1024 → EReal) (u : Fin 1024 → Fin 4096 → EReal) (f : Fin 4096) : EReal := rel x u f * rel x u f

/-- The residual. -/
def res (x : Fin 1024 → EReal) (u : Fin 1024 → Fin 4096 → EReal) (w : Fin 4096 → Fin 1024 → EReal) (d : Fin 1024) : EReal :=
  Ideal.ofBits .f32 0x3FB504F3#32 * x d + ∑ f, act x u f * w f d

/-- A row less its mean, the scale that its variance gives it, and the row normalised. -/
def dev (r : Fin 1024 → EReal) (d : Fin 1024) : EReal := r d - Ideal.div (∑ e, r e) (Ideal.ofBits .f32 0x44800000#32)
def scale (r : Fin 1024 → EReal) : EReal :=
  Ideal.rsqrt (Ideal.div (∑ e, dev r e * dev r e) (Ideal.ofBits .f32 0x44800000#32) + Ideal.ofBits .f32 0x3727C5AC#32)
def lnorm (r g b : Fin 1024 → EReal) (d : Fin 1024) : EReal := dev r d * scale r * g d + b d

/-- The layer's output. -/
def out (x : Fin 1024 → EReal) (u : Fin 1024 → Fin 4096 → EReal) (w : Fin 4096 → Fin 1024 → EReal) (g b : Fin 1024 → EReal) (d : Fin 1024) : EReal :=
  lnorm (res x u w) g b d

/-! ## Sums in parts -/

/-- A sum over 4096 numbers, in four runs. -/
theorem sum_runs (f : ℕ → EReal) : ∑ s : Fin 4096, f s.val
    = 0 + ∑ k : Fin 1024, f (1024 * 0 + k.val) + ∑ k : Fin 1024, f (1024 * 1 + k.val) + ∑ k : Fin 1024, f (1024 * 2 + k.val) + ∑ k : Fin 1024, f (1024 * 3 + k.val) := by
  have e : ∀ n : ℕ, ∑ k ∈ Finset.range 1024, f (n + k) = ∑ k : Fin 1024, f (n + k.val) := fun n => Finset.sum_range fun k => f (n + k)
  rw [← Finset.sum_range f, show 4096 = 1024 * 3 + 1024 from rfl, Finset.sum_range_add, show 1024 * 3 = 1024 * 2 + 1024 from rfl,
    Finset.sum_range_add, show 1024 * 2 = 1024 * 1 + 1024 from rfl, Finset.sum_range_add, show 1024 * 1 = 1024 * 0 + 1024 from rfl,
    Finset.sum_range_add, e, e, e, e]
  simp

theorem sum_four (F : Fin 4096 → EReal) :
    (∑ j : Fin 1024, F ⟨0 + j.val, by omega⟩) + (∑ j : Fin 1024, F ⟨1024 + j.val, by omega⟩) + (∑ j : Fin 1024, F ⟨2048 + j.val, by omega⟩)
      + (∑ j : Fin 1024, F ⟨3072 + j.val, by omega⟩) = ∑ f, F f := by
  obtain ⟨e, he⟩ : ∃ e : ℕ → EReal, ∀ (s : ℕ) (h : s < 4096), F ⟨s, h⟩ = e s :=
    ⟨fun s => if h : s < 4096 then F ⟨s, h⟩ else 0, fun s h => by simp only [dif_pos h]⟩
  have hs : ∑ f, F f = ∑ f : Fin 4096, e f.val := Finset.sum_congr rfl fun f _ => he f.val f.isLt
  rw [hs, sum_runs, zero_add]
  simp only [he]

/-- The residual, with the products over the four parts of the activations. -/
theorem res_parts (x : Fin 1024 → EReal) (u : Fin 1024 → Fin 4096 → EReal) (w : Fin 4096 → Fin 1024 → EReal) (d : Fin 1024) :
    Ideal.ofBits .f32 0x3FB504F3#32 * x d + ((∑ j : Fin 1024, act x u ⟨0 + j.val, by omega⟩ * w ⟨0 + j.val, by omega⟩ d)
      + (∑ j : Fin 1024, act x u ⟨1024 + j.val, by omega⟩ * w ⟨1024 + j.val, by omega⟩ d)
      + (∑ j : Fin 1024, act x u ⟨2048 + j.val, by omega⟩ * w ⟨2048 + j.val, by omega⟩ d)
      + (∑ j : Fin 1024, act x u ⟨3072 + j.val, by omega⟩ * w ⟨3072 + j.val, by omega⟩ d)) = res x u w d :=
  congrArg (Ideal.ofBits .f32 0x3FB504F3#32 * x d + ·) (sum_four fun f => act x u f * w f d)

/-! ## The loss -/

/-- A row's squared differences, summed. -/
def sq (e : Fin 1024 → EReal) : EReal := ∑ d, e d * e d

theorem mul_self_nonneg (a : EReal) : 0 ≤ a * a := by
  rcases le_total 0 a with h | h
  · exact mul_nonneg h h
  · exact EReal.mul_nonneg_iff.2 (Or.inr ⟨h, h⟩)

theorem sq_nonneg (e : Fin 1024 → EReal) : 0 ≤ sq e := Finset.sum_nonneg fun d _ => mul_self_nonneg (e d)

/-- A factor over a sum of numbers that are not negative. -/
theorem mul_sum {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih => rw [Finset.sum_insert hi, Finset.sum_insert hi, EReal.left_distrib_of_nonneg (hf i) (Finset.sum_nonneg fun j _ => hf j), ih]

theorem width : Ideal.ofBits .f32 0x44800000#32 = ((1024 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem part : Ideal.ofBits .f32 0x3A800000#32 = ((1 / 1024 : ℝ) : EReal) := by
  simp [Ideal.ofBits, Ideal.ieee, -EReal.coe_mul]; norm_num
theorem halfPart : Ideal.ofBits .f32 0x3A000000#32 = ((1 / 2048 : ℝ) : EReal) := by
  simp [Ideal.ofBits, Ideal.ieee, -EReal.coe_mul]; norm_num

theorem div_width (a : EReal) : Ideal.div a (Ideal.ofBits .f32 0x44800000#32) = a * ((1 / 1024 : ℝ) : EReal) := by
  rw [width, Ideal.div, if_neg (by exact_mod_cast (by norm_num : (1024 : ℝ) ≠ 0)), ← EReal.coe_inv, one_div]

/-- The reference's loss of the rows, as one sum with the kernel's factor. -/
theorem loss_eq (f : Fin 4096 → EReal) (hf : ∀ i, 0 ≤ f i) :
    Ideal.ofBits .f32 0x3F000000#32 * ∑ i, Ideal.div (f i) (Ideal.ofBits .f32 0x44800000#32) = ∑ i, Ideal.ofBits .f32 0x3A000000#32 * f i := by
  have h : ∀ i, Ideal.div (f i) (Ideal.ofBits .f32 0x44800000#32) = ((1 / 1024 : ℝ) : EReal) * f i := fun i => by rw [div_width, mul_comm]
  simp only [h]
  rw [← mul_sum _ _ _ hf, ← mul_sum _ _ _ hf, ← mul_assoc, half, halfPart, ← EReal.coe_mul]
  norm_num

/-- The reference's gradient of the loss by an entry. -/
theorem grad_eq (e : EReal) : Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [div_width, half, one, two, part, ← mul_assoc, ← EReal.coe_mul, ← EReal.coe_mul, ← EReal.coe_mul, mul_comm]
  norm_num

/-- One block's share of a sum over all the rows. -/
def share (F : Fin 4096 → EReal) (k : ℕ) : EReal := if h : k < 8 then ∑ p : Fin 512, F ⟨512 * k + p.val, by omega⟩ else 0

theorem share_at (F : Fin 4096 → EReal) (k : ℕ) (h : k < 8) : share F k = ∑ p : Fin 512, F ⟨512 * k + p.val, by omega⟩ := by
  unfold share; rw [dif_pos h]

theorem sum_shares (F : Fin 4096 → EReal) : ∑ k ∈ Finset.range 8, share F k = ∑ i, F i := by
  obtain ⟨e, he⟩ : ∃ e : ℕ → EReal, ∀ i : Fin 4096, F i = e i.val := ⟨fun k => if h : k < 4096 then F ⟨k, h⟩ else 0, fun i => by simp⟩
  have hs : ∀ k, k < 8 → share F k = ∑ p ∈ Finset.range 512, e (512 * k + p) := by
    intro k hk
    rw [share_at F k hk, Finset.sum_range fun p => e (512 * k + p)]
    exact Finset.sum_congr rfl fun p _ => he _
  rw [Finset.sum_congr rfl fun k hk => hs k (Finset.mem_range.1 hk), Finset.sum_congr rfl fun i _ => he i, ← Finset.sum_range e]
  have g : ∀ n, ∑ k ∈ Finset.range n, ∑ p ∈ Finset.range 512, e (512 * k + p) = ∑ i ∈ Finset.range (512 * n), e i := by
    intro n
    induction n with
    | zero => simp
    | succ n ih => rw [Finset.sum_range_succ, ih, show 512 * (n + 1) = 512 * n + 512 by ring, Finset.sum_range_add]
  exact g 8

end Cert.FwdSum

end
-- ==== Proof.LossVal.lean ====
/- The feed-forward layer's forward call: what one grid point leaves in its results' blocks. -/
module

public import proofs.«01_k».proof.Proof.Gen.Kernel4Ideal.Value
public import proofs.«01_k».proof.Proof.FwdSum
public import Idealize.ShloMosaic.Lib.Pipeline.ValueKit

@[expose] public section

set_option maxRecDepth 16384

noncomputable section

namespace Cert.Kernel4Ideal.Fwd

open Idealize.ShloMosaic Idealize.ShloMosaic.TcCoe Idealize.SL.Sem
open Cert.Kernel4Ideal Cert.Kernel4Ideal.Gen
open Cert.FwdSum (rel act res dev scale lnorm out)

theorem hz : (![0, 0] : Fin 2 → Nat) = fun _ => 0 := funext fun a => by fin_cases a <;> rfl
theorem hz3 : (![0, 0, 0] : Fin 3 → Nat) = fun _ => 0 := funext fun a => by fin_cases a <;> rfl

section Any

variable {F : FTy → Type} [FloatOps F]

/-- The slabs of the stacked weights. -/
def slab0 (w : Vec F S4x1024x1024 .bf16) : Vec F S1x1024x1024 .bf16 := View.ld w (Rect.unit ![0, 0, 0] ![1, 1024, 1024] inb_S4x1024x1024_S1x1024x1024_0_0_0)
def slab1 (w : Vec F S4x1024x1024 .bf16) : Vec F S1x1024x1024 .bf16 := View.ld w (Rect.unit ![1, 0, 0] ![1, 1024, 1024] inb_S4x1024x1024_S1x1024x1024_1_0_0)
def slab2 (w : Vec F S4x1024x1024 .bf16) : Vec F S1x1024x1024 .bf16 := View.ld w (Rect.unit ![2, 0, 0] ![1, 1024, 1024] inb_S4x1024x1024_S1x1024x1024_2_0_0)
def slab3 (w : Vec F S4x1024x1024 .bf16) : Vec F S1x1024x1024 .bf16 := View.ld w (Rect.unit ![3, 0, 0] ![1, 1024, 1024] inb_S4x1024x1024_S1x1024x1024_3_0_0)

/-- The residual's block and its rows' sums. -/
def resBlk (x0 : Vec F S512x1024 .f32) (x1 x2 : Vec F S4x1024x1024 .bf16) : FVec F S512x1024 .f32 :=
  k0_pay12 x0 (k0_pay5 x0) (k0_pay7 x0 (slab0 x1) (slab0 x2)) (k0_pay9 x0 (slab1 x1) (slab1 x2)) (slab2 x1) (slab2 x2) (slab3 x1) (slab3 x2)
def sumBlk (x0 : Vec F S512x1024 .f32) (x1 x2 : Vec F S4x1024x1024 .bf16) : FVec F S512x1 .f32 :=
  k0_pay13 x0 (k0_pay5 x0) (k0_pay7 x0 (slab0 x1) (slab0 x2)) (k0_pay9 x0 (slab1 x1) (slab1 x2)) (slab2 x1) (slab2 x2) (slab3 x1) (slab3 x2)

/-- The four stores of the activations. -/
def actList (x0 : Vec F S512x1024 .f32) (x1 : Vec F S4x1024x1024 .bf16) : List (View.Piece (Elt F) S512x4096 .bf16) :=
  [⟨Rect.unit ![0, 3072] ![512, 1024] inb_S512x4096_S512x1024_0_3072, k0_pay11 (k0_pay5 x0) (slab3 x1)⟩,
   ⟨Rect.unit ![0, 2048] ![512, 1024] inb_S512x4096_S512x1024_0_2048, k0_pay10 (k0_pay5 x0) (slab2 x1)⟩,
   ⟨Rect.unit ![0, 1024] ![512, 1024] inb_S512x4096_S512x1024_0_1024, k0_pay8 x0 (slab1 x1)⟩,
   ⟨Rect.unit ![0, 0] ![512, 1024] inb_S512x4096_S512x1024_0_0, k0_pay6 x0 (slab0 x1)⟩]

section CaseA

variable (c : Dev nD) (i : grid0.Coords) (a1 : Memref sig .tc .vmem S512x1024 .f32) (h1 : a1.IsWhole)
    (a2 : Memref sig .tc .vmem S4x1024x1024 .bf16) (h2 : a2.IsWhole) (a3 : Memref sig .tc .vmem S4x1024x1024 .bf16) (h3 : a3.IsWhole)
    (a4 : Memref sig .tc .vmem S1x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (a8 : Memref sig .tc .vmem S512x1024 .f32) (h8 : a8.IsWhole) (a9 : Memref sig .tc .vmem S512x4096 .bf16) (h9 : a9.IsWhole)
    (a10 : Memref sig .tc .vmem S8x128 .f32) (h10 : a10.IsWhole) (hc : cond0_0 i)
    (x0 : Vec F S512x1024 .f32) (x1 x2 : Vec F S4x1024x1024 .bf16) (x3 x4 : Vec F S1x1024 .f32) (x5 : Vec F S512x1024 .f32)

theorem out6_A :
    out0_A_6 c i a1 h1 a2 h2 a3 h3 a4 h4 a5 h5 a6 h6 a7 h7 a8 h8 a9 h9 a10 h10 hc x0 x1 x2 x3 x4 x5 = k0_pay2 (resBlk x0 x1 x2) (sumBlk x0 x1 x2) x3 x4 x5 := by
  unfold out0_A_6
  rw [View.read_writes_eq_canon _ _ _ (cover0_A_6 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp (disch := assumption) only [View.readAt_eq_ld, Memref.IsWhole.read_unread, View.ld_unit_zero (S := S512x1024) hz, View.ld_unit_zero (S := S1x1024) hz]
  rfl

theorem out7_A :
    out0_A_7 c i a1 h1 a2 h2 a3 h3 a4 h4 a5 h5 a6 h6 a7 h7 a8 h8 a9 h9 a10 h10 hc x0 x1 x2 x3 x4 x5 = resBlk x0 x1 x2 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero hz]
  simp (disch := assumption) only [View.readAt_eq_ld, Memref.IsWhole.read_unread, View.ld_unit_zero (S := S512x1024) hz, View.ld_unit_zero (S := S1x1024) hz]
  rfl

theorem out8_A :
    out0_A_8 c i a1 h1 a2 h2 a3 h3 a4 h4 a5 h5 a6 h6 a7 h7 a8 h8 a9 h9 a10 h10 hc x0 x1 x2 x3 x4 x5 = View.canon (actList x0 x1) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5)]
  unfold kernelRun0_A
  dsimp only
  sl_unfold_words
  simp (disch := assumption) only [View.readAt_eq_ld, Memref.IsWhole.read_unread, View.ld_unit_zero (S := S512x1024) hz, View.ld_unit_zero (S := S1x1024) hz]
  rfl

theorem out9_A :
    out0_A_9 c i a1 h1 a2 h2 a3 h3 a4 h4 a5 h5 a6 h6 a7 h7 a8 h8 a9 h9 a10 h10 hc x0 x1 x2 x3 x4 x5 = k0_pay3 (resBlk x0 x1 x2) (sumBlk x0 x1 x2) x3 x4 x5 k0_pay4 := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S8x128) hz, View.readCov_unit_zero (S := S8x128) _ hz]
  simp (disch := assumption) only [View.readAt_eq_ld, Memref.IsWhole.read_unread, View.ld_unit_zero (S := S512x1024) hz, View.ld_unit_zero (S := S1x1024) hz]
  rfl

end CaseA

section CaseB

variable (c : Dev nD) (i : grid0.Coords) (a1 : Memref sig .tc .vmem S512x1024 .f32) (h1 : a1.IsWhole)
    (a2 : Memref sig .tc .vmem S4x1024x1024 .bf16) (h2 : a2.IsWhole) (a3 : Memref sig .tc .vmem S4x1024x1024 .bf16) (h3 : a3.IsWhole)
    (a4 : Memref sig .tc .vmem S1x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (a8 : Memref sig .tc .vmem S512x1024 .f32) (h8 : a8.IsWhole) (a9 : Memref sig .tc .vmem S512x4096 .bf16) (h9 : a9.IsWhole)
    (a10 : Memref sig .tc .vmem S8x128 .f32) (h10 : a10.IsWhole) (hc : ¬cond0_0 i)
    (x0 : Vec F S512x1024 .f32) (x1 x2 : Vec F S4x1024x1024 .bf16) (x3 x4 : Vec F S1x1024 .f32) (x5 : Vec F S512x1024 .f32) (s : Vec F S8x128 .f32)

theorem out6_B :
    out0_B_6 c i a1 h1 a2 h2 a3 h3 a4 h4 a5 h5 a6 h6 a7 h7 a8 h8 a9 h9 a10 h10 hc x0 x1 x2 x3 x4 x5 s = k0_pay2 (resBlk x0 x1 x2) (sumBlk x0 x1 x2) x3 x4 x5 := by
  unfold out0_B_6
  rw [View.read_writes_eq_canon _ _ _ (cover0_B_6 c i a1 h1 a2 h2 a3 h3 a4 h4 a5 h5 a6 h6 a7 h7 a8 h8 a9 h9 a10 h10 hc x0 x1 x2 x3 x4 x5 s)]
  unfold kernelRun0_B
  dsimp only
  sl_unfold_words
  rw [View.canon_unit_zero hz]
  simp (disch := assumption) only [View.readAt_eq_ld, Memref.IsWhole.read_unread, View.ld_unit_zero (S := S512x1024) hz, View.ld_unit_zero (S := S1x1024) hz]
  rfl

theorem out7_B :
    out0_B_7 c i a1 h1 a2 h2 a3 h3 a4 h4 a5 h5 a6 h6 a7 h7 a8 h8 a9 h9 a10 h10 hc x0 x1 x2 x3 x4 x5 s = resBlk x0 x1 x2 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 s)]
  unfold kernelRun0_B
  dsimp only
  sl_unfold_words
  rw [View.canon_unit_zero hz]
  simp (disch := assumption) only [View.readAt_eq_ld, Memref.IsWhole.read_unread, View.ld_unit_zero (S := S512x1024) hz, View.ld_unit_zero (S := S1x1024) hz]
  rfl

theorem out8_B :
    out0_B_8 c i a1 h1 a2 h2 a3 h3 a4 h4 a5 h5 a6 h6 a7 h7 a8 h8 a9 h9 a10 h10 hc x0 x1 x2 x3 x4 x5 s = View.canon (actList x0 x1) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 s)]
  unfold kernelRun0_B
  dsimp only
  sl_unfold_words
  simp (disch := assumption) only [View.readAt_eq_ld, Memref.IsWhole.read_unread, View.ld_unit_zero (S := S512x1024) hz, View.ld_unit_zero (S := S1x1024) hz]
  rfl

theorem out9_B :
    out0_B_9 c i a1 h1 a2 h2 a3 h3 a4 h4 a5 h5 a6 h6 a7 h7 a8 h8 a9 h9 a10 h10 hc x0 x1 x2 x3 x4 x5 s = k0_pay3 (resBlk x0 x1 x2) (sumBlk x0 x1 x2) x3 x4 x5 s := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 s)]
  unfold kernelRun0_B
  dsimp only
  sl_unfold_words
  rw [View.canon_unit_zero hz]
  simp (disch := assumption) only [View.readAt_eq_ld, Memref.IsWhole.read_unread, View.ld_unit_zero (S := S512x1024) hz, View.ld_unit_zero (S := S1x1024) hz, View.ld_unit_zero (S := S8x128) hz]
  rfl

end CaseB

end Any

/-! ## At an index -/

theorem slab0_at (w : Vec Ideal S4x1024x1024 .bf16) (i j : Fin 1024) : slab0 w (ix3 0 i j) = w (ix3 0 i j) :=
  View.ld_unit_apply_of _ _ _ _ _ _ fun a => by
    fin_cases a
    · rfl
    · show i.val = 0 + i.val; omega
    · show j.val = 0 + j.val; omega
theorem slab1_at (w : Vec Ideal S4x1024x1024 .bf16) (i j : Fin 1024) : slab1 w (ix3 0 i j) = w (ix3 1 i j) :=
  View.ld_unit_apply_of _ _ _ _ _ _ fun a => by
    fin_cases a
    · rfl
    · show i.val = 0 + i.val; omega
    · show j.val = 0 + j.val; omega
theorem slab2_at (w : Vec Ideal S4x1024x1024 .bf16) (i j : Fin 1024) : slab2 w (ix3 0 i j) = w (ix3 2 i j) :=
  View.ld_unit_apply_of _ _ _ _ _ _ fun a => by
    fin_cases a
    · rfl
    · show i.val = 0 + i.val; omega
    · show j.val = 0 + j.val; omega
theorem slab3_at (w : Vec Ideal S4x1024x1024 .bf16) (i j : Fin 1024) : slab3 w (ix3 0 i j) = w (ix3 3 i j) :=
  View.ld_unit_apply_of _ _ _ _ _ _ fun a => by
    fin_cases a
    · rfl
    · show i.val = 0 + i.val; omega
    · show j.val = 0 + j.val; omega

theorem pay5_at (x : FVec Ideal S512x1024 .f32) (p : Fin 512) (d : Fin 1024) : k0_pay5 (F := Ideal) x (ix2 p d) = x (ix2 p d) := by
  pointwise [k0_pay5]
theorem pay6_at (x : FVec Ideal S512x1024 .f32) (u : FVec Ideal S1x1024x1024 .bf16) (p : Fin 512) (j : Fin 1024) :
    k0_pay6 (F := Ideal) x u (ix2 p j) = max (∑ d : Fin 1024, x (ix2 p d) * u (ix3 0 d j)) 0 * max (∑ d : Fin 1024, x (ix2 p d) * u (ix3 0 d j)) 0 := by
  pointwise [k0_pay6, k0_pay5]
theorem pay8_at (x : FVec Ideal S512x1024 .f32) (u : FVec Ideal S1x1024x1024 .bf16) (p : Fin 512) (j : Fin 1024) :
    k0_pay8 (F := Ideal) x u (ix2 p j) = max (∑ d : Fin 1024, x (ix2 p d) * u (ix3 0 d j)) 0 * max (∑ d : Fin 1024, x (ix2 p d) * u (ix3 0 d j)) 0 := by
  pointwise [k0_pay8, k0_pay5]
theorem pay10_at (x : FVec Ideal S512x1024 .bf16) (u : FVec Ideal S1x1024x1024 .bf16) (p : Fin 512) (j : Fin 1024) :
    k0_pay10 (F := Ideal) x u (ix2 p j) = max (∑ d : Fin 1024, x (ix2 p d) * u (ix3 0 d j)) 0 * max (∑ d : Fin 1024, x (ix2 p d) * u (ix3 0 d j)) 0 := by
  pointwise [k0_pay10]
theorem pay11_at (x : FVec Ideal S512x1024 .bf16) (u : FVec Ideal S1x1024x1024 .bf16) (p : Fin 512) (j : Fin 1024) :
    k0_pay11 (F := Ideal) x u (ix2 p j) = max (∑ d : Fin 1024, x (ix2 p d) * u (ix3 0 d j)) 0 * max (∑ d : Fin 1024, x (ix2 p d) * u (ix3 0 d j)) 0 := by
  pointwise [k0_pay11]
theorem pay7_at (x : FVec Ideal S512x1024 .f32) (u w : FVec Ideal S1x1024x1024 .bf16) (p : Fin 512) (d : Fin 1024) :
    k0_pay7 (F := Ideal) x u w (ix2 p d) = ∑ j : Fin 1024, k0_pay6 (F := Ideal) x u (ix2 p j) * w (ix3 0 j d) := by
  pointwise [k0_pay7]
theorem pay9_at (x : FVec Ideal S512x1024 .f32) (u w : FVec Ideal S1x1024x1024 .bf16) (p : Fin 512) (d : Fin 1024) :
    k0_pay9 (F := Ideal) x u w (ix2 p d) = ∑ j : Fin 1024, k0_pay8 (F := Ideal) x u (ix2 p j) * w (ix3 0 j d) := by
  pointwise [k0_pay9]
theorem pay12_at (x a b : FVec Ideal S512x1024 .f32) (h : FVec Ideal S512x1024 .bf16) (u w u' w' : FVec Ideal S1x1024x1024 .bf16) (p : Fin 512) (d : Fin 1024) :
    k0_pay12 (F := Ideal) x h a b u w u' w' (ix2 p d) = Ideal.ofBits .f32 0x3FB504F3#32 * x (ix2 p d) + (a (ix2 p d) + b (ix2 p d)
      + (∑ j : Fin 1024, k0_pay10 (F := Ideal) h u (ix2 p j) * w (ix3 0 j d)) + ∑ j : Fin 1024, k0_pay11 (F := Ideal) h u' (ix2 p j) * w' (ix3 0 j d)) := by
  pointwise [k0_pay12]
theorem pay13_at (x a b : FVec Ideal S512x1024 .f32) (h : FVec Ideal S512x1024 .bf16) (u w u' w' : FVec Ideal S1x1024x1024 .bf16) (p : Fin 512) (o : Fin 1) :
    k0_pay13 (F := Ideal) x h a b u w u' w' (ix2 p o) = ∑ d : Fin 1024, k0_pay12 (F := Ideal) x h a b u w u' w' (ix2 p d) := by
  pointwise [k0_pay13]
theorem pay1_at (r : FVec Ideal S512x1024 .f32) (s : FVec Ideal S512x1 .f32) (g b : FVec Ideal S1x1024 .f32) (t : FVec Ideal S512x1024 .f32) (p : Fin 512) (d : Fin 1024) (hs : s (ix2 p 0) = ∑ d : Fin 1024, r (ix2 p d)) :
    k0_pay1 (F := Ideal) r s g b t (ix2 p d) = lnorm (fun d => r (ix2 p d)) (fun d => g (ix2 0 d)) (fun d => b (ix2 0 d)) d - t (ix2 p d) := by
  unfold lnorm scale dev
  rw [← hs]
  pointwise [k0_pay1]
theorem pay2_at (r : FVec Ideal S512x1024 .f32) (s : FVec Ideal S512x1 .f32) (g b : FVec Ideal S1x1024 .f32) (t : FVec Ideal S512x1024 .f32) (p : Fin 512) (d : Fin 1024) :
    k0_pay2 (F := Ideal) r s g b t (ix2 p d) = k0_pay1 (F := Ideal) r s g b t (ix2 p d) * Ideal.ofBits .f32 0x3A800000#32 := by
  pointwise [k0_pay2]
theorem pay3_at (r : FVec Ideal S512x1024 .f32) (s : FVec Ideal S512x1 .f32) (g b : FVec Ideal S1x1024 .f32) (t : FVec Ideal S512x1024 .f32) (a : FVec Ideal S8x128 .f32) (i : Fin 8) (j : Fin 128) :
    k0_pay3 (F := Ideal) r s g b t a (ix2 i j) = a (ix2 i j) + Ideal.ofBits .f32 0x3A000000#32 *
      ∑ p : Fin 512, ∑ d : Fin 1024, k0_pay1 (F := Ideal) r s g b t (ix2 p d) * k0_pay1 (F := Ideal) r s g b t (ix2 p d) := by
  pointwise [k0_pay3]
theorem pay4_at (i : Fin 8) (j : Fin 128) : k0_pay4 (F := Ideal) (ix2 i j) = 0 := by
  pointwise [k0_pay4]

/-- What a point's blocks are, by their rows. -/
structure Blk (X : Fin 512 → Fin 1024 → EReal) (U : Fin 1024 → Fin 4096 → EReal) (W : Fin 4096 → Fin 1024 → EReal)
    (x0 : FVec Ideal S512x1024 .f32) (x1 x2 : FVec Ideal S4x1024x1024 .bf16) : Prop where
  hx : ∀ p d, x0 (ix2 p d) = X p d
  hu0 : ∀ d j, x1 (ix3 0 d j) = U d ⟨0 + j.val, by omega⟩
  hu1 : ∀ d j, x1 (ix3 1 d j) = U d ⟨1024 + j.val, by omega⟩
  hu2 : ∀ d j, x1 (ix3 2 d j) = U d ⟨2048 + j.val, by omega⟩
  hu3 : ∀ d j, x1 (ix3 3 d j) = U d ⟨3072 + j.val, by omega⟩
  hw0 : ∀ j d, x2 (ix3 0 j d) = W ⟨0 + j.val, by omega⟩ d
  hw1 : ∀ j d, x2 (ix3 1 j d) = W ⟨1024 + j.val, by omega⟩ d
  hw2 : ∀ j d, x2 (ix3 2 j d) = W ⟨2048 + j.val, by omega⟩ d
  hw3 : ∀ j d, x2 (ix3 3 j d) = W ⟨3072 + j.val, by omega⟩ d

section

variable {X : Fin 512 → Fin 1024 → EReal} {U : Fin 1024 → Fin 4096 → EReal} {W : Fin 4096 → Fin 1024 → EReal}
  {x0 : FVec Ideal S512x1024 .f32} {x1 x2 : FVec Ideal S4x1024x1024 .bf16} (B : Blk X U W x0 x1 x2)
include B

theorem pay6_row (p : Fin 512) (j : Fin 1024) : k0_pay6 (F := Ideal) x0 (slab0 x1) (ix2 p j) = act (X p) U ⟨0 + j.val, by omega⟩ := by
  rw [pay6_at]
  unfold act rel
  simp only [slab0_at, B.hx, B.hu0]
theorem pay8_row (p : Fin 512) (j : Fin 1024) : k0_pay8 (F := Ideal) x0 (slab1 x1) (ix2 p j) = act (X p) U ⟨1024 + j.val, by omega⟩ := by
  rw [pay8_at]
  unfold act rel
  simp only [slab1_at, B.hx, B.hu1]
theorem pay10_row (p : Fin 512) (j : Fin 1024) : k0_pay10 (F := Ideal) (k0_pay5 x0) (slab2 x1) (ix2 p j) = act (X p) U ⟨2048 + j.val, by omega⟩ := by
  rw [pay10_at]
  unfold act rel
  simp only [pay5_at, slab2_at, B.hx, B.hu2]
theorem pay11_row (p : Fin 512) (j : Fin 1024) : k0_pay11 (F := Ideal) (k0_pay5 x0) (slab3 x1) (ix2 p j) = act (X p) U ⟨3072 + j.val, by omega⟩ := by
  rw [pay11_at]
  unfold act rel
  simp only [pay5_at, slab3_at, B.hx, B.hu3]
theorem res_row (p : Fin 512) (d : Fin 1024) : resBlk (F := Ideal) x0 x1 x2 (ix2 p d) = res (X p) U W d := by
  unfold resBlk
  rw [pay12_at, pay7_at, pay9_at, ← Cert.FwdSum.res_parts]
  simp only [pay6_row B, pay8_row B, pay10_row B, pay11_row B, slab0_at, slab1_at, slab2_at, slab3_at, B.hx, B.hw0, B.hw1, B.hw2, B.hw3]
omit B in
theorem sum_row (p : Fin 512) (o : Fin 1) : sumBlk (F := Ideal) x0 x1 x2 (ix2 p o) = ∑ d : Fin 1024, resBlk (F := Ideal) x0 x1 x2 (ix2 p d) := by
  unfold sumBlk resBlk
  rw [pay13_at]
theorem act_row (p : Fin 512) (f : Fin 4096) : View.canon (actList (F := Ideal) x0 x1) (ix2 p f) = act (X p) U f := by
  refine View.canon_eq_of_allAt _ _ _ (View.cover_of_tiled_head _ _ _ (by rfl) _) ?_
  unfold actList
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    have h0 : p.val = 0 + (x 0).val := hx 0
    have h1 := hx 1
    have e : x = ix2 (⟨p.val, p.isLt⟩ : Fin 512) (⟨(x 1).val, (x 1).isLt⟩ : Fin 1024) := by
      funext a; fin_cases a
      · exact Fin.ext (by show (x 0).val = p.val; omega)
      · rfl
    rw [e]
  · exact (pay11_row B p _).trans (congrArg (fun f => act (X p) U f) (Fin.ext h1.symm))
  · exact (pay10_row B p _).trans (congrArg (fun f => act (X p) U f) (Fin.ext h1.symm))
  · exact (pay8_row B p _).trans (congrArg (fun f => act (X p) U f) (Fin.ext h1.symm))
  · exact (pay6_row B p _).trans (congrArg (fun f => act (X p) U f) (Fin.ext h1.symm))
theorem err_row {g b : Fin 1024 → EReal} {T : Fin 512 → Fin 1024 → EReal} {x3 x4 : FVec Ideal S1x1024 .f32} {x5 : FVec Ideal S512x1024 .f32} (hg : ∀ d, x3 (ix2 0 d) = g d) (hb : ∀ d, x4 (ix2 0 d) = b d)
    (ht : ∀ p d, x5 (ix2 p d) = T p d) (p : Fin 512) (d : Fin 1024) :
    k0_pay1 (F := Ideal) (resBlk x0 x1 x2) (sumBlk x0 x1 x2) x3 x4 x5 (ix2 p d) = out (X p) U W g b d - T p d := by
  rw [pay1_at _ _ _ _ _ _ _ (sum_row p 0)]
  unfold out
  simp only [res_row B, hg, hb, ht]

end

end Cert.Kernel4Ideal.Fwd

end
-- ==== Proof.LossHost.lean ====
/- The feed-forward layer's forward call: the stacked weights, and what a grid point reads. -/
module

public import proofs.«01_k».proof.Proof.LossVal

@[expose] public section

set_option maxRecDepth 16384

noncomputable section

namespace Cert.Kernel4Ideal.Fwd

open Idealize.ShloMosaic Idealize.ShloMosaic.TcCoe Idealize.SL.Sem
open Idealize.ShloMosaic.Tactic
open Cert.Kernel4Ideal Cert.Kernel4Ideal.Gen
open Cert.FwdSum (rel act res dev scale lnorm out)

def lead (a : FVec Ideal S1024x1024 .bf16) : FVec Ideal S1x1024x1024 .bf16 := broadcastInDim S1x1024x1024 ![1, 2] bcast_S1024x1024_S1x1024x1024_1_2 a

/-- Four blocks under a leading axis. -/
def four (a b d e : FVec Ideal S1024x1024 .bf16) : FVec Ideal S4x1024x1024 .bf16 :=
  concatenate S4x1024x1024 0 [⟨S1x1024x1024, lead a⟩, ⟨S1x1024x1024, lead b⟩, ⟨S1x1024x1024, lead d⟩, ⟨S1x1024x1024, lead e⟩]
    concatenates_S1x1024x1024_S1x1024x1024_S1x1024x1024_S1x1024x1024_S4x1024x1024_d0

def upH (u : FVec Ideal S1024x4096 .bf16) : FVec Ideal S4x1024x1024 .bf16 :=
  four (extractStridedSlice S1024x1024 ![0, 0] u slices_S1024x4096_S1024x1024_0_0) (extractStridedSlice S1024x1024 ![0, 1024] u slices_S1024x4096_S1024x1024_0_1024)
    (extractStridedSlice S1024x1024 ![0, 2048] u slices_S1024x4096_S1024x1024_0_2048) (extractStridedSlice S1024x1024 ![0, 3072] u slices_S1024x4096_S1024x1024_0_3072)

def downH (w : FVec Ideal S4096x1024 .bf16) : FVec Ideal S4x1024x1024 .bf16 :=
  four (extractStridedSlice S1024x1024 ![0, 0] w slices_S4096x1024_S1024x1024_0_0) (extractStridedSlice S1024x1024 ![1024, 0] w slices_S4096x1024_S1024x1024_1024_0)
    (extractStridedSlice S1024x1024 ![2048, 0] w slices_S4096x1024_S1024x1024_2048_0) (extractStridedSlice S1024x1024 ![3072, 0] w slices_S4096x1024_S1024x1024_3072_0)

theorem four_at (a b d e : FVec Ideal S1024x1024 .bf16) (k : Fin 4) (i j : Fin 1024) :
    four a b d e (ix3 k i j) = if k.val < 1 then a (ix2 i j) else if k.val - 1 < 1 then b (ix2 i j) else if k.val - 1 - 1 < 1 then d (ix2 i j) else e (ix2 i j) := by
  pointwise [four, lead]
  simp only [dite_eq_ite]

theorem upH_at (u : FVec Ideal S1024x4096 .bf16) (k : Fin 4) (d j : Fin 1024) : upH u (ix3 k d j) = u (ix2 d ⟨1024 * k.val + j.val, by omega⟩) := by
  unfold upH
  rw [four_at]
  pointwise
  fin_cases k <;> simp

theorem downH_at (w : FVec Ideal S4096x1024 .bf16) (k : Fin 4) (j d : Fin 1024) : downH w (ix3 k j d) = w (ix2 ⟨1024 * k.val + j.val, by omega⟩ d) := by
  unfold downH
  rw [four_at]
  pointwise
  fin_cases k <;> simp

variable (m : (ℓ : Loc nD τ sig) → Buf (Elt Ideal) ℓ) (c : Dev nD)

abbrev argX : FVec Ideal S4096x1024 .f32 := m ((c.tc : Thread nD τ).loc main_arg0)
abbrev argU : FVec Ideal S1024x4096 .bf16 := m ((c.tc : Thread nD τ).loc main_arg1)
abbrev argW : FVec Ideal S4096x1024 .bf16 := m ((c.tc : Thread nD τ).loc main_arg2)
abbrev argG : FVec Ideal S1x1024 .f32 := m ((c.tc : Thread nD τ).loc main_arg3)
abbrev argB : FVec Ideal S1x1024 .f32 := m ((c.tc : Thread nD τ).loc main_arg4)
abbrev argT : FVec Ideal S4096x1024 .f32 := m ((c.tc : Thread nD τ).loc main_arg5)

theorem V_up : V m c main_v8 = upH (argU m c) := by
  unfold V
  simp only [hostOps0, List.flatten_cons, List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem V_down : V m c main_v17 = downH (argW m c) := by
  unfold V
  simp only [hostOps0, List.flatten_cons, List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

/-- Where the windows stand at each grid point. -/
theorem places : ∀ t : Fin cfg0.N, win0_0.index t = ![t.val, 0] ∧ win0_1.index t = ![0, 0, 0] ∧ win0_2.index t = ![0, 0, 0] ∧ win0_3.index t = ![0, 0] ∧
    win0_4.index t = ![0, 0] ∧ win0_5.index t = ![t.val, 0] ∧ win0_6.index t = ![t.val, 0] ∧ win0_7.index t = ![t.val, 0] ∧ win0_8.index t = ![t.val, 0] ∧
    win0_9.index t = ![0, 0] ∧ t.val < 8 :=
  (by decide +kernel : ∀ t : Fin grid0.N, _)

theorem lt8 (t : Fin cfg0.N) : t.val < 8 := by have := places t; tauto

/-- A row of a point's block, among all the rows. -/
def row (t : Fin cfg0.N) (p : Fin 512) : Fin 4096 := ⟨512 * t.val + p.val, by have := lt8 t; omega⟩

theorem blk_x (t : Fin cfg0.N) (p : Fin 512) (d : Fin 1024) : iblk m c 0 t (ix2 p d) = argX m c (ix2 (row t p) d) := by
  blk_simp [iblk]
  rw [show V m c main_arg0 = argX m c from rfl]
  unfold row
  blk_ext [places t]

theorem blk_u (t : Fin cfg0.N) (k : Fin 4) (d j : Fin 1024) : iblk m c 1 t (ix3 k d j) = upH (argU m c) (ix3 k d j) := by
  blk_simp [iblk]
  rw [V_up m c]
  generalize upH (argU m c) = X
  blk_ext [places t]

theorem blk_w (t : Fin cfg0.N) (k : Fin 4) (j d : Fin 1024) : iblk m c 2 t (ix3 k j d) = downH (argW m c) (ix3 k j d) := by
  blk_simp [iblk]
  rw [V_down m c]
  generalize downH (argW m c) = X
  blk_ext [places t]

theorem blk_g (t : Fin cfg0.N) (d : Fin 1024) : iblk m c 3 t (ix2 0 d) = argG m c (ix2 0 d) := by
  blk_simp [iblk]
  rw [show V m c main_arg3 = argG m c from rfl]
  blk_ext [places t]

theorem blk_b (t : Fin cfg0.N) (d : Fin 1024) : iblk m c 4 t (ix2 0 d) = argB m c (ix2 0 d) := by
  blk_simp [iblk]
  rw [show V m c main_arg4 = argB m c from rfl]
  blk_ext [places t]

theorem blk_t (t : Fin cfg0.N) (p : Fin 512) (d : Fin 1024) : iblk m c 5 t (ix2 p d) = argT m c (ix2 (row t p) d) := by
  blk_simp [iblk]
  rw [show V m c main_arg5 = argT m c from rfl]
  unfold row
  blk_ext [places t]

/-! ## The rows of the arguments -/

def rowX (i : Fin 4096) : Fin 1024 → EReal := fun d => argX m c (ix2 i d)
def matU : Fin 1024 → Fin 4096 → EReal := fun d f => argU m c (ix2 d f)
def matW : Fin 4096 → Fin 1024 → EReal := fun f d => argW m c (ix2 f d)
def rowG : Fin 1024 → EReal := fun d => argG m c (ix2 0 d)
def rowB : Fin 1024 → EReal := fun d => argB m c (ix2 0 d)

theorem at_point (t : Fin cfg0.N) : Blk (fun p => rowX m c (row t p)) (matU m c) (matW m c) (iblk m c 0 t) (iblk m c 1 t) (iblk m c 2 t) where
  hx p d := blk_x m c t p d
  hu0 d j := (blk_u m c t 0 d j).trans (upH_at _ 0 d j)
  hu1 d j := (blk_u m c t 1 d j).trans (upH_at _ 1 d j)
  hu2 d j := (blk_u m c t 2 d j).trans (upH_at _ 2 d j)
  hu3 d j := (blk_u m c t 3 d j).trans (upH_at _ 3 d j)
  hw0 j d := (blk_w m c t 0 j d).trans (downH_at _ 0 j d)
  hw1 j d := (blk_w m c t 1 j d).trans (downH_at _ 1 j d)
  hw2 j d := (blk_w m c t 2 j d).trans (downH_at _ 2 j d)
  hw3 j d := (blk_w m c t 3 j d).trans (downH_at _ 3 j d)

end Cert.Kernel4Ideal.Fwd

end
-- ==== Proof.LossRef.lean ====
/- The reference of the feed-forward layer's forward call: its steps, and what they are at an index. -/
module

public import proofs.«01_k».proof.Proof.Gen.Reference4Ideal.Run
public import proofs.«01_k».proof.Proof.FwdSum
public import Idealize.ShloMosaic.Lib.Pointwise

@[expose] public section

set_option maxRecDepth 16384

noncomputable section

namespace Cert.Reference4Ideal.Fwd

open Idealize.ShloMosaic Idealize.ShloMosaic.TcCoe Idealize.SL.Sem
open Cert.Reference4Ideal Cert.Reference4Ideal.Gen
open Cert.FwdSum (rel act res dev scale lnorm out)

section Steps

variable {F : FTy → Type} [FloatOps F]

def fill (b : BitVec 32) : FVec F S4096x1024 .f32 := broadcastInDim S4096x1024 ![] bcast_S_S4096x1024 (constant S_ .f32 b)
def fill1 (b : BitVec 32) : FVec F S4096x1 .f32 := broadcastInDim S4096x1 ![] bcast_S_S4096x1 (constant S_ .f32 b)

/-- The activation before its square, its square, and the residual. -/
def relOf (x : FVec F S4096x1024 .f32) (u : FVec F S1024x4096 .bf16) : FVec F S4096x4096 .f32 :=
  maximumf (Host.dotGeneral dot_S4096x1024_S1024x4096_S4096x4096_1_0_0_1_n_n none x (extf .f32 u bitsLt_bf16_f32))
    (broadcastInDim S4096x4096 ![] bcast_S_S4096x4096 (constant S_ .f32 0x00000000#32))
def actOf (x : FVec F S4096x1024 .f32) (u : FVec F S1024x4096 .bf16) : FVec F S4096x4096 .f32 := mulf (relOf x u) (relOf x u)
def outH (x : FVec F S4096x1024 .f32) (u : FVec F S1024x4096 .bf16) : FVec F S4096x4096 .bf16 := truncf .bf16 (actOf x u) bitsLt_bf16_f32
def addIn (x : FVec F S4096x1024 .f32) (h : FVec F S4096x4096 .f32) (w : FVec F S4096x1024 .bf16) : FVec F S4096x1024 .f32 :=
  addf (mulf (fill 0x3FB504F3#32) x) (Host.dotGeneral dot_S4096x4096_S4096x1024_S4096x1024_1_0_0_1_n_n none h (extf .f32 w bitsLt_bf16_f32))
def outR (x : FVec F S4096x1024 .f32) (u : FVec F S1024x4096 .bf16) (w : FVec F S4096x1024 .bf16) : FVec F S4096x1024 .f32 := addIn x (actOf x u) w

/-- The rows' sums, their means, and one number for each row along it. -/
def sums (a : FVec F S4096x1024 .f32) : FVec F S4096 .f32 := Host.reduceAdd a (constant S_ .f32 0x00000000#32) reducesTo_S4096x1024_S4096_d1 h_S_
def means (a : FVec F S4096x1024 .f32) : FVec F S4096x1 .f32 := Host.divf (broadcastInDim S4096x1 ![0] bcast_S4096_S4096x1_0 (sums a)) (fill1 0x44800000#32)
def wide (a : FVec F S4096x1 .f32) : FVec F S4096x1024 .f32 := broadcastInDim S4096x1024 ![0, 1] bcast_S4096x1_S4096x1024_0_1 a
def devOf (r : FVec F S4096x1024 .f32) : FVec F S4096x1024 .f32 := subf r (wide (means r))
def scaleOf (e : FVec F S4096x1024 .f32) : FVec F S4096x1 .f32 := Host.rsqrt (addf (means (mulf e e)) (fill1 0x3727C5AC#32))
def along (g : FVec F S1x1024 .f32) : FVec F S4096x1024 .f32 :=
  broadcastInDim S4096x1024 ![0, 1] bcast_S1x1024_S4096x1024_0_1 (broadcastInDim S1x1024 ![1] bcast_S1024_S1x1024_1 (shapeCast S1024 g shapeCasts_S1x1024_S1024))
def gained (e : FVec F S4096x1024 .f32) (g b : FVec F S1x1024 .f32) : FVec F S4096x1024 .f32 := addf (mulf (mulf e (wide (scaleOf e))) (along g)) (along b)
def normed (r : FVec F S4096x1024 .f32) (g b : FVec F S1x1024 .f32) : FVec F S4096x1024 .f32 := gained (devOf r) g b

section Args
variable (x : FVec F S4096x1024 .f32) (u : FVec F S1024x4096 .bf16) (w : FVec F S4096x1024 .bf16) (g b : FVec F S1x1024 .f32)

def outY : FVec F S4096x1024 .f32 := normed (outR x u w) g b
def errOf (t : FVec F S4096x1024 .f32) : FVec F S4096x1024 .f32 := subf (outY x u w g b) t

end Args

/-- The gradient by the output, and the loss, from the output's error. -/
def gradOf (e : FVec F S4096x1024 .f32) : FVec F S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (fill 0x40000000#32) e)
def lossOf (e : FVec F S4096x1024 .f32) : FVec F S8x128 .f32 :=
  broadcastInDim S8x128 ![] bcast_S_S8x128 (mulf (constant S_ .f32 0x3F000000#32) (Host.reduceAdd (Host.divf (sums (mulf e e))
    (broadcastInDim S4096 ![] bcast_S_S4096 (constant S_ .f32 0x44800000#32))) (constant S_ .f32 0x00000000#32) reducesTo_S4096_S_d0 h_S_))

variable (m : (ℓ : Loc nD τ sig) → Buf (Elt F) ℓ) (c : Dev nD)

theorem res_d : Value.res_main_v49 m c = gradOf (errOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Value.res_main_v49; rfl
theorem res_l : Value.res_main_v51 m c = lossOf (errOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Value.res_main_v51; rfl

end Steps

/-! ## The steps at an index -/

theorem relOf_at (x : FVec Ideal S4096x1024 .f32) (u : FVec Ideal S1024x4096 .bf16) (i f : Fin 4096) :
    relOf x u (ix2 i f) = rel (fun d => x (ix2 i d)) (fun d f => u (ix2 d f)) f := by
  unfold rel
  pointwise [relOf]

theorem actOf_at (x : FVec Ideal S4096x1024 .f32) (u : FVec Ideal S1024x4096 .bf16) (i f : Fin 4096) :
    actOf x u (ix2 i f) = act (fun d => x (ix2 i d)) (fun d f => u (ix2 d f)) f := by
  unfold act
  rw [← relOf_at]
  unfold actOf
  generalize relOf x u = a
  pointwise

theorem outH_at (x : FVec Ideal S4096x1024 .f32) (u : FVec Ideal S1024x4096 .bf16) (i f : Fin 4096) :
    outH x u (ix2 i f) = act (fun d => x (ix2 i d)) (fun d f => u (ix2 d f)) f := by
  rw [← actOf_at]
  unfold outH
  generalize actOf x u = a
  pointwise

theorem addIn_at (x : FVec Ideal S4096x1024 .f32) (h : FVec Ideal S4096x4096 .f32) (w : FVec Ideal S4096x1024 .bf16) (i : Fin 4096) (d : Fin 1024) :
    addIn x h w (ix2 i d) = Ideal.ofBits .f32 0x3FB504F3#32 * x (ix2 i d) + ∑ f : Fin 4096, h (ix2 i f) * w (ix2 f d) := by
  pointwise [addIn, fill]

theorem outR_at (x : FVec Ideal S4096x1024 .f32) (u : FVec Ideal S1024x4096 .bf16) (w : FVec Ideal S4096x1024 .bf16) (i : Fin 4096) (d : Fin 1024) :
    outR x u w (ix2 i d) = res (fun d => x (ix2 i d)) (fun d f => u (ix2 d f)) (fun f d => w (ix2 f d)) d := by
  unfold outR res
  rw [addIn_at]
  exact congrArg (Ideal.ofBits .f32 0x3FB504F3#32 * x (ix2 i d) + ·) (Finset.sum_congr rfl fun f _ => by rw [actOf_at])

theorem devOf_at (r : FVec Ideal S4096x1024 .f32) (i : Fin 4096) (d : Fin 1024) : devOf r (ix2 i d) = dev (fun d => r (ix2 i d)) d := by
  unfold dev
  pointwise [devOf, wide, means, sums, fill1]

theorem scaleOf_at (e : FVec Ideal S4096x1024 .f32) (i : Fin 4096) (o : Fin 1) : scaleOf e (ix2 i o)
    = Ideal.rsqrt (Ideal.div (∑ d : Fin 1024, e (ix2 i d) * e (ix2 i d)) (Ideal.ofBits .f32 0x44800000#32) + Ideal.ofBits .f32 0x3727C5AC#32) := by
  pointwise [scaleOf, means, sums, fill1]

theorem gained_at (e : FVec Ideal S4096x1024 .f32) (g b : FVec Ideal S1x1024 .f32) (i : Fin 4096) (d : Fin 1024) :
    gained e g b (ix2 i d) = e (ix2 i d) * scaleOf e (ix2 i 0) * g (ix2 0 d) + b (ix2 0 d) := by
  unfold gained
  generalize scaleOf e = a
  pointwise [wide, along]

theorem normed_at (r : FVec Ideal S4096x1024 .f32) (g b : FVec Ideal S1x1024 .f32) (i : Fin 4096) (d : Fin 1024) :
    normed r g b (ix2 i d) = lnorm (fun d => r (ix2 i d)) (fun d => g (ix2 0 d)) (fun d => b (ix2 0 d)) d := by
  unfold normed lnorm scale
  rw [gained_at, scaleOf_at]
  simp only [devOf_at]

theorem outY_at (x : FVec Ideal S4096x1024 .f32) (u : FVec Ideal S1024x4096 .bf16) (w : FVec Ideal S4096x1024 .bf16) (g b : FVec Ideal S1x1024 .f32) (i : Fin 4096) (d : Fin 1024) :
    outY x u w g b (ix2 i d) = out (fun d => x (ix2 i d)) (fun d f => u (ix2 d f)) (fun f d => w (ix2 f d)) (fun d => g (ix2 0 d)) (fun d => b (ix2 0 d)) d := by
  unfold outY out
  rw [normed_at]
  simp only [outR_at]

theorem errOf_at (x : FVec Ideal S4096x1024 .f32) (u : FVec Ideal S1024x4096 .bf16) (w : FVec Ideal S4096x1024 .bf16) (g b : FVec Ideal S1x1024 .f32) (t : FVec Ideal S4096x1024 .f32) (i : Fin 4096) (d : Fin 1024) :
    errOf x u w g b t (ix2 i d) = out (fun d => x (ix2 i d)) (fun d f => u (ix2 d f)) (fun f d => w (ix2 f d)) (fun d => g (ix2 0 d)) (fun d => b (ix2 0 d)) d - t (ix2 i d) := by
  rw [← outY_at]
  unfold errOf
  generalize outY x u w g b = a
  pointwise

theorem gradOf_at (e : FVec Ideal S4096x1024 .f32) (i : Fin 4096) (d : Fin 1024) : gradOf e (ix2 i d) = e (ix2 i d) * Ideal.ofBits .f32 0x3A800000#32 := by
  rw [← Cert.FwdSum.grad_eq]
  pointwise [gradOf, fill]

theorem lossOf_at (e : FVec Ideal S4096x1024 .f32) (p : Fin 8) (q : Fin 128) :
    lossOf e (ix2 p q) = ∑ i : Fin 4096, Ideal.ofBits .f32 0x3A000000#32 * Cert.FwdSum.sq (fun d => e (ix2 i d)) := by
  rw [← Cert.FwdSum.loss_eq _ fun i => Cert.FwdSum.sq_nonneg _]
  unfold Cert.FwdSum.sq
  pointwise [lossOf, sums]

end Cert.Reference4Ideal.Fwd

end
-- ==== Proof.LossFinal.lean ====
/- The feed-forward layer's forward call: its results' arrays, and that they are the reference's. -/
module

public import proofs.«01_k».proof.Proof.LossHost
public import proofs.«01_k».proof.Proof.LossRef
public import proofs.«01_k».proof.Defs

@[expose] public section

set_option maxRecDepth 16384

noncomputable section

namespace Cert.Kernel4Ideal.Fwd

open Idealize.ShloMosaic Idealize.ShloMosaic.TcCoe Idealize.SL.Sem
open Idealize.ShloMosaic.Tactic
open Cert.Kernel4Ideal Cert.Kernel4Ideal.Gen
open Cert.FwdSum (rel act res dev scale lnorm out)

variable (m : (ℓ : Loc nD τ sig) → Buf (Elt Ideal) ℓ) (c : Dev nD)

/-! ## The results by their rows -/

def outR (i : Fin 4096) (d : Fin 1024) : EReal := out (rowX m c i) (matU m c) (matW m c) (rowG m c) (rowB m c) d
def resR (i : Fin 4096) (d : Fin 1024) : EReal := res (rowX m c i) (matU m c) (matW m c) d
def actR (i f : Fin 4096) : EReal := act (rowX m c i) (matU m c) f
def errR (i : Fin 4096) (d : Fin 1024) : EReal := outR m c i d - argT m c (ix2 i d)
def gradR (i : Fin 4096) (d : Fin 1024) : EReal := errR m c i d * Ideal.ofBits .f32 0x3A800000#32
def lossR (i : Fin 4096) : EReal := Ideal.ofBits .f32 0x3A000000#32 * Cert.FwdSum.sq (errR m c i)

/-! ## What each point leaves -/

theorem left6 (t : Fin cfg0.N) : (outsAt0 m c t.val t.isLt).1 = k0_pay2 (F := Ideal) (resBlk (iblk m c 0 t) (iblk m c 1 t) (iblk m c 2 t)) (sumBlk (iblk m c 0 t) (iblk m c 1 t) (iblk m c 2 t)) (iblk m c 3 t) (iblk m c 4 t) (iblk m c 5 t) := by
  by_cases h0 : t.val % 8 = 0
  · rw [outsAt0_A m c t h0]; dsimp only; rw [out6_A]
  · rw [outsAt0_B m c t h0]; dsimp only; rw [out6_B]

theorem left7 (t : Fin cfg0.N) : (outsAt0 m c t.val t.isLt).2.1 = resBlk (F := Ideal) (iblk m c 0 t) (iblk m c 1 t) (iblk m c 2 t) := by
  by_cases h0 : t.val % 8 = 0
  · rw [outsAt0_A m c t h0]; dsimp only; rw [out7_A]
  · rw [outsAt0_B m c t h0]; dsimp only; rw [out7_B]

theorem left8 (t : Fin cfg0.N) : (outsAt0 m c t.val t.isLt).2.2.1 = View.canon (actList (F := Ideal) (iblk m c 0 t) (iblk m c 1 t)) := by
  by_cases h0 : t.val % 8 = 0
  · rw [outsAt0_A m c t h0]; dsimp only; rw [out8_A]
  · rw [outsAt0_B m c t h0]; dsimp only; rw [out8_B]

theorem left9_A (t : Fin cfg0.N) (h0 : t.val % 8 = 0) : (outsAt0 m c t.val t.isLt).2.2.2 =
    k0_pay3 (F := Ideal) (resBlk (iblk m c 0 t) (iblk m c 1 t) (iblk m c 2 t)) (sumBlk (iblk m c 0 t) (iblk m c 1 t) (iblk m c 2 t)) (iblk m c 3 t) (iblk m c 4 t) (iblk m c 5 t) (k0_pay4 (F := Ideal)) := by
  rw [outsAt0_A m c t h0]; dsimp only; rw [out9_A]

theorem left9_B (t : Fin cfg0.N) (h0 : ¬t.val % 8 = 0) (hp : t.val - 1 < cfg0.N) : (outsAt0 m c t.val t.isLt).2.2.2 =
    k0_pay3 (F := Ideal) (resBlk (iblk m c 0 t) (iblk m c 1 t) (iblk m c 2 t)) (sumBlk (iblk m c 0 t) (iblk m c 1 t) (iblk m c 2 t)) (iblk m c 3 t) (iblk m c 4 t) (iblk m c 5 t) (outsAt0 m c (t.val - 1) hp).2.2.2 := by
  rw [outsAt0_B m c t h0]; dsimp only; rw [out9_B]

/-- The output's error, at a point. -/
theorem err_at (t : Fin cfg0.N) (p : Fin 512) (d : Fin 1024) :
    k0_pay1 (F := Ideal) (resBlk (iblk m c 0 t) (iblk m c 1 t) (iblk m c 2 t)) (sumBlk (iblk m c 0 t) (iblk m c 1 t) (iblk m c 2 t)) (iblk m c 3 t) (iblk m c 4 t) (iblk m c 5 t) (ix2 p d) = errR m c (row t p) d :=
  err_row (at_point m c t) (T := fun p d => argT m c (ix2 (row t p) d)) (blk_g m c t) (blk_b m c t) (blk_t m c t) p d

theorem cell6 (t : Fin cfg0.N) (p : Fin 512) (d : Fin 1024) : (outsAt0 m c t.val t.isLt).1 (ix2 p d) = gradR m c (row t p) d := by
  rw [left6, pay2_at, err_at]; rfl

theorem cell7 (t : Fin cfg0.N) (p : Fin 512) (d : Fin 1024) : (outsAt0 m c t.val t.isLt).2.1 (ix2 p d) = resR m c (row t p) d := by
  rw [left7]; exact res_row (at_point m c t) p d

theorem cell8 (t : Fin cfg0.N) (p : Fin 512) (f : Fin 4096) : (outsAt0 m c t.val t.isLt).2.2.1 (ix2 p f) = actR m c (row t p) f := by
  rw [left8]; exact act_row (at_point m c t) p f

/-- One point's step of the loss. -/
theorem step_at (t : Fin cfg0.N) (a : FVec Ideal S8x128 .f32) (i : Fin 8) (j : Fin 128) :
    k0_pay3 (F := Ideal) (resBlk (iblk m c 0 t) (iblk m c 1 t) (iblk m c 2 t)) (sumBlk (iblk m c 0 t) (iblk m c 1 t) (iblk m c 2 t)) (iblk m c 3 t) (iblk m c 4 t) (iblk m c 5 t) a (ix2 i j)
      = a (ix2 i j) + Cert.FwdSum.share (lossR m c) t.val := by
  rw [pay3_at, Cert.FwdSum.share_at _ _ (lt8 t)]
  simp only [err_at]
  refine congrArg (a (ix2 i j) + ·) ?_
  exact Cert.FwdSum.mul_sum Finset.univ _ (fun p : Fin 512 => Cert.FwdSum.sq (errR m c (row t p))) fun p => Cert.FwdSum.sq_nonneg _

theorem sofar (i : Fin 8) (j : Fin 128) : ∀ (n : ℕ) (h : n < cfg0.N), (outsAt0 m c n h).2.2.2 (ix2 i j)
    = ∑ k ∈ Finset.range (n + 1), Cert.FwdSum.share (lossR m c) k := by
  intro n
  induction n with
  | zero =>
    intro h
    refine (congrFun (left9_A m c ⟨0, h⟩ rfl) (ix2 i j)).trans ?_
    rw [step_at, pay4_at, Finset.sum_range_succ, Finset.sum_range_zero]
  | succ n ih =>
    intro h
    have h8 : n + 1 < 8 := lt8 ⟨n + 1, h⟩
    refine (congrFun (left9_B m c ⟨n + 1, h⟩ (by show ¬ (n + 1) % 8 = 0; omega) (Nat.lt_of_succ_lt h)) (ix2 i j)).trans ?_
    rw [step_at, Finset.sum_range_succ]
    exact congrArg (· + _) (ih (Nat.lt_of_succ_lt h))

theorem cell9 (t : Fin cfg0.N) (ht : t.val = 7) (i : Fin 8) (j : Fin 128) : (outsAt0 m c t.val t.isLt).2.2.2 (ix2 i j) = ∑ r, lossR m c r := by
  refine (sofar m c i j t.val t.isLt).trans ?_
  rw [ht, Cert.FwdSum.sum_shares]

theorem last_flush : ∀ t : Fin cfg0.N, (cfg0.win 9).flush t = true → t.val = 7 :=
  (by decide +kernel : ∀ t : Fin grid0.N, (cfg0.win 9).flush t = true → t.val = 7)

theorem cell9' (t : Fin cfg0.N) (ht : t.val = 7) (y : S8x128.Idx) : (outsAt0 m c t.val t.isLt).2.2.2 y = ∑ r, lossR m c r := by
  obtain ⟨a, b, rfl⟩ : ∃ (a : Fin 8) (b : Fin 128), y = ix2 a b := ⟨y 0, y 1, eq_ix2 y⟩
  exact cell9 m c t ht a b

theorem cell6' (t : Fin cfg0.N) (y : S512x1024.Idx) : (outsAt0 m c t.val t.isLt).1 y = gradR m c (row t (y 0)) (y 1) := by
  obtain ⟨a, b, rfl⟩ : ∃ (a : Fin 512) (b : Fin 1024), y = ix2 a b := ⟨y 0, y 1, eq_ix2 y⟩
  exact cell6 m c t a b

theorem cell7' (t : Fin cfg0.N) (y : S512x1024.Idx) : (outsAt0 m c t.val t.isLt).2.1 y = resR m c (row t (y 0)) (y 1) := by
  obtain ⟨a, b, rfl⟩ : ∃ (a : Fin 512) (b : Fin 1024), y = ix2 a b := ⟨y 0, y 1, eq_ix2 y⟩
  exact cell7 m c t a b

theorem cell8' (t : Fin cfg0.N) (y : S512x4096.Idx) : (outsAt0 m c t.val t.isLt).2.2.1 y = actR m c (row t (y 0)) (y 1) := by
  obtain ⟨a, b, rfl⟩ : ∃ (a : Fin 512) (b : Fin 4096), y = ix2 a b := ⟨y 0, y 1, eq_ix2 y⟩
  exact cell8 m c t a b

/-! ## The results' arrays -/

theorem final6 : (dats m 0 c).arrAt 6 (cfgs 0).N = fun i : S4096x1024.Idx => gradR m c (i 0) (i 1) := by
  refine (dats m 0 c).arrAt_eq_of_covers 6 _ (by decide +kernel) fun t _ y => ?_
  blk_simp
  rw [after0_6]
  refine (cell6' m c t y).trans ?_
  have h : win0_6.index t = ![t.val, 0] := by have := places t; tauto
  exact congrArg₂ (fun a b => gradR m c a b) (Fin.ext (by simp [row, h]; omega)) (Fin.ext (by simp [h]))

theorem final7 : (dats m 0 c).arrAt 7 (cfgs 0).N = fun i : S4096x1024.Idx => resR m c (i 0) (i 1) := by
  refine (dats m 0 c).arrAt_eq_of_covers 7 _ (by decide +kernel) fun t _ y => ?_
  blk_simp
  rw [after0_7]
  refine (cell7' m c t y).trans ?_
  have h : win0_7.index t = ![t.val, 0] := by have := places t; tauto
  exact congrArg₂ (fun a b => resR m c a b) (Fin.ext (by simp [row, h]; omega)) (Fin.ext (by simp [h]))

theorem final8 : (dats m 0 c).arrAt 8 (cfgs 0).N = fun i : S4096x4096.Idx => actR m c (i 0) (i 1) := by
  refine (dats m 0 c).arrAt_eq_of_covers 8 _ (by decide +kernel) fun t _ y => ?_
  blk_simp
  rw [after0_8]
  refine (cell8' m c t y).trans ?_
  have h : win0_8.index t = ![t.val, 0] := by have := places t; tauto
  exact congrArg₂ (fun a b => actR m c a b) (Fin.ext (by simp [row, h]; omega)) (Fin.ext (by simp [h]))

theorem final9 : (dats m 0 c).arrAt 9 (cfgs 0).N = fun _ : S8x128.Idx => ∑ r, lossR m c r := by
  refine (dats m 0 c).arrAt_eq_of_covers 9 _ (by decide +kernel) fun t hf y => ?_
  blk_simp
  rw [after0_9]
  exact cell9' m c t (last_flush t hf) y

/-! ## The runs -/

def resDArr (c : Dev nD) : Buf (Elt Ideal) ((c.tc : Thread nD τ).loc main_v18_0) := (dats m 0 c).arrAt 6 (cfgs 0).N
def resRArr (c : Dev nD) : Buf (Elt Ideal) ((c.tc : Thread nD τ).loc main_v18_1) := (dats m 0 c).arrAt 7 (cfgs 0).N
def resHArr (c : Dev nD) : Buf (Elt Ideal) ((c.tc : Thread nD τ).loc main_v18_2) := (dats m 0 c).arrAt 8 (cfgs 0).N
def resLArr (c : Dev nD) : Buf (Elt Ideal) ((c.tc : Thread nD τ).loc main_v18_3) := (dats m 0 c).arrAt 9 (cfgs 0).N

variable (ρ : Dev nD → PrngReg)

/-- The kernel's run: its results' arrays, and its arguments as launched. -/
theorem run : θ_run defs (onTc (τ := τ) (main (F := Ideal))) ⟨m, fun _ => 0, ρ⟩ (fun r => ∀ c : Dev nD,
      r.2.mem ((c.tc : Thread nD τ).loc main_v18_0) = resDArr m c
      ∧ r.2.mem ((c.tc : Thread nD τ).loc main_v18_1) = resRArr m c
      ∧ r.2.mem ((c.tc : Thread nD τ).loc main_v18_2) = resHArr m c
      ∧ r.2.mem ((c.tc : Thread nD τ).loc main_v18_3) = resLArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Value.run_blocks m ρ

/-! ## The reference's results are these -/

theorem agreeD : Cert.Reference4Ideal.Fwd.gradOf (Cert.Reference4Ideal.Fwd.errOf (argX m c) (argU m c) (argW m c) (argG m c) (argB m c) (argT m c)) = resDArr m c := by
  refine Eq.trans (funext fun i => ?_) (final6 m c).symm
  obtain ⟨a, b, rfl⟩ : ∃ (a : Fin 4096) (b : Fin 1024), i = ix2 a b := ⟨i 0, i 1, eq_ix2 i⟩
  exact (Cert.Reference4Ideal.Fwd.gradOf_at _ a b).trans (congrArg (· * _) (Cert.Reference4Ideal.Fwd.errOf_at _ _ _ _ _ _ a b))

theorem agreeR : Cert.Reference4Ideal.Fwd.outR (argX m c) (argU m c) (argW m c) = resRArr m c := by
  refine Eq.trans (funext fun i => ?_) (final7 m c).symm
  obtain ⟨a, b, rfl⟩ : ∃ (a : Fin 4096) (b : Fin 1024), i = ix2 a b := ⟨i 0, i 1, eq_ix2 i⟩
  exact Cert.Reference4Ideal.Fwd.outR_at _ _ _ a b

theorem agreeH : Cert.Reference4Ideal.Fwd.outH (argX m c) (argU m c) = resHArr m c := by
  refine Eq.trans (funext fun i => ?_) (final8 m c).symm
  obtain ⟨a, b, rfl⟩ : ∃ (a : Fin 4096) (b : Fin 4096), i = ix2 a b := ⟨i 0, i 1, eq_ix2 i⟩
  exact Cert.Reference4Ideal.Fwd.outH_at _ _ a b

theorem agreeL : Cert.Reference4Ideal.Fwd.lossOf (Cert.Reference4Ideal.Fwd.errOf (argX m c) (argU m c) (argW m c) (argG m c) (argB m c) (argT m c)) = resLArr m c := by
  refine Eq.trans (funext fun i => ?_) (final9 m c).symm
  obtain ⟨a, b, rfl⟩ : ∃ (a : Fin 8) (b : Fin 128), i = ix2 a b := ⟨i 0, i 1, eq_ix2 i⟩
  refine (Cert.Reference4Ideal.Fwd.lossOf_at _ a b).trans (Finset.sum_congr rfl fun r _ => ?_)
  exact congrArg (fun e => _ * Cert.FwdSum.sq e) (funext fun d => Cert.Reference4Ideal.Fwd.errOf_at _ _ _ _ _ _ r d)

/-- One device's results agree where its arguments do. -/
theorem same (m' : (ℓ : Loc Cert.Reference4Ideal.nD Cert.Reference4Ideal.τ Cert.Reference4Ideal.sig) → Buf (Elt Ideal) ℓ)
    (h0 : m' ((c.tc : Thread Cert.Reference4Ideal.nD Cert.Reference4Ideal.τ).loc Cert.Reference4Ideal.main_arg0) = argX m c)
    (h1 : m' ((c.tc : Thread Cert.Reference4Ideal.nD Cert.Reference4Ideal.τ).loc Cert.Reference4Ideal.main_arg1) = argU m c)
    (h2 : m' ((c.tc : Thread Cert.Reference4Ideal.nD Cert.Reference4Ideal.τ).loc Cert.Reference4Ideal.main_arg2) = argW m c)
    (h3 : m' ((c.tc : Thread Cert.Reference4Ideal.nD Cert.Reference4Ideal.τ).loc Cert.Reference4Ideal.main_arg3) = argG m c)
    (h4 : m' ((c.tc : Thread Cert.Reference4Ideal.nD Cert.Reference4Ideal.τ).loc Cert.Reference4Ideal.main_arg4) = argB m c)
    (h5 : m' ((c.tc : Thread Cert.Reference4Ideal.nD Cert.Reference4Ideal.τ).loc Cert.Reference4Ideal.main_arg5) = argT m c) :
    Cert.Reference4Ideal.Value.res_main_v49 (F := Ideal) m' c = resDArr m c ∧ Cert.Reference4Ideal.Value.res_main_v51 (F := Ideal) m' c = resLArr m c
      ∧ Cert.Reference4Ideal.Fwd.outR (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = resRArr m c ∧ Cert.Reference4Ideal.Fwd.outH (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = resHArr m c := by
  have e0 := Cert.Reference4Ideal.Fwd.res_d (F := Ideal) m' c
  rw [h0, h1, h2, h3, h4, h5] at e0
  have e1 := Cert.Reference4Ideal.Fwd.res_l (F := Ideal) m' c
  rw [h0, h1, h2, h3, h4, h5] at e1
  refine ⟨e0.trans (agreeD m c), e1.trans (agreeL m c), ?_, ?_⟩
  · rw [h0, h1, h2]; exact agreeR m c
  · rw [h0, h1]; exact agreeH m c

theorem values : Cert.algebraic_Kernel4Ideal_Reference4Ideal := by
  intro m ρ m' ρ' _ hm
  refine ⟨resDArr m, resRArr m, resHArr m, resLArr m, run m ρ, ?_⟩
  refine (θ_run Cert.Reference4Ideal.defs _ _).mono (fun r h c => ?_) (Cert.Reference4Ideal.Value.run (F := Ideal) m' ρ')
  obtain ⟨h0, h1, h2, h3, h4, h5⟩ := hm c
  obtain ⟨r0, r1, r2, r3, ra⟩ := h c
  have e := same m c m' h0 h1 h2 h3 h4 h5
  exact ⟨r0.trans e.1, r1.trans e.2.2.1, r2.trans e.2.2.2, r3.trans e.2.1, ra⟩

end Cert.Kernel4Ideal.Fwd

end
-- ==== Proof.FwdVal.lean ====
/- The feed-forward layer's forward call: what one grid point leaves in its results' blocks. -/
module

public import proofs.«01_k».proof.Proof.Gen.Kernel5Ideal.Value
public import proofs.«01_k».proof.Proof.FwdSum
public import Idealize.ShloMosaic.Lib.Pipeline.ValueKit

@[expose] public section

set_option maxRecDepth 16384

noncomputable section

namespace Cert.Kernel5Ideal.Fwd

open Idealize.ShloMosaic Idealize.ShloMosaic.TcCoe Idealize.SL.Sem
open Cert.Kernel5Ideal Cert.Kernel5Ideal.Gen
open Cert.FwdSum (rel act res dev scale lnorm out)

theorem hz : (![0, 0] : Fin 2 → Nat) = fun _ => 0 := funext fun a => by fin_cases a <;> rfl
theorem hz3 : (![0, 0, 0] : Fin 3 → Nat) = fun _ => 0 := funext fun a => by fin_cases a <;> rfl

section Any

variable {F : FTy → Type} [FloatOps F]

/-- The slabs of the stacked weights. -/
def slab0 (w : Vec F S4x1024x1024 .bf16) : Vec F S1x1024x1024 .bf16 := View.ld w (Rect.unit ![0, 0, 0] ![1, 1024, 1024] inb_S4x1024x1024_S1x1024x1024_0_0_0)
def slab1 (w : Vec F S4x1024x1024 .bf16) : Vec F S1x1024x1024 .bf16 := View.ld w (Rect.unit ![1, 0, 0] ![1, 1024, 1024] inb_S4x1024x1024_S1x1024x1024_1_0_0)
def slab2 (w : Vec F S4x1024x1024 .bf16) : Vec F S1x1024x1024 .bf16 := View.ld w (Rect.unit ![2, 0, 0] ![1, 1024, 1024] inb_S4x1024x1024_S1x1024x1024_2_0_0)
def slab3 (w : Vec F S4x1024x1024 .bf16) : Vec F S1x1024x1024 .bf16 := View.ld w (Rect.unit ![3, 0, 0] ![1, 1024, 1024] inb_S4x1024x1024_S1x1024x1024_3_0_0)

/-- The residual's block, the block less its rows' means, and its square. -/
def resBlk (x0 : Vec F S512x1024 .f32) (x1 x2 : Vec F S4x1024x1024 .bf16) : FVec F S512x1024 .f32 :=
  k0_pay11 x0 (k0_pay4 x0) (k0_pay7 x0 (slab0 x1) (slab0 x2) (slab1 x1) (slab1 x2)) (k0_pay8 (slab2 x1)) (slab2 x2) (slab3 x1) (slab3 x2)
def devBlk (x0 : Vec F S512x1024 .f32) (x1 x2 : Vec F S4x1024x1024 .bf16) : FVec F S512x1024 .f32 :=
  k0_pay12 x0 (k0_pay4 x0) (k0_pay7 x0 (slab0 x1) (slab0 x2) (slab1 x1) (slab1 x2)) (k0_pay8 (slab2 x1)) (slab2 x2) (slab3 x1) (slab3 x2)
def varBlk (x0 : Vec F S512x1024 .f32) (x1 x2 : Vec F S4x1024x1024 .bf16) : FVec F S512x1024 .f32 :=
  k0_pay13 x0 (k0_pay4 x0) (k0_pay7 x0 (slab0 x1) (slab0 x2) (slab1 x1) (slab1 x2)) (k0_pay8 (slab2 x1)) (slab2 x2) (slab3 x1) (slab3 x2)

/-- The four stores of the activations. -/
def actList (x0 : Vec F S512x1024 .f32) (x1 : Vec F S4x1024x1024 .bf16) : List (View.Piece (Elt F) S512x4096 .bf16) :=
  [⟨Rect.unit ![0, 3072] ![512, 1024] inb_S512x4096_S512x1024_0_3072, k0_pay10 (k0_pay4 x0) (slab3 x1)⟩,
   ⟨Rect.unit ![0, 2048] ![512, 1024] inb_S512x4096_S512x1024_0_2048, k0_pay9 (k0_pay4 x0) (k0_pay8 (slab2 x1))⟩,
   ⟨Rect.unit ![0, 1024] ![512, 1024] inb_S512x4096_S512x1024_0_1024, k0_pay6 x0 (slab1 x1)⟩,
   ⟨Rect.unit ![0, 0] ![512, 1024] inb_S512x4096_S512x1024_0_0, k0_pay5 x0 (slab0 x1)⟩]

theorem out5 (x0 : Vec F S512x1024 .f32) (x1 x2 : Vec F S4x1024x1024 .bf16) (x3 x4 : Vec F S1x1024 .f32) : out0_5 x0 x1 x2 x3 x4 = k0_pay1 (devBlk x0 x1 x2) (varBlk x0 x1 x2) x3 x4 := by
  unfold out0_5 k0_pay17 k0_pay18 k0_pay14 k0_pay15 k0_pay16
  rw [View.canon_unit_zero hz]
  simp only [View.ld_unit_zero (S := S512x1024) hz, View.ld_unit_zero (S := S1x1024) hz]
  rfl

theorem out6 (x0 : Vec F S512x1024 .f32) (x1 x2 : Vec F S4x1024x1024 .bf16) (x3 x4 : Vec F S1x1024 .f32) : out0_6 x0 x1 x2 x3 x4 = k0_pay2 (devBlk x0 x1 x2) (varBlk x0 x1 x2) x3 x4 := by
  unfold out0_6 k0_pay17 k0_pay18 k0_pay14 k0_pay15 k0_pay16
  rw [View.canon_unit_zero hz]
  simp only [View.ld_unit_zero (S := S512x1024) hz, View.ld_unit_zero (S := S1x1024) hz]
  rfl

theorem out7 (x0 : Vec F S512x1024 .f32) (x1 x2 : Vec F S4x1024x1024 .bf16) (x3 x4 : Vec F S1x1024 .f32) : out0_7 x0 x1 x2 x3 x4 = k0_pay3 (devBlk x0 x1 x2) (varBlk x0 x1 x2) x3 x4 := by
  unfold out0_7 k0_pay17 k0_pay18 k0_pay14 k0_pay15 k0_pay16
  rw [View.canon_unit_zero hz]
  simp only [View.ld_unit_zero (S := S512x1024) hz, View.ld_unit_zero (S := S1x1024) hz]
  rfl

theorem out8 (x0 : Vec F S512x1024 .f32) (x1 x2 : Vec F S4x1024x1024 .bf16) (x3 x4 : Vec F S1x1024 .f32) : out0_8 x0 x1 x2 x3 x4 = resBlk x0 x1 x2 := by
  unfold out0_8 k0_pay14 k0_pay15 k0_pay16
  rw [View.canon_unit_zero hz]
  simp only [View.ld_unit_zero (S := S512x1024) hz]
  rfl

theorem out9 (x0 : Vec F S512x1024 .f32) (x1 x2 : Vec F S4x1024x1024 .bf16) (x3 x4 : Vec F S1x1024 .f32) : out0_9 x0 x1 x2 x3 x4 = View.canon (actList x0 x1) := by
  unfold out0_9 k0_pay14 k0_pay16
  simp only [View.ld_unit_zero (S := S512x1024) hz]
  rfl

end Any

/-! ## At an index -/

theorem slab0_at (w : Vec Ideal S4x1024x1024 .bf16) (i j : Fin 1024) : slab0 w (ix3 0 i j) = w (ix3 0 i j) :=
  View.ld_unit_apply_of _ _ _ _ _ _ fun a => by
    fin_cases a
    · rfl
    · show i.val = 0 + i.val; omega
    · show j.val = 0 + j.val; omega
theorem slab1_at (w : Vec Ideal S4x1024x1024 .bf16) (i j : Fin 1024) : slab1 w (ix3 0 i j) = w (ix3 1 i j) :=
  View.ld_unit_apply_of _ _ _ _ _ _ fun a => by
    fin_cases a
    · rfl
    · show i.val = 0 + i.val; omega
    · show j.val = 0 + j.val; omega
theorem slab2_at (w : Vec Ideal S4x1024x1024 .bf16) (i j : Fin 1024) : slab2 w (ix3 0 i j) = w (ix3 2 i j) :=
  View.ld_unit_apply_of _ _ _ _ _ _ fun a => by
    fin_cases a
    · rfl
    · show i.val = 0 + i.val; omega
    · show j.val = 0 + j.val; omega
theorem slab3_at (w : Vec Ideal S4x1024x1024 .bf16) (i j : Fin 1024) : slab3 w (ix3 0 i j) = w (ix3 3 i j) :=
  View.ld_unit_apply_of _ _ _ _ _ _ fun a => by
    fin_cases a
    · rfl
    · show i.val = 0 + i.val; omega
    · show j.val = 0 + j.val; omega

theorem pay4_at (x : FVec Ideal S512x1024 .f32) (p : Fin 512) (d : Fin 1024) : k0_pay4 (F := Ideal) x (ix2 p d) = x (ix2 p d) := by
  pointwise [k0_pay4]
theorem pay8_at (u : FVec Ideal S1x1024x1024 .bf16) (d j : Fin 1024) : k0_pay8 (F := Ideal) u (ix2 d j) = u (ix3 0 d j) := by
  pointwise [k0_pay8]
theorem pay5_at (x : FVec Ideal S512x1024 .f32) (u : FVec Ideal S1x1024x1024 .bf16) (p : Fin 512) (j : Fin 1024) :
    k0_pay5 (F := Ideal) x u (ix2 p j) = max (∑ d : Fin 1024, x (ix2 p d) * u (ix3 0 d j)) 0 * max (∑ d : Fin 1024, x (ix2 p d) * u (ix3 0 d j)) 0 := by
  pointwise [k0_pay5, k0_pay4]
theorem pay6_at (x : FVec Ideal S512x1024 .f32) (u : FVec Ideal S1x1024x1024 .bf16) (p : Fin 512) (j : Fin 1024) :
    k0_pay6 (F := Ideal) x u (ix2 p j) = max (∑ d : Fin 1024, x (ix2 p d) * u (ix3 0 d j)) 0 * max (∑ d : Fin 1024, x (ix2 p d) * u (ix3 0 d j)) 0 := by
  pointwise [k0_pay6, k0_pay4]
theorem pay9_at (x : FVec Ideal S512x1024 .bf16) (u : FVec Ideal S1024x1024 .bf16) (p : Fin 512) (j : Fin 1024) :
    k0_pay9 (F := Ideal) x u (ix2 p j) = max (∑ d : Fin 1024, x (ix2 p d) * u (ix2 d j)) 0 * max (∑ d : Fin 1024, x (ix2 p d) * u (ix2 d j)) 0 := by
  pointwise [k0_pay9]
theorem pay10_at (x : FVec Ideal S512x1024 .bf16) (u : FVec Ideal S1x1024x1024 .bf16) (p : Fin 512) (j : Fin 1024) :
    k0_pay10 (F := Ideal) x u (ix2 p j) = max (∑ d : Fin 1024, x (ix2 p d) * u (ix3 0 d j)) 0 * max (∑ d : Fin 1024, x (ix2 p d) * u (ix3 0 d j)) 0 := by
  pointwise [k0_pay10]
theorem pay7_at (x : FVec Ideal S512x1024 .f32) (u w u' w' : FVec Ideal S1x1024x1024 .bf16) (p : Fin 512) (d : Fin 1024) :
    k0_pay7 (F := Ideal) x u w u' w' (ix2 p d) = (∑ j : Fin 1024, k0_pay5 (F := Ideal) x u (ix2 p j) * w (ix3 0 j d))
      + ∑ j : Fin 1024, k0_pay6 (F := Ideal) x u' (ix2 p j) * w' (ix3 0 j d) := by
  pointwise [k0_pay7]
theorem pay11_at (x a : FVec Ideal S512x1024 .f32) (h : FVec Ideal S512x1024 .bf16) (v : FVec Ideal S1024x1024 .bf16) (w u' w' : FVec Ideal S1x1024x1024 .bf16) (p : Fin 512) (d : Fin 1024) :
    k0_pay11 (F := Ideal) x h a v w u' w' (ix2 p d) = Ideal.ofBits .f32 0x3FB504F3#32 * x (ix2 p d) + (a (ix2 p d)
      + (∑ j : Fin 1024, k0_pay9 (F := Ideal) h v (ix2 p j) * w (ix3 0 j d)) + ∑ j : Fin 1024, k0_pay10 (F := Ideal) h u' (ix2 p j) * w' (ix3 0 j d)) := by
  pointwise [k0_pay11]
theorem pay12_at (x a : FVec Ideal S512x1024 .f32) (h : FVec Ideal S512x1024 .bf16) (v : FVec Ideal S1024x1024 .bf16) (w u' w' : FVec Ideal S1x1024x1024 .bf16) (p : Fin 512) (d : Fin 1024) :
    k0_pay12 (F := Ideal) x h a v w u' w' (ix2 p d) = dev (fun d => k0_pay11 (F := Ideal) x h a v w u' w' (ix2 p d)) d := by
  unfold dev
  pointwise [k0_pay12]
theorem pay13_at (x a : FVec Ideal S512x1024 .f32) (h : FVec Ideal S512x1024 .bf16) (v : FVec Ideal S1024x1024 .bf16) (w u' w' : FVec Ideal S1x1024x1024 .bf16) (p : Fin 512) (d : Fin 1024) :
    k0_pay13 (F := Ideal) x h a v w u' w' (ix2 p d) = k0_pay12 (F := Ideal) x h a v w u' w' (ix2 p d) * k0_pay12 (F := Ideal) x h a v w u' w' (ix2 p d) := by
  pointwise [k0_pay13]
theorem pay1_at (e v : FVec Ideal S512x1024 .f32) (g b : FVec Ideal S1x1024 .f32) (p : Fin 512) (d : Fin 1024) :
    k0_pay1 (F := Ideal) e v g b (ix2 p d) = e (ix2 p d) * Ideal.rsqrt (Ideal.div (∑ d : Fin 1024, v (ix2 p d)) (Ideal.ofBits .f32 0x44800000#32) + Ideal.ofBits .f32 0x3727C5AC#32)
      * g (ix2 0 d) + b (ix2 0 d) := by
  pointwise [k0_pay1]
theorem pay2_at (e v : FVec Ideal S512x1024 .f32) (g b : FVec Ideal S1x1024 .f32) (p : Fin 512) (d : Fin 1024) : k0_pay2 (F := Ideal) e v g b (ix2 p d) = k0_pay1 (F := Ideal) e v g b (ix2 p d) := by
  pointwise [k0_pay2]
theorem pay3_at (e v : FVec Ideal S512x1024 .f32) (g b : FVec Ideal S1x1024 .f32) (p : Fin 512) (d : Fin 1024) : k0_pay3 (F := Ideal) e v g b (ix2 d p) = k0_pay1 (F := Ideal) e v g b (ix2 p d) := by
  pointwise [k0_pay3]

/-- What a point's blocks are, by their rows. -/
structure Blk (X : Fin 512 → Fin 1024 → EReal) (U : Fin 1024 → Fin 4096 → EReal) (W : Fin 4096 → Fin 1024 → EReal)
    (x0 : FVec Ideal S512x1024 .f32) (x1 x2 : FVec Ideal S4x1024x1024 .bf16) : Prop where
  hx : ∀ p d, x0 (ix2 p d) = X p d
  hu0 : ∀ d j, x1 (ix3 0 d j) = U d ⟨0 + j.val, by omega⟩
  hu1 : ∀ d j, x1 (ix3 1 d j) = U d ⟨1024 + j.val, by omega⟩
  hu2 : ∀ d j, x1 (ix3 2 d j) = U d ⟨2048 + j.val, by omega⟩
  hu3 : ∀ d j, x1 (ix3 3 d j) = U d ⟨3072 + j.val, by omega⟩
  hw0 : ∀ j d, x2 (ix3 0 j d) = W ⟨0 + j.val, by omega⟩ d
  hw1 : ∀ j d, x2 (ix3 1 j d) = W ⟨1024 + j.val, by omega⟩ d
  hw2 : ∀ j d, x2 (ix3 2 j d) = W ⟨2048 + j.val, by omega⟩ d
  hw3 : ∀ j d, x2 (ix3 3 j d) = W ⟨3072 + j.val, by omega⟩ d

section

variable {X : Fin 512 → Fin 1024 → EReal} {U : Fin 1024 → Fin 4096 → EReal} {W : Fin 4096 → Fin 1024 → EReal}
  {x0 : FVec Ideal S512x1024 .f32} {x1 x2 : FVec Ideal S4x1024x1024 .bf16} (B : Blk X U W x0 x1 x2)
include B

theorem pay5_row (p : Fin 512) (j : Fin 1024) : k0_pay5 (F := Ideal) x0 (slab0 x1) (ix2 p j) = act (X p) U ⟨0 + j.val, by omega⟩ := by
  rw [pay5_at]
  unfold act rel
  simp only [slab0_at, B.hx, B.hu0]
theorem pay6_row (p : Fin 512) (j : Fin 1024) : k0_pay6 (F := Ideal) x0 (slab1 x1) (ix2 p j) = act (X p) U ⟨1024 + j.val, by omega⟩ := by
  rw [pay6_at]
  unfold act rel
  simp only [slab1_at, B.hx, B.hu1]
theorem pay9_row (p : Fin 512) (j : Fin 1024) : k0_pay9 (F := Ideal) (k0_pay4 x0) (k0_pay8 (slab2 x1)) (ix2 p j) = act (X p) U ⟨2048 + j.val, by omega⟩ := by
  rw [pay9_at]
  unfold act rel
  simp only [pay4_at, pay8_at, slab2_at, B.hx, B.hu2]
theorem pay10_row (p : Fin 512) (j : Fin 1024) : k0_pay10 (F := Ideal) (k0_pay4 x0) (slab3 x1) (ix2 p j) = act (X p) U ⟨3072 + j.val, by omega⟩ := by
  rw [pay10_at]
  unfold act rel
  simp only [pay4_at, slab3_at, B.hx, B.hu3]
theorem res_row (p : Fin 512) (d : Fin 1024) : resBlk (F := Ideal) x0 x1 x2 (ix2 p d) = res (X p) U W d := by
  unfold resBlk
  rw [pay11_at, pay7_at, ← Cert.FwdSum.res_parts]
  simp only [pay5_row B, pay6_row B, pay9_row B, pay10_row B, slab0_at, slab1_at, slab2_at, slab3_at, B.hx, B.hw0, B.hw1, B.hw2, B.hw3]
theorem dev_row (p : Fin 512) (d : Fin 1024) : devBlk (F := Ideal) x0 x1 x2 (ix2 p d) = dev (res (X p) U W) d := by
  have h : (fun d => resBlk (F := Ideal) x0 x1 x2 (ix2 p d)) = res (X p) U W := funext fun d => res_row B p d
  rw [← h]
  unfold devBlk resBlk
  rw [pay12_at]
theorem var_row (p : Fin 512) (d : Fin 1024) : varBlk (F := Ideal) x0 x1 x2 (ix2 p d) = dev (res (X p) U W) d * dev (res (X p) U W) d := by
  rw [← dev_row B]
  unfold varBlk devBlk
  rw [pay13_at]
theorem act_row (p : Fin 512) (f : Fin 4096) : View.canon (actList (F := Ideal) x0 x1) (ix2 p f) = act (X p) U f := by
  refine View.canon_eq_of_allAt _ _ _ (View.cover_of_tiled_head _ _ _ (by rfl) _) ?_
  unfold actList
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    have h0 : p.val = 0 + (x 0).val := hx 0
    have h1 := hx 1
    have e : x = ix2 (⟨p.val, p.isLt⟩ : Fin 512) (⟨(x 1).val, (x 1).isLt⟩ : Fin 1024) := by
      funext a; fin_cases a
      · exact Fin.ext (by show (x 0).val = p.val; omega)
      · rfl
    rw [e]
  · exact (pay10_row B p _).trans (congrArg (fun f => act (X p) U f) (Fin.ext h1.symm))
  · exact (pay9_row B p _).trans (congrArg (fun f => act (X p) U f) (Fin.ext h1.symm))
  · exact (pay6_row B p _).trans (congrArg (fun f => act (X p) U f) (Fin.ext h1.symm))
  · exact (pay5_row B p _).trans (congrArg (fun f => act (X p) U f) (Fin.ext h1.symm))
theorem out_row {g b : Fin 1024 → EReal} {x3 x4 : FVec Ideal S1x1024 .f32} (hg : ∀ d, x3 (ix2 0 d) = g d) (hb : ∀ d, x4 (ix2 0 d) = b d) (p : Fin 512) (d : Fin 1024) :
    k0_pay1 (F := Ideal) (devBlk x0 x1 x2) (varBlk x0 x1 x2) x3 x4 (ix2 p d) = out (X p) U W g b d := by
  rw [pay1_at]
  unfold out lnorm scale
  simp only [dev_row B, var_row B, hg, hb]

end

end Cert.Kernel5Ideal.Fwd

end
-- ==== Proof.FwdHost.lean ====
/- The feed-forward layer's forward call: the stacked weights, and what a grid point reads. -/
module

public import proofs.«01_k».proof.Proof.FwdVal

@[expose] public section

set_option maxRecDepth 16384

noncomputable section

namespace Cert.Kernel5Ideal.Fwd

open Idealize.ShloMosaic Idealize.ShloMosaic.TcCoe Idealize.SL.Sem
open Idealize.ShloMosaic.Tactic
open Cert.Kernel5Ideal Cert.Kernel5Ideal.Gen
open Cert.FwdSum (rel act res dev scale lnorm out)

def lead (a : FVec Ideal S1024x1024 .bf16) : FVec Ideal S1x1024x1024 .bf16 := broadcastInDim S1x1024x1024 ![1, 2] bcast_S1024x1024_S1x1024x1024_1_2 a

/-- Four blocks under a leading axis. -/
def four (a b d e : FVec Ideal S1024x1024 .bf16) : FVec Ideal S4x1024x1024 .bf16 :=
  concatenate S4x1024x1024 0 [⟨S1x1024x1024, lead a⟩, ⟨S1x1024x1024, lead b⟩, ⟨S1x1024x1024, lead d⟩, ⟨S1x1024x1024, lead e⟩]
    concatenates_S1x1024x1024_S1x1024x1024_S1x1024x1024_S1x1024x1024_S4x1024x1024_d0

def upH (u : FVec Ideal S1024x4096 .bf16) : FVec Ideal S4x1024x1024 .bf16 :=
  four (extractStridedSlice S1024x1024 ![0, 0] u slices_S1024x4096_S1024x1024_0_0) (extractStridedSlice S1024x1024 ![0, 1024] u slices_S1024x4096_S1024x1024_0_1024)
    (extractStridedSlice S1024x1024 ![0, 2048] u slices_S1024x4096_S1024x1024_0_2048) (extractStridedSlice S1024x1024 ![0, 3072] u slices_S1024x4096_S1024x1024_0_3072)

def downH (w : FVec Ideal S4096x1024 .bf16) : FVec Ideal S4x1024x1024 .bf16 :=
  four (extractStridedSlice S1024x1024 ![0, 0] w slices_S4096x1024_S1024x1024_0_0) (extractStridedSlice S1024x1024 ![1024, 0] w slices_S4096x1024_S1024x1024_1024_0)
    (extractStridedSlice S1024x1024 ![2048, 0] w slices_S4096x1024_S1024x1024_2048_0) (extractStridedSlice S1024x1024 ![3072, 0] w slices_S4096x1024_S1024x1024_3072_0)

theorem four_at (a b d e : FVec Ideal S1024x1024 .bf16) (k : Fin 4) (i j : Fin 1024) :
    four a b d e (ix3 k i j) = if k.val < 1 then a (ix2 i j) else if k.val - 1 < 1 then b (ix2 i j) else if k.val - 1 - 1 < 1 then d (ix2 i j) else e (ix2 i j) := by
  pointwise [four, lead]
  simp only [dite_eq_ite]

theorem upH_at (u : FVec Ideal S1024x4096 .bf16) (k : Fin 4) (d j : Fin 1024) : upH u (ix3 k d j) = u (ix2 d ⟨1024 * k.val + j.val, by omega⟩) := by
  unfold upH
  rw [four_at]
  pointwise
  fin_cases k <;> simp

theorem downH_at (w : FVec Ideal S4096x1024 .bf16) (k : Fin 4) (j d : Fin 1024) : downH w (ix3 k j d) = w (ix2 ⟨1024 * k.val + j.val, by omega⟩ d) := by
  unfold downH
  rw [four_at]
  pointwise
  fin_cases k <;> simp

variable (m : (ℓ : Loc nD τ sig) → Buf (Elt Ideal) ℓ) (c : Dev nD)

abbrev argX : FVec Ideal S4096x1024 .f32 := m ((c.tc : Thread nD τ).loc main_arg0)
abbrev argU : FVec Ideal S1024x4096 .bf16 := m ((c.tc : Thread nD τ).loc main_arg1)
abbrev argW : FVec Ideal S4096x1024 .bf16 := m ((c.tc : Thread nD τ).loc main_arg2)
abbrev argG : FVec Ideal S1x1024 .f32 := m ((c.tc : Thread nD τ).loc main_arg3)
abbrev argB : FVec Ideal S1x1024 .f32 := m ((c.tc : Thread nD τ).loc main_arg4)

theorem V_up : V m c main_v8 = upH (argU m c) := by
  unfold V
  simp only [hostOps0, List.flatten_cons, List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

theorem V_down : V m c main_v17 = downH (argW m c) := by
  unfold V
  simp only [hostOps0, List.flatten_cons, List.flatten_nil, List.append_nil, List.cons_append, List.nil_append, StableHlo.TRef.nullary,
    StableHlo.TRef.unary, StableHlo.TRef.binary, StableHlo.TRef.ternary, StableHlo.TRef.toBuf, StableHlo.TRef.ofBuf, cast_eq,
    StableHlo.after_cons, StableHlo.after_nil]
  after_results_simp
  rfl

/-- Where the windows stand at each grid point. -/
theorem places : ∀ t : Fin cfg0.N, win0_0.index t = ![t.val, 0] ∧ win0_1.index t = ![0, 0, 0] ∧ win0_2.index t = ![0, 0, 0] ∧ win0_3.index t = ![0, 0] ∧
    win0_4.index t = ![0, 0] ∧ win0_5.index t = ![t.val, 0] ∧ win0_6.index t = ![t.val, 0] ∧ win0_7.index t = ![0, t.val] ∧ win0_8.index t = ![t.val, 0] ∧
    win0_9.index t = ![t.val, 0] ∧ t.val < 8 :=
  (by decide +kernel : ∀ t : Fin grid0.N, _)

theorem lt8 (t : Fin cfg0.N) : t.val < 8 := by have := places t; tauto

/-- A row of a point's block, among all the rows. -/
def row (t : Fin cfg0.N) (p : Fin 512) : Fin 4096 := ⟨512 * t.val + p.val, by have := lt8 t; omega⟩

theorem blk_x (t : Fin cfg0.N) (p : Fin 512) (d : Fin 1024) : iblk m c 0 t (ix2 p d) = argX m c (ix2 (row t p) d) := by
  blk_simp [iblk]
  rw [show V m c main_arg0 = argX m c from rfl]
  unfold row
  blk_ext [places t]

theorem blk_u (t : Fin cfg0.N) (k : Fin 4) (d j : Fin 1024) : iblk m c 1 t (ix3 k d j) = upH (argU m c) (ix3 k d j) := by
  blk_simp [iblk]
  rw [V_up m c]
  generalize upH (argU m c) = X
  blk_ext [places t]

theorem blk_w (t : Fin cfg0.N) (k : Fin 4) (j d : Fin 1024) : iblk m c 2 t (ix3 k j d) = downH (argW m c) (ix3 k j d) := by
  blk_simp [iblk]
  rw [V_down m c]
  generalize downH (argW m c) = X
  blk_ext [places t]

theorem blk_g (t : Fin cfg0.N) (d : Fin 1024) : iblk m c 3 t (ix2 0 d) = argG m c (ix2 0 d) := by
  blk_simp [iblk]
  rw [show V m c main_arg3 = argG m c from rfl]
  blk_ext [places t]

theorem blk_b (t : Fin cfg0.N) (d : Fin 1024) : iblk m c 4 t (ix2 0 d) = argB m c (ix2 0 d) := by
  blk_simp [iblk]
  rw [show V m c main_arg4 = argB m c from rfl]
  blk_ext [places t]

/-! ## The rows of the arguments -/

def rowX (i : Fin 4096) : Fin 1024 → EReal := fun d => argX m c (ix2 i d)
def matU : Fin 1024 → Fin 4096 → EReal := fun d f => argU m c (ix2 d f)
def matW : Fin 4096 → Fin 1024 → EReal := fun f d => argW m c (ix2 f d)
def rowG : Fin 1024 → EReal := fun d => argG m c (ix2 0 d)
def rowB : Fin 1024 → EReal := fun d => argB m c (ix2 0 d)

theorem at_point (t : Fin cfg0.N) : Blk (fun p => rowX m c (row t p)) (matU m c) (matW m c) (iblk m c 0 t) (iblk m c 1 t) (iblk m c 2 t) where
  hx p d := blk_x m c t p d
  hu0 d j := (blk_u m c t 0 d j).trans (upH_at _ 0 d j)
  hu1 d j := (blk_u m c t 1 d j).trans (upH_at _ 1 d j)
  hu2 d j := (blk_u m c t 2 d j).trans (upH_at _ 2 d j)
  hu3 d j := (blk_u m c t 3 d j).trans (upH_at _ 3 d j)
  hw0 j d := (blk_w m c t 0 j d).trans (downH_at _ 0 j d)
  hw1 j d := (blk_w m c t 1 j d).trans (downH_at _ 1 j d)
  hw2 j d := (blk_w m c t 2 j d).trans (downH_at _ 2 j d)
  hw3 j d := (blk_w m c t 3 j d).trans (downH_at _ 3 j d)

end Cert.Kernel5Ideal.Fwd

end
-- ==== Proof.FwdRef.lean ====
/- The reference of the feed-forward layer's forward call: its steps, and what they are at an index. -/
module

public import proofs.«01_k».proof.Proof.Gen.Reference5Ideal.Run
public import proofs.«01_k».proof.Proof.FwdSum
public import Idealize.ShloMosaic.Lib.Pointwise

@[expose] public section

set_option maxRecDepth 16384

noncomputable section

namespace Cert.Reference5Ideal.Fwd

open Idealize.ShloMosaic Idealize.ShloMosaic.TcCoe Idealize.SL.Sem
open Cert.Reference5Ideal Cert.Reference5Ideal.Gen
open Cert.FwdSum (rel act res dev scale lnorm out)

section Steps

variable {F : FTy → Type} [FloatOps F]

def fill (b : BitVec 32) : FVec F S4096x1024 .f32 := broadcastInDim S4096x1024 ![] bcast_S_S4096x1024 (constant S_ .f32 b)
def fill1 (b : BitVec 32) : FVec F S4096x1 .f32 := broadcastInDim S4096x1 ![] bcast_S_S4096x1 (constant S_ .f32 b)

/-- The activation before its square, its square, and the residual. -/
def relOf (x : FVec F S4096x1024 .f32) (u : FVec F S1024x4096 .bf16) : FVec F S4096x4096 .f32 :=
  maximumf (Host.dotGeneral dot_S4096x1024_S1024x4096_S4096x4096_1_0_0_1_n_n none x (extf .f32 u bitsLt_bf16_f32))
    (broadcastInDim S4096x4096 ![] bcast_S_S4096x4096 (constant S_ .f32 0x00000000#32))
def actOf (x : FVec F S4096x1024 .f32) (u : FVec F S1024x4096 .bf16) : FVec F S4096x4096 .f32 := mulf (relOf x u) (relOf x u)
def outH (x : FVec F S4096x1024 .f32) (u : FVec F S1024x4096 .bf16) : FVec F S4096x4096 .bf16 := truncf .bf16 (actOf x u) bitsLt_bf16_f32
def addIn (x : FVec F S4096x1024 .f32) (h : FVec F S4096x4096 .f32) (w : FVec F S4096x1024 .bf16) : FVec F S4096x1024 .f32 :=
  addf (mulf (fill 0x3FB504F3#32) x) (Host.dotGeneral dot_S4096x4096_S4096x1024_S4096x1024_1_0_0_1_n_n none h (extf .f32 w bitsLt_bf16_f32))
def outR (x : FVec F S4096x1024 .f32) (u : FVec F S1024x4096 .bf16) (w : FVec F S4096x1024 .bf16) : FVec F S4096x1024 .f32 := addIn x (actOf x u) w

/-- The rows' sums, their means, and one number for each row along it. -/
def sums (a : FVec F S4096x1024 .f32) : FVec F S4096 .f32 := Host.reduceAdd a (constant S_ .f32 0x00000000#32) reducesTo_S4096x1024_S4096_d1 h_S_
def means (a : FVec F S4096x1024 .f32) : FVec F S4096x1 .f32 := Host.divf (broadcastInDim S4096x1 ![0] bcast_S4096_S4096x1_0 (sums a)) (fill1 0x44800000#32)
def wide (a : FVec F S4096x1 .f32) : FVec F S4096x1024 .f32 := broadcastInDim S4096x1024 ![0, 1] bcast_S4096x1_S4096x1024_0_1 a
def devOf (r : FVec F S4096x1024 .f32) : FVec F S4096x1024 .f32 := subf r (wide (means r))
def scaleOf (e : FVec F S4096x1024 .f32) : FVec F S4096x1 .f32 := Host.rsqrt (addf (means (mulf e e)) (fill1 0x3727C5AC#32))
def along (g : FVec F S1x1024 .f32) : FVec F S4096x1024 .f32 :=
  broadcastInDim S4096x1024 ![0, 1] bcast_S1x1024_S4096x1024_0_1 (broadcastInDim S1x1024 ![1] bcast_S1024_S1x1024_1 (shapeCast S1024 g shapeCasts_S1x1024_S1024))
def gained (e : FVec F S4096x1024 .f32) (g b : FVec F S1x1024 .f32) : FVec F S4096x1024 .f32 := addf (mulf (mulf e (wide (scaleOf e))) (along g)) (along b)
def normed (r : FVec F S4096x1024 .f32) (g b : FVec F S1x1024 .f32) : FVec F S4096x1024 .f32 := gained (devOf r) g b

section Args
variable (x : FVec F S4096x1024 .f32) (u : FVec F S1024x4096 .bf16) (w : FVec F S4096x1024 .bf16) (g b : FVec F S1x1024 .f32)

def outY : FVec F S4096x1024 .f32 := normed (outR x u w) g b
def outB : FVec F S4096x1024 .bf16 := truncf .bf16 (outY x u w g b) bitsLt_bf16_f32
def outT : FVec F S1024x4096 .bf16 := truncf .bf16 (transpose S1024x4096 [1, 0] (outY x u w g b) transposes_S4096x1024_S1024x4096_1_0) bitsLt_bf16_f32

end Args

variable (m : (ℓ : Loc nD τ sig) → Buf (Elt F) ℓ) (c : Dev nD)

theorem res_y : Value.res_main_v34 m c = outY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v34; rfl
theorem res_b : Value.res_main_v35 m c = outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v35; rfl
theorem res_t : Value.res_main_v37 m c = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v37; rfl

end Steps

/-! ## The steps at an index -/

theorem relOf_at (x : FVec Ideal S4096x1024 .f32) (u : FVec Ideal S1024x4096 .bf16) (i f : Fin 4096) :
    relOf x u (ix2 i f) = rel (fun d => x (ix2 i d)) (fun d f => u (ix2 d f)) f := by
  unfold rel
  pointwise [relOf]

theorem actOf_at (x : FVec Ideal S4096x1024 .f32) (u : FVec Ideal S1024x4096 .bf16) (i f : Fin 4096) :
    actOf x u (ix2 i f) = act (fun d => x (ix2 i d)) (fun d f => u (ix2 d f)) f := by
  unfold act
  rw [← relOf_at]
  unfold actOf
  generalize relOf x u = a
  pointwise

theorem outH_at (x : FVec Ideal S4096x1024 .f32) (u : FVec Ideal S1024x4096 .bf16) (i f : Fin 4096) :
    outH x u (ix2 i f) = act (fun d => x (ix2 i d)) (fun d f => u (ix2 d f)) f := by
  rw [← actOf_at]
  unfold outH
  generalize actOf x u = a
  pointwise

theorem addIn_at (x : FVec Ideal S4096x1024 .f32) (h : FVec Ideal S4096x4096 .f32) (w : FVec Ideal S4096x1024 .bf16) (i : Fin 4096) (d : Fin 1024) :
    addIn x h w (ix2 i d) = Ideal.ofBits .f32 0x3FB504F3#32 * x (ix2 i d) + ∑ f : Fin 4096, h (ix2 i f) * w (ix2 f d) := by
  pointwise [addIn, fill]

theorem outR_at (x : FVec Ideal S4096x1024 .f32) (u : FVec Ideal S1024x4096 .bf16) (w : FVec Ideal S4096x1024 .bf16) (i : Fin 4096) (d : Fin 1024) :
    outR x u w (ix2 i d) = res (fun d => x (ix2 i d)) (fun d f => u (ix2 d f)) (fun f d => w (ix2 f d)) d := by
  unfold outR res
  rw [addIn_at]
  exact congrArg (Ideal.ofBits .f32 0x3FB504F3#32 * x (ix2 i d) + ·) (Finset.sum_congr rfl fun f _ => by rw [actOf_at])

theorem devOf_at (r : FVec Ideal S4096x1024 .f32) (i : Fin 4096) (d : Fin 1024) : devOf r (ix2 i d) = dev (fun d => r (ix2 i d)) d := by
  unfold dev
  pointwise [devOf, wide, means, sums, fill1]

theorem scaleOf_at (e : FVec Ideal S4096x1024 .f32) (i : Fin 4096) (o : Fin 1) : scaleOf e (ix2 i o)
    = Ideal.rsqrt (Ideal.div (∑ d : Fin 1024, e (ix2 i d) * e (ix2 i d)) (Ideal.ofBits .f32 0x44800000#32) + Ideal.ofBits .f32 0x3727C5AC#32) := by
  pointwise [scaleOf, means, sums, fill1]

theorem gained_at (e : FVec Ideal S4096x1024 .f32) (g b : FVec Ideal S1x1024 .f32) (i : Fin 4096) (d : Fin 1024) :
    gained e g b (ix2 i d) = e (ix2 i d) * scaleOf e (ix2 i 0) * g (ix2 0 d) + b (ix2 0 d) := by
  unfold gained
  generalize scaleOf e = a
  pointwise [wide, along]

theorem normed_at (r : FVec Ideal S4096x1024 .f32) (g b : FVec Ideal S1x1024 .f32) (i : Fin 4096) (d : Fin 1024) :
    normed r g b (ix2 i d) = lnorm (fun d => r (ix2 i d)) (fun d => g (ix2 0 d)) (fun d => b (ix2 0 d)) d := by
  unfold normed lnorm scale
  rw [gained_at, scaleOf_at]
  simp only [devOf_at]

theorem outY_at (x : FVec Ideal S4096x1024 .f32) (u : FVec Ideal S1024x4096 .bf16) (w : FVec Ideal S4096x1024 .bf16) (g b : FVec Ideal S1x1024 .f32) (i : Fin 4096) (d : Fin 1024) :
    outY x u w g b (ix2 i d) = out (fun d => x (ix2 i d)) (fun d f => u (ix2 d f)) (fun f d => w (ix2 f d)) (fun d => g (ix2 0 d)) (fun d => b (ix2 0 d)) d := by
  unfold outY out
  rw [normed_at]
  simp only [outR_at]

theorem outB_at (x : FVec Ideal S4096x1024 .f32) (u : FVec Ideal S1024x4096 .bf16) (w : FVec Ideal S4096x1024 .bf16) (g b : FVec Ideal S1x1024 .f32) (i : Fin 4096) (d : Fin 1024) :
    outB x u w g b (ix2 i d) = out (fun d => x (ix2 i d)) (fun d f => u (ix2 d f)) (fun f d => w (ix2 f d)) (fun d => g (ix2 0 d)) (fun d => b (ix2 0 d)) d := by
  rw [← outY_at]
  unfold outB
  generalize outY x u w g b = a
  pointwise

theorem outT_at (x : FVec Ideal S4096x1024 .f32) (u : FVec Ideal S1024x4096 .bf16) (w : FVec Ideal S4096x1024 .bf16) (g b : FVec Ideal S1x1024 .f32) (i : Fin 4096) (d : Fin 1024) :
    outT x u w g b (ix2 d i) = out (fun d => x (ix2 i d)) (fun d f => u (ix2 d f)) (fun f d => w (ix2 f d)) (fun d => g (ix2 0 d)) (fun d => b (ix2 0 d)) d := by
  rw [← outY_at]
  unfold outT
  generalize outY x u w g b = a
  pointwise

end Cert.Reference5Ideal.Fwd

end
-- ==== Proof.FwdFinal.lean ====
/- The feed-forward layer's forward call: its results' arrays, and that they are the reference's. -/
module

public import proofs.«01_k».proof.Proof.FwdHost
public import proofs.«01_k».proof.Proof.FwdRef
public import proofs.«01_k».proof.Defs

@[expose] public section

set_option maxRecDepth 16384

noncomputable section

namespace Cert.Kernel5Ideal.Fwd

open Idealize.ShloMosaic Idealize.ShloMosaic.TcCoe Idealize.SL.Sem
open Idealize.ShloMosaic.Tactic
open Cert.Kernel5Ideal Cert.Kernel5Ideal.Gen
open Cert.FwdSum (rel act res dev scale lnorm out)

variable (m : (ℓ : Loc nD τ sig) → Buf (Elt Ideal) ℓ) (c : Dev nD)

/-! ## The results by their rows -/

def outR (i : Fin 4096) (d : Fin 1024) : EReal := out (rowX m c i) (matU m c) (matW m c) (rowG m c) (rowB m c) d
def resR (i : Fin 4096) (d : Fin 1024) : EReal := res (rowX m c i) (matU m c) (matW m c) d
def actR (i f : Fin 4096) : EReal := act (rowX m c i) (matU m c) f

/-! ## What each point leaves -/

/-- The layer's output, at a point. -/
theorem out_at (t : Fin cfg0.N) (p : Fin 512) (d : Fin 1024) :
    k0_pay1 (F := Ideal) (devBlk (iblk m c 0 t) (iblk m c 1 t) (iblk m c 2 t)) (varBlk (iblk m c 0 t) (iblk m c 1 t) (iblk m c 2 t)) (iblk m c 3 t) (iblk m c 4 t) (ix2 p d) = outR m c (row t p) d :=
  out_row (at_point m c t) (blk_g m c t) (blk_b m c t) p d

theorem cell5 (t : Fin cfg0.N) (p : Fin 512) (d : Fin 1024) : out0_5 (F := Ideal) (iblk m c 0 t) (iblk m c 1 t) (iblk m c 2 t) (iblk m c 3 t) (iblk m c 4 t) (ix2 p d) = outR m c (row t p) d := by
  rw [out5, out_at]

theorem cell6 (t : Fin cfg0.N) (p : Fin 512) (d : Fin 1024) : out0_6 (F := Ideal) (iblk m c 0 t) (iblk m c 1 t) (iblk m c 2 t) (iblk m c 3 t) (iblk m c 4 t) (ix2 p d) = outR m c (row t p) d := by
  rw [out6, pay2_at, out_at]

theorem cell7 (t : Fin cfg0.N) (d : Fin 1024) (p : Fin 512) : out0_7 (F := Ideal) (iblk m c 0 t) (iblk m c 1 t) (iblk m c 2 t) (iblk m c 3 t) (iblk m c 4 t) (ix2 d p) = outR m c (row t p) d := by
  rw [out7, pay3_at, out_at]

theorem cell8 (t : Fin cfg0.N) (p : Fin 512) (d : Fin 1024) : out0_8 (F := Ideal) (iblk m c 0 t) (iblk m c 1 t) (iblk m c 2 t) (iblk m c 3 t) (iblk m c 4 t) (ix2 p d) = resR m c (row t p) d := by
  rw [out8]; exact res_row (at_point m c t) p d

theorem cell9 (t : Fin cfg0.N) (p : Fin 512) (f : Fin 4096) : out0_9 (F := Ideal) (iblk m c 0 t) (iblk m c 1 t) (iblk m c 2 t) (iblk m c 3 t) (iblk m c 4 t) (ix2 p f) = actR m c (row t p) f := by
  rw [out9]; exact act_row (at_point m c t) p f

theorem cell5' (t : Fin cfg0.N) (y : S512x1024.Idx) : out0_5 (F := Ideal) (iblk m c 0 t) (iblk m c 1 t) (iblk m c 2 t) (iblk m c 3 t) (iblk m c 4 t) y = outR m c (row t (y 0)) (y 1) := by
  obtain ⟨a, b, rfl⟩ : ∃ (a : Fin 512) (b : Fin 1024), y = ix2 a b := ⟨y 0, y 1, eq_ix2 y⟩
  exact cell5 m c t a b

theorem cell6' (t : Fin cfg0.N) (y : S512x1024.Idx) : out0_6 (F := Ideal) (iblk m c 0 t) (iblk m c 1 t) (iblk m c 2 t) (iblk m c 3 t) (iblk m c 4 t) y = outR m c (row t (y 0)) (y 1) := by
  obtain ⟨a, b, rfl⟩ : ∃ (a : Fin 512) (b : Fin 1024), y = ix2 a b := ⟨y 0, y 1, eq_ix2 y⟩
  exact cell6 m c t a b

theorem cell7' (t : Fin cfg0.N) (y : S1024x512.Idx) : out0_7 (F := Ideal) (iblk m c 0 t) (iblk m c 1 t) (iblk m c 2 t) (iblk m c 3 t) (iblk m c 4 t) y = outR m c (row t (y 1)) (y 0) := by
  obtain ⟨a, b, rfl⟩ : ∃ (a : Fin 1024) (b : Fin 512), y = ix2 a b := ⟨y 0, y 1, eq_ix2 y⟩
  exact cell7 m c t a b

theorem cell8' (t : Fin cfg0.N) (y : S512x1024.Idx) : out0_8 (F := Ideal) (iblk m c 0 t) (iblk m c 1 t) (iblk m c 2 t) (iblk m c 3 t) (iblk m c 4 t) y = resR m c (row t (y 0)) (y 1) := by
  obtain ⟨a, b, rfl⟩ : ∃ (a : Fin 512) (b : Fin 1024), y = ix2 a b := ⟨y 0, y 1, eq_ix2 y⟩
  exact cell8 m c t a b

theorem cell9' (t : Fin cfg0.N) (y : S512x4096.Idx) : out0_9 (F := Ideal) (iblk m c 0 t) (iblk m c 1 t) (iblk m c 2 t) (iblk m c 3 t) (iblk m c 4 t) y = actR m c (row t (y 0)) (y 1) := by
  obtain ⟨a, b, rfl⟩ : ∃ (a : Fin 512) (b : Fin 4096), y = ix2 a b := ⟨y 0, y 1, eq_ix2 y⟩
  exact cell9 m c t a b

/-! ## The results' arrays -/

theorem final5 : (dats m 0 c).arrAt 5 (cfgs 0).N = fun i : S4096x1024.Idx => outR m c (i 0) (i 1) := by
  refine (dats m 0 c).arrAt_eq_of_covers 5 _ (by decide +kernel) fun t _ y => ?_
  blk_simp
  rw [after0_5]
  refine (cell5' m c t y).trans ?_
  have h : win0_5.index t = ![t.val, 0] := by have := places t; tauto
  exact congrArg₂ (fun a b => outR m c a b) (Fin.ext (by simp [row, h]; omega)) (Fin.ext (by simp [h]))

theorem final6 : (dats m 0 c).arrAt 6 (cfgs 0).N = fun i : S4096x1024.Idx => outR m c (i 0) (i 1) := by
  refine (dats m 0 c).arrAt_eq_of_covers 6 _ (by decide +kernel) fun t _ y => ?_
  blk_simp
  rw [after0_6]
  refine (cell6' m c t y).trans ?_
  have h : win0_6.index t = ![t.val, 0] := by have := places t; tauto
  exact congrArg₂ (fun a b => outR m c a b) (Fin.ext (by simp [row, h]; omega)) (Fin.ext (by simp [h]))

theorem final7 : (dats m 0 c).arrAt 7 (cfgs 0).N = fun i : S1024x4096.Idx => outR m c (i 1) (i 0) := by
  refine (dats m 0 c).arrAt_eq_of_covers 7 _ (by decide +kernel) fun t _ y => ?_
  blk_simp
  rw [after0_7]
  refine (cell7' m c t y).trans ?_
  have h : win0_7.index t = ![0, t.val] := by have := places t; tauto
  exact congrArg₂ (fun a b => outR m c a b) (Fin.ext (by simp [row, h]; omega)) (Fin.ext (by simp [h]))

theorem final8 : (dats m 0 c).arrAt 8 (cfgs 0).N = fun i : S4096x1024.Idx => resR m c (i 0) (i 1) := by
  refine (dats m 0 c).arrAt_eq_of_covers 8 _ (by decide +kernel) fun t _ y => ?_
  blk_simp
  rw [after0_8]
  refine (cell8' m c t y).trans ?_
  have h : win0_8.index t = ![t.val, 0] := by have := places t; tauto
  exact congrArg₂ (fun a b => resR m c a b) (Fin.ext (by simp [row, h]; omega)) (Fin.ext (by simp [h]))

theorem final9 : (dats m 0 c).arrAt 9 (cfgs 0).N = fun i : S4096x4096.Idx => actR m c (i 0) (i 1) := by
  refine (dats m 0 c).arrAt_eq_of_covers 9 _ (by decide +kernel) fun t _ y => ?_
  blk_simp
  rw [after0_9]
  refine (cell9' m c t y).trans ?_
  have h : win0_9.index t = ![t.val, 0] := by have := places t; tauto
  exact congrArg₂ (fun a b => actR m c a b) (Fin.ext (by simp [row, h]; omega)) (Fin.ext (by simp [h]))

/-! ## The runs -/

def resYArr (c : Dev nD) : Buf (Elt Ideal) ((c.tc : Thread nD τ).loc main_v18_0) := (dats m 0 c).arrAt 5 (cfgs 0).N
def resBArr (c : Dev nD) : Buf (Elt Ideal) ((c.tc : Thread nD τ).loc main_v18_1) := (dats m 0 c).arrAt 6 (cfgs 0).N
def resTArr (c : Dev nD) : Buf (Elt Ideal) ((c.tc : Thread nD τ).loc main_v18_2) := (dats m 0 c).arrAt 7 (cfgs 0).N
def resRArr (c : Dev nD) : Buf (Elt Ideal) ((c.tc : Thread nD τ).loc main_v18_3) := (dats m 0 c).arrAt 8 (cfgs 0).N
def resHArr (c : Dev nD) : Buf (Elt Ideal) ((c.tc : Thread nD τ).loc main_v18_4) := (dats m 0 c).arrAt 9 (cfgs 0).N

variable (ρ : Dev nD → PrngReg)

/-- The kernel's run: its results' arrays, and its arguments as launched. -/
theorem run : θ_run defs (onTc (τ := τ) (main (F := Ideal))) ⟨m, fun _ => 0, ρ⟩ (fun r => ∀ c : Dev nD,
      r.2.mem ((c.tc : Thread nD τ).loc main_v18_0) = resYArr m c
      ∧ r.2.mem ((c.tc : Thread nD τ).loc main_v18_1) = resBArr m c
      ∧ r.2.mem ((c.tc : Thread nD τ).loc main_v18_2) = resTArr m c
      ∧ r.2.mem ((c.tc : Thread nD τ).loc main_v18_3) = resRArr m c
      ∧ r.2.mem ((c.tc : Thread nD τ).loc main_v18_4) = resHArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Value.run_blocks m ρ

/-! ## The reference's results are these -/

theorem agreeY : Cert.Reference5Ideal.Fwd.outY (argX m c) (argU m c) (argW m c) (argG m c) (argB m c) = resYArr m c := by
  refine Eq.trans (funext fun i => ?_) (final5 m c).symm
  obtain ⟨a, b, rfl⟩ : ∃ (a : Fin 4096) (b : Fin 1024), i = ix2 a b := ⟨i 0, i 1, eq_ix2 i⟩
  exact Cert.Reference5Ideal.Fwd.outY_at _ _ _ _ _ a b

theorem agreeB : Cert.Reference5Ideal.Fwd.outB (argX m c) (argU m c) (argW m c) (argG m c) (argB m c) = resBArr m c := by
  refine Eq.trans (funext fun i => ?_) (final6 m c).symm
  obtain ⟨a, b, rfl⟩ : ∃ (a : Fin 4096) (b : Fin 1024), i = ix2 a b := ⟨i 0, i 1, eq_ix2 i⟩
  exact Cert.Reference5Ideal.Fwd.outB_at _ _ _ _ _ a b

theorem agreeT : Cert.Reference5Ideal.Fwd.outT (argX m c) (argU m c) (argW m c) (argG m c) (argB m c) = resTArr m c := by
  refine Eq.trans (funext fun i => ?_) (final7 m c).symm
  obtain ⟨a, b, rfl⟩ : ∃ (a : Fin 1024) (b : Fin 4096), i = ix2 a b := ⟨i 0, i 1, eq_ix2 i⟩
  exact Cert.Reference5Ideal.Fwd.outT_at _ _ _ _ _ b a

theorem agreeR : Cert.Reference5Ideal.Fwd.outR (argX m c) (argU m c) (argW m c) = resRArr m c := by
  refine Eq.trans (funext fun i => ?_) (final8 m c).symm
  obtain ⟨a, b, rfl⟩ : ∃ (a : Fin 4096) (b : Fin 1024), i = ix2 a b := ⟨i 0, i 1, eq_ix2 i⟩
  exact Cert.Reference5Ideal.Fwd.outR_at _ _ _ a b

theorem agreeH : Cert.Reference5Ideal.Fwd.outH (argX m c) (argU m c) = resHArr m c := by
  refine Eq.trans (funext fun i => ?_) (final9 m c).symm
  obtain ⟨a, b, rfl⟩ : ∃ (a : Fin 4096) (b : Fin 4096), i = ix2 a b := ⟨i 0, i 1, eq_ix2 i⟩
  exact Cert.Reference5Ideal.Fwd.outH_at _ _ a b

/-- One device's results agree where its arguments do. -/
theorem same (m' : (ℓ : Loc Cert.Reference5Ideal.nD Cert.Reference5Ideal.τ Cert.Reference5Ideal.sig) → Buf (Elt Ideal) ℓ)
    (h0 : m' ((c.tc : Thread Cert.Reference5Ideal.nD Cert.Reference5Ideal.τ).loc Cert.Reference5Ideal.main_arg0) = argX m c)
    (h1 : m' ((c.tc : Thread Cert.Reference5Ideal.nD Cert.Reference5Ideal.τ).loc Cert.Reference5Ideal.main_arg1) = argU m c)
    (h2 : m' ((c.tc : Thread Cert.Reference5Ideal.nD Cert.Reference5Ideal.τ).loc Cert.Reference5Ideal.main_arg2) = argW m c)
    (h3 : m' ((c.tc : Thread Cert.Reference5Ideal.nD Cert.Reference5Ideal.τ).loc Cert.Reference5Ideal.main_arg3) = argG m c)
    (h4 : m' ((c.tc : Thread Cert.Reference5Ideal.nD Cert.Reference5Ideal.τ).loc Cert.Reference5Ideal.main_arg4) = argB m c) :
    Cert.Reference5Ideal.Value.res_main_v34 (F := Ideal) m' c = resYArr m c ∧ Cert.Reference5Ideal.Value.res_main_v35 (F := Ideal) m' c = resBArr m c ∧ Cert.Reference5Ideal.Value.res_main_v37 (F := Ideal) m' c = resTArr m c
      ∧ Cert.Reference5Ideal.Fwd.outR (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = resRArr m c ∧ Cert.Reference5Ideal.Fwd.outH (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = resHArr m c := by
  have e0 := Cert.Reference5Ideal.Fwd.res_y (F := Ideal) m' c
  rw [h0, h1, h2, h3, h4] at e0
  have e1 := Cert.Reference5Ideal.Fwd.res_b (F := Ideal) m' c
  rw [h0, h1, h2, h3, h4] at e1
  have e2 := Cert.Reference5Ideal.Fwd.res_t (F := Ideal) m' c
  rw [h0, h1, h2, h3, h4] at e2
  refine ⟨e0.trans (agreeY m c), e1.trans (agreeB m c), e2.trans (agreeT m c), ?_, ?_⟩
  · rw [h0, h1, h2]; exact agreeR m c
  · rw [h0, h1]; exact agreeH m c

theorem values : Cert.algebraic_Kernel5Ideal_Reference5Ideal := by
  intro m ρ m' ρ' _ hm
  refine ⟨resYArr m, resBArr m, resTArr m, resRArr m, resHArr m, run m ρ, ?_⟩
  refine (θ_run Cert.Reference5Ideal.defs _ _).mono (fun r h c => ?_) (Cert.Reference5Ideal.Value.run (F := Ideal) m' ρ')
  obtain ⟨h0, h1, h2, h3, h4⟩ := hm c
  obtain ⟨r0, r1, r2, r3, r4, ra⟩ := h c
  have e := same m c m' h0 h1 h2 h3 h4
  exact ⟨r0.trans e.1, r1.trans e.2.1, r2.trans e.2.2.1, r3.trans e.2.2.2.1, r4.trans e.2.2.2.2, ra⟩

end Cert.Kernel5Ideal.Fwd

end
-- ==== Proof.SqVal.lean ====
/- The gradient of a square weight: what one grid point leaves in the accumulator and in the result's block. -/
module

public import proofs.«01_k».proof.Proof.Gen.Kernel6Ideal.Value
public import Idealize.ShloMosaic.Lib.Pointwise

@[expose] public section

set_option maxRecDepth 16384

noncomputable section

namespace Cert.Kernel6Ideal.Sq

open Idealize.ShloMosaic Idealize.ShloMosaic.TcCoe Idealize.SL.Sem
open Cert.Kernel6Ideal Cert.Kernel6Ideal.Gen

theorem hz : (![0, 0] : Fin 2 → Nat) = fun _ => 0 := funext fun a => by fin_cases a <;> rfl

section Any

variable {F : FTy → Type} [FloatOps F]

/-- The first point of a block leaves the product added to zero. -/
theorem acc_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (x y : Vec F S1024x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point of a block adds its product to the accumulator. -/
theorem acc_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (x y : Vec F S1024x1024 .bf16)
    (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x1024) hz]

/-- The last point of a block stores the finished accumulator. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (x y : Vec F S1024x1024 .bf16)
    (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

variable (m : (ℓ : Loc nD τ sig) → Buf (Elt F) ℓ)

/-- What the accumulator holds after each point of a block, and what the last one stores. -/
theorem acc_first (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  rw [acc_A]

theorem acc_next (c : Dev nD) (t : Fin cfg0.N) (h0 : ¬t.val % 4 = 0) (h1 : ¬t.val % 4 = 3) :
    (outsAt0 m c t.val t.isLt).2
      = k0_pay2 (F := F) (outsAt0 m c (t.val - 1) (Nat.lt_of_le_of_lt (Nat.sub_le _ _) t.isLt)).2 (iblk m c 0 t) (iblk m c 1 t) := by
  rw [outsAt0_B m c t h0 h1]
  dsimp only
  rw [acc_B]

theorem out_last (c : Dev nD) (t : Fin cfg0.N) (h1 : t.val % 4 = 3) :
    (outsAt0 m c t.val t.isLt).1
      = k0_pay3 (F := F) (k0_pay2 (outsAt0 m c (t.val - 1) (Nat.lt_of_le_of_lt (Nat.sub_le _ _) t.isLt)).2 (iblk m c 0 t) (iblk m c 1 t)) := by
  have h0 : ¬t.val % 4 = 0 := by omega
  rw [outsAt0_C m c t h0 h1]
  dsimp only
  rw [out_C]

end Any

/-- A product added to the accumulator, at an index. -/
theorem step_at (s : FVec Ideal S1024x1024 .f32) (x y : FVec Ideal S1024x1024 .bf16) (i j : Fin 1024) :
    k0_pay2 s x y (ix2 i j) = s (ix2 i j) + ∑ k : Fin 1024, x (ix2 i k) * y (ix2 k j) := by
  unfold k0_pay2
  pointwise [dot_S1024x1024_S1024x1024_S1024x1024_1_0_0_1_n_n]

theorem zero_at (i j : Fin 1024) : (k0_pay1 : FVec Ideal S1024x1024 .f32) (ix2 i j) = 0 := by
  unfold k0_pay1
  pointwise []

/-- The stored block, at an index. -/
theorem store_at (s : FVec Ideal S1024x1024 .f32) (i j : Fin 1024) : (k0_pay3 s : FVec Ideal S1024x1024 .bf16) (ix2 i j) = (s (ix2 i j) : EReal) := by
  unfold k0_pay3
  pointwise []

end Cert.Kernel6Ideal.Sq

end
-- ==== Proof.SqRef.lean ====
/- The gradient of a square weight: what the reference computes, at an index. -/
module

public import proofs.«01_k».proof.Proof.Gen.Reference6Ideal.Run
public import Idealize.ShloMosaic.Lib.Pointwise

@[expose] public section

set_option maxRecDepth 16384

noncomputable section

namespace Cert.Reference6Ideal.Sq

open Idealize.ShloMosaic Idealize.ShloMosaic.TcCoe Idealize.SL.Sem
open Cert.Reference6Ideal Cert.Reference6Ideal.Gen

/-- The gradient of the weight. -/
def grad (a : FVec Ideal S1024x4096 .bf16) (b : FVec Ideal S4096x1024 .bf16) : FVec Ideal S1024x1024 .bf16 :=
  truncf .bf16 (transpose S1024x1024 [1, 0] (Host.dotGeneral dot_S4096x1024_S4096x1024_S1024x1024_0_0_1_1_n_n none (extf .f32 b bitsLt_bf16_f32) (extf .f32 (transpose S4096x1024 [1, 0] a transposes_S1024x4096_S4096x1024_1_0) bitsLt_bf16_f32)) transposes_S1024x1024_S1024x1024_1_0) bitsLt_bf16_f32

theorem grad_at (a : FVec Ideal S1024x4096 .bf16) (b : FVec Ideal S4096x1024 .bf16) (i j : Fin 1024) :
    grad a b (ix2 i j) = ∑ s : Fin 4096, (b (ix2 s j) * a (ix2 i s) : EReal) := by
  unfold grad
  pointwise [dot_S4096x1024_S4096x1024_S1024x1024_0_0_1_1_n_n]

end Cert.Reference6Ideal.Sq

end
-- ==== Proof.SqFinal.lean ====
/- The gradient of a square weight: the kernel's result, and the equation. -/
module

public import proofs.«01_k».proof.Defs
public import proofs.«01_k».proof.Proof.SqVal
public import proofs.«01_k».proof.Proof.SqRef
public import proofs.«01_k».proof.Proof.FwdSum
public import Idealize.ShloMosaic.Lib.Pipeline.ValueKit

@[expose] public section

set_option maxRecDepth 16384

noncomputable section

namespace Cert.Kernel6Ideal.Sq

open Idealize.ShloMosaic Idealize.ShloMosaic.TcCoe Idealize.ShloMosaic.Tactic Idealize.SL.Sem
open Cert.Kernel6Ideal Cert.Kernel6Ideal.Gen

/-- Where the windows stand at each grid point. -/
theorem places : ∀ t : Fin cfg0.N, win0_0.index t = ![0, t.val % 4] ∧ win0_1.index t = ![t.val % 4, 0] ∧ t.val < 4 :=
  (by decide +kernel : ∀ t : Fin grid0.N, _)

variable (m : (ℓ : Loc nD τ sig) → Buf (Elt Ideal) ℓ) (c : Dev nD)

abbrev argA : FVec Ideal S1024x4096 .bf16 := m ((c.tc : Thread nD τ).loc main_arg0)
abbrev argB : FVec Ideal S4096x1024 .bf16 := m ((c.tc : Thread nD τ).loc main_arg1)

theorem blk_a (t : Fin cfg0.N) (i k : Fin 1024) :
    iblk m c 0 t (ix2 i k) = argA m c (ix2 i ⟨1024 * (t.val % 4) + k.val, by omega⟩) := by
  blk_simp [iblk]
  rw [show V m c main_arg0 = argA m c from rfl]
  blk_ext [places t]

theorem blk_b (t : Fin cfg0.N) (k j : Fin 1024) :
    iblk m c 1 t (ix2 k j) = argB m c (ix2 ⟨1024 * (t.val % 4) + k.val, by omega⟩ j) := by
  blk_simp [iblk]
  rw [show V m c main_arg1 = argB m c from rfl]
  blk_ext [places t]

/-- The factors of one entry of the product, by the row that they share. -/
def term (i j : Fin 1024) (s : ℕ) : EReal :=
  if h : s < 4096 then (argA m c (ix2 i ⟨s, h⟩) * argB m c (ix2 ⟨s, h⟩ j) : EReal) else 0

/-- One point's step, at an index. -/
theorem step_blk (s : FVec Ideal S1024x1024 .f32) (t : Fin cfg0.N) (n : ℕ) (hn : t.val % 4 = n) (i j : Fin 1024) :
    k0_pay2 s (iblk m c 0 t) (iblk m c 1 t) (ix2 i j) = s (ix2 i j) + ∑ k : Fin 1024, term m c i j (1024 * n + k.val) := by
  subst hn
  refine (step_at s _ _ i j).trans (congrArg (s (ix2 i j) + ·) (Finset.sum_congr rfl fun k _ => ?_))
  rw [blk_a, blk_b, term, dif_pos (by omega)]

theorem acc_succ (n : ℕ) (h : n + 1 < cfg0.N) (hp : n < cfg0.N) (hl : n < 2) (i j : Fin 1024) :
    (outsAt0 m c (n + 1) h).2 (ix2 i j) = (outsAt0 m c n hp).2 (ix2 i j) + ∑ k : Fin 1024, term m c i j (1024 * (n + 1) + k.val) := by
  refine (congrFun (acc_next m c ⟨n + 1, h⟩ (by show ¬ (n + 1) % 4 = 0; omega) (by show ¬ (n + 1) % 4 = 3; omega)) (ix2 i j)).trans ?_
  exact step_blk m c _ _ (n + 1) (by show (n + 1) % 4 = n + 1; omega) i j

theorem out_succ (n : ℕ) (h : n + 1 < cfg0.N) (hp : n < cfg0.N) (hl : n = 2) (i j : Fin 1024) :
    (outsAt0 m c (n + 1) h).1 (ix2 i j) = (outsAt0 m c n hp).2 (ix2 i j) + ∑ k : Fin 1024, term m c i j (1024 * (n + 1) + k.val) := by
  refine (congrFun (out_last m c ⟨n + 1, h⟩ (by show (n + 1) % 4 = 3; omega)) (ix2 i j)).trans ?_
  refine (store_at _ i j).trans ?_
  exact step_blk m c _ _ (n + 1) (by show (n + 1) % 4 = n + 1; omega) i j

theorem acc_zero (n : ℕ) (h : n < cfg0.N) (hn : n = 0) (i j : Fin 1024) :
    (outsAt0 m c n h).2 (ix2 i j) = 0 + ∑ k : Fin 1024, term m c i j (1024 * n + k.val) := by
  refine (congrFun (acc_first m c ⟨n, h⟩ (by show n % 4 = 0; omega)) (ix2 i j)).trans ?_
  rw [step_blk m c _ _ n (by show n % 4 = n; omega), zero_at]

/-- What the last point stores is the whole sum. -/
theorem out3 (h : 3 < cfg0.N) (i j : Fin 1024) :
    (outsAt0 m c 3 h).1 (ix2 i j) = ∑ s : Fin 4096, term m c i j s.val := by
  rw [out_succ m c 2 h (by omega) rfl, acc_succ m c 1 (by omega) (by omega) (by omega), acc_succ m c 0 (by omega) (by omega) (by omega),
    acc_zero m c 0 (by omega) rfl, Cert.FwdSum.sum_runs]

open Cert.Reference6Ideal.Sq (grad grad_at)

/-- The kernel's result is the reference's. -/
theorem result_eq : Value.G2 m c = grad (argA m c) (argB m c) := by
  funext x
  obtain ⟨i, j, rfl⟩ : ∃ (i j : Fin 1024), x = ix2 i j := ⟨x 0, x 1, by funext a; fin_cases a <;> rfl⟩
  have hN : cfg0.N = 4 := N_0
  have hlt : 3 < cfg0.N := by omega
  have hp : Value.pt2Of (ix2 i j) = 3 := by
    show 4 * (1 * (i.val / 1024 - 0) + 1 * (j.val / 1024 - 0)) + 3 = _
    omega
  have hl : Value.loc2Of (ix2 i j) = ix2 i j := by
    funext a
    apply Fin.ext
    fin_cases a
    · show i.val % 1024 = i.val; omega
    · show j.val % 1024 = j.val; omega
  unfold Value.G2
  rw [dif_pos (by rw [hp]; exact hlt), ← Value.outsAt0_sweep m c (Value.pt2Of (ix2 i j)) (by rw [hp]; exact hlt), hl]
  have e : ∀ n (h : n < cfg0.N), n = 3 → (outsAt0 m c n h).1 = (outsAt0 m c 3 hlt).1 := by
    intro n h hn; subst hn; rfl
  refine (congrFun (e _ _ hp) (ix2 i j)).trans ((out3 m c hlt i j).trans (Eq.trans ?_ (grad_at _ _ i j).symm))
  refine Finset.sum_congr rfl fun s _ => ?_
  rw [term, dif_pos s.isLt]
  exact mul_comm _ _

theorem values : Cert.algebraic_Kernel6Ideal_Reference6Ideal := by
  intro m ρ m' ρ' _ hm
  refine ⟨fun c => Value.G2 m c, Value.run m ρ, ?_⟩
  refine (θ_run Cert.Reference6Ideal.defs _ _).mono (fun r h c => ?_) (Cert.Reference6Ideal.Value.run (F := Ideal) m' ρ')
  obtain ⟨h0, h1⟩ := hm c
  obtain ⟨r0, ra⟩ := h c
  refine ⟨(r0.trans ?_).trans (result_eq m c).symm, ra⟩
  exact congrArg₂ grad h0 h1

end Cert.Kernel6Ideal.Sq

end
-- ==== Proof.DaVal.lean ====
/- The gradient of the first mixer's input weight: what one grid point leaves in the accumulator and in the result's block. -/
module

public import proofs.«01_k».proof.Proof.Gen.Kernel7Ideal.Value
public import Idealize.ShloMosaic.Lib.Pointwise

@[expose] public section

set_option maxRecDepth 16384

noncomputable section

namespace Cert.Kernel7Ideal.Da

open Idealize.ShloMosaic Idealize.ShloMosaic.TcCoe Idealize.SL.Sem
open Cert.Kernel7Ideal Cert.Kernel7Ideal.Gen

theorem hz : (![0, 0] : Fin 2 → Nat) = fun _ => 0 := funext fun a => by fin_cases a <;> rfl

section Any

variable {F : FTy → Type} [FloatOps F]

/-- The first point of a block leaves the product added to zero. -/
theorem acc_A (c : Dev nD) (i : grid0.Coords) (a3 : Memref sig .tc .vmem S1024x1024 .bf16) (h3 : a3.IsWhole)
    (a4 : Memref sig .tc .vmem S1024x896 .bf16) (h4 : a4.IsWhole) (a5 : Memref sig .tc .vmem S1024x896 .bf16) (h5 : a5.IsWhole)
    (a6 : Memref sig .tc .vmem S1024x896 .f32) (h6 : a6.IsWhole) (hc0 : cond0_0 i) (hc1 : ¬cond0_1 i) (x : Vec F S1024x1024 .bf16) (y : Vec F S1024x896 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x896) hz, View.readCov_unit_zero (S := S1024x896) _ hz]
  simp only [View.readAt_eq_ld, h3.read_unread, h4.read_unread, View.ld_unit_zero (S := S1024x1024) hz, View.ld_unit_zero (S := S1024x896) hz]

/-- A middle point of a block adds its product to the accumulator. -/
theorem acc_B (c : Dev nD) (i : grid0.Coords) (a3 : Memref sig .tc .vmem S1024x1024 .bf16) (h3 : a3.IsWhole)
    (a4 : Memref sig .tc .vmem S1024x896 .bf16) (h4 : a4.IsWhole) (a5 : Memref sig .tc .vmem S1024x896 .bf16) (h5 : a5.IsWhole)
    (a6 : Memref sig .tc .vmem S1024x896 .f32) (h6 : a6.IsWhole) (hc0 : ¬cond0_0 i) (hc1 : ¬cond0_1 i) (x : Vec F S1024x1024 .bf16) (y : Vec F S1024x896 .bf16)
    (s : Vec F S1024x896 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x1024) hz, View.ld_unit_zero (S := S1024x896) hz]

/-- The last point of a block stores the finished accumulator. -/
theorem out_C (c : Dev nD) (i : grid0.Coords) (a3 : Memref sig .tc .vmem S1024x1024 .bf16) (h3 : a3.IsWhole)
    (a4 : Memref sig .tc .vmem S1024x896 .bf16) (h4 : a4.IsWhole) (a5 : Memref sig .tc .vmem S1024x896 .bf16) (h5 : a5.IsWhole)
    (a6 : Memref sig .tc .vmem S1024x896 .f32) (h6 : a6.IsWhole) (hc0 : ¬cond0_0 i) (hc1 : cond0_1 i) (x : Vec F S1024x1024 .bf16) (y : Vec F S1024x896 .bf16)
    (s : Vec F S1024x896 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x896) _ hz]
  simp only [View.readAt_eq_ld, h3.read_unread, h4.read_unread, h6.read_unread, View.ld_unit_zero (S := S1024x1024) hz, View.ld_unit_zero (S := S1024x896) hz]

variable (m : (ℓ : Loc nD τ sig) → Buf (Elt F) ℓ)

/-- What the accumulator holds after each point of a block, and what the last one stores. -/
theorem acc_first (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  rw [acc_A]

theorem acc_next (c : Dev nD) (t : Fin cfg0.N) (h0 : ¬t.val % 4 = 0) (h1 : ¬t.val % 4 = 3) :
    (outsAt0 m c t.val t.isLt).2
      = k0_pay2 (F := F) (outsAt0 m c (t.val - 1) (Nat.lt_of_le_of_lt (Nat.sub_le _ _) t.isLt)).2 (iblk m c 0 t) (iblk m c 1 t) := by
  rw [outsAt0_B m c t h0 h1]
  dsimp only
  rw [acc_B]

theorem out_last (c : Dev nD) (t : Fin cfg0.N) (h1 : t.val % 4 = 3) :
    (outsAt0 m c t.val t.isLt).1
      = k0_pay3 (F := F) (k0_pay2 (outsAt0 m c (t.val - 1) (Nat.lt_of_le_of_lt (Nat.sub_le _ _) t.isLt)).2 (iblk m c 0 t) (iblk m c 1 t)) := by
  have h0 : ¬t.val % 4 = 0 := by omega
  rw [outsAt0_C m c t h0 h1]
  dsimp only
  rw [out_C]

end Any

/-- A product added to the accumulator, at an index. -/
theorem step_at (s : FVec Ideal S1024x896 .f32) (x : FVec Ideal S1024x1024 .bf16) (y : FVec Ideal S1024x896 .bf16) (i : Fin 1024) (j : Fin 896) :
    k0_pay2 s x y (ix2 i j) = s (ix2 i j) + ∑ k : Fin 1024, x (ix2 i k) * y (ix2 k j) := by
  unfold k0_pay2
  pointwise [dot_S1024x1024_S1024x896_S1024x896_1_0_0_1_n_n]

theorem zero_at (i : Fin 1024) (j : Fin 896) : (k0_pay1 : FVec Ideal S1024x896 .f32) (ix2 i j) = 0 := by
  unfold k0_pay1
  pointwise []

/-- The stored block, at an index. -/
theorem store_at (s : FVec Ideal S1024x896 .f32) (i : Fin 1024) (j : Fin 896) : (k0_pay3 s : FVec Ideal S1024x896 .bf16) (ix2 i j) = (s (ix2 i j) : EReal) := by
  unfold k0_pay3
  pointwise []

end Cert.Kernel7Ideal.Da

end
-- ==== Proof.DaRef.lean ====
/- The gradient of the first mixer's input weight: what the reference computes, at an index. -/
module

public import proofs.«01_k».proof.Proof.Gen.Reference7Ideal.Run
public import Idealize.ShloMosaic.Lib.Pointwise

@[expose] public section

set_option maxRecDepth 16384

noncomputable section

namespace Cert.Reference7Ideal.Da

open Idealize.ShloMosaic Idealize.ShloMosaic.TcCoe Idealize.SL.Sem
open Cert.Reference7Ideal Cert.Reference7Ideal.Gen

/-- The gradient of the weight. -/
def grad (a : FVec Ideal S1024x4096 .bf16) (b : FVec Ideal S4096x1792 .bf16) : FVec Ideal S1024x1792 .bf16 :=
  truncf .bf16 (transpose S1024x1792 [1, 0] (Host.dotGeneral dot_S4096x1792_S4096x1024_S1792x1024_0_0_1_1_n_n none (extf .f32 b bitsLt_bf16_f32) (extf .f32 (transpose S4096x1024 [1, 0] a transposes_S1024x4096_S4096x1024_1_0) bitsLt_bf16_f32)) transposes_S1792x1024_S1024x1792_1_0) bitsLt_bf16_f32

theorem grad_at (a : FVec Ideal S1024x4096 .bf16) (b : FVec Ideal S4096x1792 .bf16) (i : Fin 1024) (j : Fin 1792) :
    grad a b (ix2 i j) = ∑ s : Fin 4096, (b (ix2 s j) * a (ix2 i s) : EReal) := by
  unfold grad
  pointwise [dot_S4096x1792_S4096x1024_S1792x1024_0_0_1_1_n_n]

end Cert.Reference7Ideal.Da

end
-- ==== Proof.DaFinal.lean ====
/- The gradient of the first mixer's input weight: the kernel's result, and the equation. -/
module

public import proofs.«01_k».proof.Defs
public import proofs.«01_k».proof.Proof.DaVal
public import proofs.«01_k».proof.Proof.DaRef
public import proofs.«01_k».proof.Proof.FwdSum
public import Idealize.ShloMosaic.Lib.Pipeline.ValueKit

@[expose] public section

set_option maxRecDepth 16384

noncomputable section

namespace Cert.Kernel7Ideal.Da

open Idealize.ShloMosaic Idealize.ShloMosaic.TcCoe Idealize.ShloMosaic.Tactic Idealize.SL.Sem
open Cert.Kernel7Ideal Cert.Kernel7Ideal.Gen

/-- Where the windows stand at each grid point. -/
theorem places : ∀ t : Fin cfg0.N, win0_0.index t = ![0, t.val % 4] ∧ win0_1.index t = ![t.val % 4, t.val / 4] ∧ t.val < 8 :=
  (by decide +kernel : ∀ t : Fin grid0.N, _)

variable (m : (ℓ : Loc nD τ sig) → Buf (Elt Ideal) ℓ) (c : Dev nD)

abbrev argA : FVec Ideal S1024x4096 .bf16 := m ((c.tc : Thread nD τ).loc main_arg0)
abbrev argB : FVec Ideal S4096x1792 .bf16 := m ((c.tc : Thread nD τ).loc main_arg1)

theorem blk_a (t : Fin cfg0.N) (i k : Fin 1024) :
    iblk m c 0 t (ix2 i k) = argA m c (ix2 i ⟨1024 * (t.val % 4) + k.val, by omega⟩) := by
  blk_simp [iblk]
  rw [show V m c main_arg0 = argA m c from rfl]
  blk_ext [places t]

theorem blk_b (t : Fin cfg0.N) (k : Fin 1024) (j : Fin 896) :
    iblk m c 1 t (ix2 k j) = argB m c (ix2 ⟨1024 * (t.val % 4) + k.val, by omega⟩ ⟨896 * (t.val / 4) + j.val, by have := (places t).2.2; omega⟩) := by
  blk_simp [iblk]
  rw [show V m c main_arg1 = argB m c from rfl]
  blk_ext [places t]

/-- The factors of one entry of the product, by the row that they share. -/
def term (i : Fin 1024) (j s : ℕ) : EReal :=
  if h : s < 4096 ∧ j < 1792 then (argA m c (ix2 i ⟨s, h.1⟩) * argB m c (ix2 ⟨s, h.1⟩ ⟨j, h.2⟩) : EReal) else 0

/-- One point's step, at an index. -/
theorem step_blk (s : FVec Ideal S1024x896 .f32) (t : Fin cfg0.N) (p n : ℕ) (hp : t.val / 4 = p) (hn : t.val % 4 = n) (i : Fin 1024) (j : Fin 896) :
    k0_pay2 s (iblk m c 0 t) (iblk m c 1 t) (ix2 i j) = s (ix2 i j) + ∑ k : Fin 1024, term m c i (896 * p + j.val) (1024 * n + k.val) := by
  subst hn hp
  have := (places t).2.2
  refine (step_at s _ _ i j).trans (congrArg (s (ix2 i j) + ·) (Finset.sum_congr rfl fun k _ => ?_))
  rw [blk_a, blk_b, term, dif_pos ⟨by omega, by omega⟩]

theorem acc_succ (p n q : ℕ) (h : q + 1 < cfg0.N) (hp : q < cfg0.N) (hq : q = 4 * p + n) (hl : n < 2) (i : Fin 1024) (j : Fin 896) :
    (outsAt0 m c (q + 1) h).2 (ix2 i j) = (outsAt0 m c q hp).2 (ix2 i j) + ∑ k : Fin 1024, term m c i (896 * p + j.val) (1024 * (n + 1) + k.val) := by
  refine (congrFun (acc_next m c ⟨q + 1, h⟩ (by show ¬ (q + 1) % 4 = 0; omega) (by show ¬ (q + 1) % 4 = 3; omega)) (ix2 i j)).trans ?_
  exact step_blk m c _ _ p (n + 1) (by show (q + 1) / 4 = p; omega) (by show (q + 1) % 4 = n + 1; omega) i j

theorem out_succ (p n q : ℕ) (h : q + 1 < cfg0.N) (hp : q < cfg0.N) (hq : q = 4 * p + n) (hl : n = 2) (i : Fin 1024) (j : Fin 896) :
    (outsAt0 m c (q + 1) h).1 (ix2 i j) = (outsAt0 m c q hp).2 (ix2 i j) + ∑ k : Fin 1024, term m c i (896 * p + j.val) (1024 * (n + 1) + k.val) := by
  refine (congrFun (out_last m c ⟨q + 1, h⟩ (by show (q + 1) % 4 = 3; omega)) (ix2 i j)).trans ?_
  refine (store_at _ i j).trans ?_
  exact step_blk m c _ _ p (n + 1) (by show (q + 1) / 4 = p; omega) (by show (q + 1) % 4 = n + 1; omega) i j

theorem acc_zero (p q : ℕ) (h : q < cfg0.N) (hq : q = 4 * p) (i : Fin 1024) (j : Fin 896) :
    (outsAt0 m c q h).2 (ix2 i j) = 0 + ∑ k : Fin 1024, term m c i (896 * p + j.val) (1024 * 0 + k.val) := by
  refine (congrFun (acc_first m c ⟨q, h⟩ (by show q % 4 = 0; omega)) (ix2 i j)).trans ?_
  rw [step_blk m c _ _ p 0 (by show q / 4 = p; omega) (by show q % 4 = 0; omega), zero_at]

/-- What the last point of a block stores is the whole sum. -/
theorem out3 (p : ℕ) (h : 4 * p + 2 + 1 < cfg0.N) (i : Fin 1024) (j : Fin 896) :
    (outsAt0 m c (4 * p + 2 + 1) h).1 (ix2 i j) = ∑ s : Fin 4096, term m c i (896 * p + j.val) s.val := by
  rw [out_succ m c p 2 (4 * p + 2) h (by omega) rfl rfl, acc_succ m c p 1 (4 * p + 1) (by omega) (by omega) rfl (by omega),
    acc_succ m c p 0 (4 * p) (by omega) (by omega) rfl (by omega), acc_zero m c p (4 * p) (by omega) rfl, Cert.FwdSum.sum_runs]

open Cert.Reference7Ideal.Da (grad grad_at)

/-- The kernel's result is the reference's. -/
theorem result_eq : Value.G2 m c = grad (argA m c) (argB m c) := by
  funext x
  obtain ⟨i, j, rfl⟩ : ∃ (i : Fin 1024) (j : Fin 1792), x = ix2 i j := ⟨x 0, x 1, by funext a; fin_cases a <;> rfl⟩
  have hN : cfg0.N = 8 := N_0
  have hlt : 4 * (j.val / 896) + 2 + 1 < cfg0.N := by omega
  have hp : Value.pt2Of (ix2 i j) = 4 * (j.val / 896) + 2 + 1 := by
    show 4 * (2 * (i.val / 1024 - 0) + 1 * (j.val / 896 - 0)) + 3 = _
    omega
  have hl : Value.loc2Of (ix2 i j) = ix2 i ⟨j.val % 896, by omega⟩ := by
    funext a
    apply Fin.ext
    fin_cases a
    · show i.val % 1024 = i.val; omega
    · rfl
  unfold Value.G2
  rw [dif_pos (by rw [hp]; exact hlt), ← Value.outsAt0_sweep m c (Value.pt2Of (ix2 i j)) (by rw [hp]; exact hlt), hl]
  have e : ∀ n (h : n < cfg0.N), n = 4 * (j.val / 896) + 2 + 1 → (outsAt0 m c n h).1 = (outsAt0 m c (4 * (j.val / 896) + 2 + 1) hlt).1 := by
    intro n h hn; subst hn; rfl
  refine (congrFun (e _ _ hp) (ix2 i ⟨j.val % 896, by omega⟩)).trans ((out3 m c _ hlt i _).trans (Eq.trans ?_ (grad_at _ _ i j).symm))
  refine Finset.sum_congr rfl fun s _ => ?_
  have hj : 896 * (j.val / 896) + j.val % 896 = j.val := Nat.div_add_mod _ _
  show term m c i (896 * (j.val / 896) + j.val % 896) s.val = _
  rw [hj, term, dif_pos ⟨s.isLt, j.isLt⟩]
  exact mul_comm _ _

theorem values : Cert.algebraic_Kernel7Ideal_Reference7Ideal := by
  intro m ρ m' ρ' _ hm
  refine ⟨fun c => Value.G2 m c, Value.run m ρ, ?_⟩
  refine (θ_run Cert.Reference7Ideal.defs _ _).mono (fun r h c => ?_) (Cert.Reference7Ideal.Value.run (F := Ideal) m' ρ')
  obtain ⟨h0, h1⟩ := hm c
  obtain ⟨r0, ra⟩ := h c
  refine ⟨(r0.trans ?_).trans (result_eq m c).symm, ra⟩
  exact congrArg₂ grad h0 h1

end Cert.Kernel7Ideal.Da

end
-- ==== Proof.ProjFwdRef.lean ====
/- The second mixer's projections: what the reference computes, at an index. -/
module

public import proofs.«01_k».proof.Proof.Gen.Reference8Ideal.Run
public import Idealize.ShloMosaic.Lib.Pointwise

@[expose] public section

set_option maxRecDepth 16384

noncomputable section

namespace Cert.Reference8Ideal.Proj

open Idealize.ShloMosaic Idealize.ShloMosaic.TcCoe Idealize.SL.Sem
open Cert.Reference8Ideal Cert.Reference8Ideal.Gen

def outQ (x : FVec Ideal S4096x1024 .bf16) (w : FVec Ideal S1024x1024 .bf16) : FVec Ideal S4096x768 .bf16 :=
  truncf .bf16 (extractStridedSlice S4096x768 ![0, 0] (Host.dotGeneral dot_S4096x1024_S1024x1024_S4096x1024_1_0_0_1_n_n none (extf .f32 x bitsLt_bf16_f32) (extf .f32 w bitsLt_bf16_f32)) slices_S4096x1024_S4096x768_0_0) bitsLt_bf16_f32

theorem outQ_at (x : FVec Ideal S4096x1024 .bf16) (w : FVec Ideal S1024x1024 .bf16) (i : Fin 4096) (j : Fin 768) :
    outQ x w (ix2 i j) = ∑ k : Fin 1024, (x (ix2 i k) * w (ix2 k ⟨0 + j.val, by omega⟩) : EReal) := by
  unfold outQ
  pointwise [dot_S4096x1024_S1024x1024_S4096x1024_1_0_0_1_n_n]

def outM (x : FVec Ideal S4096x1024 .bf16) (w : FVec Ideal S1024x1024 .bf16) : FVec Ideal S4096x256 .bf16 :=
  truncf .bf16 (extractStridedSlice S4096x256 ![0, 768] (Host.dotGeneral dot_S4096x1024_S1024x1024_S4096x1024_1_0_0_1_n_n none (extf .f32 x bitsLt_bf16_f32) (extf .f32 w bitsLt_bf16_f32)) slices_S4096x1024_S4096x256_0_768) bitsLt_bf16_f32

theorem outM_at (x : FVec Ideal S4096x1024 .bf16) (w : FVec Ideal S1024x1024 .bf16) (i : Fin 4096) (j : Fin 256) :
    outM x w (ix2 i j) = ∑ k : Fin 1024, (x (ix2 i k) * w (ix2 k ⟨768 + j.val, by omega⟩) : EReal) := by
  unfold outM
  pointwise [dot_S4096x1024_S1024x1024_S4096x1024_1_0_0_1_n_n]

def outK (x : FVec Ideal S4096x1024 .bf16) (w : FVec Ideal S1024x1664 .bf16) : FVec Ideal S4096x768 .bf16 :=
  truncf .bf16 (extractStridedSlice S4096x768 ![0, 0] (Host.dotGeneral dot_S4096x1024_S1024x1664_S4096x1664_1_0_0_1_n_n none (extf .f32 x bitsLt_bf16_f32) (extf .f32 w bitsLt_bf16_f32)) slices_S4096x1664_S4096x768_0_0) bitsLt_bf16_f32

theorem outK_at (x : FVec Ideal S4096x1024 .bf16) (w : FVec Ideal S1024x1664 .bf16) (i : Fin 4096) (j : Fin 768) :
    outK x w (ix2 i j) = ∑ k : Fin 1024, (x (ix2 i k) * w (ix2 k ⟨0 + j.val, by omega⟩) : EReal) := by
  unfold outK
  pointwise [dot_S4096x1024_S1024x1664_S4096x1664_1_0_0_1_n_n]

def outV (x : FVec Ideal S4096x1024 .bf16) (w : FVec Ideal S1024x1664 .bf16) : FVec Ideal S4096x768 .bf16 :=
  truncf .bf16 (extractStridedSlice S4096x768 ![0, 768] (Host.dotGeneral dot_S4096x1024_S1024x1664_S4096x1664_1_0_0_1_n_n none (extf .f32 x bitsLt_bf16_f32) (extf .f32 w bitsLt_bf16_f32)) slices_S4096x1664_S4096x768_0_768) bitsLt_bf16_f32

theorem outV_at (x : FVec Ideal S4096x1024 .bf16) (w : FVec Ideal S1024x1664 .bf16) (i : Fin 4096) (j : Fin 768) :
    outV x w (ix2 i j) = ∑ k : Fin 1024, (x (ix2 i k) * w (ix2 k ⟨768 + j.val, by omega⟩) : EReal) := by
  unfold outV
  pointwise [dot_S4096x1024_S1024x1664_S4096x1664_1_0_0_1_n_n]

def outF (x : FVec Ideal S4096x1024 .bf16) (w : FVec Ideal S1024x1664 .bf16) : FVec Ideal S4096x128 .f32 :=
  extractStridedSlice S4096x128 ![0, 1536] (Host.dotGeneral dot_S4096x1024_S1024x1664_S4096x1664_1_0_0_1_n_n none (extf .f32 x bitsLt_bf16_f32) (extf .f32 w bitsLt_bf16_f32)) slices_S4096x1664_S4096x128_0_1536

theorem outF_at (x : FVec Ideal S4096x1024 .bf16) (w : FVec Ideal S1024x1664 .bf16) (i : Fin 4096) (j : Fin 128) :
    outF x w (ix2 i j) = ∑ k : Fin 1024, (x (ix2 i k) * w (ix2 k ⟨1536 + j.val, by omega⟩) : EReal) := by
  unfold outF
  pointwise [dot_S4096x1024_S1024x1664_S4096x1664_1_0_0_1_n_n]

end Cert.Reference8Ideal.Proj

end
-- ==== Proof.ProjFwd.lean ====
/- The second mixer's projections: what the forward call computes, and that it is the reference's. -/
module

public import proofs.«01_k».proof.Defs
public import proofs.«01_k».proof.Proof.Gen.Kernel8Ideal.Value
public import proofs.«01_k».proof.Proof.ProjFwdRef
public import Idealize.ShloMosaic.Lib.Pipeline.ValueKit

@[expose] public section

set_option maxRecDepth 16384

noncomputable section

namespace Cert.Kernel8Ideal.Proj

open Idealize.ShloMosaic Idealize.ShloMosaic.TcCoe Idealize.ShloMosaic.Tactic Idealize.SL.Sem
open Cert.Kernel8Ideal Cert.Kernel8Ideal.Gen

theorem hz : (![0, 0] : Fin 2 → Nat) = fun _ => 0 := funext fun a => by fin_cases a <;> rfl

theorem places : ∀ t : Fin cfg0.N, win0_0.index t = ![t.val, 0] ∧ win0_1.index t = ![0, 0] ∧ win0_2.index t = ![0, 0] ∧ win0_3.index t = ![t.val, 0] ∧
    win0_4.index t = ![t.val, 0] ∧ win0_5.index t = ![t.val, 0] ∧ win0_6.index t = ![t.val, 0] ∧ win0_7.index t = ![t.val, 0] ∧ t.val < 8 :=
  (by decide +kernel : ∀ t : Fin grid0.N, _)

theorem lt8 (t : Fin cfg0.N) : t.val < 8 := by have := places t; tauto

/-- A point's row of its block, in the whole. -/
def row (t : Fin cfg0.N) (p : Fin 512) : Fin 4096 := ⟨512 * t.val + p.val, by have := lt8 t; omega⟩

variable (m : (ℓ : Loc nD τ sig) → Buf (Elt Ideal) ℓ) (c : Dev nD)

abbrev argX : FVec Ideal S4096x1024 .bf16 := m ((c.tc : Thread nD τ).loc main_arg0)
abbrev argQ : FVec Ideal S1024x1024 .bf16 := m ((c.tc : Thread nD τ).loc main_arg1)
abbrev argKv : FVec Ideal S1024x1664 .bf16 := m ((c.tc : Thread nD τ).loc main_arg2)

theorem blk_x (t : Fin cfg0.N) (p : Fin 512) (d : Fin 1024) : iblk m c 0 t (ix2 p d) = argX m c (ix2 (row t p) d) := by
  blk_simp [iblk]
  rw [show V m c main_arg0 = argX m c from rfl]
  have h : win0_0.index t = ![t.val, 0] := by have := places t; tauto
  blk_ext [row, h]

theorem blk_q (t : Fin cfg0.N) (k d : Fin 1024) : iblk m c 1 t (ix2 k d) = argQ m c (ix2 k d) := by
  blk_simp [iblk]
  rw [show V m c main_arg1 = argQ m c from rfl]
  have h : win0_1.index t = ![0, 0] := by have := places t; tauto
  blk_ext [h]

theorem blk_kv (t : Fin cfg0.N) (k : Fin 1024) (d : Fin 1664) : iblk m c 2 t (ix2 k d) = argKv m c (ix2 k d) := by
  blk_simp [iblk]
  rw [show V m c main_arg2 = argKv m c from rfl]
  have h : win0_2.index t = ![0, 0] := by have := places t; tauto
  blk_ext [h]

/-- One entry of a product of the whole arguments. -/
def prodQ (i : Fin 4096) (j : Fin 1024) : EReal := ∑ k : Fin 1024, (argX m c (ix2 i k) * argQ m c (ix2 k j) : EReal)
def prodKv (i : Fin 4096) (j : Fin 1664) : EReal := ∑ k : Fin 1024, (argX m c (ix2 i k) * argKv m c (ix2 k j) : EReal)

theorem payQ_at (x : FVec Ideal S512x1024 .bf16) (w : FVec Ideal S1024x1024 .bf16) (p : Fin 512) (j : Fin 768) :
    (k0_pay2 x w : FVec Ideal S512x768 .bf16) (ix2 p j) = ∑ k : Fin 1024, (x (ix2 p k) * w (ix2 k ⟨0 + j.val, by omega⟩) : EReal) := by
  unfold k0_pay2 k0_pay1
  pointwise [dot_S512x1024_S1024x1024_S512x1024_1_0_0_1_n_n]

theorem cellQ (t : Fin cfg0.N) (y : S512x768.Idx) :
    out0_3 (F := Ideal) (iblk m c 0 t) (iblk m c 1 t) (iblk m c 2 t) y = prodQ m c (row t (y 0)) ⟨0 + (y 1).val, by have := (y 1).isLt; change (y 1).val < 768 at this; omega⟩ := by
  obtain ⟨p, j, rfl⟩ : ∃ (p : Fin 512) (j : Fin 768), y = ix2 p j := ⟨y 0, y 1, eq_ix2 y⟩
  unfold out0_3
  rw [View.canon_unit_zero hz]
  simp only [View.ld_unit_zero (S := S512x1024) hz, View.ld_unit_zero (S := S1024x1024) hz]
  refine (payQ_at _ _ p j).trans (Finset.sum_congr rfl fun k _ => ?_)
  rw [blk_x, blk_q]
  rfl

theorem finalQ : (dats m 0 c).arrAt 3 (cfgs 0).N = fun i : S4096x768.Idx => prodQ m c (i 0) ⟨0 + (i 1).val, by have := (i 1).isLt; change (i 1).val < 768 at this; omega⟩ := by
  refine (dats m 0 c).arrAt_eq_of_covers 3 _ (by decide +kernel) fun t _ y => ?_
  blk_simp
  rw [after0_3]
  refine (cellQ m c t y).trans ?_
  have h : win0_3.index t = ![t.val, 0] := by have := places t; tauto
  exact congrArg₂ (fun a b => prodQ m c a b) (Fin.ext (by simp [row, h]; omega)) (Fin.ext (by simp [h]))

/-- The result is the reference's. -/
theorem sameQ : Cert.Reference8Ideal.Proj.outQ (argX m c) (argQ m c) = (dats m 0 c).arrAt 3 (cfgs 0).N := by
  refine Eq.trans (funext fun i => ?_) (finalQ m c).symm
  obtain ⟨a, b, rfl⟩ : ∃ (a : Fin 4096) (b : Fin 768), i = ix2 a b := ⟨i 0, i 1, eq_ix2 i⟩
  exact Cert.Reference8Ideal.Proj.outQ_at _ _ a b

def arrQ (c : Dev nD) : Buf (Elt Ideal) ((c.tc : Thread nD τ).loc main_v0_0) := (dats m 0 c).arrAt 3 (cfgs 0).N

theorem payM_at (x : FVec Ideal S512x1024 .bf16) (w : FVec Ideal S1024x1024 .bf16) (p : Fin 512) (j : Fin 256) :
    (k0_pay3 x w : FVec Ideal S512x256 .bf16) (ix2 p j) = ∑ k : Fin 1024, (x (ix2 p k) * w (ix2 k ⟨768 + j.val, by omega⟩) : EReal) := by
  unfold k0_pay3 k0_pay1
  pointwise [dot_S512x1024_S1024x1024_S512x1024_1_0_0_1_n_n]

theorem cellM (t : Fin cfg0.N) (y : S512x256.Idx) :
    out0_4 (F := Ideal) (iblk m c 0 t) (iblk m c 1 t) (iblk m c 2 t) y = prodQ m c (row t (y 0)) ⟨768 + (y 1).val, by have := (y 1).isLt; change (y 1).val < 256 at this; omega⟩ := by
  obtain ⟨p, j, rfl⟩ : ∃ (p : Fin 512) (j : Fin 256), y = ix2 p j := ⟨y 0, y 1, eq_ix2 y⟩
  unfold out0_4
  rw [View.canon_unit_zero hz]
  simp only [View.ld_unit_zero (S := S512x1024) hz, View.ld_unit_zero (S := S1024x1024) hz]
  refine (payM_at _ _ p j).trans (Finset.sum_congr rfl fun k _ => ?_)
  rw [blk_x, blk_q]
  rfl

theorem finalM : (dats m 0 c).arrAt 4 (cfgs 0).N = fun i : S4096x256.Idx => prodQ m c (i 0) ⟨768 + (i 1).val, by have := (i 1).isLt; change (i 1).val < 256 at this; omega⟩ := by
  refine (dats m 0 c).arrAt_eq_of_covers 4 _ (by decide +kernel) fun t _ y => ?_
  blk_simp
  rw [after0_4]
  refine (cellM m c t y).trans ?_
  have h : win0_4.index t = ![t.val, 0] := by have := places t; tauto
  exact congrArg₂ (fun a b => prodQ m c a b) (Fin.ext (by simp [row, h]; omega)) (Fin.ext (by simp [h]))

/-- The result is the reference's. -/
theorem sameM : Cert.Reference8Ideal.Proj.outM (argX m c) (argQ m c) = (dats m 0 c).arrAt 4 (cfgs 0).N := by
  refine Eq.trans (funext fun i => ?_) (finalM m c).symm
  obtain ⟨a, b, rfl⟩ : ∃ (a : Fin 4096) (b : Fin 256), i = ix2 a b := ⟨i 0, i 1, eq_ix2 i⟩
  exact Cert.Reference8Ideal.Proj.outM_at _ _ a b

def arrM (c : Dev nD) : Buf (Elt Ideal) ((c.tc : Thread nD τ).loc main_v0_1) := (dats m 0 c).arrAt 4 (cfgs 0).N

theorem payK_at (x : FVec Ideal S512x1024 .bf16) (w : FVec Ideal S1024x1664 .bf16) (p : Fin 512) (j : Fin 768) :
    (k0_pay5 x w : FVec Ideal S512x768 .bf16) (ix2 p j) = ∑ k : Fin 1024, (x (ix2 p k) * w (ix2 k ⟨0 + j.val, by omega⟩) : EReal) := by
  unfold k0_pay5 k0_pay4
  pointwise [dot_S512x1024_S1024x1664_S512x1664_1_0_0_1_n_n]

theorem cellK (t : Fin cfg0.N) (y : S512x768.Idx) :
    out0_5 (F := Ideal) (iblk m c 0 t) (iblk m c 1 t) (iblk m c 2 t) y = prodKv m c (row t (y 0)) ⟨0 + (y 1).val, by have := (y 1).isLt; change (y 1).val < 768 at this; omega⟩ := by
  obtain ⟨p, j, rfl⟩ : ∃ (p : Fin 512) (j : Fin 768), y = ix2 p j := ⟨y 0, y 1, eq_ix2 y⟩
  unfold out0_5
  rw [View.canon_unit_zero hz]
  simp only [View.ld_unit_zero (S := S512x1024) hz, View.ld_unit_zero (S := S1024x1664) hz]
  refine (payK_at _ _ p j).trans (Finset.sum_congr rfl fun k _ => ?_)
  rw [blk_x, blk_kv]
  rfl

theorem finalK : (dats m 0 c).arrAt 5 (cfgs 0).N = fun i : S4096x768.Idx => prodKv m c (i 0) ⟨0 + (i 1).val, by have := (i 1).isLt; change (i 1).val < 768 at this; omega⟩ := by
  refine (dats m 0 c).arrAt_eq_of_covers 5 _ (by decide +kernel) fun t _ y => ?_
  blk_simp
  rw [after0_5]
  refine (cellK m c t y).trans ?_
  have h : win0_5.index t = ![t.val, 0] := by have := places t; tauto
  exact congrArg₂ (fun a b => prodKv m c a b) (Fin.ext (by simp [row, h]; omega)) (Fin.ext (by simp [h]))

/-- The result is the reference's. -/
theorem sameK : Cert.Reference8Ideal.Proj.outK (argX m c) (argKv m c) = (dats m 0 c).arrAt 5 (cfgs 0).N := by
  refine Eq.trans (funext fun i => ?_) (finalK m c).symm
  obtain ⟨a, b, rfl⟩ : ∃ (a : Fin 4096) (b : Fin 768), i = ix2 a b := ⟨i 0, i 1, eq_ix2 i⟩
  exact Cert.Reference8Ideal.Proj.outK_at _ _ a b

def arrK (c : Dev nD) : Buf (Elt Ideal) ((c.tc : Thread nD τ).loc main_v0_2) := (dats m 0 c).arrAt 5 (cfgs 0).N

theorem payV_at (x : FVec Ideal S512x1024 .bf16) (w : FVec Ideal S1024x1664 .bf16) (p : Fin 512) (j : Fin 768) :
    (k0_pay6 x w : FVec Ideal S512x768 .bf16) (ix2 p j) = ∑ k : Fin 1024, (x (ix2 p k) * w (ix2 k ⟨768 + j.val, by omega⟩) : EReal) := by
  unfold k0_pay6 k0_pay4
  pointwise [dot_S512x1024_S1024x1664_S512x1664_1_0_0_1_n_n]

theorem cellV (t : Fin cfg0.N) (y : S512x768.Idx) :
    out0_6 (F := Ideal) (iblk m c 0 t) (iblk m c 1 t) (iblk m c 2 t) y = prodKv m c (row t (y 0)) ⟨768 + (y 1).val, by have := (y 1).isLt; change (y 1).val < 768 at this; omega⟩ := by
  obtain ⟨p, j, rfl⟩ : ∃ (p : Fin 512) (j : Fin 768), y = ix2 p j := ⟨y 0, y 1, eq_ix2 y⟩
  unfold out0_6
  rw [View.canon_unit_zero hz]
  simp only [View.ld_unit_zero (S := S512x1024) hz, View.ld_unit_zero (S := S1024x1664) hz]
  refine (payV_at _ _ p j).trans (Finset.sum_congr rfl fun k _ => ?_)
  rw [blk_x, blk_kv]
  rfl

theorem finalV : (dats m 0 c).arrAt 6 (cfgs 0).N = fun i : S4096x768.Idx => prodKv m c (i 0) ⟨768 + (i 1).val, by have := (i 1).isLt; change (i 1).val < 768 at this; omega⟩ := by
  refine (dats m 0 c).arrAt_eq_of_covers 6 _ (by decide +kernel) fun t _ y => ?_
  blk_simp
  rw [after0_6]
  refine (cellV m c t y).trans ?_
  have h : win0_6.index t = ![t.val, 0] := by have := places t; tauto
  exact congrArg₂ (fun a b => prodKv m c a b) (Fin.ext (by simp [row, h]; omega)) (Fin.ext (by simp [h]))

/-- The result is the reference's. -/
theorem sameV : Cert.Reference8Ideal.Proj.outV (argX m c) (argKv m c) = (dats m 0 c).arrAt 6 (cfgs 0).N := by
  refine Eq.trans (funext fun i => ?_) (finalV m c).symm
  obtain ⟨a, b, rfl⟩ : ∃ (a : Fin 4096) (b : Fin 768), i = ix2 a b := ⟨i 0, i 1, eq_ix2 i⟩
  exact Cert.Reference8Ideal.Proj.outV_at _ _ a b

def arrV (c : Dev nD) : Buf (Elt Ideal) ((c.tc : Thread nD τ).loc main_v0_3) := (dats m 0 c).arrAt 6 (cfgs 0).N

theorem payF_at (x : FVec Ideal S512x1024 .bf16) (w : FVec Ideal S1024x1664 .bf16) (p : Fin 512) (j : Fin 128) :
    (k0_pay7 x w : FVec Ideal S512x128 .f32) (ix2 p j) = ∑ k : Fin 1024, (x (ix2 p k) * w (ix2 k ⟨1536 + j.val, by omega⟩) : EReal) := by
  unfold k0_pay7 k0_pay4
  pointwise [dot_S512x1024_S1024x1664_S512x1664_1_0_0_1_n_n]

theorem cellF (t : Fin cfg0.N) (y : S512x128.Idx) :
    out0_7 (F := Ideal) (iblk m c 0 t) (iblk m c 1 t) (iblk m c 2 t) y = prodKv m c (row t (y 0)) ⟨1536 + (y 1).val, by have := (y 1).isLt; change (y 1).val < 128 at this; omega⟩ := by
  obtain ⟨p, j, rfl⟩ : ∃ (p : Fin 512) (j : Fin 128), y = ix2 p j := ⟨y 0, y 1, eq_ix2 y⟩
  unfold out0_7
  rw [View.canon_unit_zero hz]
  simp only [View.ld_unit_zero (S := S512x1024) hz, View.ld_unit_zero (S := S1024x1664) hz]
  refine (payF_at _ _ p j).trans (Finset.sum_congr rfl fun k _ => ?_)
  rw [blk_x, blk_kv]
  rfl

theorem finalF : (dats m 0 c).arrAt 7 (cfgs 0).N = fun i : S4096x128.Idx => prodKv m c (i 0) ⟨1536 + (i 1).val, by have := (i 1).isLt; change (i 1).val < 128 at this; omega⟩ := by
  refine (dats m 0 c).arrAt_eq_of_covers 7 _ (by decide +kernel) fun t _ y => ?_
  blk_simp
  rw [after0_7]
  refine (cellF m c t y).trans ?_
  have h : win0_7.index t = ![t.val, 0] := by have := places t; tauto
  exact congrArg₂ (fun a b => prodKv m c a b) (Fin.ext (by simp [row, h]; omega)) (Fin.ext (by simp [h]))

/-- The result is the reference's. -/
theorem sameF : Cert.Reference8Ideal.Proj.outF (argX m c) (argKv m c) = (dats m 0 c).arrAt 7 (cfgs 0).N := by
  refine Eq.trans (funext fun i => ?_) (finalF m c).symm
  obtain ⟨a, b, rfl⟩ : ∃ (a : Fin 4096) (b : Fin 128), i = ix2 a b := ⟨i 0, i 1, eq_ix2 i⟩
  exact Cert.Reference8Ideal.Proj.outF_at _ _ a b

def arrF (c : Dev nD) : Buf (Elt Ideal) ((c.tc : Thread nD τ).loc main_v0_4) := (dats m 0 c).arrAt 7 (cfgs 0).N

theorem values : Cert.algebraic_Kernel8Ideal_Reference8Ideal := by
  intro m ρ m' ρ' _ hm
  refine ⟨arrQ m, arrM m, arrK m, arrV m, arrF m, Value.run_blocks m ρ, ?_⟩
  refine (θ_run Cert.Reference8Ideal.defs _ _).mono (fun r h c => ?_) (Cert.Reference8Ideal.Value.run (F := Ideal) m' ρ')
  obtain ⟨h0, h1, h2⟩ := hm c
  obtain ⟨r0, r1, r2, r3, r4, ra⟩ := h c
  exact ⟨(r0.trans (congrArg₂ Cert.Reference8Ideal.Proj.outQ h0 h1)).trans (sameQ m c), (r1.trans (congrArg₂ Cert.Reference8Ideal.Proj.outM h0 h1)).trans (sameM m c),
    (r2.trans (congrArg₂ Cert.Reference8Ideal.Proj.outK h0 h2)).trans (sameK m c), (r3.trans (congrArg₂ Cert.Reference8Ideal.Proj.outV h0 h2)).trans (sameV m c),
    (r4.trans (congrArg₂ Cert.Reference8Ideal.Proj.outF h0 h2)).trans (sameF m c), ra⟩

end Cert.Kernel8Ideal.Proj

end
-- ==== Proof.ProjBwdRef.lean ====
/- The second mixer's projections, backwards: what the reference computes, at an index. -/
module

public import proofs.«01_k».proof.Proof.Gen.Reference9Ideal.Run
public import Idealize.ShloMosaic.Lib.Pointwise

@[expose] public section

set_option maxRecDepth 16384

noncomputable section

namespace Cert.Reference9Ideal.Proj

open Idealize.ShloMosaic Idealize.ShloMosaic.TcCoe Idealize.SL.Sem
open Cert.Reference9Ideal Cert.Reference9Ideal.Gen

/-- The cotangent of the keys', the values' and the gates' columns. -/
def cotKv (dk dv : FVec Ideal S4096x768 .bf16) (df : FVec Ideal S4096x128 .bf16) : FVec Ideal S4096x1664 .f32 :=
  addf (addf (pad S4096x1664 ![0, 1536] ![0, 0] ![0, 0] (extf .f32 df bitsLt_bf16_f32) (constant S_ .f32 0x00000000#32) pads_S4096x128_S4096x1664_000_153600 h_S_) (pad S4096x1664 ![0, 768] ![0, 128] ![0, 0] (extf .f32 dv bitsLt_bf16_f32) (constant S_ .f32 0x00000000#32) pads_S4096x768_S4096x1664_000_7681280 h_S_)) (pad S4096x1664 ![0, 0] ![0, 896] ![0, 0] (extf .f32 dk bitsLt_bf16_f32) (constant S_ .f32 0x00000000#32) pads_S4096x768_S4096x1664_000_08960 h_S_)

theorem cot_k (dk dv : FVec Ideal S4096x768 .bf16) (df : FVec Ideal S4096x128 .bf16) (i : Fin 4096) (j : Fin 768) :
    cotKv dk dv df (ix2 i ⟨0 + j.val, by omega⟩) = (dk (ix2 i j) : EReal) := by
  unfold cotKv
  pointwise []
  rw [dif_neg (by omega), dif_neg (by simp), zero_add, zero_add]

theorem cot_v (dk dv : FVec Ideal S4096x768 .bf16) (df : FVec Ideal S4096x128 .bf16) (i : Fin 4096) (j : Fin 768) :
    cotKv dk dv df (ix2 i ⟨768 + j.val, by omega⟩) = (dv (ix2 i j) : EReal) := by
  unfold cotKv
  pointwise []
  rw [dif_neg (by omega), zero_add]

theorem cot_f (dk dv : FVec Ideal S4096x768 .bf16) (df : FVec Ideal S4096x128 .bf16) (i : Fin 4096) (j : Fin 128) :
    cotKv dk dv df (ix2 i ⟨1536 + j.val, by omega⟩) = (df (ix2 i j) : EReal) := by
  unfold cotKv
  pointwise []
  rw [dif_neg (by omega), dif_neg (by omega), add_zero, add_zero]

/-- The cotangent of the queries' columns, of both attentions, is the argument. -/
def cotZ (dz : FVec Ideal S4096x1024 .bf16) : FVec Ideal S4096x1024 .f32 :=
  addf (pad S4096x1024 ![0, 768] ![0, 0] ![0, 0] (extf .f32 (extractStridedSlice S4096x256 ![0, 768] dz slices_S4096x1024_S4096x256_0_768) bitsLt_bf16_f32) (constant S_ .f32 0x00000000#32) pads_S4096x256_S4096x1024_000_76800 h_S_) (pad S4096x1024 ![0, 0] ![0, 256] ![0, 0] (extf .f32 (extractStridedSlice S4096x768 ![0, 0] dz slices_S4096x1024_S4096x768_0_0) bitsLt_bf16_f32) (constant S_ .f32 0x00000000#32) pads_S4096x768_S4096x1024_000_02560 h_S_)

theorem cotZ_at (dz : FVec Ideal S4096x1024 .bf16) (i : Fin 4096) (j : Fin 1024) : cotZ dz (ix2 i j) = (dz (ix2 i j) : EReal) := by
  unfold cotZ
  pointwise []
  by_cases h : j.val < 768
  · rw [dif_neg (by omega), dif_pos h, zero_add]
  · rw [dif_pos (by omega), dif_neg h, add_zero]
    congr 2
    exact Fin.ext (by show 768 + (j.val - 768) = j.val; omega)

def dx (dr : FVec Ideal S4096x1024 .f32) (dz : FVec Ideal S4096x1024 .bf16) (dk dv : FVec Ideal S4096x768 .bf16) (df : FVec Ideal S4096x128 .bf16)
    (wq : FVec Ideal S1024x1024 .bf16) (wkv : FVec Ideal S1024x1664 .bf16) : FVec Ideal S4096x1024 .f32 :=
  addf (addf (Host.dotGeneral dot_S4096x1664_S1024x1664_S4096x1024_1_1_0_0_n_n none (cotKv dk dv df) (extf .f32 wkv bitsLt_bf16_f32)) (Host.dotGeneral dot_S4096x1024_S1024x1024_S4096x1024_1_1_0_0_n_n none (cotZ dz) (extf .f32 wq bitsLt_bf16_f32))) (mulf (broadcastInDim S4096x1024 ![] bcast_S_S4096x1024 (constant S_ .f32 0x3FB504F3#32)) dr)

theorem dx_at (dr : FVec Ideal S4096x1024 .f32) (dz : FVec Ideal S4096x1024 .bf16) (dk dv : FVec Ideal S4096x768 .bf16) (df : FVec Ideal S4096x128 .bf16)
    (wq : FVec Ideal S1024x1024 .bf16) (wkv : FVec Ideal S1024x1664 .bf16) (i : Fin 4096) (d : Fin 1024) :
    dx dr dz dk dv df wq wkv (ix2 i d) = ((∑ s : Fin 1664, cotKv dk dv df (ix2 i s) * wkv (ix2 d s)) + (∑ s : Fin 1024, cotZ dz (ix2 i s) * wq (ix2 d s))
      + Ideal.ofBits .f32 0x3FB504F3#32 * dr (ix2 i d) : EReal) := by
  unfold dx
  pointwise [dot_S4096x1664_S1024x1664_S4096x1024_1_1_0_0_n_n, dot_S4096x1024_S1024x1024_S4096x1024_1_1_0_0_n_n]

end Cert.Reference9Ideal.Proj

end
-- ==== Proof.ProjBwd.lean ====
/- The second mixer's projections, backwards: what the call computes, and that it is the reference's. -/
module

public import proofs.«01_k».proof.Defs
public import proofs.«01_k».proof.Proof.Gen.Kernel9Ideal.Value
public import proofs.«01_k».proof.Proof.ProjBwdRef
public import Idealize.ShloMosaic.Lib.Pipeline.ValueKit

@[expose] public section

set_option maxRecDepth 16384

noncomputable section

namespace Cert.Kernel9Ideal.Proj

open Idealize.ShloMosaic Idealize.ShloMosaic.TcCoe Idealize.ShloMosaic.Tactic Idealize.SL.Sem
open Cert.Kernel9Ideal Cert.Kernel9Ideal.Gen

theorem hz : (![0, 0] : Fin 2 → Nat) = fun _ => 0 := funext fun a => by fin_cases a <;> rfl

/-- A sum over the columns of the three projections, in three runs. -/
theorem sum_three (F : Fin 1664 → EReal) : ∑ s, F s
    = (∑ j : Fin 768, F ⟨0 + j.val, by omega⟩) + (∑ j : Fin 768, F ⟨768 + j.val, by omega⟩) + ∑ j : Fin 128, F ⟨1536 + j.val, by omega⟩ := by
  rw [Fin.sum_univ_add (a := 1536) (b := 128) F, Fin.sum_univ_add (a := 768) (b := 768)]
  refine congrArg₂ (· + ·) (congrArg₂ (· + ·) ?_ rfl) rfl
  exact Finset.sum_congr rfl fun j _ => congrArg F (Fin.ext (Nat.zero_add _).symm)

theorem places : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![0, 0] ∧ win0_6.index t = ![0, 0] ∧ win0_7.index t = ![t.val, 0] ∧ t.val < 8 :=
  (by decide +kernel : ∀ t : Fin grid0.N, _)

theorem lt8 (t : Fin cfg0.N) : t.val < 8 := by have := places t; tauto

/-- A point's row of its block, in the whole. -/
def row (t : Fin cfg0.N) (p : Fin 512) : Fin 4096 := ⟨512 * t.val + p.val, by have := lt8 t; omega⟩

/-- The three runs of the weight's columns. -/
def wK (w : Vec Ideal S1024x1664 .bf16) : Vec Ideal S1024x768 .bf16 := View.ld w r0_3
def wV (w : Vec Ideal S1024x1664 .bf16) : Vec Ideal S1024x768 .bf16 := View.ld w r0_4
def wF (w : Vec Ideal S1024x1664 .bf16) : Vec Ideal S1024x128 .bf16 := View.ld w r0_6

theorem wK_at (w : Vec Ideal S1024x1664 .bf16) (d : Fin 1024) (j : Fin 768) : wK w (ix2 d j) = w (ix2 d ⟨0 + j.val, by omega⟩) :=
  congrArg w (funext fun a => Fin.ext (by fin_cases a <;> simp [LoadRect.idx]))
theorem wV_at (w : Vec Ideal S1024x1664 .bf16) (d : Fin 1024) (j : Fin 768) : wV w (ix2 d j) = w (ix2 d ⟨768 + j.val, by omega⟩) :=
  congrArg w (funext fun a => Fin.ext (by fin_cases a <;> simp [LoadRect.idx]))
theorem wF_at (w : Vec Ideal S1024x1664 .bf16) (d : Fin 1024) (j : Fin 128) : wF w (ix2 d j) = w (ix2 d ⟨1536 + j.val, by omega⟩) :=
  congrArg w (funext fun a => Fin.ext (by fin_cases a <;> simp [LoadRect.idx]))

theorem pay_at (x0 : FVec Ideal S512x1024 .f32) (x1 : FVec Ideal S512x1024 .bf16) (w5 : FVec Ideal S1024x1024 .bf16) (x2 : FVec Ideal S512x768 .bf16)
    (k : FVec Ideal S1024x768 .bf16) (x3 : FVec Ideal S512x768 .bf16) (v : FVec Ideal S1024x768 .bf16) (x4 : FVec Ideal S512x128 .bf16) (f : FVec Ideal S1024x128 .bf16)
    (p : Fin 512) (d : Fin 1024) : (k0_pay1 x0 x1 w5 x2 k x3 v x4 f) (ix2 p d)
      = (Ideal.ofBits .f32 0x3FB504F3#32 * x0 (ix2 p d) + (∑ s : Fin 1024, x1 (ix2 p s) * w5 (ix2 d s)) + (∑ j : Fin 768, x2 (ix2 p j) * k (ix2 d j))
        + (∑ j : Fin 768, x3 (ix2 p j) * v (ix2 d j)) + ∑ j : Fin 128, x4 (ix2 p j) * f (ix2 d j) : EReal) := by
  unfold k0_pay1
  pointwise [dot_S512x1024_S1024x1024_S512x1024_1_1_0_0_n_n, dot_S512x768_S1024x768_S512x1024_1_1_0_0_n_n, dot_S512x128_S1024x128_S512x1024_1_1_0_0_n_n]

variable (m : (ℓ : Loc nD τ sig) → Buf (Elt Ideal) ℓ) (c : Dev nD)

abbrev argR : FVec Ideal S4096x1024 .f32 := m ((c.tc : Thread nD τ).loc main_arg0)
abbrev argZ : FVec Ideal S4096x1024 .bf16 := m ((c.tc : Thread nD τ).loc main_arg1)
abbrev argK : FVec Ideal S4096x768 .bf16 := m ((c.tc : Thread nD τ).loc main_arg2)
abbrev argV : FVec Ideal S4096x768 .bf16 := m ((c.tc : Thread nD τ).loc main_arg3)
abbrev argF : FVec Ideal S4096x128 .bf16 := m ((c.tc : Thread nD τ).loc main_arg4)
abbrev argWq : FVec Ideal S1024x1024 .bf16 := m ((c.tc : Thread nD τ).loc main_arg5)
abbrev argWkv : FVec Ideal S1024x1664 .bf16 := m ((c.tc : Thread nD τ).loc main_arg6)

theorem blk_r (t : Fin cfg0.N) (p : Fin 512) (d : Fin 1024) : iblk m c 0 t (ix2 p d) = argR m c (ix2 (row t p) d) := by
  blk_simp [iblk]
  rw [show V m c main_arg0 = argR m c from rfl]
  have h : win0_0.index t = ![t.val, 0] := by have := places t; tauto
  blk_ext [row, h]

theorem blk_z (t : Fin cfg0.N) (p : Fin 512) (d : Fin 1024) : iblk m c 1 t (ix2 p d) = argZ m c (ix2 (row t p) d) := by
  blk_simp [iblk]
  rw [show V m c main_arg1 = argZ m c from rfl]
  have h : win0_1.index t = ![t.val, 0] := by have := places t; tauto
  blk_ext [row, h]

theorem blk_k (t : Fin cfg0.N) (p : Fin 512) (d : Fin 768) : iblk m c 2 t (ix2 p d) = argK m c (ix2 (row t p) d) := by
  blk_simp [iblk]
  rw [show V m c main_arg2 = argK m c from rfl]
  have h : win0_2.index t = ![t.val, 0] := by have := places t; tauto
  blk_ext [row, h]

theorem blk_v (t : Fin cfg0.N) (p : Fin 512) (d : Fin 768) : iblk m c 3 t (ix2 p d) = argV m c (ix2 (row t p) d) := by
  blk_simp [iblk]
  rw [show V m c main_arg3 = argV m c from rfl]
  have h : win0_3.index t = ![t.val, 0] := by have := places t; tauto
  blk_ext [row, h]

theorem blk_f (t : Fin cfg0.N) (p : Fin 512) (d : Fin 128) : iblk m c 4 t (ix2 p d) = argF m c (ix2 (row t p) d) := by
  blk_simp [iblk]
  rw [show V m c main_arg4 = argF m c from rfl]
  have h : win0_4.index t = ![t.val, 0] := by have := places t; tauto
  blk_ext [row, h]

theorem blk_wq (t : Fin cfg0.N) (k d : Fin 1024) : iblk m c 5 t (ix2 k d) = argWq m c (ix2 k d) := by
  blk_simp [iblk]
  rw [show V m c main_arg5 = argWq m c from rfl]
  have h : win0_5.index t = ![0, 0] := by have := places t; tauto
  blk_ext [h]

theorem blk_wkv (t : Fin cfg0.N) (k : Fin 1024) (d : Fin 1664) : iblk m c 6 t (ix2 k d) = argWkv m c (ix2 k d) := by
  blk_simp [iblk]
  rw [show V m c main_arg6 = argWkv m c from rfl]
  have h : win0_6.index t = ![0, 0] := by have := places t; tauto
  blk_ext [h]

open Cert.Reference9Ideal.Proj (dx dx_at cotKv cot_k cot_v cot_f cotZ cotZ_at)

/-- The reference's result, at an entry. -/
def whole (i : Fin 4096) (d : Fin 1024) : EReal := dx (argR m c) (argZ m c) (argK m c) (argV m c) (argF m c) (argWq m c) (argWkv m c) (ix2 i d)

/-- The reference's entry, with the sum over the three projections' columns in three runs. -/
theorem whole_eq (i : Fin 4096) (d : Fin 1024) : whole m c i d
    = (Ideal.ofBits .f32 0x3FB504F3#32 * argR m c (ix2 i d) + (∑ s : Fin 1024, argZ m c (ix2 i s) * argWq m c (ix2 d s))
      + (∑ j : Fin 768, argK m c (ix2 i j) * argWkv m c (ix2 d ⟨0 + j.val, by omega⟩))
      + (∑ j : Fin 768, argV m c (ix2 i j) * argWkv m c (ix2 d ⟨768 + j.val, by omega⟩))
      + ∑ j : Fin 128, argF m c (ix2 i j) * argWkv m c (ix2 d ⟨1536 + j.val, by omega⟩) : EReal) := by
  unfold whole
  rw [dx_at, sum_three]
  simp only [cot_k, cot_v, cot_f, cotZ_at]
  abel

theorem cell (t : Fin cfg0.N) (y : S512x1024.Idx) :
    out0_7 (F := Ideal) (iblk m c 0 t) (iblk m c 1 t) (iblk m c 2 t) (iblk m c 3 t) (iblk m c 4 t) (iblk m c 5 t) (iblk m c 6 t) y = whole m c (row t (y 0)) (y 1) := by
  obtain ⟨p, d, rfl⟩ : ∃ (p : Fin 512) (d : Fin 1024), y = ix2 p d := ⟨y 0, y 1, eq_ix2 y⟩
  unfold out0_7
  rw [View.canon_unit_zero hz]
  simp only [View.ld_unit_zero (S := S512x1024) hz, View.ld_unit_zero (S := S1024x1024) hz, View.ld_unit_zero (S := S512x768) hz, View.ld_unit_zero (S := S512x128) hz]
  refine (pay_at _ _ _ _ (wK (iblk m c 6 t)) _ (wV (iblk m c 6 t)) _ (wF (iblk m c 6 t)) p d).trans ?_
  show _ = whole m c (row t p) d
  simp only [wK_at, wV_at, wF_at, blk_r, blk_z, blk_k, blk_v, blk_f, blk_wq, blk_wkv, whole_eq]

theorem final : (dats m 0 c).arrAt 7 (cfgs 0).N = fun i : S4096x1024.Idx => whole m c (i 0) (i 1) := by
  refine (dats m 0 c).arrAt_eq_of_covers 7 _ (by decide +kernel) fun t _ y => ?_
  blk_simp
  rw [after0_7]
  refine (cell m c t y).trans ?_
  have h : win0_7.index t = ![t.val, 0] := by have := places t; tauto
  exact congrArg₂ (fun a b => whole m c a b) (Fin.ext (by simp [row, h]; omega)) (Fin.ext (by simp [h]))

def arr (c : Dev nD) : Buf (Elt Ideal) ((c.tc : Thread nD τ).loc main_v0) := (dats m 0 c).arrAt 7 (cfgs 0).N

/-- The result is the reference's. -/
theorem same : dx (argR m c) (argZ m c) (argK m c) (argV m c) (argF m c) (argWq m c) (argWkv m c) = arr m c := by
  refine Eq.trans (funext fun i => ?_) (final m c).symm
  obtain ⟨a, b, rfl⟩ : ∃ (a : Fin 4096) (b : Fin 1024), i = ix2 a b := ⟨i 0, i 1, eq_ix2 i⟩
  rfl

theorem values : Cert.algebraic_Kernel9Ideal_Reference9Ideal := by
  intro m ρ m' ρ' _ hm
  refine ⟨arr m, Value.run_blocks m ρ, ?_⟩
  refine (θ_run Cert.Reference9Ideal.defs _ _).mono (fun r h c => ?_) (Cert.Reference9Ideal.Value.run (F := Ideal) m' ρ')
  obtain ⟨h0, h1, h2, h3, h4, h5, h6⟩ := hm c
  obtain ⟨r0, ra⟩ := h c
  refine ⟨(r0.trans ?_).trans (same m c), ra⟩
  rw [h0, h1, h2, h3, h4, h5, h6]
  rfl

end Cert.Kernel9Ideal.Proj

end
-- ==== Proof.KvVal.lean ====
/- The gradient of the keys' and values' weight: what one grid point leaves in the accumulator and in the result's block. -/
module

public import proofs.«01_k».proof.Proof.Gen.Kernel10Ideal.Value
public import Idealize.ShloMosaic.Lib.Pipeline.ValueKit

@[expose] public section

set_option maxRecDepth 16384

noncomputable section

namespace Cert.Kernel10Ideal.Kv

open Idealize.ShloMosaic Idealize.ShloMosaic.TcCoe Idealize.SL.Sem
open Cert.Kernel10Ideal Cert.Kernel10Ideal.Gen

theorem hz : (![0, 0] : Fin 2 → Nat) = fun _ => 0 := funext fun a => by fin_cases a <;> rfl

/-- The three runs of the accumulator's columns. -/
abbrev rK : Rect S1024x1664 := Rect.unit (s := S1024x1664) ![0, 0] ![1024, 768] inb_S1024x1664_S1024x768_0_0
abbrev rV : Rect S1024x1664 := Rect.unit (s := S1024x1664) ![0, 768] ![1024, 768] inb_S1024x1664_S1024x768_0_768
abbrev rF : Rect S1024x1664 := Rect.unit (s := S1024x1664) ![0, 1536] ![1024, 128] inb_S1024x1664_S1024x128_0_1536

/-- Where a run's places lie, and what lies off a run. -/
theorem emb_k (i : Fin 1024) (j : Fin 768) : rK.emb (ix2 i j : S1024x768.Idx) = (ix2 i ⟨0 + j.val, by omega⟩ : S1024x1664.Idx) :=
  Rect.emb_eq_of_coords rK _ _ fun a => by
    match a with
    | 0 => show i.val = 0 + 1 * i.val; omega
    | 1 => show 0 + j.val = 0 + 1 * j.val; omega

theorem emb_v (i : Fin 1024) (j : Fin 768) : rV.emb (ix2 i j : S1024x768.Idx) = (ix2 i ⟨768 + j.val, by omega⟩ : S1024x1664.Idx) :=
  Rect.emb_eq_of_coords rV _ _ fun a => by
    match a with
    | 0 => show i.val = 0 + 1 * i.val; omega
    | 1 => show 768 + j.val = 768 + 1 * j.val; omega

theorem emb_f (i : Fin 1024) (j : Fin 128) : rF.emb (ix2 i j : S1024x128.Idx) = (ix2 i ⟨1536 + j.val, by omega⟩ : S1024x1664.Idx) :=
  Rect.emb_eq_of_coords rF _ _ fun a => by
    match a with
    | 0 => show i.val = 0 + 1 * i.val; omega
    | 1 => show 1536 + j.val = 1536 + 1 * j.val; omega

theorem not_k (y : S1024x1664.Idx) (h : 768 ≤ (y 1).val) : y ∉ rK.set :=
  Rect.not_mem_set_of_axis rK y 1 0 768 rfl rfl rfl (Or.inr (by omega))

theorem not_v (y : S1024x1664.Idx) (h : (y 1).val < 768 ∨ 1536 ≤ (y 1).val) : y ∉ rV.set :=
  Rect.not_mem_set_of_axis rV y 1 768 768 rfl rfl rfl (by omega)

theorem not_f (y : S1024x1664.Idx) (h : (y 1).val < 1536) : y ∉ rF.set :=
  Rect.not_mem_set_of_axis rF y 1 1536 128 rfl rfl rfl (Or.inl h)

theorem col_cases {P : Fin 1664 → Prop} (hk : ∀ j : Fin 768, P ⟨0 + j.val, by omega⟩) (hv : ∀ j : Fin 768, P ⟨768 + j.val, by omega⟩)
    (hf : ∀ j : Fin 128, P ⟨1536 + j.val, by omega⟩) (j : Fin 1664) : P j := by
  by_cases h : j.val < 768
  · exact (congrArg P (Fin.ext (by show 0 + j.val = j.val; omega))).mp (hk ⟨j.val, h⟩)
  · by_cases h' : j.val < 1536
    · exact (congrArg P (Fin.ext (by show 768 + (j.val - 768) = j.val; omega))).mp (hv ⟨j.val - 768, by omega⟩)
    · exact (congrArg P (Fin.ext (by show 1536 + (j.val - 1536) = j.val; omega))).mp (hf ⟨j.val - 1536, by omega⟩)

section Any

variable {F : FTy → Type} [FloatOps F]

section Runs

variable (A B : Vec F S1024x768 .f32) (C : Vec F S1024x128 .f32) (L : List (View.Piece (Elt F) S1024x1664 .f32))

/-- What the three stores leave, by columns, whatever was there before. -/
theorem run_k (i : Fin 1024) (j : Fin 768) : View.canon (⟨rF, C⟩ :: ⟨rV, B⟩ :: ⟨rK, A⟩ :: L) (ix2 i ⟨0 + j.val, by omega⟩) = A (ix2 i j) :=
  (View.canon_cons_of_not_mem ⟨rF, C⟩ _ (not_f _ (show 0 + j.val < 1536 by omega))).trans
    ((View.canon_cons_of_not_mem ⟨rV, B⟩ _ (not_v _ (Or.inl (show 0 + j.val < 768 by omega)))).trans
      ((congrArg (View.canon (⟨rK, A⟩ :: L)) (emb_k i j).symm).trans (View.canon_cons_emb rK A L (ix2 i j))))

theorem run_v (i : Fin 1024) (j : Fin 768) : View.canon (⟨rF, C⟩ :: ⟨rV, B⟩ :: ⟨rK, A⟩ :: L) (ix2 i ⟨768 + j.val, by omega⟩) = B (ix2 i j) :=
  (View.canon_cons_of_not_mem ⟨rF, C⟩ _ (not_f _ (show 768 + j.val < 1536 by omega))).trans
    ((congrArg (View.canon (⟨rV, B⟩ :: ⟨rK, A⟩ :: L)) (emb_v i j).symm).trans (View.canon_cons_emb rV B _ (ix2 i j)))

theorem run_f (i : Fin 1024) (j : Fin 128) : View.canon (⟨rF, C⟩ :: ⟨rV, B⟩ :: ⟨rK, A⟩ :: L) (ix2 i ⟨1536 + j.val, by omega⟩) = C (ix2 i j) :=
  (congrArg (View.canon (⟨rF, C⟩ :: ⟨rV, B⟩ :: ⟨rK, A⟩ :: L)) (emb_f i j).symm).trans (View.canon_cons_emb rF C _ (ix2 i j))

theorem run_tail : (View.canon (⟨rF, C⟩ :: ⟨rV, B⟩ :: ⟨rK, A⟩ :: L) : Vec F S1024x1664 .f32) = View.canon [⟨rF, C⟩, ⟨rV, B⟩, ⟨rK, A⟩] := by
  funext y
  obtain ⟨i, j, rfl⟩ : ∃ (i : Fin 1024) (j : Fin 1664), y = ix2 i j := ⟨y 0, y 1, eq_ix2 y⟩
  refine col_cases (P := fun j => View.canon (⟨rF, C⟩ :: ⟨rV, B⟩ :: ⟨rK, A⟩ :: L) (ix2 i j) = View.canon [⟨rF, C⟩, ⟨rV, B⟩, ⟨rK, A⟩] (ix2 i j)) ?_ ?_ ?_ j
  · intro j; rw [run_k, run_k]
  · intro j; rw [run_v, run_v]
  · intro j; rw [run_f, run_f]

end Runs

/-- One point's step: each run of columns plus its own product. -/
def step (x : Vec F S1024x1024 .bf16) (k v : Vec F S1024x768 .bf16) (f : Vec F S1024x128 .bf16) (s : Vec F S1024x1664 .f32) : Vec F S1024x1664 .f32 :=
  View.canon [⟨rF, k0_pay5 x (View.ld s rF) f⟩, ⟨rV, k0_pay4 x (View.ld s rV) v⟩, ⟨rK, k0_pay3 x (View.ld s rK) k⟩]

/-- After a fill of the whole, a run of columns not stored since reads the fill. -/
theorem fill_k (w : View sig .tc .vmem S1024x1664 .f32) (z : Vec F S1024x1664 .f32) :
    w.readCov [⟨Rect.unit (s := S1024x1664) ![0, 0] ![1024, 1664] inb_S1024x1664_S1024x1664_0_0, z⟩] rK.toLoadRect = View.ld z rK := by
  rw [View.readCov_eq_canon', View.canon_cons_unit_zero (S := S1024x1664) hz]

theorem fill_v (w : View sig .tc .vmem S1024x1664 .f32) (z : Vec F S1024x1664 .f32) (A : Vec F S1024x768 .f32) :
    w.readCov [⟨rK, A⟩, ⟨Rect.unit (s := S1024x1664) ![0, 0] ![1024, 1664] inb_S1024x1664_S1024x1664_0_0, z⟩] rV.toLoadRect = View.ld z rV := by
  rw [View.readCov_eq_canon']
  funext y
  obtain ⟨i, j, rfl⟩ : ∃ (i : Fin 1024) (j : Fin 768), y = ix2 i j := ⟨y 0, y 1, eq_ix2 y⟩
  show View.canon _ (rV.emb (ix2 i j : S1024x768.Idx)) = z (rV.emb (ix2 i j : S1024x768.Idx))
  rw [emb_v, View.canon_cons_of_not_mem ⟨rK, A⟩ _ (not_k _ (show 768 ≤ 768 + j.val by omega)), View.canon_cons_unit_zero (S := S1024x1664) hz]

theorem fill_f (w : View sig .tc .vmem S1024x1664 .f32) (z : Vec F S1024x1664 .f32) (A B : Vec F S1024x768 .f32) :
    w.readCov [⟨rV, B⟩, ⟨rK, A⟩, ⟨Rect.unit (s := S1024x1664) ![0, 0] ![1024, 1664] inb_S1024x1664_S1024x1664_0_0, z⟩] rF.toLoadRect = View.ld z rF := by
  rw [View.readCov_eq_canon']
  funext y
  obtain ⟨i, j, rfl⟩ : ∃ (i : Fin 1024) (j : Fin 128), y = ix2 i j := ⟨y 0, y 1, eq_ix2 y⟩
  show View.canon _ (rF.emb (ix2 i j : S1024x128.Idx)) = z (rF.emb (ix2 i j : S1024x128.Idx))
  rw [emb_f, View.canon_cons_of_not_mem ⟨rV, B⟩ _ (not_v _ (Or.inr (show 1536 ≤ 1536 + j.val by omega))),
    View.canon_cons_of_not_mem ⟨rK, A⟩ _ (not_k _ (show 768 ≤ 1536 + j.val by omega)), View.canon_cons_unit_zero (S := S1024x1664) hz]

section Body

variable (c : Dev nD) (i : grid0.Coords) (a1 : Memref sig .tc .vmem S1024x1024 .bf16) (h1 : a1.IsWhole)
  (a2 : Memref sig .tc .vmem S1024x768 .bf16) (h2 : a2.IsWhole) (a3 : Memref sig .tc .vmem S1024x768 .bf16) (h3 : a3.IsWhole)
  (a4 : Memref sig .tc .vmem S1024x128 .bf16) (h4 : a4.IsWhole) (a5 : Memref sig .tc .vmem S1024x1664 .bf16) (h5 : a5.IsWhole)
  (a6 : Memref sig .tc .vmem S1024x1664 .f32) (h6 : a6.IsWhole) (x : Vec F S1024x1024 .bf16) (k v : Vec F S1024x768 .bf16) (f : Vec F S1024x128 .bf16)

theorem acc_A (hc0 : cond0_0 i) (hc1 : ¬cond0_1 i) :
    sout0_A_0 c i a1 h1 a2 h2 a3 h3 a4 h4 a5 h5 a6 h6 hc0 hc1 x k v f = step x k v f k0_pay2 := by
  unfold sout0_A_0
  rw [View.read_writes_eq_canon _ _ _ (scover0_A_0 c i a1 h1 a2 h2 a3 h3 a4 h4 a5 h5 a6 h6 hc0 hc1 x k v f)]
  unfold kernelRun0_A
  dsimp only
  sl_unfold_words
  simp only [View.readAt_eq_ld, h1.read_unread, h2.read_unread, h3.read_unread, h4.read_unread, View.ld_unit_zero (S := S1024x1024) hz,
    View.ld_unit_zero (S := S1024x768) hz, View.ld_unit_zero (S := S1024x128) hz]
  refine (run_tail _ _ _ _).trans ?_
  rw [fill_k, fill_v, fill_f]
  rfl

theorem acc_B (hc0 : ¬cond0_0 i) (hc1 : ¬cond0_1 i) (s : Vec F S1024x1664 .f32) :
    sout0_B_0 c i a1 h1 a2 h2 a3 h3 a4 h4 a5 h5 a6 h6 hc0 hc1 x k v f s = step x k v f s := by
  unfold sout0_B_0
  rw [View.read_writes_eq_canon _ _ _ (scover0_B_0 c i a1 h1 a2 h2 a3 h3 a4 h4 a5 h5 a6 h6 hc0 hc1 x k v f s)]
  unfold kernelRun0_B
  dsimp only
  sl_unfold_words
  simp only [View.readAt_eq_ld, h1.read_unread, h2.read_unread, h3.read_unread, h4.read_unread, h6.read_unread, View.ld_unit_zero (S := S1024x1024) hz,
    View.ld_unit_zero (S := S1024x768) hz, View.ld_unit_zero (S := S1024x128) hz]
  rfl

theorem out_C (hc0 : ¬cond0_0 i) (hc1 : cond0_1 i) (s : Vec F S1024x1664 .f32) :
    out0_C_4 c i a1 h1 a2 h2 a3 h3 a4 h4 a5 h5 a6 h6 hc0 hc1 x k v f s = k0_pay1 (step x k v f s) := by
  unfold out0_C_4
  rw [View.read_writes_eq_canon _ _ _ (cover0_C_4 c i a1 h1 a2 h2 a3 h3 a4 h4 a5 h5 a6 h6 hc0 hc1 x k v f s)]
  unfold kernelRun0_C
  dsimp only
  sl_unfold_words
  rw [View.canon_unit_zero hz]
  simp only [View.readAt_eq_ld, h1.read_unread, h2.read_unread, h3.read_unread, h4.read_unread, h6.read_unread, View.ld_unit_zero (S := S1024x1024) hz,
    View.ld_unit_zero (S := S1024x768) hz, View.ld_unit_zero (S := S1024x128) hz]
  refine congrArg k0_pay1 ?_
  rw [View.readCov_eq_canon']
  exact View.ld_unit_zero (S := S1024x1664) hz _ (step x k v f s)

end Body

variable (m : (ℓ : Loc nD τ sig) → Buf (Elt F) ℓ)

/-- What the accumulator holds after each point, and what the last one stores. -/
theorem acc_first (c : Dev nD) (t : Fin cfg0.N) (h0 : t.val % 4 = 0) :
    (outsAt0 m c t.val t.isLt).2 = step (F := F) (iblk m c 0 t) (iblk m c 1 t) (iblk m c 2 t) (iblk m c 3 t) k0_pay2 := by
  have h1 : ¬t.val % 4 = 3 := by omega
  rw [outsAt0_A m c t h0 h1]
  dsimp only
  rw [acc_A]

theorem acc_next (c : Dev nD) (t : Fin cfg0.N) (h0 : ¬t.val % 4 = 0) (h1 : ¬t.val % 4 = 3) :
    (outsAt0 m c t.val t.isLt).2 = step (F := F) (iblk m c 0 t) (iblk m c 1 t) (iblk m c 2 t) (iblk m c 3 t)
      (outsAt0 m c (t.val - 1) (Nat.lt_of_le_of_lt (Nat.sub_le _ _) t.isLt)).2 := by
  rw [outsAt0_B m c t h0 h1]
  dsimp only
  rw [acc_B]

theorem out_last (c : Dev nD) (t : Fin cfg0.N) (h1 : t.val % 4 = 3) :
    (outsAt0 m c t.val t.isLt).1 = k0_pay1 (F := F) (step (iblk m c 0 t) (iblk m c 1 t) (iblk m c 2 t) (iblk m c 3 t)
      (outsAt0 m c (t.val - 1) (Nat.lt_of_le_of_lt (Nat.sub_le _ _) t.isLt)).2) := by
  have h0 : ¬t.val % 4 = 0 := by omega
  rw [outsAt0_C m c t h0 h1]
  dsimp only
  rw [out_C]

end Any

theorem zero_at (i : Fin 1024) (j : Fin 1664) : (k0_pay2 : FVec Ideal S1024x1664 .f32) (ix2 i j) = 0 := by
  unfold k0_pay2
  pointwise []

/-- The stored block, at an index. -/
theorem store_at (s : FVec Ideal S1024x1664 .f32) (i : Fin 1024) (j : Fin 1664) : (k0_pay1 s : FVec Ideal S1024x1664 .bf16) (ix2 i j) = (s (ix2 i j) : EReal) := by
  unfold k0_pay1
  pointwise []

section Step

variable (x : FVec Ideal S1024x1024 .bf16) (k v : FVec Ideal S1024x768 .bf16) (f : FVec Ideal S1024x128 .bf16) (s : FVec Ideal S1024x1664 .f32) (i : Fin 1024)

/-- One point's step, at an index of each run of columns. -/
theorem step_k (j : Fin 768) : step (F := Ideal) x k v f s (ix2 i ⟨0 + j.val, by omega⟩) = (s (ix2 i ⟨0 + j.val, by omega⟩) + ∑ r : Fin 1024, x (ix2 i r) * k (ix2 r j) : EReal) := by
  refine (run_k _ _ _ _ i j).trans ?_
  unfold k0_pay3
  pointwise [dot_S1024x1024_S1024x768_S1024x768_1_0_0_1_n_n]

theorem step_v (j : Fin 768) : step (F := Ideal) x k v f s (ix2 i ⟨768 + j.val, by omega⟩) = (s (ix2 i ⟨768 + j.val, by omega⟩) + ∑ r : Fin 1024, x (ix2 i r) * v (ix2 r j) : EReal) := by
  refine (run_v _ _ _ _ i j).trans ?_
  unfold k0_pay4
  pointwise [dot_S1024x1024_S1024x768_S1024x768_1_0_0_1_n_n]

theorem step_f (j : Fin 128) : step (F := Ideal) x k v f s (ix2 i ⟨1536 + j.val, by omega⟩) = (s (ix2 i ⟨1536 + j.val, by omega⟩) + ∑ r : Fin 1024, x (ix2 i r) * f (ix2 r j) : EReal) := by
  refine (run_f _ _ _ _ i j).trans ?_
  unfold k0_pay5
  pointwise [dot_S1024x1024_S1024x128_S1024x128_1_0_0_1_n_n]

end Step

end Cert.Kernel10Ideal.Kv

end
-- ==== Proof.KvRef.lean ====
/- The gradient of the keys' and values' weight: what the reference computes, at an index. -/
module

public import proofs.«01_k».proof.Proof.Gen.Reference10Ideal.Run
public import Idealize.ShloMosaic.Lib.Pointwise

@[expose] public section

set_option maxRecDepth 16384

noncomputable section

namespace Cert.Reference10Ideal.Kv

open Idealize.ShloMosaic Idealize.ShloMosaic.TcCoe Idealize.SL.Sem
open Cert.Reference10Ideal Cert.Reference10Ideal.Gen

/-- The cotangent of the keys', the values' and the gates' columns. -/
def cotKv (dk dv : FVec Ideal S4096x768 .bf16) (df : FVec Ideal S4096x128 .bf16) : FVec Ideal S4096x1664 .f32 :=
  addf (addf (pad S4096x1664 ![0, 1536] ![0, 0] ![0, 0] (extf .f32 df bitsLt_bf16_f32) (constant S_ .f32 0x00000000#32) pads_S4096x128_S4096x1664_000_153600 h_S_) (pad S4096x1664 ![0, 768] ![0, 128] ![0, 0] (extf .f32 dv bitsLt_bf16_f32) (constant S_ .f32 0x00000000#32) pads_S4096x768_S4096x1664_000_7681280 h_S_)) (pad S4096x1664 ![0, 0] ![0, 896] ![0, 0] (extf .f32 dk bitsLt_bf16_f32) (constant S_ .f32 0x00000000#32) pads_S4096x768_S4096x1664_000_08960 h_S_)

theorem cot_k (dk dv : FVec Ideal S4096x768 .bf16) (df : FVec Ideal S4096x128 .bf16) (i : Fin 4096) (j : Fin 768) :
    cotKv dk dv df (ix2 i ⟨0 + j.val, by omega⟩) = (dk (ix2 i j) : EReal) := by
  unfold cotKv
  pointwise []
  rw [dif_neg (by omega), dif_neg (by simp), zero_add, zero_add]

theorem cot_v (dk dv : FVec Ideal S4096x768 .bf16) (df : FVec Ideal S4096x128 .bf16) (i : Fin 4096) (j : Fin 768) :
    cotKv dk dv df (ix2 i ⟨768 + j.val, by omega⟩) = (dv (ix2 i j) : EReal) := by
  unfold cotKv
  pointwise []
  rw [dif_neg (by omega), zero_add]

theorem cot_f (dk dv : FVec Ideal S4096x768 .bf16) (df : FVec Ideal S4096x128 .bf16) (i : Fin 4096) (j : Fin 128) :
    cotKv dk dv df (ix2 i ⟨1536 + j.val, by omega⟩) = (df (ix2 i j) : EReal) := by
  unfold cotKv
  pointwise []
  rw [dif_neg (by omega), dif_neg (by omega), add_zero, add_zero]

def grad (xt : FVec Ideal S1024x4096 .bf16) (dk dv : FVec Ideal S4096x768 .bf16) (df : FVec Ideal S4096x128 .bf16) : FVec Ideal S1024x1664 .bf16 :=
  truncf .bf16 (transpose S1024x1664 [1, 0] (Host.dotGeneral dot_S4096x1664_S4096x1024_S1664x1024_0_0_1_1_n_n none (cotKv dk dv df) (extf .f32 (transpose S4096x1024 [1, 0] xt transposes_S1024x4096_S4096x1024_1_0) bitsLt_bf16_f32)) transposes_S1664x1024_S1024x1664_1_0) bitsLt_bf16_f32

theorem grad_at (xt : FVec Ideal S1024x4096 .bf16) (dk dv : FVec Ideal S4096x768 .bf16) (df : FVec Ideal S4096x128 .bf16) (i : Fin 1024) (j : Fin 1664) :
    grad xt dk dv df (ix2 i j) = ∑ s : Fin 4096, (cotKv dk dv df (ix2 s j) * xt (ix2 i s) : EReal) := by
  unfold grad
  pointwise [dot_S4096x1664_S4096x1024_S1664x1024_0_0_1_1_n_n]

end Cert.Reference10Ideal.Kv

end
-- ==== Proof.KvFinal.lean ====
/- The gradient of the key and value weights: the kernel's result, and the equation. -/
module

public import proofs.«01_k».proof.Defs
public import proofs.«01_k».proof.Proof.KvVal
public import proofs.«01_k».proof.Proof.KvRef
public import proofs.«01_k».proof.Proof.FwdSum

@[expose] public section

set_option maxRecDepth 16384

noncomputable section

namespace Cert.Kernel10Ideal.Kv

open Idealize.ShloMosaic Idealize.ShloMosaic.TcCoe Idealize.ShloMosaic.Tactic Idealize.SL.Sem
open Cert.Kernel10Ideal Cert.Kernel10Ideal.Gen
open Cert.Reference10Ideal.Kv (grad grad_at cotKv cot_k cot_v cot_f)

/-- Where the windows stand at each grid point. -/
theorem places : ∀ t : Fin cfg0.N, win0_0.index t = ![0, t.val % 4] ∧ win0_1.index t = ![t.val % 4, 0] ∧ win0_2.index t = ![t.val % 4, 0]
    ∧ win0_3.index t = ![t.val % 4, 0] ∧ t.val < 4 :=
  (by decide +kernel : ∀ t : Fin grid0.N, _)

variable (m : (ℓ : Loc nD τ sig) → Buf (Elt Ideal) ℓ) (c : Dev nD)

abbrev argX : FVec Ideal S1024x4096 .bf16 := m ((c.tc : Thread nD τ).loc main_arg0)
abbrev argK : FVec Ideal S4096x768 .bf16 := m ((c.tc : Thread nD τ).loc main_arg1)
abbrev argV : FVec Ideal S4096x768 .bf16 := m ((c.tc : Thread nD τ).loc main_arg2)
abbrev argF : FVec Ideal S4096x128 .bf16 := m ((c.tc : Thread nD τ).loc main_arg3)

theorem blk_x (t : Fin cfg0.N) (i k : Fin 1024) :
    iblk m c 0 t (ix2 i k) = argX m c (ix2 i ⟨1024 * (t.val % 4) + k.val, by omega⟩) := by
  blk_simp [iblk]
  rw [show V m c main_arg0 = argX m c from rfl]
  blk_ext [places t]

theorem blk_k (t : Fin cfg0.N) (k : Fin 1024) (j : Fin 768) :
    iblk m c 1 t (ix2 k j) = argK m c (ix2 ⟨1024 * (t.val % 4) + k.val, by omega⟩ j) := by
  blk_simp [iblk]
  rw [show V m c main_arg1 = argK m c from rfl]
  blk_ext [places t]

theorem blk_v (t : Fin cfg0.N) (k : Fin 1024) (j : Fin 768) :
    iblk m c 2 t (ix2 k j) = argV m c (ix2 ⟨1024 * (t.val % 4) + k.val, by omega⟩ j) := by
  blk_simp [iblk]
  rw [show V m c main_arg2 = argV m c from rfl]
  blk_ext [places t]

theorem blk_f (t : Fin cfg0.N) (k : Fin 1024) (j : Fin 128) :
    iblk m c 3 t (ix2 k j) = argF m c (ix2 ⟨1024 * (t.val % 4) + k.val, by omega⟩ j) := by
  blk_simp [iblk]
  rw [show V m c main_arg3 = argF m c from rfl]
  blk_ext [places t]

/-- The factors of one entry of the gradient, by the row that they share. -/
def term (i : Fin 1024) (j : Fin 1664) (s : ℕ) : EReal :=
  if h : s < 4096 then (argX m c (ix2 i ⟨s, h⟩) * cotKv (argK m c) (argV m c) (argF m c) (ix2 ⟨s, h⟩ j) : EReal) else 0

/-- One point's step, at an index. -/
theorem step_blk (s : FVec Ideal S1024x1664 .f32) (t : Fin cfg0.N) (n : ℕ) (hn : t.val % 4 = n) (i : Fin 1024) (j : Fin 1664) :
    step (F := Ideal) (iblk m c 0 t) (iblk m c 1 t) (iblk m c 2 t) (iblk m c 3 t) s (ix2 i j)
      = s (ix2 i j) + ∑ k : Fin 1024, term m c i j (1024 * n + k.val) := by
  subst hn
  refine col_cases (P := fun j => step (F := Ideal) (iblk m c 0 t) (iblk m c 1 t) (iblk m c 2 t) (iblk m c 3 t) s (ix2 i j)
    = s (ix2 i j) + ∑ k : Fin 1024, term m c i j (1024 * (t.val % 4) + k.val)) ?_ ?_ ?_ j
  · intro j
    refine (step_k _ _ _ _ s i j).trans (congrArg (s (ix2 i ⟨0 + j.val, _⟩) + ·) (Finset.sum_congr rfl fun k _ => ?_))
    rw [blk_x, blk_k, term, dif_pos (by omega), cot_k]
  · intro j
    refine (step_v _ _ _ _ s i j).trans (congrArg (s (ix2 i ⟨768 + j.val, _⟩) + ·) (Finset.sum_congr rfl fun k _ => ?_))
    rw [blk_x, blk_v, term, dif_pos (by omega), cot_v]
  · intro j
    refine (step_f _ _ _ _ s i j).trans (congrArg (s (ix2 i ⟨1536 + j.val, _⟩) + ·) (Finset.sum_congr rfl fun k _ => ?_))
    rw [blk_x, blk_f, term, dif_pos (by omega), cot_f]

theorem acc_succ (n : ℕ) (h : n + 1 < cfg0.N) (hp : n < cfg0.N) (hl : n < 2) (i : Fin 1024) (j : Fin 1664) :
    (outsAt0 m c (n + 1) h).2 (ix2 i j) = (outsAt0 m c n hp).2 (ix2 i j) + ∑ k : Fin 1024, term m c i j (1024 * (n + 1) + k.val) := by
  refine (congrFun (acc_next m c ⟨n + 1, h⟩ (by show ¬ (n + 1) % 4 = 0; omega) (by show ¬ (n + 1) % 4 = 3; omega)) (ix2 i j)).trans ?_
  exact step_blk m c _ _ (n + 1) (by show (n + 1) % 4 = n + 1; omega) i j

theorem out_succ (n : ℕ) (h : n + 1 < cfg0.N) (hp : n < cfg0.N) (hl : n = 2) (i : Fin 1024) (j : Fin 1664) :
    (outsAt0 m c (n + 1) h).1 (ix2 i j) = (outsAt0 m c n hp).2 (ix2 i j) + ∑ k : Fin 1024, term m c i j (1024 * (n + 1) + k.val) := by
  refine (congrFun (out_last m c ⟨n + 1, h⟩ (by show (n + 1) % 4 = 3; omega)) (ix2 i j)).trans ?_
  refine (store_at _ i j).trans ?_
  exact step_blk m c _ _ (n + 1) (by show (n + 1) % 4 = n + 1; omega) i j

theorem acc_zero (n : ℕ) (h : n < cfg0.N) (hn : n = 0) (i : Fin 1024) (j : Fin 1664) :
    (outsAt0 m c n h).2 (ix2 i j) = 0 + ∑ k : Fin 1024, term m c i j (1024 * n + k.val) := by
  refine (congrFun (acc_first m c ⟨n, h⟩ (by show n % 4 = 0; omega)) (ix2 i j)).trans ?_
  rw [step_blk m c _ _ n (by show n % 4 = n; omega), zero_at]

/-- What the last point stores is the whole sum. -/
theorem out3 (h : 3 < cfg0.N) (i : Fin 1024) (j : Fin 1664) :
    (outsAt0 m c 3 h).1 (ix2 i j) = ∑ s : Fin 4096, term m c i j s.val := by
  rw [out_succ m c 2 h (by omega) rfl, acc_succ m c 1 (by omega) (by omega) (by omega), acc_succ m c 0 (by omega) (by omega) (by omega),
    acc_zero m c 0 (by omega) rfl, Cert.FwdSum.sum_runs]

/-- The kernel's result is the reference's. -/
theorem result_eq : Value.G4 m c = grad (argX m c) (argK m c) (argV m c) (argF m c) := by
  funext x
  obtain ⟨i, j, rfl⟩ : ∃ (i : Fin 1024) (j : Fin 1664), x = ix2 i j := ⟨x 0, x 1, by funext a; fin_cases a <;> rfl⟩
  have hN : cfg0.N = 4 := N_0
  have hlt : 3 < cfg0.N := by omega
  have hp : Value.pt4Of (ix2 i j) = 3 := by
    show 4 * (1 * (i.val / 1024 - 0) + 1 * (j.val / 1664 - 0)) + 3 = _
    omega
  have hl : Value.loc4Of (ix2 i j) = ix2 i j := by
    funext a
    apply Fin.ext
    fin_cases a
    · show i.val % 1024 = i.val; omega
    · show j.val % 1664 = j.val; omega
  unfold Value.G4
  rw [dif_pos (by rw [hp]; exact hlt), ← Value.outsAt0_sweep m c (Value.pt4Of (ix2 i j)) (by rw [hp]; exact hlt), hl]
  have e : ∀ n (h : n < cfg0.N), n = 3 → (outsAt0 m c n h).1 = (outsAt0 m c 3 hlt).1 := by
    intro n h hn; subst hn; rfl
  refine (congrFun (e _ _ hp) (ix2 i j)).trans ((out3 m c hlt i j).trans (Eq.trans ?_ (grad_at _ _ _ _ i j).symm))
  refine Finset.sum_congr rfl fun s _ => ?_
  rw [term, dif_pos s.isLt]
  exact mul_comm _ _

theorem values : Cert.algebraic_Kernel10Ideal_Reference10Ideal := by
  intro m ρ m' ρ' _ hm
  refine ⟨fun c => Value.G4 m c, Value.run m ρ, ?_⟩
  refine (θ_run Cert.Reference10Ideal.defs _ _).mono (fun r h c => ?_) (Cert.Reference10Ideal.Value.run (F := Ideal) m' ρ')
  obtain ⟨h0, h1, h2, h3⟩ := hm c
  obtain ⟨r0, ra⟩ := h c
  refine ⟨(r0.trans ?_).trans (result_eq m c).symm, ra⟩
  show grad _ _ _ _ = grad _ _ _ _
  rw [h0, h1, h2, h3]

end Cert.Kernel10Ideal.Kv

end
-- ==== Proof.lean ====
/- The proof of the claim: the programs' frames, the named constant, and the results' values. -/
module

public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.KR.FoxRun
public import proofs.«01_k».proof.Proof.FoxClaim
public import proofs.«01_k».proof.Proof.MmFinal
public import proofs.«01_k».proof.Proof.FfnClaim
public import proofs.«01_k».proof.Proof.LossFinal
public import proofs.«01_k».proof.Proof.FwdFinal
public import proofs.«01_k».proof.Proof.SqFinal
public import proofs.«01_k».proof.Proof.DaFinal
public import proofs.«01_k».proof.Proof.ProjFwd
public import proofs.«01_k».proof.Proof.ProjBwd
public import proofs.«01_k».proof.Proof.KvFinal

@[expose] public section

noncomputable section

open Idealize.ShloMosaic Idealize.ShloMosaic.TcCoe Idealize.SL.Sem

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.facts, Cert.Pre_finite3.facts,
    fun m ρ _ => Cert.Kernel.Fox.frame m ρ,
    fun m ρ _ => Cert.KernelIdeal.Fox.frame m ρ,
    fun m ρ _ => Cert.KernelIdeal.Fox.frame m ρ,
    fun m ρ _ => (θ_run Cert.ReferenceIdeal.defs _ _).mono
      (fun r h => ⟨fun c => (h c).2.2.2.2, sem_eq_zero_of_no_sems (by decide) r.2⟩)
      (Cert.ReferenceIdeal.Value.run (F := Ideal) m ρ),
    fun m ρ _ => (θ_run Cert.ReferenceIdeal.defs _ _).mono
      (fun r h => ⟨fun c => (h c).2.2.2.2, sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => Cert.Kernel3Ideal.Gen.frame m ρ,
    fun m ρ _ => (θ_run Cert.Reference3Ideal.defs _ _).mono
      (fun r h => ⟨fun c => (h c).2.2.2.2, sem_eq_zero_of_no_sems (by decide) r.2⟩)
      (Cert.Reference3Ideal.Value.run (F := Ideal) m ρ),
    fun m ρ _ => (θ_run Cert.Reference3Ideal.defs _ _).mono
      (fun r h => ⟨fun c => (h c).2.2.2.2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2.2.2.2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2.2.2.2.2, sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩)
      (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono
      (fun r h => ⟨fun c => (h c).2.2.2.2.2, sem_eq_zero_of_no_sems (by decide) r.2⟩)
      (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono
      (fun r h => ⟨fun c => (h c).2, sem_eq_zero_of_no_sems (by decide) r.2⟩)
      (Cert.Reference9Ideal.Value.run (F := Ideal) m ρ),
    fun m ρ _ => Cert.Kernel10.Gen.frame m ρ,
    fun m ρ _ => Cert.Kernel10Ideal.Gen.frame m ρ,
    fun m ρ _ => (θ_run Cert.Reference10Ideal.defs _ _).mono
      (fun r h => ⟨fun c => (h c).2, sem_eq_zero_of_no_sems (by decide) r.2⟩)
      (Cert.Reference10Ideal.Value.run (F := Ideal) m ρ),
    IdealRules.named_const.statement Cert.KernelIdeal.κ "mask" .f32 0xF149F2CA#32 ⊥ rfl,
    Cert.KernelIdeal.Fox.values,
    Cert.Kernel2Ideal.Mm.values,
    Cert.Kernel3Ideal.Ffn.values,
    Cert.Kernel4Ideal.Fwd.values,
    Cert.Kernel5Ideal.Fwd.values,
    Cert.Kernel6Ideal.Sq.values,
    Cert.Kernel7Ideal.Da.values,
    Cert.Kernel8Ideal.Proj.values,
    Cert.Kernel9Ideal.Proj.values,
    Cert.Kernel10Ideal.Kv.values⟩

end
